-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))).2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))).2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))).2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))).2.2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))).2.2.2.2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))).2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))).2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))).2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))).2.2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v18_3)) (v4 : (c : Dev Cert.Kernel3Ideal.nD) → Buf (Elt Ideal) ((c.tc : Thread Cert.Kernel3Ideal.nD Cert.Kernel3Ideal.τ).loc Cert.Kernel3Ideal.main_v18_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v18_3) = v3 c
          ∧ r.2.mem ((c.tc : Thread Cert.Kernel3Ideal.nD Cert.Kernel3Ideal.τ).loc Cert.Kernel3Ideal.main_v18_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_v45) = v3 c
          ∧ r.2.mem ((c.tc : Thread Cert.Reference3Ideal.nD Cert.Reference3Ideal.τ).loc Cert.Reference3Ideal.main_v47) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v30)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v30) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v113) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)
      ∧ m' ((c.tc : Thread Cert.Reference8Ideal.nD Cert.Reference8Ideal.τ).loc Cert.Reference8Ideal.main_arg17) = m ((c.tc : Thread Cert.Kernel8Ideal.nD Cert.Kernel8Ideal.τ).loc Cert.Kernel8Ideal.main_arg17)) →
    ∃ (v0 : (c : Dev Cert.Kernel8Ideal.nD) → Buf (Elt Ideal) ((c.tc : Thread Cert.Kernel8Ideal.nD Cert.Kernel8Ideal.τ).loc Cert.Kernel8Ideal.main_v24_0)) (v1 : (c : Dev Cert.Kernel8Ideal.nD) → Buf (Elt Ideal) ((c.tc : Thread Cert.Kernel8Ideal.nD Cert.Kernel8Ideal.τ).loc Cert.Kernel8Ideal.main_v24_1)) (v2 : (c : Dev Cert.Kernel8Ideal.nD) → Buf (Elt Ideal) ((c.tc : Thread Cert.Kernel8Ideal.nD Cert.Kernel8Ideal.τ).loc Cert.Kernel8Ideal.main_v24_2)) (v3 : (c : Dev Cert.Kernel8Ideal.nD) → Buf (Elt Ideal) ((c.tc : Thread Cert.Kernel8Ideal.nD Cert.Kernel8Ideal.τ).loc Cert.Kernel8Ideal.main_v24_3)) (v4 : (c : Dev Cert.Kernel8Ideal.nD) → Buf (Elt Ideal) ((c.tc : Thread Cert.Kernel8Ideal.nD Cert.Kernel8Ideal.τ).loc Cert.Kernel8Ideal.main_v55)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v24_0) = v0 c
          ∧ r.2.mem ((c.tc : Thread Cert.Kernel8Ideal.nD Cert.Kernel8Ideal.τ).loc Cert.Kernel8Ideal.main_v24_1) = v1 c
          ∧ r.2.mem ((c.tc : Thread Cert.Kernel8Ideal.nD Cert.Kernel8Ideal.τ).loc Cert.Kernel8Ideal.main_v24_2) = v2 c
          ∧ r.2.mem ((c.tc : Thread Cert.Kernel8Ideal.nD Cert.Kernel8Ideal.τ).loc Cert.Kernel8Ideal.main_v24_3) = v3 c
          ∧ r.2.mem ((c.tc : Thread Cert.Kernel8Ideal.nD Cert.Kernel8Ideal.τ).loc Cert.Kernel8Ideal.main_v55) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
          ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v50) = v0 c
          ∧ r.2.mem ((c.tc : Thread Cert.Reference8Ideal.nD Cert.Reference8Ideal.τ).loc Cert.Reference8Ideal.main_v52) = v1 c
          ∧ r.2.mem ((c.tc : Thread Cert.Reference8Ideal.nD Cert.Reference8Ideal.τ).loc Cert.Reference8Ideal.main_v54) = v2 c
          ∧ r.2.mem ((c.tc : Thread Cert.Reference8Ideal.nD Cert.Reference8Ideal.τ).loc Cert.Reference8Ideal.main_v55) = v3 c
          ∧ r.2.mem ((c.tc : Thread Cert.Reference8Ideal.nD Cert.Reference8Ideal.τ).loc Cert.Reference8Ideal.main_v171) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16)
          ∧ r.2.mem ((c.tc : Thread Cert.Reference8Ideal.nD Cert.Reference8Ideal.τ).loc Cert.Reference8Ideal.main_arg17) = m' ((c.tc : Thread Cert.Reference8Ideal.nD Cert.Reference8Ideal.τ).loc Cert.Reference8Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts) (hPre_finite5 : Cert.Pre_finite5.Facts) (hPre_finite6 : Cert.Pre_finite6.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S32x2048x384 : Shape := ⟨3, ![32, 2048, 384]⟩
abbrev S32x2048x288 : Shape := ⟨3, ![32, 2048, 288]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩

class Facts : Prop where
  bcast_S_S32x2048x384 : S_.BroadcastsInDim S32x2048x384 (![] : Fin 0 → Fin S32x2048x384.rank)
  bcast_S_S32x2048x288 : S_.BroadcastsInDim S32x2048x288 (![] : Fin 0 → Fin S32x2048x288.rank)
  bcast_S_S384 : S_.BroadcastsInDim S384 (![] : Fin 0 → Fin S384.rank)
  bcast_S_S384x768 : S_.BroadcastsInDim S384x768 (![] : Fin 0 → Fin S384x768.rank)
  bcast_S_S256 : S_.BroadcastsInDim S256 (![] : Fin 0 → Fin S256.rank)
  bcast_S_S256x1024 : S_.BroadcastsInDim S256x1024 (![] : Fin 0 → Fin S256x1024.rank)

variable [Facts]

def fn {F : FTy → Type} [FloatOps F] (main_arg0 : FVec F S32x2048x384 .f32) (main_arg1 : FVec F S32x2048x288 .f32) (main_arg2 : FVec F S384 .f32) (main_arg3 : FVec F S384x768 .f32) (main_arg4 : FVec F S256 .f32) (main_arg5 : FVec F S256x1024 .f32) : IVec S32x2048x384 1 × IVec S32x2048x288 1 × IVec S384 1 × IVec S384x768 1 × IVec S256 1 × IVec S256x1024 1 :=
  let main_v0 : FVec F S32x2048x384 .f32 := Host.absf main_arg0
  let main_cst : FVec F S_ .f32 := constant S_ .f32 0x7F800000#32
  let main_v1 : FVec F S32x2048x384 .f32 := broadcastInDim S32x2048x384 ![] bcast_S_S32x2048x384 main_cst
  let main_v2 : IVec S32x2048x384 1 := cmpf .olt main_v0 main_v1
  let main_v3 : FVec F S32x2048x288 .f32 := Host.absf main_arg1
  let main_cst_0 : FVec F S_ .f32 := constant S_ .f32 0x7F800000#32
  let main_v4 : FVec F S32x2048x288 .f32 := broadcastInDim S32x2048x288 ![] bcast_S_S32x2048x288 main_cst_0
  let main_v5 : IVec S32x2048x288 1 := cmpf .olt main_v3 main_v4
  let main_v6 : FVec F S384 .f32 := Host.absf main_arg2
  let main_cst_1 : FVec F S_ .f32 := constant S_ .f32 0x7F800000#32
  let main_v7 : FVec F S384 .f32 := broadcastInDim S384 ![] bcast_S_S384 main_cst_1
  let main_v8 : IVec S384 1 := cmpf .olt main_v6 main_v7
  let main_v9 : FVec F S384x768 .f32 := Host.absf main_arg3
  let main_cst_2 : FVec F S_ .f32 := constant S_ .f32 0x7F800000#32
  let main_v10 : FVec F S384x768 .f32 := broadcastInDim S384x768 ![] bcast_S_S384x768 main_cst_2
  let main_v11 : IVec S384x768 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256x1024 .f32 := Host.absf main_arg5
  let main_cst_4 : FVec F S_ .f32 := constant S_ .f32 0x7F800000#32
  let main_v16 : FVec F S256x1024 .f32 := broadcastInDim S256x1024 ![] bcast_S_S256x1024 main_cst_4
  let main_v17 : IVec S256x1024 1 := cmpf .olt main_v15 main_v16
  (main_v2, main_v5, main_v8, main_v11, main_v14, main_v17)
-- ==== Pre_finite2.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S32x6144 : S_.BroadcastsInDim S32x6144 (![] : Fin 0 → Fin S32x6144.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S32x2048x1024 .f32) (main_arg1 : FVec F S32x6144 .f32) (main_arg2 : FVec F S1024 .f32) (main_arg3 : FVec F S1024x5632 .f32) (main_arg4 : FVec F S3x5632 .f32) (main_arg5 : FVec F S5632 .f32) (main_arg6 : FVec F S2816x1024 .f32) (main_arg7 : FVec F S1024 .f32) : IVec S32x6144 1 × IVec S1024 1 × IVec S1024x5632 1 × IVec S3x5632 1 × IVec S5632 1 :=
  let main_v0 : FVec F S32x6144 .f32 := Host.absf main_arg1
  let main_cst : FVec F S_ .f32 := constant S_ .f32 0x7F800000#32
  let main_v1 : FVec F S32x6144 .f32 := broadcastInDim S32x6144 ![] bcast_S_S32x6144 main_cst
  let main_v2 : IVec S32x6144 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg3
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg4
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S5632 .f32 := Host.absf main_arg5
  let main_cst_3 : FVec F S_ .f32 := constant S_ .f32 0x7F800000#32
  let main_v13 : FVec F S5632 .f32 := broadcastInDim S5632 ![] bcast_S_S5632 main_cst_3
  let main_v14 : IVec S5632 1 := cmpf .olt main_v12 main_v13
  (main_v2, main_v5, main_v8, main_v11, main_v14)
-- ==== Pre_finite3.lean ====
abbrev S32x2048x1024 : Shape := ⟨3, ![32, 2048, 1024]⟩
abbrev S32x6144 : Shape := ⟨2, ![32, 6144]⟩
abbrev S1024 : Shape := ⟨1, ![1024]⟩
abbrev S1024x6832 : Shape := ⟨2, ![1024, 6832]⟩
abbrev S_ : Shape := ⟨0, ![]⟩

class Facts : Prop where
  bcast_S_S32x6144 : S_.BroadcastsInDim S32x6144 (![] : Fin 0 → Fin S32x6144.rank)
  bcast_S_S1024 : S_.BroadcastsInDim S1024 (![] : Fin 0 → Fin S1024.rank)
  bcast_S_S1024x6832 : S_.BroadcastsInDim S1024x6832 (![] : Fin 0 → Fin S1024x6832.rank)

variable [Facts]

def fn {F : FTy → Type} [FloatOps F] (main_arg0 : FVec F S32x2048x1024 .f32) (main_arg1 : FVec F S32x6144 .f32) (main_arg2 : FVec F S1024 .f32) (main_arg3 : FVec F S1024x6832 .f32) : IVec S32x6144 1 × IVec S1024 1 × IVec S1024x6832 1 :=
  let main_v0 : FVec F S32x6144 .f32 := Host.absf main_arg1
  let main_cst : FVec F S_ .f32 := constant S_ .f32 0x7F800000#32
  let main_v1 : FVec F S32x6144 .f32 := broadcastInDim S32x6144 ![] bcast_S_S32x6144 main_cst
  let main_v2 : IVec S32x6144 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x6832 .f32 := Host.absf main_arg3
  let main_cst_1 : FVec F S_ .f32 := constant S_ .f32 0x7F800000#32
  let main_v7 : FVec F S1024x6832 .f32 := broadcastInDim S1024x6832 ![] bcast_S_S1024x6832 main_cst_1
  let main_v8 : IVec S1024x6832 1 := cmpf .olt main_v6 main_v7
  (main_v2, main_v5, main_v8)
-- ==== Pre_finite5.lean ====
abbrev S32x1024 : Shape := ⟨2, ![32, 1024]⟩
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S32x1024 : S_.BroadcastsInDim S32x1024 (![] : Fin 0 → Fin S32x1024.rank)
  bcast_S_S16x1024 : S_.BroadcastsInDim S16x1024 (![] : Fin 0 → Fin S16x1024.rank)
  bcast_S_S2x1024x6144 : S_.BroadcastsInDim S2x1024x6144 (![] : Fin 0 → Fin S2x1024x6144.rank)

variable [Facts]

def fn {F : FTy → Type} [FloatOps F] (main_arg0 : FVec F S32x1024 .f32) (main_arg1 : FVec F S16x1024 .f32) (main_arg2 : FVec F S2x1024x6144 .f32) (main_arg3 : FVec F S2x6144 .f32) : IVec S32x1024 1 × IVec S16x1024 1 × IVec S2x1024x6144 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S2x1024x6144 .f32 := Host.absf main_arg2
  let main_cst_1 : FVec F S_ .f32 := constant S_ .f32 0x7F800000#32
  let main_v7 : FVec F S2x1024x6144 .f32 := broadcastInDim S2x1024x6144 ![] bcast_S_S2x1024x6144 main_cst_1
  let main_v8 : IVec S2x1024x6144 1 := cmpf .olt main_v6 main_v7
  (main_v2, main_v5, main_v8)
-- ==== Pre_finite6.lean ====
abbrev S16x2048x1024 : Shape := ⟨3, ![16, 2048, 1024]⟩
abbrev S16x6144 : Shape := ⟨2, ![16, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S16x6144 : S_.BroadcastsInDim S16x6144 (![] : Fin 0 → Fin S16x6144.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S16x2048x1024 .f32) (main_arg1 : FVec F S16x6144 .f32) (main_arg2 : FVec F S1024 .f32) (main_arg3 : FVec F S1024x5632 .f32) (main_arg4 : FVec F S3x5632 .f32) (main_arg5 : FVec F S5632 .f32) (main_arg6 : FVec F S2816x1024 .f32) (main_arg7 : FVec F S1024 .f32) : IVec S16x6144 1 × IVec S1024 1 × IVec S1024x5632 1 × IVec S3x5632 1 × IVec S5632 1 :=
  let main_v0 : FVec F S16x6144 .f32 := Host.absf main_arg1
  let main_cst : FVec F S_ .f32 := constant S_ .f32 0x7F800000#32
  let main_v1 : FVec F S16x6144 .f32 := broadcastInDim S16x6144 ![] bcast_S_S16x6144 main_cst
  let main_v2 : IVec S16x6144 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg3
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg4
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S5632 .f32 := Host.absf main_arg5
  let main_cst_3 : FVec F S_ .f32 := constant S_ .f32 0x7F800000#32
  let main_v13 : FVec F S5632 .f32 := broadcastInDim S5632 ![] bcast_S_S5632 main_cst_3
  let main_v14 : IVec S5632 1 := cmpf .olt main_v12 main_v13
  (main_v2, main_v5, main_v8, main_v11, main_v14)
-- ==== Pre_finite7.lean ====
abbrev S32x2048x1024 : Shape := ⟨3, ![32, 2048, 1024]⟩
abbrev S32x6144 : Shape := ⟨2, ![32, 6144]⟩
abbrev S65536x512 : Shape := ⟨2, ![65536, 512]⟩
abbrev S65536x3072 : Shape := ⟨2, ![65536, 3072]⟩
abbrev S3x512x1024 : Shape := ⟨3, ![3, 512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S32x6144 : S_.BroadcastsInDim S32x6144 (![] : Fin 0 → Fin S32x6144.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S32x2048x1024 .f32) (main_arg1 : FVec F S32x6144 .f32) (main_arg2 : FVec F S65536x512 .bf16) (main_arg3 : FVec F S65536x512 .bf16) (main_arg4 : FVec F S65536x512 .bf16) (main_arg5 : FVec F S65536x3072 .bf16) (main_arg6 : FVec F S3x512x1024 .f32) (main_arg7 : FVec F S1024x1024 .f32) (main_arg8 : FVec F S1024 .f32) (main_arg9 : FVec F S1024x5632 .f32) (main_arg10 : FVec F S3x5632 .f32) (main_arg11 : FVec F S5632 .f32) (main_arg12 : FVec F S2816x1024 .f32) (main_arg13 : FVec F S1024 .f32) : IVec S32x6144 1 × IVec S1024 1 × IVec S1024x5632 1 × IVec S3x5632 1 × IVec S5632 1 :=
  let main_v0 : FVec F S32x6144 .f32 := Host.absf main_arg1
  let main_cst : FVec F S_ .f32 := constant S_ .f32 0x7F800000#32
  let main_v1 : FVec F S32x6144 .f32 := broadcastInDim S32x6144 ![] bcast_S_S32x6144 main_cst
  let main_v2 : IVec S32x6144 1 := cmpf .olt main_v0 main_v1
  let main_v3 : FVec F S1024 .f32 := Host.absf main_arg8
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg9
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg10
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S5632 .f32 := Host.absf main_arg11
  let main_cst_3 : FVec F S_ .f32 := constant S_ .f32 0x7F800000#32
  let main_v13 : FVec F S5632 .f32 := broadcastInDim S5632 ![] bcast_S_S5632 main_cst_3
  let main_v14 : IVec S5632 1 := cmpf .olt main_v12 main_v13
  (main_v2, main_v5, main_v8, main_v11, main_v14)
-- ==== Pre_finite8.lean ====
abbrev S32x2048x1024 : Shape := ⟨3, ![32, 2048, 1024]⟩
abbrev S32x1024 : Shape := ⟨2, ![32, 1024]⟩
abbrev S16x1024 : Shape := ⟨2, ![16, 1024]⟩
abbrev S2x1024x6144 : Shape := ⟨3, ![2, 1024, 6144]⟩
abbrev S2x6144 : Shape := ⟨2, ![2, 6144]⟩
abbrev S1024 : Shape := ⟨1, ![1024]⟩
abbrev S1024x6832 : Shape := ⟨2, ![1024, 6832]⟩
abbrev S65536x512 : Shape := ⟨2, ![65536, 512]⟩
abbrev S3x512x1024 : Shape := ⟨3, ![3, 512, 1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S32x1024 : S_.BroadcastsInDim S32x1024 (![] : Fin 0 → Fin S32x1024.rank)
  bcast_S_S16x1024 : S_.BroadcastsInDim S16x1024 (![] : Fin 0 → Fin S16x1024.rank)
  bcast_S_S2x1024x6144 : S_.BroadcastsInDim S2x1024x6144 (![] : Fin 0 → Fin S2x1024x6144.rank)
  bcast_S_S2x6144 : S_.BroadcastsInDim S2x6144 (![] : Fin 0 → Fin S2x6144.rank)
  bcast_S_S1024 : S_.BroadcastsInDim S1024 (![] : Fin 0 → Fin S1024.rank)
  bcast_S_S1024x6832 : S_.BroadcastsInDim S1024x6832 (![] : Fin 0 → Fin S1024x6832.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)

variable [Facts]

def fn_part1 {F : FTy → Type} [FloatOps F] (main_arg12 : FVec F S1024 .f32) (main_arg13 : FVec F S1024x5632 .f32) (main_arg14 : FVec F S3x5632 .f32) (main_arg15 : FVec F S5632 .f32) (main_v2 : IVec S32x1024 1) (main_v5 : IVec S16x1024 1) (main_v8 : IVec S2x1024x6144 1) (main_v11 : IVec S2x6144 1) (main_v14 : IVec S1024 1) (main_v17 : IVec S1024x6832 1) : IVec S32x1024 1 × IVec S16x1024 1 × IVec S2x1024x6144 1 × IVec S2x6144 1 × IVec S1024 1 × IVec S1024x6832 1 × IVec S1024 1 × IVec S1024x5632 1 × IVec S3x5632 1 × IVec S5632 1 :=
  let main_v18 : FVec F S1024 .f32 := Host.absf main_arg12
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x5632 .f32 := Host.absf main_arg13
  let main_cst_6 : FVec F S_ .f32 := constant S_ .f32 0x7F800000#32
  let main_v22 : FVec F S1024x5632 .f32 := broadcastInDim S1024x5632 ![] bcast_S_S1024x5632 main_cst_6
  let main_v23 : IVec S1024x5632 1 := cmpf .olt main_v21 main_v22
  let main_v24 : FVec F S3x5632 .f32 := Host.absf main_arg14
  let main_cst_7 : FVec F S_ .f32 := constant S_ .f32 0x7F800000#32
  let main_v25 : FVec F S3x5632 .f32 := broadcastInDim S3x5632 ![] bcast_S_S3x5632 main_cst_7
  let main_v26 : IVec S3x5632 1 := cmpf .olt main_v24 main_v25
  let main_v27 : FVec F S5632 .f32 := Host.absf main_arg15
  let main_cst_8 : FVec F S_ .f32 := constant S_ .f32 0x7F800000#32
  let main_v28 : FVec F S5632 .f32 := broadcastInDim S5632 ![] bcast_S_S5632 main_cst_8
  let main_v29 : IVec S5632 1 := cmpf .olt main_v27 main_v28
  (main_v2, main_v5, main_v8, main_v11, main_v14, main_v17, main_v20, main_v23, main_v26, main_v29)

def fn {F : FTy → Type} [FloatOps F] (main_arg0 : FVec F S32x2048x1024 .f32) (main_arg1 : FVec F S32x1024 .f32) (main_arg2 : FVec F S16x1024 .f32) (main_arg3 : FVec F S2x1024x6144 .f32) (main_arg4 : FVec F S2x6144 .f32) (main_arg5 : FVec F S1024 .f32) (main_arg6 : FVec F S1024x6832 .f32) (main_arg7 : FVec F S65536x512 .bf16) (main_arg8 : FVec F S65536x512 .bf16) (main_arg9 : FVec F S65536x512 .bf16) (main_arg10 : FVec F S3x512x1024 .f32) (main_arg11 : FVec F S1024x1024 .f32) (main_arg12 : FVec F S1024 .f32) (main_arg13 : FVec F S1024x5632 .f32) (main_arg14 : FVec F S3x5632 .f32) (main_arg15 : FVec F S5632 .f32) (main_arg16 : FVec F S2816x1024 .f32) (main_arg17 : FVec F S1024 .f32) : IVec S32x1024 1 × IVec S16x1024 1 × IVec S2x1024x6144 1 × IVec S2x6144 1 × IVec S1024 1 × IVec S1024x6832 1 × IVec S1024 1 × IVec S1024x5632 1 × IVec S3x5632 1 × IVec S5632 1 :=
  let main_v0 : FVec F S32x1024 .f32 := Host.absf main_arg1
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_v3 : FVec F S16x1024 .f32 := Host.absf main_arg2
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S2x1024x6144 .f32 := Host.absf main_arg3
  let main_cst_1 : FVec F S_ .f32 := constant S_ .f32 0x7F800000#32
  let main_v7 : FVec F S2x1024x6144 .f32 := broadcastInDim S2x1024x6144 ![] bcast_S_S2x1024x6144 main_cst_1
  let main_v8 : IVec S2x1024x6144 1 := cmpf .olt main_v6 main_v7
  let main_v9 : FVec F S2x6144 .f32 := Host.absf main_arg4
  let main_cst_2 : FVec F S_ .f32 := constant S_ .f32 0x7F800000#32
  let main_v10 : FVec F S2x6144 .f32 := broadcastInDim S2x6144 ![] bcast_S_S2x6144 main_cst_2
  let main_v11 : IVec S2x6144 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x6832 .f32 := Host.absf main_arg6
  let main_cst_4 : FVec F S_ .f32 := constant S_ .f32 0x7F800000#32
  let main_v16 : FVec F S1024x6832 .f32 := broadcastInDim S1024x6832 ![] bcast_S_S1024x6832 main_cst_4
  let main_v17 : IVec S1024x6832 1 := cmpf .olt main_v15 main_v16
  fn_part1 (F := F) main_arg12 main_arg13 main_arg14 main_arg15 main_v2 main_v5 main_v8 main_v11 main_v14 main_v17
-- ==== Kernel.lean ====
abbrev S32x2048x384 : Shape := ⟨3, ![32, 2048, 384]⟩
abbrev S32x2048x288 : Shape := ⟨3, ![32, 2048, 288]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S8 : Shape := ⟨1, ![8]⟩
abbrev S1x8x1 : Shape := ⟨3, ![1, 8, 1]⟩
abbrev S32x2048x32 : Shape := ⟨3, ![32, 2048, 32]⟩
abbrev S32x2048x256 : Shape := ⟨3, ![32, 2048, 256]⟩
abbrev S32x2048x16 : Shape := ⟨3, ![32, 2048, 16]⟩
abbrev S_ : Shape := ⟨0, ![]⟩
abbrev S32x2048x64 : Shape := ⟨3, ![32, 2048, 64]⟩
abbrev S32x2048x768 : Shape := ⟨3, ![32, 2048, 768]⟩
abbrev S65536x768 : Shape := ⟨2, ![65536, 768]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S384x8x96 : Shape := ⟨3, ![384, 8, 96]⟩
abbrev S384x8x32 : Shape := ⟨3, ![384, 8, 32]⟩
abbrev S384x8x64 : Shape := ⟨3, ![384, 8, 64]⟩
abbrev S384x8x16 : Shape := ⟨3, ![384, 8, 16]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S128x8x128 : Shape := ⟨3, ![128, 8, 128]⟩
abbrev S1x384 : Shape := ⟨2, ![1, 384]⟩
abbrev S1x256 : Shape := ⟨2, ![1, 256]⟩
abbrev S65536x512 : Shape := ⟨2, ![65536, 512]⟩
abbrev S2048x768 : Shape := ⟨2, ![2048, 768]⟩
abbrev S4x2048x256 : Shape := ⟨3, ![4, 2048, 256]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩
abbrev S1x512x128 : Shape := ⟨3, ![1, 512, 128]⟩
abbrev S1x512x256 : Shape := ⟨3, ![1, 512, 256]⟩
abbrev S1x2048x128 : Shape := ⟨3, ![1, 2048, 128]⟩
abbrev S512x2048 : Shape := ⟨2, ![512, 2048]⟩

abbrev nBuf : Space → Nat
  | .hbm => 106
  | .vmem => 14
  | .smem => 0
  | _ => 0

abbrev bufTy : (tb : Table) → Fin (tcTables nBuf tb) → BufTy
  | .hbm, ⟨0, _⟩ => ⟨S32x2048x384, .f32⟩
  | .hbm, ⟨1, _⟩ => ⟨S32x2048x288, .f32⟩
  | .hbm, ⟨2, _⟩ => ⟨S384, .f32⟩
  | .hbm, ⟨3, _⟩ => ⟨S384x768, .f32⟩
  | .hbm, ⟨4, _⟩ => ⟨S256, .f32⟩
  | .hbm, ⟨5, _⟩ => ⟨S256x1024, .f32⟩
  | .hbm, ⟨6, _⟩ => ⟨S8, .i1⟩
  | .hbm, ⟨7, _⟩ => ⟨S1x8x1, .i1⟩
  | .hbm, ⟨8, _⟩ => ⟨S32x2048x32, .f32⟩
  | .hbm, ⟨9, _⟩ => ⟨S32x2048x256, .f32⟩
  | .hbm, ⟨10, _⟩ => ⟨S32x2048x16, .f32⟩
  | .hbm, ⟨11, _⟩ => ⟨S32x2048x16, .f32⟩
  | .hbm, ⟨12, _⟩ => ⟨S32x2048x16, .f32⟩
  | .hbm, ⟨13, _⟩ => ⟨S32x2048x32, .f32⟩
  | .hbm, ⟨14, _⟩ => ⟨S_, .f32⟩
  | .hbm, ⟨15, _⟩ => ⟨S32x2048x64, .f32⟩
  | .hbm, ⟨16, _⟩ => ⟨S32x2048x768, .f32⟩
  | .hbm, ⟨17, _⟩ => ⟨S65536x768, .f32⟩
  | .hbm, ⟨18, _⟩ => ⟨S65536x768, .bf16⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S2048, .f32⟩
  | .hbm, ⟨36, _⟩ => ⟨S2048x1, .f32⟩
  | .hbm, ⟨37, _⟩ => ⟨S1x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S_, .f32⟩
  | .hbm, ⟨44, _⟩ => ⟨S2048x64, .f32⟩
  | .hbm, ⟨45, _⟩ => ⟨S2048x128, .f32⟩
  | .hbm, ⟨46, _⟩ => ⟨S_, .f32⟩
  | .hbm, ⟨47, _⟩ => ⟨S2048x128, .f32⟩
  | .hbm, ⟨48, _⟩ => ⟨S2048x128, .f32⟩
  | .hbm, ⟨49, _⟩ => ⟨S_, .f32⟩
  | .hbm, ⟨50, _⟩ => ⟨S2048x64, .f32⟩
  | .hbm, ⟨51, _⟩ => ⟨S2048x128, .f32⟩
  | .hbm, ⟨52, _⟩ => ⟨S384x8x96, .f32⟩
  | .hbm, ⟨53, _⟩ => ⟨S384x8x32, .f32⟩
  | .hbm, ⟨54, _⟩ => ⟨S384x8x64, .f32⟩
  | .hbm, ⟨55, _⟩ => ⟨S384x8x16, .f32⟩
  | .hbm, ⟨56, _⟩ => ⟨S384x8x16, .f32⟩
  | .hbm, ⟨57, _⟩ => ⟨S384x8x16, .f32⟩
  | .hbm, ⟨58, _⟩ => ⟨S384x8x32, .f32⟩
  | .hbm, ⟨59, _⟩ => ⟨S384x8x128, .f32⟩
  | .hbm, ⟨60, _⟩ => ⟨S384x1024, .f32⟩
  | .hbm, ⟨61, _⟩ => ⟨S384x1024, .bf16⟩
  | .hbm, ⟨62, _⟩ => ⟨S256x8x128, .f32⟩
  | .hbm, ⟨63, _⟩ => ⟨S256x8x64, .f32⟩
  | .hbm, ⟨64, _⟩ => ⟨S_, .f32⟩
  | .hbm, ⟨65, _⟩ => ⟨S256x8x64, .f32⟩
  | .hbm, ⟨66, _⟩ => ⟨S256x8x128, .f32⟩
  | .hbm, ⟨67, _⟩ => ⟨S128x8x128, .i32⟩
  | .hbm, ⟨68, _⟩ => ⟨S128x8x128, .i32⟩
  | .hbm, ⟨69, _⟩ => ⟨S_, .i32⟩
  | .hbm, ⟨70, _⟩ => ⟨S128x8x128, .i32⟩
  | .hbm, ⟨71, _⟩ => ⟨S128x8x128, .i1⟩
  | .hbm, ⟨72, _⟩ => ⟨S_, .i32⟩
  | .hbm, ⟨73, _⟩ => ⟨S128x8x128, .i32⟩
  | .hbm, ⟨74, _⟩ => ⟨S128x8x128, .i1⟩
  | .hbm, ⟨75, _⟩ => ⟨S128x8x128, .i1⟩
  | .hbm, ⟨76, _⟩ => ⟨S_, .i32⟩
  | .hbm, ⟨77, _⟩ => ⟨S128x8x128, .i32⟩
  | .hbm, ⟨78, _⟩ => ⟨S128x8x128, .i32⟩
  | .hbm, ⟨79, _⟩ => ⟨S_, .i32⟩
  | .hbm, ⟨80, _⟩ => ⟨S128x8x128, .i32⟩
  | .hbm, ⟨81, _⟩ => ⟨S128x8x128, .i32⟩
  | .hbm, ⟨82, _⟩ => ⟨S128x8x128, .i1⟩
  | .hbm, ⟨83, _⟩ => ⟨S128x8x128, .i1⟩
  | .hbm, ⟨84, _⟩ => ⟨S_, .f32⟩
  | .hbm, ⟨85, _⟩ => ⟨S_, .f32⟩
  | .hbm, ⟨86, _⟩ => ⟨S128x8x128, .f32⟩
  | .hbm, ⟨87, _⟩ => ⟨S128x8x128, .f32⟩
  | .hbm, ⟨88, _⟩ => ⟨S128x8x128, .f32⟩
  | .hbm, ⟨89, _⟩ => ⟨S128x8x128, .f32⟩
  | .hbm, ⟨90, _⟩ => ⟨S384x8x128, .f32⟩
  | .hbm, ⟨91, _⟩ => ⟨S384x1024, .f32⟩
  | .hbm, ⟨92, _⟩ => ⟨S384x1024, .bf16⟩
  | .hbm, ⟨93, _⟩ => ⟨S256x8x64, .f32⟩
  | .hbm, ⟨94, _⟩ => ⟨S_, .f32⟩
  | .hbm, ⟨95, _⟩ => ⟨S256x8x64, .f32⟩
  | .hbm, ⟨96, _⟩ => ⟨S256x8x64, .i1⟩
  | .hbm, ⟨97, _⟩ => ⟨S256x8x64, .f32⟩
  | .hbm, ⟨98, _⟩ => ⟨S256x8x64, .i1⟩
  | .hbm, ⟨99, _⟩ => ⟨S256x8x64, .f32⟩
  | .hbm, ⟨100, _⟩ => ⟨S256x8x128, .f32⟩
  | .hbm, ⟨101, _⟩ => ⟨S256x1024, .f32⟩
  | .hbm, ⟨102, _⟩ => ⟨S256x1024, .bf16⟩
  | .hbm, ⟨103, _⟩ => ⟨S1x384, .f32⟩
  | .hbm, ⟨104, _⟩ => ⟨S1x256, .f32⟩
  | .hbm, ⟨105, _⟩ => ⟨S65536x512, .bf16⟩
  | .local _ .vmem, ⟨0, _⟩ => ⟨S2048x768, .bf16⟩
  | .local _ .vmem, ⟨1, _⟩ => ⟨S2048x768, .bf16⟩
  | .local _ .vmem, ⟨2, _⟩ => ⟨S2048x128, .f32⟩
  | .local _ .vmem, ⟨3, _⟩ => ⟨S2048x128, .f32⟩
  | .local _ .vmem, ⟨4, _⟩ => ⟨S1x384, .f32⟩
  | .local _ .vmem, ⟨5, _⟩ => ⟨S384x1024, .bf16⟩
  | .local _ .vmem, ⟨6, _⟩ => ⟨S1x256, .f32⟩
  | .local _ .vmem, ⟨7, _⟩ => ⟨S384x1024, .bf16⟩
  | .local _ .vmem, ⟨8, _⟩ => ⟨S256x1024, .bf16⟩
  | .local _ .vmem, ⟨9, _⟩ => ⟨S2048x128, .bf16⟩
  | .local _ .vmem, ⟨10, _⟩ => ⟨S2048x128, .bf16⟩
  | .local _ .vmem, ⟨11, _⟩ => ⟨S4x2048x256, .bf16⟩
  | .local _ .vmem, ⟨12, _⟩ => ⟨S4x2048x256, .bf16⟩
  | .local _ .vmem, ⟨13, _⟩ => ⟨S4x2048x256, .bf16⟩
  | _, _ => ⟨S32x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_cst_14 : Ref sig .tc := ⟨.hbm, 85, rfl⟩
abbrev main_call0_v0 : Ref sig .tc := ⟨.hbm, 86, rfl⟩
abbrev main_call0_v1 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_call1_v0 : Ref sig .tc := ⟨.hbm, 96, rfl⟩
abbrev main_v70 : Ref sig .tc := ⟨.hbm, 97, rfl⟩
abbrev main_call2_v0 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![32, 4], ![false, false]⟩

def k0_off1 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_off2 (i : grid0.Coords) : Fin 3 → Nat :=
  let arg1 : BitVec 32 := BitVec.ofNat 32 (i 1).val
  let v6 : Index := Scalar.indexCast arg1
  let c0_2 : Index := 0#32
  let c0_3 : Index := 0#32
  ![v6.toNat, 0, 0]
def k0_off3 (i : grid0.Coords) : Fin 3 → Nat :=
  let arg1 : BitVec 32 := BitVec.ofNat 32 (i 1).val
  let v26 : Index := Scalar.indexCast arg1
  let c0_10 : Index := 0#32
  let c128 : Index := 128#32
  ![v26.toNat, 0, 128]
def k0_off4 (i : grid0.Coords) : Fin 3 → Nat :=
  let arg1 : BitVec 32 := BitVec.ofNat 32 (i 1).val
  let v29 : Index := Scalar.indexCast arg1
  let c0_11 : Index := 0#32
  let c128_12 : Index := 128#32
  ![v29.toNat, 0, 128]
def k0_off5 (i : grid0.Coords) : Fin 3 → Nat :=
  let arg1 : BitVec 32 := BitVec.ofNat 32 (i 1).val
  let v52 : Index := Scalar.indexCast arg1
  let c512 : Index := 512#32
  let c0_22 : Index := 0#32
  ![v52.toNat, 512, 0]
def k0_off6 (i : grid0.Coords) : Fin 3 → Nat :=
  let arg1 : BitVec 32 := BitVec.ofNat 32 (i 1).val
  let v75 : Index := Scalar.indexCast arg1
  let c512_32 : Index := 512#32
  let c128_33 : Index := 128#32
  ![v75.toNat, 512, 128]
def k0_off7 (i : grid0.Coords) : Fin 3 → Nat :=
  let arg1 : BitVec 32 := BitVec.ofNat 32 (i 1).val
  let v101 : Index := Scalar.indexCast arg1
  let c1024 : Index := 1024#32
  let c0_45 : Index := 0#32
  ![v101.toNat, 1024, 0]
def k0_off8 (i : grid0.Coords) : Fin 3 → Nat :=
  let arg1 : BitVec 32 := BitVec.ofNat 32 (i 1).val
  let v124 : Index := Scalar.indexCast arg1
  let c1024_55 : Index := 1024#32
  let c128_56 : Index := 128#32
  ![v124.toNat, 1024, 128]
def k0_off9 (i : grid0.Coords) : Fin 3 → Nat :=
  let arg1 : BitVec 32 := BitVec.ofNat 32 (i 1).val
  let v150 : Index := Scalar.indexCast arg1
  let c1536 : Index := 1536#32
  let c0_68 : Index := 0#32
  ![v150.toNat, 1536, 0]
def k0_off10 (i : grid0.Coords) : Fin 3 → Nat :=
  let arg1 : BitVec 32 := BitVec.ofNat 32 (i 1).val
  let v173 : Index := Scalar.indexCast arg1
  let c1536_78 : Index := 1536#32
  let c128_79 : Index := 128#32
  ![v173.toNat, 1536, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S32x2048x384 : Shape := ⟨3, ![32, 2048, 384]⟩
abbrev S32x2048x288 : Shape := ⟨3, ![32, 2048, 288]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S32x2048 : Shape := ⟨2, ![32, 2048]⟩
abbrev S32x2048x1 : Shape := ⟨3, ![32, 2048, 1]⟩
abbrev S1x1x384 : Shape := ⟨3, ![1, 1, 384]⟩
abbrev S32x2048x768 : Shape := ⟨3, ![32, 2048, 768]⟩
abbrev S32x2048x8x96 : Shape := ⟨4, ![32, 2048, 8, 96]⟩
abbrev S32x2048x8x32 : Shape := ⟨4, ![32, 2048, 8, 32]⟩
abbrev S2048x1x16 : Shape := ⟨3, ![2048, 1, 16]⟩
abbrev S32x2048x8x16 : Shape := ⟨4, ![32, 2048, 8, 16]⟩
abbrev S1x2048x1x16 : Shape := ⟨4, ![1, 2048, 1, 16]⟩
abbrev S32x2048x8x64 : Shape := ⟨4, ![32, 2048, 8, 64]⟩
abbrev S32x2048x256 : Shape := ⟨3, ![32, 2048, 256]⟩
abbrev S1x1x256 : Shape := ⟨3, ![1, 1, 256]⟩
abbrev S32x2048x32 : Shape := ⟨3, ![32, 2048, 32]⟩
abbrev S32x2048x16 : Shape := ⟨3, ![32, 2048, 16]⟩
abbrev S1x2048x16 : Shape := ⟨3, ![1, 2048, 16]⟩
abbrev S32x2048x1024 : Shape := ⟨3, ![32, 2048, 1024]⟩
abbrev S32x2048x8x128 : Shape := ⟨4, ![32, 2048, 8, 128]⟩
abbrev S32x2048x1x32 : Shape := ⟨4, ![32, 2048, 1, 32]⟩
abbrev S32x8x2048x2048 : Shape := ⟨4, ![32, 8, 2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S65536x512 : Shape := ⟨2, ![65536, 512]⟩

abbrev nBuf : Space → Nat
  | .hbm => 134
  | .vmem => 0
  | .smem => 0
  | _ => 0

abbrev hbmTy0_0 (i : Nat) : BufTy := match i % 128 with
  | 0 => ⟨S32x2048x384, .f32⟩
  | 1 => ⟨S32x2048x288, .f32⟩
  | 2 => ⟨S384, .f32⟩
  | 3 => ⟨S384x768, .f32⟩
  | 4 => ⟨S256, .f32⟩
  | 5 => ⟨S256x1024, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048, .f32⟩
  | 23 => ⟨S2048x1, .f32⟩
  | 24 => ⟨S1x16, .f32⟩
  | 25 => ⟨S2048x16, .f32⟩
  | 26 => ⟨S2048x16, .f32⟩
  | 27 => ⟨S2048x16, .f32⟩
  | 28 => ⟨S2048x16, .f32⟩
  | 29 => ⟨S2048x16, .f32⟩
  | 30 => ⟨S32x2048x384, .f32⟩
  | 31 => ⟨S_, .f32⟩
  | 32 => ⟨S32x2048, .f32⟩
  | 33 => ⟨S32x2048x1, .f32⟩
  | 34 => ⟨S_, .f32⟩
  | 35 => ⟨S32x2048x1, .f32⟩
  | 36 => ⟨S32x2048x1, .f32⟩
  | 37 => ⟨S_, .f32⟩
  | 38 => ⟨S32x2048x1, .f32⟩
  | 39 => ⟨S32x2048x1, .f32⟩
  | 40 => ⟨S32x2048x1, .f32⟩
  | 41 => ⟨S32x2048x384, .f32⟩
  | 42 => ⟨S32x2048x384, .f32⟩
  | 43 => ⟨S1x1x384, .f32⟩
  | 44 => ⟨S32x2048x384, .f32⟩
  | 45 => ⟨S32x2048x384, .f32⟩
  | 46 => ⟨S32x2048x768, .f32⟩
  | 47 => ⟨S32x2048x8x96, .f32⟩
  | 48 => ⟨S32x2048x8x32, .f32⟩
  | 49 => ⟨S2048x1x16, .f32⟩
  | 50 => ⟨S2048x1x16, .f32⟩
  | 51 => ⟨S32x2048x8x16, .f32⟩
  | 52 => ⟨S32x2048x8x16, .f32⟩
  | 53 => ⟨S1x2048x1x16, .f32⟩
  | 54 => ⟨S32x2048x8x16, .f32⟩
  | 55 => ⟨S32x2048x8x16, .f32⟩
  | 56 => ⟨S1x2048x1x16, .f32⟩
  | 57 => ⟨S32x2048x8x16, .f32⟩
  | 58 => ⟨S32x2048x8x16, .f32⟩
  | 59 => ⟨S32x2048x8x16, .f32⟩
  | 60 => ⟨S1x2048x1x16, .f32⟩
  | 61 => ⟨S32x2048x8x16, .f32⟩
  | 62 => ⟨S32x2048x8x16, .f32⟩
  | 63 => ⟨S1x2048x1x16, .f32⟩
  | 64 => ⟨S32x2048x8x16, .f32⟩
  | 65 => ⟨S32x2048x8x16, .f32⟩
  | 66 => ⟨S32x2048x8x16, .f32⟩
  | 67 => ⟨S32x2048x8x32, .f32⟩
  | 68 => ⟨S32x2048x8x64, .f32⟩
  | 69 => ⟨S32x2048x8x96, .f32⟩
  | 70 => ⟨S_, .f32⟩
  | 71 => ⟨S32x2048x8x96, .f32⟩
  | 72 => ⟨S32x2048x8x96, .f32⟩
  | 73 => ⟨S32x2048x256, .f32⟩
  | 74 => ⟨S32x2048x256, .f32⟩
  | 75 => ⟨S_, .f32⟩
  | 76 => ⟨S32x2048, .f32⟩
  | 77 => ⟨S32x2048x1, .f32⟩
  | 78 => ⟨S_, .f32⟩
  | 79 => ⟨S32x2048x1, .f32⟩
  | 80 => ⟨S32x2048x1, .f32⟩
  | 81 => ⟨S_, .f32⟩
  | 82 => ⟨S32x2048x1, .f32⟩
  | 83 => ⟨S32x2048x1, .f32⟩
  | 84 => ⟨S32x2048x1, .f32⟩
  | 85 => ⟨S32x2048x256, .f32⟩
  | 86 => ⟨S32x2048x256, .f32⟩
  | 87 => ⟨S1x1x256, .f32⟩
  | 88 => ⟨S32x2048x256, .f32⟩
  | 89 => ⟨S32x2048x256, .f32⟩
  | 90 => ⟨S32x2048x32, .f32⟩
  | 91 => ⟨S32x2048x16, .f32⟩
  | 92 => ⟨S32x2048x16, .f32⟩
  | 93 => ⟨S1x2048x16, .f32⟩
  | 94 => ⟨S32x2048x16, .f32⟩
  | 95 => ⟨S32x2048x16, .f32⟩
  | 96 => ⟨S1x2048x16, .f32⟩
  | 97 => ⟨S32x2048x16, .f32⟩
  | 98 => ⟨S32x2048x16, .f32⟩
  | 99 => ⟨S32x2048x16, .f32⟩
  | 100 => ⟨S1x2048x16, .f32⟩
  | 101 => ⟨S32x2048x16, .f32⟩
  | 102 => ⟨S32x2048x16, .f32⟩
  | 103 => ⟨S1x2048x16, .f32⟩
  | 104 => ⟨S32x2048x16, .f32⟩
  | 105 => ⟨S32x2048x16, .f32⟩
  | 106 => ⟨S32x2048x16, .f32⟩
  | 107 => ⟨S32x2048x32, .f32⟩
  | 108 => ⟨S32x2048x1024, .f32⟩
  | 109 => ⟨S32x2048x8x128, .f32⟩
  | 110 => ⟨S32x2048x8x64, .f32⟩
  | 111 => ⟨S32x2048x8x64, .f32⟩
  | 112 => ⟨S32x2048x1x32, .f32⟩
  | 113 => ⟨S32x2048x8x32, .f32⟩
  | 114 => ⟨S32x2048x8x96, .f32⟩
  | 115 => ⟨S32x8x2048x2048, .f32⟩
  | 116 => ⟨S_, .f32⟩
  | 117 => ⟨S32x8x2048, .f32⟩
  | 118 => ⟨S_, .f32⟩
  | 119 => ⟨S32x8x2048, .f32⟩
  | 120 => ⟨S32x8x2048, .f32⟩
  | 121 => ⟨S32x8x2048x1, .f32⟩
  | 122 => ⟨S32x8x2048x2048, .f32⟩
  | 123 => ⟨S32x8x2048x2048, .f32⟩
  | 124 => ⟨S32x8x2048x2048, .f32⟩
  | 125 => ⟨S_, .f32⟩
  | 126 => ⟨S32x8x2048, .f32⟩
  | 127 => ⟨S32x8x2048x1, .f32⟩
  | _ => ⟨S32x2048x384, .f32⟩

abbrev hbmTy0_1 (i : Nat) : BufTy := match i % 128 with
  | 0 => ⟨S32x8x2048x2048, .f32⟩
  | 1 => ⟨S32x8x2048x2048, .f32⟩
  | 2 => ⟨S32x8x64x2048, .f32⟩
  | 3 => ⟨S32x2048x8x64, .f32⟩
  | 4 => ⟨S65536x512, .f32⟩
  | 5 => ⟨S65536x512, .bf16⟩
  | _ => ⟨S32x2048x384, .f32⟩

abbrev hbmTy (i : Nat) : BufTy := match i / 128 with
  | 0 => hbmTy0_0 i
  | 1 => hbmTy0_1 i
  | _ => ⟨S32x2048x384, .f32⟩

abbrev bufTy : (tb : Table) → Fin (tcTables nBuf tb) → BufTy
  | .hbm, ⟨i, _⟩ => hbmTy i
  | _, _ => ⟨S32x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_11 : Ref sig .tc := ⟨.hbm, 116, rfl⟩
abbrev main_v98 : Ref sig .tc := ⟨.hbm, 117, rfl⟩
abbrev main_cst_12 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_13 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S2816 : Shape := ⟨1, ![2816]⟩
abbrev S11x256 : Shape := ⟨2, ![11, 256]⟩
abbrev S11x512 : Shape := ⟨2, ![11, 512]⟩
abbrev S11x1x512 : Shape := ⟨3, ![11, 1, 512]⟩
abbrev S65536x1024 : Shape := ⟨2, ![65536, 1024]⟩
abbrev S32x1x6144 : Shape := ⟨3, ![32, 1, 6144]⟩
abbrev S1x1024 : Shape := ⟨2, ![1, 1024]⟩
abbrev S1024x1024 : Shape := ⟨2, ![1024, 1024]⟩
abbrev S8x1024 : Shape := ⟨2, ![8, 1024]⟩
abbrev S1x1x6144 : Shape := ⟨3, ![1, 1, 6144]⟩
abbrev S1x1x1024 : Shape := ⟨3, ![1, 1, 1024]⟩
abbrev S1040x1024 : Shape := ⟨2, ![1040, 1024]⟩
abbrev S1040 : Shape := ⟨1, ![1040]⟩
abbrev S1040x1 : Shape := ⟨2, ![1040, 1]⟩
abbrev S8x512 : Shape := ⟨2, ![8, 512]⟩
abbrev S1x1024x512 : Shape := ⟨3, ![1, 1024, 512]⟩
abbrev S1024x512 : Shape := ⟨2, ![1024, 512]⟩
abbrev S1040x512 : Shape := ⟨2, ![1040, 512]⟩
abbrev S1x512 : Shape := ⟨2, ![1, 512]⟩
abbrev S1016x512 : Shape := ⟨2, ![1016, 512]⟩
abbrev S1x3x512 : Shape := ⟨3, ![1, 3, 512]⟩
abbrev S3x512 : Shape := ⟨2, ![3, 512]⟩
abbrev S1x1x512 : Shape := ⟨3, ![1, 1, 512]⟩
abbrev S1024x256 : Shape := ⟨2, ![1024, 256]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩
abbrev S1024x1 : Shape := ⟨2, ![1024, 1]⟩

abbrev nBuf : Space → Nat
  | .hbm => 33
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1024x2816, .f32⟩
  | .hbm, ⟨9, _⟩ => ⟨S1024x11x256, .f32⟩
  | .hbm, ⟨10, _⟩ => ⟨S1024x2816, .f32⟩
  | .hbm, ⟨11, _⟩ => ⟨S1024x11x256, .f32⟩
  | .hbm, ⟨12, _⟩ => ⟨S1024x11x512, .f32⟩
  | .hbm, ⟨13, _⟩ => ⟨S11x1024x512, .f32⟩
  | .hbm, ⟨14, _⟩ => ⟨S11x1024x512, .bf16⟩
  | .hbm, ⟨15, _⟩ => ⟨S3x2816, .f32⟩
  | .hbm, ⟨16, _⟩ => ⟨S3x11x256, .f32⟩
  | .hbm, ⟨17, _⟩ => ⟨S3x2816, .f32⟩
  | .hbm, ⟨18, _⟩ => ⟨S3x11x256, .f32⟩
  | .hbm, ⟨19, _⟩ => ⟨S3x11x512, .f32⟩
  | .hbm, ⟨20, _⟩ => ⟨S11x3x512, .f32⟩
  | .hbm, ⟨21, _⟩ => ⟨S2816, .f32⟩
  | .hbm, ⟨22, _⟩ => ⟨S11x256, .f32⟩
  | .hbm, ⟨23, _⟩ => ⟨S2816, .f32⟩
  | .hbm, ⟨24, _⟩ => ⟨S11x256, .f32⟩
  | .hbm, ⟨25, _⟩ => ⟨S11x512, .f32⟩
  | .hbm, ⟨26, _⟩ => ⟨S11x1x512, .f32⟩
  | .hbm, ⟨27, _⟩ => ⟨S2816x1024, .bf16⟩
  | .hbm, ⟨28, _⟩ => ⟨S65536x1024, .f32⟩
  | .hbm, ⟨29, _⟩ => ⟨S32x1x6144, .f32⟩
  | .hbm, ⟨30, _⟩ => ⟨S1x1024, .f32⟩
  | .hbm, ⟨31, _⟩ => ⟨S1x1024, .f32⟩
  | .hbm, ⟨32, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S11x1024x512, .bf16⟩
  | .local _ .vmem, ⟨10, _⟩ => ⟨S11x3x512, .f32⟩
  | .local _ .vmem, ⟨11, _⟩ => ⟨S11x1x512, .f32⟩
  | .local _ .vmem, ⟨12, _⟩ => ⟨S2816x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S2816 : Shape := ⟨1, ![2816]⟩
abbrev S11x256 : Shape := ⟨2, ![11, 256]⟩
abbrev S11x512 : Shape := ⟨2, ![11, 512]⟩
abbrev S11x1x512 : Shape := ⟨3, ![11, 1, 512]⟩
abbrev S65536x1024 : Shape := ⟨2, ![65536, 1024]⟩
abbrev S32x1x6144 : Shape := ⟨3, ![32, 1, 6144]⟩
abbrev S1x1024 : Shape := ⟨2, ![1, 1024]⟩
abbrev S1024x1024 : Shape := ⟨2, ![1024, 1024]⟩
abbrev S8x1024 : Shape := ⟨2, ![8, 1024]⟩
abbrev S1x1x6144 : Shape := ⟨3, ![1, 1, 6144]⟩
abbrev S1x1x1024 : Shape := ⟨3, ![1, 1, 1024]⟩
abbrev S1040x1024 : Shape := ⟨2, ![1040, 1024]⟩
abbrev S1040 : Shape := ⟨1, ![1040]⟩
abbrev S1040x1 : Shape := ⟨2, ![1040, 1]⟩
abbrev S8x512 : Shape := ⟨2, ![8, 512]⟩
abbrev S1x1024x512 : Shape := ⟨3, ![1, 1024, 512]⟩
abbrev S1024x512 : Shape := ⟨2, ![1024, 512]⟩
abbrev S1040x512 : Shape := ⟨2, ![1040, 512]⟩
abbrev S1x512 : Shape := ⟨2, ![1, 512]⟩
abbrev S1016x512 : Shape := ⟨2, ![1016, 512]⟩
abbrev S1x3x512 : Shape := ⟨3, ![1, 3, 512]⟩
abbrev S3x512 : Shape := ⟨2, ![3, 512]⟩
abbrev S1x1x512 : Shape := ⟨3, ![1, 1, 512]⟩
abbrev S1024x256 : Shape := ⟨2, ![1024, 256]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩
abbrev S1024x1 : Shape := ⟨2, ![1024, 1]⟩

abbrev nBuf : Space → Nat
  | .hbm => 33
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1024x2816, .f32⟩
  | .hbm, ⟨9, _⟩ => ⟨S1024x11x256, .f32⟩
  | .hbm, ⟨10, _⟩ => ⟨S1024x2816, .f32⟩
  | .hbm, ⟨11, _⟩ => ⟨S1024x11x256, .f32⟩
  | .hbm, ⟨12, _⟩ => ⟨S1024x11x512, .f32⟩
  | .hbm, ⟨13, _⟩ => ⟨S11x1024x512, .f32⟩
  | .hbm, ⟨14, _⟩ => ⟨S11x1024x512, .bf16⟩
  | .hbm, ⟨15, _⟩ => ⟨S3x2816, .f32⟩
  | .hbm, ⟨16, _⟩ => ⟨S3x11x256, .f32⟩
  | .hbm, ⟨17, _⟩ => ⟨S3x2816, .f32⟩
  | .hbm, ⟨18, _⟩ => ⟨S3x11x256, .f32⟩
  | .hbm, ⟨19, _⟩ => ⟨S3x11x512, .f32⟩
  | .hbm, ⟨20, _⟩ => ⟨S11x3x512, .f32⟩
  | .hbm, ⟨21, _⟩ => ⟨S2816, .f32⟩
  | .hbm, ⟨22, _⟩ => ⟨S11x256, .f32⟩
  | .hbm, ⟨23, _⟩ => ⟨S2816, .f32⟩
  | .hbm, ⟨24, _⟩ => ⟨S11x256, .f32⟩
  | .hbm, ⟨25, _⟩ => ⟨S11x512, .f32⟩
  | .hbm, ⟨26, _⟩ => ⟨S11x1x512, .f32⟩
  | .hbm, ⟨27, _⟩ => ⟨S2816x1024, .bf16⟩
  | .hbm, ⟨28, _⟩ => ⟨S65536x1024, .f32⟩
  | .hbm, ⟨29, _⟩ => ⟨S32x1x6144, .f32⟩
  | .hbm, ⟨30, _⟩ => ⟨S1x1024, .f32⟩
  | .hbm, ⟨31, _⟩ => ⟨S1x1024, .f32⟩
  | .hbm, ⟨32, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S11x1024x512, .bf16⟩
  | .local _ .vmem, ⟨10, _⟩ => ⟨S11x3x512, .f32⟩
  | .local _ .vmem, ⟨11, _⟩ => ⟨S11x1x512, .f32⟩
  | .local _ .vmem, ⟨12, _⟩ => ⟨S2816x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x3072 : Shape := ⟨2, ![32, 3072]⟩
abbrev S32x1x3072 : Shape := ⟨3, ![32, 1, 3072]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x1x5632 : Shape := ⟨3, ![32, 1, 5632]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩
abbrev S65536x1024 : Shape := ⟨2, ![65536, 1024]⟩

abbrev nBuf : Space → Nat
  | .hbm => 96
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S32x3072, .f32⟩
  | .hbm, ⟨9, _⟩ => ⟨S32x1x3072, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S_, .f32⟩
  | .hbm, ⟨30, _⟩ => ⟨S32x1x1024, .f32⟩
  | .hbm, ⟨31, _⟩ => ⟨S32x1x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x5632, .f32⟩
  | .hbm, ⟨37, _⟩ => ⟨S_, .f32⟩
  | .hbm, ⟨38, _⟩ => ⟨S32x1x5632, .f32⟩
  | .hbm, ⟨39, _⟩ => ⟨S32x2050x5632, .f32⟩
  | .hbm, ⟨40, _⟩ => ⟨S32x2048x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S32x2048x5632, .f32⟩
  | .hbm, ⟨45, _⟩ => ⟨S32x2048x5632, .f32⟩
  | .hbm, ⟨46, _⟩ => ⟨S32x2048x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S32x2048x5632, .f32⟩
  | .hbm, ⟨51, _⟩ => ⟨S32x2048x5632, .f32⟩
  | .hbm, ⟨52, _⟩ => ⟨S32x2048x5632, .f32⟩
  | .hbm, ⟨53, _⟩ => ⟨S32x2048x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S32x2048x5632, .f32⟩
  | .hbm, ⟨58, _⟩ => ⟨S32x2048x5632, .f32⟩
  | .hbm, ⟨59, _⟩ => ⟨S32x2048x5632, .f32⟩
  | .hbm, ⟨60, _⟩ => ⟨S1x1x5632, .f32⟩
  | .hbm, ⟨61, _⟩ => ⟨S32x2048x5632, .f32⟩
  | .hbm, ⟨62, _⟩ => ⟨S32x2048x5632, .f32⟩
  | .hbm, ⟨63, _⟩ => ⟨S32x2048x2816, .f32⟩
  | .hbm, ⟨64, _⟩ => ⟨S32x2048x2816, .f32⟩
  | .hbm, ⟨65, _⟩ => ⟨S32x2048x2816, .f32⟩
  | .hbm, ⟨66, _⟩ => ⟨S32x2048x2816, .f32⟩
  | .hbm, ⟨67, _⟩ => ⟨S_, .f32⟩
  | .hbm, ⟨68, _⟩ => ⟨S32x2048x2816, .f32⟩
  | .hbm, ⟨69, _⟩ => ⟨S32x2048x2816, .f32⟩
  | .hbm, ⟨70, _⟩ => ⟨S_, .f32⟩
  | .hbm, ⟨71, _⟩ => ⟨S32x2048x2816, .f32⟩
  | .hbm, ⟨72, _⟩ => ⟨S32x2048x2816, .f32⟩
  | .hbm, ⟨73, _⟩ => ⟨S32x2048x2816, .f32⟩
  | .hbm, ⟨74, _⟩ => ⟨S32x2048x2816, .f32⟩
  | .hbm, ⟨75, _⟩ => ⟨S32x2048x1024, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | .hbm, ⟨80, _⟩ => ⟨S_, .f32⟩
  | .hbm, ⟨81, _⟩ => ⟨S32x2048, .f32⟩
  | .hbm, ⟨82, _⟩ => ⟨S32x2048x1, .f32⟩
  | .hbm, ⟨83, _⟩ => ⟨S_, .f32⟩
  | .hbm, ⟨84, _⟩ => ⟨S32x2048x1, .f32⟩
  | .hbm, ⟨85, _⟩ => ⟨S32x2048x1, .f32⟩
  | .hbm, ⟨86, _⟩ => ⟨S_, .f32⟩
  | .hbm, ⟨87, _⟩ => ⟨S32x2048x1, .f32⟩
  | .hbm, ⟨88, _⟩ => ⟨S32x2048x1, .f32⟩
  | .hbm, ⟨89, _⟩ => ⟨S32x2048x1, .f32⟩
  | .hbm, ⟨90, _⟩ => ⟨S32x2048x1024, .f32⟩
  | .hbm, ⟨91, _⟩ => ⟨S32x2048x1024, .f32⟩
  | .hbm, ⟨92, _⟩ => ⟨S1x1x1024, .f32⟩
  | .hbm, ⟨93, _⟩ => ⟨S32x2048x1024, .f32⟩
  | .hbm, ⟨94, _⟩ => ⟨S32x2048x1024, .f32⟩
  | .hbm, ⟨95, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_cst_6 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x6144 : Shape := ⟨2, ![32, 6144]⟩
abbrev S1024 : Shape := ⟨1, ![1024]⟩
abbrev S1024x6832 : Shape := ⟨2, ![1024, 6832]⟩
abbrev S1024x32 : Shape := ⟨2, ![1024, 32]⟩
abbrev S1024x384 : Shape := ⟨2, ![1024, 384]⟩
abbrev S1024x256 : Shape := ⟨2, ![1024, 256]⟩
abbrev S1024x16 : Shape := ⟨2, ![1024, 16]⟩
abbrev S_ : Shape := ⟨0, ![]⟩
abbrev S1024x64 : Shape := ⟨2, ![1024, 64]⟩
abbrev S1024x1024 : Shape := ⟨2, ![1024, 1024]⟩
abbrev S1024x2048 : Shape := ⟨2, ![1024, 2048]⟩
abbrev S1024x112 : Shape := ⟨2, ![1024, 112]⟩
abbrev S1024x3072 : Shape := ⟨2, ![1024, 3072]⟩
abbrev S1024x7040 : Shape := ⟨2, ![1024, 7040]⟩
abbrev S65536x1024 : Shape := ⟨2, ![65536, 1024]⟩
abbrev S32x1x6144 : Shape := ⟨3, ![32, 1, 6144]⟩
abbrev S1x1024 : Shape := ⟨2, ![1, 1024]⟩
abbrev S65536x768 : Shape := ⟨2, ![65536, 768]⟩
abbrev S65536x2048 : Shape := ⟨2, ![65536, 2048]⟩
abbrev S65536x128 : Shape := ⟨2, ![65536, 128]⟩
abbrev S65536x3072 : Shape := ⟨2, ![65536, 3072]⟩
abbrev S512x1024 : Shape := ⟨2, ![512, 1024]⟩
abbrev S1x1x6144 : Shape := ⟨3, ![1, 1, 6144]⟩
abbrev S512x768 : Shape := ⟨2, ![512, 768]⟩
abbrev S512x2048 : Shape := ⟨2, ![512, 2048]⟩
abbrev S512x128 : Shape := ⟨2, ![512, 128]⟩
abbrev S512x3072 : Shape := ⟨2, ![512, 3072]⟩
abbrev S1x1x1024 : Shape := ⟨3, ![1, 1, 1024]⟩
abbrev S512 : Shape := ⟨1, ![512]⟩
abbrev S512x1 : Shape := ⟨2, ![512, 1]⟩
abbrev S1024x768 : Shape := ⟨2, ![1024, 768]⟩
abbrev S1024x128 : Shape := ⟨2, ![1024, 128]⟩

abbrev nBuf : Space → Nat
  | .hbm => 29
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x6832, .f32⟩
  | .hbm, ⟨4, _⟩ => ⟨S1024x32, .f32⟩
  | .hbm, ⟨5, _⟩ => ⟨S1024x384, .f32⟩
  | .hbm, ⟨6, _⟩ => ⟨S1024x256, .f32⟩
  | .hbm, ⟨7, _⟩ => ⟨S1024x16, .f32⟩
  | .hbm, ⟨8, _⟩ => ⟨S1024x16, .f32⟩
  | .hbm, ⟨9, _⟩ => ⟨S1024x16, .f32⟩
  | .hbm, ⟨10, _⟩ => ⟨S1024x32, .f32⟩
  | .hbm, ⟨11, _⟩ => ⟨S_, .f32⟩
  | .hbm, ⟨12, _⟩ => ⟨S1024x64, .f32⟩
  | .hbm, ⟨13, _⟩ => ⟨S1024x1024, .f32⟩
  | .hbm, ⟨14, _⟩ => ⟨S1024x2048, .f32⟩
  | .hbm, ⟨15, _⟩ => ⟨S1024x16, .f32⟩
  | .hbm, ⟨16, _⟩ => ⟨S_, .f32⟩
  | .hbm, ⟨17, _⟩ => ⟨S1024x112, .f32⟩
  | .hbm, ⟨18, _⟩ => ⟨S1024x3072, .f32⟩
  | .hbm, ⟨19, _⟩ => ⟨S1024x7040, .f32⟩
  | .hbm, ⟨20, _⟩ => ⟨S1024x7040, .bf16⟩
  | .hbm, ⟨21, _⟩ => ⟨S65536x1024, .f32⟩
  | .hbm, ⟨22, _⟩ => ⟨S32x1x6144, .f32⟩
  | .hbm, ⟨23, _⟩ => ⟨S1x1024, .f32⟩
  | .hbm, ⟨24, _⟩ => ⟨S65536x768, .bf16⟩
  | .hbm, ⟨25, _⟩ => ⟨S65536x1024, .bf16⟩
  | .hbm, ⟨26, _⟩ => ⟨S65536x2048, .bf16⟩
  | .hbm, ⟨27, _⟩ => ⟨S65536x128, .f32⟩
  | .hbm, ⟨28, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x7040, .bf16⟩
  | .local _ .vmem, ⟨6, _⟩ => ⟨S512x768, .bf16⟩
  | .local _ .vmem, ⟨7, _⟩ => ⟨S512x768, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S512x128, .f32⟩
  | .local _ .vmem, ⟨13, _⟩ => ⟨S512x128, .f32⟩
  | .local _ .vmem, ⟨14, _⟩ => ⟨S512x3072, .bf16⟩
  | .local _ .vmem, ⟨15, _⟩ => ⟨S512x3072, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x7040 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32x2048x1024 : Shape := ⟨3, ![32, 2048, 1024]⟩
abbrev S32x6144 : Shape := ⟨2, ![32, 6144]⟩
abbrev S1024 : Shape := ⟨1, ![1024]⟩
abbrev S1024x6832 : Shape := ⟨2, ![1024, 6832]⟩
abbrev S32x2048 : Shape := ⟨2, ![32, 2048]⟩
abbrev S32x1x2048 : Shape := ⟨3, ![32, 1, 2048]⟩
abbrev S32x1x1024 : Shape := ⟨3, ![32, 1, 1024]⟩
abbrev S_ : Shape := ⟨0, ![]⟩
abbrev S32x2048x1 : Shape := ⟨3, ![32, 2048, 1]⟩
abbrev S1x1x1024 : Shape := ⟨3, ![1, 1, 1024]⟩
abbrev S32x2048x6832 : Shape := ⟨3, ![32, 2048, 6832]⟩
abbrev S32x2048x384 : Shape := ⟨3, ![32, 2048, 384]⟩
abbrev S32x2048x288 : Shape := ⟨3, ![32, 2048, 288]⟩
abbrev S32x2048x2048 : Shape := ⟨3, ![32, 2048, 2048]⟩
abbrev S32x2048x16 : Shape := ⟨3, ![32, 2048, 16]⟩
abbrev S32x2048x3072 : Shape := ⟨3, ![32, 2048, 3072]⟩
abbrev S32x2048x32 : Shape := ⟨3, ![32, 2048, 32]⟩
abbrev S32x2048x64 : Shape := ⟨3, ![32, 2048, 64]⟩
abbrev S32x2048x768 : Shape := ⟨3, ![32, 2048, 768]⟩
abbrev S32x2048x112 : Shape := ⟨3, ![32, 2048, 112]⟩
abbrev S32x2048x128 : Shape := ⟨3, ![32, 2048, 128]⟩
abbrev S65536x768 : Shape := ⟨2, ![65536, 768]⟩
abbrev S65536x1024 : Shape := ⟨2, ![65536, 1024]⟩
abbrev S65536x2048 : Shape := ⟨2, ![65536, 2048]⟩
abbrev S65536x128 : Shape := ⟨2, ![65536, 128]⟩
abbrev S65536x3072 : Shape := ⟨2, ![65536, 3072]⟩

abbrev nBuf : Space → Nat
  | .hbm => 58
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x6832, .f32⟩
  | .hbm, ⟨4, _⟩ => ⟨S32x2048, .f32⟩
  | .hbm, ⟨5, _⟩ => ⟨S32x1x2048, .f32⟩
  | .hbm, ⟨6, _⟩ => ⟨S32x1x1024, .f32⟩
  | .hbm, ⟨7, _⟩ => ⟨S32x1x1024, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | .hbm, ⟨31, _⟩ => ⟨S32x2048x6832, .f32⟩
  | .hbm, ⟨32, _⟩ => ⟨S32x2048x384, .f32⟩
  | .hbm, ⟨33, _⟩ => ⟨S32x2048x288, .f32⟩
  | .hbm, ⟨34, _⟩ => ⟨S32x2048x1024, .f32⟩
  | .hbm, ⟨35, _⟩ => ⟨S32x2048x2048, .f32⟩
  | .hbm, ⟨36, _⟩ => ⟨S32x2048x16, .f32⟩
  | .hbm, ⟨37, _⟩ => ⟨S32x2048x3072, .f32⟩
  | .hbm, ⟨38, _⟩ => ⟨S32x2048x32, .f32⟩
  | .hbm, ⟨39, _⟩ => ⟨S32x2048x16, .f32⟩
  | .hbm, ⟨40, _⟩ => ⟨S32x2048x16, .f32⟩
  | .hbm, ⟨41, _⟩ => ⟨S32x2048x16, .f32⟩
  | .hbm, ⟨42, _⟩ => ⟨S32x2048x32, .f32⟩
  | .hbm, ⟨43, _⟩ => ⟨S_, .f32⟩
  | .hbm, ⟨44, _⟩ => ⟨S32x2048x64, .f32⟩
  | .hbm, ⟨45, _⟩ => ⟨S32x2048x768, .f32⟩
  | .hbm, ⟨46, _⟩ => ⟨S_, .f32⟩
  | .hbm, ⟨47, _⟩ => ⟨S32x2048x112, .f32⟩
  | .hbm, ⟨48, _⟩ => ⟨S32x2048x128, .f32⟩
  | .hbm, ⟨49, _⟩ => ⟨S65536x768, .f32⟩
  | .hbm, ⟨50, _⟩ => ⟨S65536x768, .bf16⟩
  | .hbm, ⟨51, _⟩ => ⟨S65536x1024, .f32⟩
  | .hbm, ⟨52, _⟩ => ⟨S65536x1024, .bf16⟩
  | .hbm, ⟨53, _⟩ => ⟨S65536x2048, .f32⟩
  | .hbm, ⟨54, _⟩ => ⟨S65536x2048, .bf16⟩
  | .hbm, ⟨55, _⟩ => ⟨S65536x128, .f32⟩
  | .hbm, ⟨56, _⟩ => ⟨S65536x3072, .f32⟩
  | .hbm, ⟨57, _⟩ => ⟨S65536x3072, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x6144 : Shape := ⟨2, ![32, 6144]⟩
abbrev S65536x512 : Shape := ⟨2, ![65536, 512]⟩
abbrev S65536x3072 : Shape := ⟨2, ![65536, 3072]⟩
abbrev S3x512x1024 : Shape := ⟨3, ![3, 512, 1024]⟩
abbrev S1024x1024 : Shape := ⟨2, ![1024, 1024]⟩
abbrev S65536x1024 : Shape := ⟨2, ![65536, 1024]⟩
abbrev S32x1x6144 : Shape := ⟨3, ![32, 1, 6144]⟩
abbrev S512x1024 : Shape := ⟨2, ![512, 1024]⟩
abbrev S1x1x6144 : Shape := ⟨3, ![1, 1, 6144]⟩
abbrev S512x512 : Shape := ⟨2, ![512, 512]⟩
abbrev S512x3072 : Shape := ⟨2, ![512, 3072]⟩
abbrev S1x512x1024 : Shape := ⟨3, ![1, 512, 1024]⟩
abbrev S1x1x1024 : Shape := ⟨3, ![1, 1, 1024]⟩
abbrev S1x1024 : Shape := ⟨2, ![1, 1024]⟩

abbrev nBuf : Space → Nat
  | .hbm => 13
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S65536x3072, .bf16⟩
  | .hbm, ⟨6, _⟩ => ⟨S3x512x1024, .f32⟩
  | .hbm, ⟨7, _⟩ => ⟨S1024x1024, .f32⟩
  | .hbm, ⟨8, _⟩ => ⟨S3x512x1024, .bf16⟩
  | .hbm, ⟨9, _⟩ => ⟨S1024x1024, .bf16⟩
  | .hbm, ⟨10, _⟩ => ⟨S65536x1024, .f32⟩
  | .hbm, ⟨11, _⟩ => ⟨S32x1x6144, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x3072, .bf16⟩
  | .local _ .vmem, ⟨11, _⟩ => ⟨S512x3072, .bf16⟩
  | .local _ .vmem, ⟨12, _⟩ => ⟨S3x512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32x2048x1024 : Shape := ⟨3, ![32, 2048, 1024]⟩
abbrev S32x6144 : Shape := ⟨2, ![32, 6144]⟩
abbrev S65536x512 : Shape := ⟨2, ![65536, 512]⟩
abbrev S65536x3072 : Shape := ⟨2, ![65536, 3072]⟩
abbrev S3x512x1024 : Shape := ⟨3, ![3, 512, 1024]⟩
abbrev S1024x1024 : Shape := ⟨2, ![1024, 1024]⟩
abbrev S32x2048x3x1024 : Shape := ⟨4, ![32, 2048, 3, 1024]⟩
abbrev S_ : Shape := ⟨0, ![]⟩
abbrev S32x2048x1x1024 : Shape := ⟨4, ![32, 2048, 1, 1024]⟩
abbrev S32x2048x512 : Shape := ⟨3, ![32, 2048, 512]⟩
abbrev S1x512x1024 : Shape := ⟨3, ![1, 512, 1024]⟩
abbrev S512x1024 : Shape := ⟨2, ![512, 1024]⟩
abbrev S32x1024 : Shape := ⟨2, ![32, 1024]⟩
abbrev S32x1x1024 : Shape := ⟨3, ![32, 1, 1024]⟩
abbrev S65536x1024 : Shape := ⟨2, ![65536, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S65536x3072, .bf16⟩
  | .hbm, ⟨6, _⟩ => ⟨S3x512x1024, .f32⟩
  | .hbm, ⟨7, _⟩ => ⟨S1024x1024, .f32⟩
  | .hbm, ⟨8, _⟩ => ⟨S32x2048x3x1024, .bf16⟩
  | .hbm, ⟨9, _⟩ => ⟨S32x2048x3x1024, .f32⟩
  | .hbm, ⟨10, _⟩ => ⟨S32x2048x3x1024, .f32⟩
  | .hbm, ⟨11, _⟩ => ⟨S32x2048x3x1024, .f32⟩
  | .hbm, ⟨12, _⟩ => ⟨S_, .f32⟩
  | .hbm, ⟨13, _⟩ => ⟨S32x2048x3x1024, .f32⟩
  | .hbm, ⟨14, _⟩ => ⟨S32x2048x3x1024, .f32⟩
  | .hbm, ⟨15, _⟩ => ⟨S_, .f32⟩
  | .hbm, ⟨16, _⟩ => ⟨S32x2048x3x1024, .f32⟩
  | .hbm, ⟨17, _⟩ => ⟨S32x2048x3x1024, .f32⟩
  | .hbm, ⟨18, _⟩ => ⟨S32x2048x1x1024, .f32⟩
  | .hbm, ⟨19, _⟩ => ⟨S32x2048x1024, .f32⟩
  | .hbm, ⟨20, _⟩ => ⟨S32x2048x512, .bf16⟩
  | .hbm, ⟨21, _⟩ => ⟨S32x2048x512, .f32⟩
  | .hbm, ⟨22, _⟩ => ⟨S1x512x1024, .f32⟩
  | .hbm, ⟨23, _⟩ => ⟨S512x1024, .f32⟩
  | .hbm, ⟨24, _⟩ => ⟨S32x2048x1024, .f32⟩
  | .hbm, ⟨25, _⟩ => ⟨S32x2048x1024, .f32⟩
  | .hbm, ⟨26, _⟩ => ⟨S32x2048x1x1024, .f32⟩
  | .hbm, ⟨27, _⟩ => ⟨S32x2048x1024, .f32⟩
  | .hbm, ⟨28, _⟩ => ⟨S32x2048x512, .bf16⟩
  | .hbm, ⟨29, _⟩ => ⟨S32x2048x512, .f32⟩
  | .hbm, ⟨30, _⟩ => ⟨S1x512x1024, .f32⟩
  | .hbm, ⟨31, _⟩ => ⟨S512x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1x1024, .f32⟩
  | .hbm, ⟨36, _⟩ => ⟨S32x2048x1024, .f32⟩
  | .hbm, ⟨37, _⟩ => ⟨S32x2048x512, .bf16⟩
  | .hbm, ⟨38, _⟩ => ⟨S32x2048x512, .f32⟩
  | .hbm, ⟨39, _⟩ => ⟨S1x512x1024, .f32⟩
  | .hbm, ⟨40, _⟩ => ⟨S512x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S32x1024, .f32⟩
  | .hbm, ⟨45, _⟩ => ⟨S32x1x1024, .f32⟩
  | .hbm, ⟨46, _⟩ => ⟨S32x2048x1024, .f32⟩
  | .hbm, ⟨47, _⟩ => ⟨S32x2048x1024, .f32⟩
  | .hbm, ⟨48, _⟩ => ⟨S32x2048x1024, .f32⟩
  | .hbm, ⟨49, _⟩ => ⟨S32x2048x1024, .f32⟩
  | .hbm, ⟨50, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel5.lean ====
abbrev S32x1024 : Shape := ⟨2, ![32, 1024]⟩
abbrev S16x1024 : Shape := ⟨2, ![16, 1024]⟩
abbrev S2x1024x6144 : Shape := ⟨3, ![2, 1024, 6144]⟩
abbrev S2x6144 : Shape := ⟨2, ![2, 6144]⟩
abbrev S48x1024 : Shape := ⟨2, ![48, 1024]⟩
abbrev S2x1x6144 : Shape := ⟨3, ![2, 1, 6144]⟩
abbrev S2x48x6144 : Shape := ⟨3, ![2, 48, 6144]⟩
abbrev S1x1024x1024 : Shape := ⟨3, ![1, 1024, 1024]⟩
abbrev S1x1x1024 : Shape := ⟨3, ![1, 1, 1024]⟩
abbrev S1x48x1024 : Shape := ⟨3, ![1, 48, 1024]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S16x1024, .f32⟩
  | .hbm, ⟨2, _⟩ => ⟨S2x1024x6144, .f32⟩
  | .hbm, ⟨3, _⟩ => ⟨S2x6144, .f32⟩
  | .hbm, ⟨4, _⟩ => ⟨S48x1024, .f32⟩
  | .hbm, ⟨5, _⟩ => ⟨S2x1x6144, .f32⟩
  | .hbm, ⟨6, _⟩ => ⟨S2x48x6144, .f32⟩
  | .local _ .vmem, ⟨0, _⟩ => ⟨S48x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x48x1024, .f32⟩
  | .local _ .vmem, ⟨6, _⟩ => ⟨S1x48x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32x1024 : Shape := ⟨2, ![32, 1024]⟩
abbrev S16x1024 : Shape := ⟨2, ![16, 1024]⟩
abbrev S2x1024x6144 : Shape := ⟨3, ![2, 1024, 6144]⟩
abbrev S2x6144 : Shape := ⟨2, ![2, 6144]⟩
abbrev S48x1024 : Shape := ⟨2, ![48, 1024]⟩
abbrev S_ : Shape := ⟨0, ![]⟩
abbrev S48x2x6144 : Shape := ⟨3, ![48, 2, 6144]⟩
abbrev S2x48x6144 : Shape := ⟨3, ![2, 48, 6144]⟩
abbrev S2x1x6144 : Shape := ⟨3, ![2, 1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S16x1024, .f32⟩
  | .hbm, ⟨2, _⟩ => ⟨S2x1024x6144, .f32⟩
  | .hbm, ⟨3, _⟩ => ⟨S2x6144, .f32⟩
  | .hbm, ⟨4, _⟩ => ⟨S48x1024, .f32⟩
  | .hbm, ⟨5, _⟩ => ⟨S48x1024, .f32⟩
  | .hbm, ⟨6, _⟩ => ⟨S48x1024, .f32⟩
  | .hbm, ⟨7, _⟩ => ⟨S_, .f32⟩
  | .hbm, ⟨8, _⟩ => ⟨S48x1024, .f32⟩
  | .hbm, ⟨9, _⟩ => ⟨S48x1024, .f32⟩
  | .hbm, ⟨10, _⟩ => ⟨S_, .f32⟩
  | .hbm, ⟨11, _⟩ => ⟨S48x1024, .f32⟩
  | .hbm, ⟨12, _⟩ => ⟨S48x1024, .f32⟩
  | .hbm, ⟨13, _⟩ => ⟨S48x1024, .f32⟩
  | .hbm, ⟨14, _⟩ => ⟨S48x2x6144, .f32⟩
  | .hbm, ⟨15, _⟩ => ⟨S2x48x6144, .f32⟩
  | .hbm, ⟨16, _⟩ => ⟨S2x1x6144, .f32⟩
  | .hbm, ⟨17, _⟩ => ⟨S2x48x6144, .f32⟩
  | .hbm, ⟨18, _⟩ => ⟨S2x48x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel6.lean ====
abbrev S16x2048x1024 : Shape := ⟨3, ![16, 2048, 1024]⟩
abbrev S16x6144 : Shape := ⟨2, ![16, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S2816 : Shape := ⟨1, ![2816]⟩
abbrev S11x256 : Shape := ⟨2, ![11, 256]⟩
abbrev S11x512 : Shape := ⟨2, ![11, 512]⟩
abbrev S11x1x512 : Shape := ⟨3, ![11, 1, 512]⟩
abbrev S32768x1024 : Shape := ⟨2, ![32768, 1024]⟩
abbrev S16x1x6144 : Shape := ⟨3, ![16, 1, 6144]⟩
abbrev S1x1024 : Shape := ⟨2, ![1, 1024]⟩
abbrev S1024x1024 : Shape := ⟨2, ![1024, 1024]⟩
abbrev S8x1024 : Shape := ⟨2, ![8, 1024]⟩
abbrev S1x1x6144 : Shape := ⟨3, ![1, 1, 6144]⟩
abbrev S1x1x1024 : Shape := ⟨3, ![1, 1, 1024]⟩
abbrev S1040x1024 : Shape := ⟨2, ![1040, 1024]⟩
abbrev S1040 : Shape := ⟨1, ![1040]⟩
abbrev S1040x1 : Shape := ⟨2, ![1040, 1]⟩
abbrev S8x512 : Shape := ⟨2, ![8, 512]⟩
abbrev S1x1024x512 : Shape := ⟨3, ![1, 1024, 512]⟩
abbrev S1024x512 : Shape := ⟨2, ![1024, 512]⟩
abbrev S1040x512 : Shape := ⟨2, ![1040, 512]⟩
abbrev S1x512 : Shape := ⟨2, ![1, 512]⟩
abbrev S1016x512 : Shape := ⟨2, ![1016, 512]⟩
abbrev S1x3x512 : Shape := ⟨3, ![1, 3, 512]⟩
abbrev S3x512 : Shape := ⟨2, ![3, 512]⟩
abbrev S1x1x512 : Shape := ⟨3, ![1, 1, 512]⟩
abbrev S1024x256 : Shape := ⟨2, ![1024, 256]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩
abbrev S1024x1 : Shape := ⟨2, ![1024, 1]⟩

abbrev nBuf : Space → Nat
  | .hbm => 33
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1024x2816, .f32⟩
  | .hbm, ⟨9, _⟩ => ⟨S1024x11x256, .f32⟩
  | .hbm, ⟨10, _⟩ => ⟨S1024x2816, .f32⟩
  | .hbm, ⟨11, _⟩ => ⟨S1024x11x256, .f32⟩
  | .hbm, ⟨12, _⟩ => ⟨S1024x11x512, .f32⟩
  | .hbm, ⟨13, _⟩ => ⟨S11x1024x512, .f32⟩
  | .hbm, ⟨14, _⟩ => ⟨S11x1024x512, .bf16⟩
  | .hbm, ⟨15, _⟩ => ⟨S3x2816, .f32⟩
  | .hbm, ⟨16, _⟩ => ⟨S3x11x256, .f32⟩
  | .hbm, ⟨17, _⟩ => ⟨S3x2816, .f32⟩
  | .hbm, ⟨18, _⟩ => ⟨S3x11x256, .f32⟩
  | .hbm, ⟨19, _⟩ => ⟨S3x11x512, .f32⟩
  | .hbm, ⟨20, _⟩ => ⟨S11x3x512, .f32⟩
  | .hbm, ⟨21, _⟩ => ⟨S2816, .f32⟩
  | .hbm, ⟨22, _⟩ => ⟨S11x256, .f32⟩
  | .hbm, ⟨23, _⟩ => ⟨S2816, .f32⟩
  | .hbm, ⟨24, _⟩ => ⟨S11x256, .f32⟩
  | .hbm, ⟨25, _⟩ => ⟨S11x512, .f32⟩
  | .hbm, ⟨26, _⟩ => ⟨S11x1x512, .f32⟩
  | .hbm, ⟨27, _⟩ => ⟨S2816x1024, .bf16⟩
  | .hbm, ⟨28, _⟩ => ⟨S32768x1024, .f32⟩
  | .hbm, ⟨29, _⟩ => ⟨S16x1x6144, .f32⟩
  | .hbm, ⟨30, _⟩ => ⟨S1x1024, .f32⟩
  | .hbm, ⟨31, _⟩ => ⟨S1x1024, .f32⟩
  | .hbm, ⟨32, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S11x1024x512, .bf16⟩
  | .local _ .vmem, ⟨10, _⟩ => ⟨S11x3x512, .f32⟩
  | .local _ .vmem, ⟨11, _⟩ => ⟨S11x1x512, .f32⟩
  | .local _ .vmem, ⟨12, _⟩ => ⟨S2816x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S16x2048x1024 : Shape := ⟨3, ![16, 2048, 1024]⟩
abbrev S16x6144 : Shape := ⟨2, ![16, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x3072 : Shape := ⟨2, ![16, 3072]⟩
abbrev S16x1x3072 : Shape := ⟨3, ![16, 1, 3072]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x1x5632 : Shape := ⟨3, ![16, 1, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩
abbrev S32768x1024 : Shape := ⟨2, ![32768, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S16x3072, .f32⟩
  | .hbm, ⟨9, _⟩ => ⟨S16x1x3072, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x1x1024, .f32⟩
  | .hbm, ⟨31, _⟩ => ⟨S16x1x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x5632, .f32⟩
  | .hbm, ⟨37, _⟩ => ⟨S_, .f32⟩
  | .hbm, ⟨38, _⟩ => ⟨S16x1x5632, .f32⟩
  | .hbm, ⟨39, _⟩ => ⟨S16x2050x5632, .f32⟩
  | .hbm, ⟨40, _⟩ => ⟨S16x2048x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S16x2048x5632, .f32⟩
  | .hbm, ⟨45, _⟩ => ⟨S16x2048x5632, .f32⟩
  | .hbm, ⟨46, _⟩ => ⟨S16x2048x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S16x2048x5632, .f32⟩
  | .hbm, ⟨51, _⟩ => ⟨S16x2048x5632, .f32⟩
  | .hbm, ⟨52, _⟩ => ⟨S16x2048x5632, .f32⟩
  | .hbm, ⟨53, _⟩ => ⟨S16x2048x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S16x2048x5632, .f32⟩
  | .hbm, ⟨58, _⟩ => ⟨S16x2048x5632, .f32⟩
  | .hbm, ⟨59, _⟩ => ⟨S16x2048x5632, .f32⟩
  | .hbm, ⟨60, _⟩ => ⟨S1x1x5632, .f32⟩
  | .hbm, ⟨61, _⟩ => ⟨S16x2048x5632, .f32⟩
  | .hbm, ⟨62, _⟩ => ⟨S16x2048x5632, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S_, .f32⟩
  | .hbm, ⟨68, _⟩ => ⟨S16x2048x2816, .f32⟩
  | .hbm, ⟨69, _⟩ => ⟨S16x2048x2816, .f32⟩
  | .hbm, ⟨70, _⟩ => ⟨S_, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S16x2048x2816, .f32⟩
  | .hbm, ⟨75, _⟩ => ⟨S16x2048x1024, .f32⟩
  | .hbm, ⟨76, _⟩ => ⟨S16x2048x1024, .f32⟩
  | .hbm, ⟨77, _⟩ => ⟨S16x2048x1024, .f32⟩
  | .hbm, ⟨78, _⟩ => ⟨S16x2048x1024, .f32⟩
  | .hbm, ⟨79, _⟩ => ⟨S16x2048x1024, .f32⟩
  | .hbm, ⟨80, _⟩ => ⟨S_, .f32⟩
  | .hbm, ⟨81, _⟩ => ⟨S16x2048, .f32⟩
  | .hbm, ⟨82, _⟩ => ⟨S16x2048x1, .f32⟩
  | .hbm, ⟨83, _⟩ => ⟨S_, .f32⟩
  | .hbm, ⟨84, _⟩ => ⟨S16x2048x1, .f32⟩
  | .hbm, ⟨85, _⟩ => ⟨S16x2048x1, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S16x2048x1, .f32⟩
  | .hbm, ⟨90, _⟩ => ⟨S16x2048x1024, .f32⟩
  | .hbm, ⟨91, _⟩ => ⟨S16x2048x1024, .f32⟩
  | .hbm, ⟨92, _⟩ => ⟨S1x1x1024, .f32⟩
  | .hbm, ⟨93, _⟩ => ⟨S16x2048x1024, .f32⟩
  | .hbm, ⟨94, _⟩ => ⟨S16x2048x1024, .f32⟩
  | .hbm, ⟨95, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_cst_6 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel7.lean ====
abbrev S32x2048x1024 : Shape := ⟨3, ![32, 2048, 1024]⟩
abbrev S32x6144 : Shape := ⟨2, ![32, 6144]⟩
abbrev S65536x512 : Shape := ⟨2, ![65536, 512]⟩
abbrev S65536x3072 : Shape := ⟨2, ![65536, 3072]⟩
abbrev S3x512x1024 : Shape := ⟨3, ![3, 512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S65536x1024 : Shape := ⟨2, ![65536, 1024]⟩
abbrev S32x1x6144 : Shape := ⟨3, ![32, 1, 6144]⟩
abbrev S512x1024 : Shape := ⟨2, ![512, 1024]⟩
abbrev S1x1x6144 : Shape := ⟨3, ![1, 1, 6144]⟩
abbrev S512x512 : Shape := ⟨2, ![512, 512]⟩
abbrev S512x3072 : Shape := ⟨2, ![512, 3072]⟩
abbrev S1x512x1024 : Shape := ⟨3, ![1, 512, 1024]⟩
abbrev S1x1x1024 : Shape := ⟨3, ![1, 1, 1024]⟩
abbrev S1x1024 : Shape := ⟨2, ![1, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S2816 : Shape := ⟨1, ![2816]⟩
abbrev S11x256 : Shape := ⟨2, ![11, 256]⟩
abbrev S11x512 : Shape := ⟨2, ![11, 512]⟩
abbrev S11x1x512 : Shape := ⟨3, ![11, 1, 512]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S8x512 : Shape := ⟨2, ![8, 512]⟩
abbrev S1x1024x512 : Shape := ⟨3, ![1, 1024, 512]⟩
abbrev S1024x512 : Shape := ⟨2, ![1024, 512]⟩
abbrev S1040x512 : Shape := ⟨2, ![1040, 512]⟩
abbrev S1x512 : Shape := ⟨2, ![1, 512]⟩
abbrev S1016x512 : Shape := ⟨2, ![1016, 512]⟩
abbrev S1x3x512 : Shape := ⟨3, ![1, 3, 512]⟩
abbrev S3x512 : Shape := ⟨2, ![3, 512]⟩
abbrev S1x1x512 : Shape := ⟨3, ![1, 1, 512]⟩
abbrev S1024x256 : Shape := ⟨2, ![1024, 256]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩
abbrev S1024x1 : Shape := ⟨2, ![1024, 1]⟩

abbrev nBuf : Space → Nat
  | .hbm => 45
  | .vmem => 33
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S65536x3072, .bf16⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S3x5632, .f32⟩
  | .hbm, ⟨11, _⟩ => ⟨S5632, .f32⟩
  | .hbm, ⟨12, _⟩ => ⟨S2816x1024, .f32⟩
  | .hbm, ⟨13, _⟩ => ⟨S1024, .f32⟩
  | .hbm, ⟨14, _⟩ => ⟨S3x512x1024, .bf16⟩
  | .hbm, ⟨15, _⟩ => ⟨S1024x1024, .bf16⟩
  | .hbm, ⟨16, _⟩ => ⟨S65536x1024, .f32⟩
  | .hbm, ⟨17, _⟩ => ⟨S32x1x6144, .f32⟩
  | .hbm, ⟨18, _⟩ => ⟨S65536x1024, .f32⟩
  | .hbm, ⟨19, _⟩ => ⟨S32x2048x1024, .f32⟩
  | .hbm, ⟨20, _⟩ => ⟨S1024x2816, .f32⟩
  | .hbm, ⟨21, _⟩ => ⟨S1024x11x256, .f32⟩
  | .hbm, ⟨22, _⟩ => ⟨S1024x2816, .f32⟩
  | .hbm, ⟨23, _⟩ => ⟨S1024x11x256, .f32⟩
  | .hbm, ⟨24, _⟩ => ⟨S1024x11x512, .f32⟩
  | .hbm, ⟨25, _⟩ => ⟨S11x1024x512, .f32⟩
  | .hbm, ⟨26, _⟩ => ⟨S11x1024x512, .bf16⟩
  | .hbm, ⟨27, _⟩ => ⟨S3x2816, .f32⟩
  | .hbm, ⟨28, _⟩ => ⟨S3x11x256, .f32⟩
  | .hbm, ⟨29, _⟩ => ⟨S3x2816, .f32⟩
  | .hbm, ⟨30, _⟩ => ⟨S3x11x256, .f32⟩
  | .hbm, ⟨31, _⟩ => ⟨S3x11x512, .f32⟩
  | .hbm, ⟨32, _⟩ => ⟨S11x3x512, .f32⟩
  | .hbm, ⟨33, _⟩ => ⟨S2816, .f32⟩
  | .hbm, ⟨34, _⟩ => ⟨S11x256, .f32⟩
  | .hbm, ⟨35, _⟩ => ⟨S2816, .f32⟩
  | .hbm, ⟨36, _⟩ => ⟨S11x256, .f32⟩
  | .hbm, ⟨37, _⟩ => ⟨S11x512, .f32⟩
  | .hbm, ⟨38, _⟩ => ⟨S11x1x512, .f32⟩
  | .hbm, ⟨39, _⟩ => ⟨S2816x1024, .bf16⟩
  | .hbm, ⟨40, _⟩ => ⟨S65536x1024, .f32⟩
  | .hbm, ⟨41, _⟩ => ⟨S32x1x6144, .f32⟩
  | .hbm, ⟨42, _⟩ => ⟨S1x1024, .f32⟩
  | .hbm, ⟨43, _⟩ => ⟨S1x1024, .f32⟩
  | .hbm, ⟨44, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x3072, .bf16⟩
  | .local _ .vmem, ⟨11, _⟩ => ⟨S512x3072, .bf16⟩
  | .local _ .vmem, ⟨12, _⟩ => ⟨S3x512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S1024x1024, .f32⟩
  | .local _ .vmem, ⟨17, _⟩ => ⟨S1024x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S1x1x6144, .f32⟩
  | .local _ .vmem, ⟨23, _⟩ => ⟨S1x1x6144, .f32⟩
  | .local _ .vmem, ⟨24, _⟩ => ⟨S1x1024, .f32⟩
  | .local _ .vmem, ⟨25, _⟩ => ⟨S11x1024x512, .bf16⟩
  | .local _ .vmem, ⟨26, _⟩ => ⟨S11x3x512, .f32⟩
  | .local _ .vmem, ⟨27, _⟩ => ⟨S11x1x512, .f32⟩
  | .local _ .vmem, ⟨28, _⟩ => ⟨S2816x1024, .bf16⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | .local _ .vmem, ⟨32, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc1_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc1_transform_3 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x6144 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S11x1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S11x3x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S11x1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2816x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1024x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== Reference7Ideal.lean ====
abbrev S32x2048x1024 : Shape := ⟨3, ![32, 2048, 1024]⟩
abbrev S32x6144 : Shape := ⟨2, ![32, 6144]⟩
abbrev S65536x512 : Shape := ⟨2, ![65536, 512]⟩
abbrev S65536x3072 : Shape := ⟨2, ![65536, 3072]⟩
abbrev S3x512x1024 : Shape := ⟨3, ![3, 512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2048x3x1024 : Shape := ⟨4, ![32, 2048, 3, 1024]⟩
abbrev S_ : Shape := ⟨0, ![]⟩
abbrev S32x2048x1x1024 : Shape := ⟨4, ![32, 2048, 1, 1024]⟩
abbrev S32x2048x512 : Shape := ⟨3, ![32, 2048, 512]⟩
abbrev S1x512x1024 : Shape := ⟨3, ![1, 512, 1024]⟩
abbrev S512x1024 : Shape := ⟨2, ![512, 1024]⟩
abbrev S32x1024 : Shape := ⟨2, ![32, 1024]⟩
abbrev S32x1x1024 : Shape := ⟨3, ![32, 1, 1024]⟩
abbrev S65536x1024 : Shape := ⟨2, ![65536, 1024]⟩
abbrev S32x3072 : Shape := ⟨2, ![32, 3072]⟩
abbrev S32x1x3072 : Shape := ⟨3, ![32, 1, 3072]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x1x5632 : Shape := ⟨3, ![32, 1, 5632]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩

abbrev nBuf : Space → Nat
  | .hbm => 146
  | .vmem => 0
  | .smem => 0
  | _ => 0

abbrev hbmTy0_0 (i : Nat) : BufTy := match i % 128 with
  | 0 => ⟨S32x2048x1024, .f32⟩
  | 1 => ⟨S32x6144, .f32⟩
  | 2 => ⟨S65536x512, .bf16⟩
  | 3 => ⟨S65536x512, .bf16⟩
  | 4 => ⟨S65536x512, .bf16⟩
  | 5 => ⟨S65536x3072, .bf16⟩
  | 6 => ⟨S3x512x1024, .f32⟩
  | 7 => ⟨S1024x1024, .f32⟩
  | 8 => ⟨S1024, .f32⟩
  | 9 => ⟨S1024x5632, .f32⟩
  | 10 => ⟨S3x5632, .f32⟩
  | 11 => ⟨S5632, .f32⟩
  | 12 => ⟨S2816x1024, .f32⟩
  | 13 => ⟨S1024, .f32⟩
  | 14 => ⟨S32x2048x3x1024, .bf16⟩
  | 15 => ⟨S32x2048x3x1024, .f32⟩
  | 16 => ⟨S32x2048x3x1024, .f32⟩
  | 17 => ⟨S32x2048x3x1024, .f32⟩
  | 18 => ⟨S_, .f32⟩
  | 19 => ⟨S32x2048x3x1024, .f32⟩
  | 20 => ⟨S32x2048x3x1024, .f32⟩
  | 21 => ⟨S_, .f32⟩
  | 22 => ⟨S32x2048x3x1024, .f32⟩
  | 23 => ⟨S32x2048x3x1024, .f32⟩
  | 24 => ⟨S32x2048x1x1024, .f32⟩
  | 25 => ⟨S32x2048x1024, .f32⟩
  | 26 => ⟨S32x2048x512, .bf16⟩
  | 27 => ⟨S32x2048x512, .f32⟩
  | 28 => ⟨S1x512x1024, .f32⟩
  | 29 => ⟨S512x1024, .f32⟩
  | 30 => ⟨S32x2048x1024, .f32⟩
  | 31 => ⟨S32x2048x1024, .f32⟩
  | 32 => ⟨S32x2048x1x1024, .f32⟩
  | 33 => ⟨S32x2048x1024, .f32⟩
  | 34 => ⟨S32x2048x512, .bf16⟩
  | 35 => ⟨S32x2048x512, .f32⟩
  | 36 => ⟨S1x512x1024, .f32⟩
  | 37 => ⟨S512x1024, .f32⟩
  | 38 => ⟨S32x2048x1024, .f32⟩
  | 39 => ⟨S32x2048x1024, .f32⟩
  | 40 => ⟨S32x2048x1024, .f32⟩
  | 41 => ⟨S32x2048x1x1024, .f32⟩
  | 42 => ⟨S32x2048x1024, .f32⟩
  | 43 => ⟨S32x2048x512, .bf16⟩
  | 44 => ⟨S32x2048x512, .f32⟩
  | 45 => ⟨S1x512x1024, .f32⟩
  | 46 => ⟨S512x1024, .f32⟩
  | 47 => ⟨S32x2048x1024, .f32⟩
  | 48 => ⟨S32x2048x1024, .f32⟩
  | 49 => ⟨S32x2048x1024, .f32⟩
  | 50 => ⟨S32x1024, .f32⟩
  | 51 => ⟨S32x1x1024, .f32⟩
  | 52 => ⟨S32x2048x1024, .f32⟩
  | 53 => ⟨S32x2048x1024, .f32⟩
  | 54 => ⟨S32x2048x1024, .f32⟩
  | 55 => ⟨S32x2048x1024, .f32⟩
  | 56 => ⟨S65536x1024, .f32⟩
  | 57 => ⟨S32x2048x1024, .f32⟩
  | 58 => ⟨S32x3072, .f32⟩
  | 59 => ⟨S32x1x3072, .f32⟩
  | 60 => ⟨S32x1x1024, .f32⟩
  | 61 => ⟨S32x1x1024, .f32⟩
  | 62 => ⟨S32x1x1024, .f32⟩
  | 63 => ⟨S32x2048x1024, .f32⟩
  | 64 => ⟨S_, .f32⟩
  | 65 => ⟨S32x2048, .f32⟩
  | 66 => ⟨S32x2048x1, .f32⟩
  | 67 => ⟨S_, .f32⟩
  | 68 => ⟨S32x2048x1, .f32⟩
  | 69 => ⟨S32x2048x1, .f32⟩
  | 70 => ⟨S_, .f32⟩
  | 71 => ⟨S32x2048x1, .f32⟩
  | 72 => ⟨S32x2048x1, .f32⟩
  | 73 => ⟨S32x2048x1, .f32⟩
  | 74 => ⟨S32x2048x1024, .f32⟩
  | 75 => ⟨S32x2048x1024, .f32⟩
  | 76 => ⟨S1x1x1024, .f32⟩
  | 77 => ⟨S32x2048x1024, .f32⟩
  | 78 => ⟨S32x2048x1024, .f32⟩
  | 79 => ⟨S_, .f32⟩
  | 80 => ⟨S32x1x1024, .f32⟩
  | 81 => ⟨S32x1x1024, .f32⟩
  | 82 => ⟨S32x2048x1024, .f32⟩
  | 83 => ⟨S32x2048x1024, .f32⟩
  | 84 => ⟨S32x2048x1024, .f32⟩
  | 85 => ⟨S32x2048x1024, .f32⟩
  | 86 => ⟨S32x2048x5632, .f32⟩
  | 87 => ⟨S_, .f32⟩
  | 88 => ⟨S32x1x5632, .f32⟩
  | 89 => ⟨S32x2050x5632, .f32⟩
  | 90 => ⟨S32x2048x5632, .f32⟩
  | 91 => ⟨S1x5632, .f32⟩
  | 92 => ⟨S5632, .f32⟩
  | 93 => ⟨S1x1x5632, .f32⟩
  | 94 => ⟨S32x2048x5632, .f32⟩
  | 95 => ⟨S32x2048x5632, .f32⟩
  | 96 => ⟨S32x2048x5632, .f32⟩
  | 97 => ⟨S1x5632, .f32⟩
  | 98 => ⟨S5632, .f32⟩
  | 99 => ⟨S1x1x5632, .f32⟩
  | 100 => ⟨S32x2048x5632, .f32⟩
  | 101 => ⟨S32x2048x5632, .f32⟩
  | 102 => ⟨S32x2048x5632, .f32⟩
  | 103 => ⟨S32x2048x5632, .f32⟩
  | 104 => ⟨S1x5632, .f32⟩
  | 105 => ⟨S5632, .f32⟩
  | 106 => ⟨S1x1x5632, .f32⟩
  | 107 => ⟨S32x2048x5632, .f32⟩
  | 108 => ⟨S32x2048x5632, .f32⟩
  | 109 => ⟨S32x2048x5632, .f32⟩
  | 110 => ⟨S1x1x5632, .f32⟩
  | 111 => ⟨S32x2048x5632, .f32⟩
  | 112 => ⟨S32x2048x5632, .f32⟩
  | 113 => ⟨S32x2048x2816, .f32⟩
  | 114 => ⟨S32x2048x2816, .f32⟩
  | 115 => ⟨S32x2048x2816, .f32⟩
  | 116 => ⟨S32x2048x2816, .f32⟩
  | 117 => ⟨S_, .f32⟩
  | 118 => ⟨S32x2048x2816, .f32⟩
  | 119 => ⟨S32x2048x2816, .f32⟩
  | 120 => ⟨S_, .f32⟩
  | 121 => ⟨S32x2048x2816, .f32⟩
  | 122 => ⟨S32x2048x2816, .f32⟩
  | 123 => ⟨S32x2048x2816, .f32⟩
  | 124 => ⟨S32x2048x2816, .f32⟩
  | 125 => ⟨S32x2048x1024, .f32⟩
  | 126 => ⟨S32x2048x1024, .f32⟩
  | 127 => ⟨S32x2048x1024, .f32⟩
  | _ => ⟨S32x2048x1024, .f32⟩

abbrev hbmTy0_1 (i : Nat) : BufTy := match i % 128 with
  | 0 => ⟨S32x2048x1024, .f32⟩
  | 1 => ⟨S32x2048x1024, .f32⟩
  | 2 => ⟨S_, .f32⟩
  | 3 => ⟨S32x2048, .f32⟩
  | 4 => ⟨S32x2048x1, .f32⟩
  | 5 => ⟨S_, .f32⟩
  | 6 => ⟨S32x2048x1, .f32⟩
  | 7 => ⟨S32x2048x1, .f32⟩
  | 8 => ⟨S_, .f32⟩
  | 9 => ⟨S32x2048x1, .f32⟩
  | 10 => ⟨S32x2048x1, .f32⟩
  | 11 => ⟨S32x2048x1, .f32⟩
  | 12 => ⟨S32x2048x1024, .f32⟩
  | 13 => ⟨S32x2048x1024, .f32⟩
  | 14 => ⟨S1x1x1024, .f32⟩
  | 15 => ⟨S32x2048x1024, .f32⟩
  | 16 => ⟨S32x2048x1024, .f32⟩
  | 17 => ⟨S65536x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_1 : Ref sig .tc := ⟨.hbm, 64, rfl⟩
abbrev main_v48 : Ref sig .tc := ⟨.hbm, 65, rfl⟩
abbrev main_v49 : Ref sig .tc := ⟨.hbm, 66, rfl⟩
abbrev main_cst_2 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_5 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_call0_v0 : Ref sig .tc := ⟨.hbm, 115, rfl⟩
abbrev main_call0_v1 : Ref sig .tc := ⟨.hbm, 116, rfl⟩
abbrev main_call0_cst : Ref sig .tc := ⟨.hbm, 117, rfl⟩
abbrev main_call0_v2 : Ref sig .tc := ⟨.hbm, 118, rfl⟩
abbrev main_call0_v3 : Ref sig .tc := ⟨.hbm, 119, rfl⟩
abbrev main_call0_cst_0 : Ref sig .tc := ⟨.hbm, 120, rfl⟩
abbrev main_call0_v4 : Ref sig .tc := ⟨.hbm, 121, rfl⟩
abbrev main_call0_v5 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_6 : Ref sig .tc := ⟨.hbm, 130, rfl⟩
abbrev main_v101 : Ref sig .tc := ⟨.hbm, 131, rfl⟩
abbrev main_v102 : Ref sig .tc := ⟨.hbm, 132, rfl⟩
abbrev main_cst_7 : Ref sig .tc := ⟨.hbm, 133, rfl⟩
abbrev main_v103 : Ref sig .tc := ⟨.hbm, 134, rfl⟩
abbrev main_v104 : Ref sig .tc := ⟨.hbm, 135, rfl⟩
abbrev main_cst_8 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩

abbrev nD : Nat := 1
abbrev τ : Topo := Topo.v7x

variable {F : FTy → Type} [FloatOps F]
-- ==== Kernel8.lean ====
abbrev S32x2048x1024 : Shape := ⟨3, ![32, 2048, 1024]⟩
abbrev S32x1024 : Shape := ⟨2, ![32, 1024]⟩
abbrev S16x1024 : Shape := ⟨2, ![16, 1024]⟩
abbrev S2x1024x6144 : Shape := ⟨3, ![2, 1024, 6144]⟩
abbrev S2x6144 : Shape := ⟨2, ![2, 6144]⟩
abbrev S1024 : Shape := ⟨1, ![1024]⟩
abbrev S1024x6832 : Shape := ⟨2, ![1024, 6832]⟩
abbrev S65536x512 : Shape := ⟨2, ![65536, 512]⟩
abbrev S3x512x1024 : Shape := ⟨3, ![3, 512, 1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S48x1024 : Shape := ⟨2, ![48, 1024]⟩
abbrev S2x1x6144 : Shape := ⟨3, ![2, 1, 6144]⟩
abbrev S2x48x6144 : Shape := ⟨3, ![2, 48, 6144]⟩
abbrev S1x1024x1024 : Shape := ⟨3, ![1, 1024, 1024]⟩
abbrev S1x1x1024 : Shape := ⟨3, ![1, 1, 1024]⟩
abbrev S1x48x1024 : Shape := ⟨3, ![1, 48, 1024]⟩
abbrev S1x1024 : Shape := ⟨2, ![1, 1024]⟩
abbrev S2x32x6144 : Shape := ⟨3, ![2, 32, 6144]⟩
abbrev S1x32x6144 : Shape := ⟨3, ![1, 32, 6144]⟩
abbrev S32x6144 : Shape := ⟨2, ![32, 6144]⟩
abbrev S1024x32 : Shape := ⟨2, ![1024, 32]⟩
abbrev S1024x384 : Shape := ⟨2, ![1024, 384]⟩
abbrev S1024x256 : Shape := ⟨2, ![1024, 256]⟩
abbrev S1024x16 : Shape := ⟨2, ![1024, 16]⟩
abbrev S_ : Shape := ⟨0, ![]⟩
abbrev S1024x64 : Shape := ⟨2, ![1024, 64]⟩
abbrev S1024x2048 : Shape := ⟨2, ![1024, 2048]⟩
abbrev S1024x112 : Shape := ⟨2, ![1024, 112]⟩
abbrev S1024x3072 : Shape := ⟨2, ![1024, 3072]⟩
abbrev S1024x7040 : Shape := ⟨2, ![1024, 7040]⟩
abbrev S65536x1024 : Shape := ⟨2, ![65536, 1024]⟩
abbrev S32x1x6144 : Shape := ⟨3, ![32, 1, 6144]⟩
abbrev S65536x768 : Shape := ⟨2, ![65536, 768]⟩
abbrev S65536x2048 : Shape := ⟨2, ![65536, 2048]⟩
abbrev S65536x128 : Shape := ⟨2, ![65536, 128]⟩
abbrev S65536x3072 : Shape := ⟨2, ![65536, 3072]⟩
abbrev S512x1024 : Shape := ⟨2, ![512, 1024]⟩
abbrev S1x1x6144 : Shape := ⟨3, ![1, 1, 6144]⟩
abbrev S512x768 : Shape := ⟨2, ![512, 768]⟩
abbrev S512x2048 : Shape := ⟨2, ![512, 2048]⟩
abbrev S512x128 : Shape := ⟨2, ![512, 128]⟩
abbrev S512x3072 : Shape := ⟨2, ![512, 3072]⟩
abbrev S512 : Shape := ⟨1, ![512]⟩
abbrev S512x1 : Shape := ⟨2, ![512, 1]⟩
abbrev S1024x768 : Shape := ⟨2, ![1024, 768]⟩
abbrev S1024x128 : Shape := ⟨2, ![1024, 128]⟩
abbrev S512x512 : Shape := ⟨2, ![512, 512]⟩
abbrev S1x512x1024 : Shape := ⟨3, ![1, 512, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S2816 : Shape := ⟨1, ![2816]⟩
abbrev S11x256 : Shape := ⟨2, ![11, 256]⟩
abbrev S11x512 : Shape := ⟨2, ![11, 512]⟩
abbrev S11x1x512 : Shape := ⟨3, ![11, 1, 512]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S8x512 : Shape := ⟨2, ![8, 512]⟩
abbrev S1x1024x512 : Shape := ⟨3, ![1, 1024, 512]⟩
abbrev S1024x512 : Shape := ⟨2, ![1024, 512]⟩
abbrev S1040x512 : Shape := ⟨2, ![1040, 512]⟩
abbrev S1x512 : Shape := ⟨2, ![1, 512]⟩
abbrev S1016x512 : Shape := ⟨2, ![1016, 512]⟩
abbrev S1x3x512 : Shape := ⟨3, ![1, 3, 512]⟩
abbrev S3x512 : Shape := ⟨2, ![3, 512]⟩
abbrev S1x1x512 : Shape := ⟨3, ![1, 1, 512]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩
abbrev S1024x1 : Shape := ⟨2, ![1024, 1]⟩

abbrev nBuf : Space → Nat
  | .hbm => 80
  | .vmem => 56
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S16x1024, .f32⟩
  | .hbm, ⟨3, _⟩ => ⟨S2x1024x6144, .f32⟩
  | .hbm, ⟨4, _⟩ => ⟨S2x6144, .f32⟩
  | .hbm, ⟨5, _⟩ => ⟨S1024, .f32⟩
  | .hbm, ⟨6, _⟩ => ⟨S1024x6832, .f32⟩
  | .hbm, ⟨7, _⟩ => ⟨S65536x512, .bf16⟩
  | .hbm, ⟨8, _⟩ => ⟨S65536x512, .bf16⟩
  | .hbm, ⟨9, _⟩ => ⟨S65536x512, .bf16⟩
  | .hbm, ⟨10, _⟩ => ⟨S3x512x1024, .f32⟩
  | .hbm, ⟨11, _⟩ => ⟨S1024x1024, .f32⟩
  | .hbm, ⟨12, _⟩ => ⟨S1024, .f32⟩
  | .hbm, ⟨13, _⟩ => ⟨S1024x5632, .f32⟩
  | .hbm, ⟨14, _⟩ => ⟨S3x5632, .f32⟩
  | .hbm, ⟨15, _⟩ => ⟨S5632, .f32⟩
  | .hbm, ⟨16, _⟩ => ⟨S2816x1024, .f32⟩
  | .hbm, ⟨17, _⟩ => ⟨S1024, .f32⟩
  | .hbm, ⟨18, _⟩ => ⟨S48x1024, .f32⟩
  | .hbm, ⟨19, _⟩ => ⟨S2x1x6144, .f32⟩
  | .hbm, ⟨20, _⟩ => ⟨S2x48x6144, .f32⟩
  | .hbm, ⟨21, _⟩ => ⟨S2x32x6144, .f32⟩
  | .hbm, ⟨22, _⟩ => ⟨S1x32x6144, .f32⟩
  | .hbm, ⟨23, _⟩ => ⟨S32x6144, .f32⟩
  | .hbm, ⟨24, _⟩ => ⟨S1024x32, .f32⟩
  | .hbm, ⟨25, _⟩ => ⟨S1024x384, .f32⟩
  | .hbm, ⟨26, _⟩ => ⟨S1024x256, .f32⟩
  | .hbm, ⟨27, _⟩ => ⟨S1024x16, .f32⟩
  | .hbm, ⟨28, _⟩ => ⟨S1024x16, .f32⟩
  | .hbm, ⟨29, _⟩ => ⟨S1024x16, .f32⟩
  | .hbm, ⟨30, _⟩ => ⟨S1024x32, .f32⟩
  | .hbm, ⟨31, _⟩ => ⟨S_, .f32⟩
  | .hbm, ⟨32, _⟩ => ⟨S1024x64, .f32⟩
  | .hbm, ⟨33, _⟩ => ⟨S1024x1024, .f32⟩
  | .hbm, ⟨34, _⟩ => ⟨S1024x2048, .f32⟩
  | .hbm, ⟨35, _⟩ => ⟨S1024x16, .f32⟩
  | .hbm, ⟨36, _⟩ => ⟨S_, .f32⟩
  | .hbm, ⟨37, _⟩ => ⟨S1024x112, .f32⟩
  | .hbm, ⟨38, _⟩ => ⟨S1024x3072, .f32⟩
  | .hbm, ⟨39, _⟩ => ⟨S1024x7040, .f32⟩
  | .hbm, ⟨40, _⟩ => ⟨S1024x7040, .bf16⟩
  | .hbm, ⟨41, _⟩ => ⟨S65536x1024, .f32⟩
  | .hbm, ⟨42, _⟩ => ⟨S32x1x6144, .f32⟩
  | .hbm, ⟨43, _⟩ => ⟨S1x1024, .f32⟩
  | .hbm, ⟨44, _⟩ => ⟨S65536x768, .bf16⟩
  | .hbm, ⟨45, _⟩ => ⟨S65536x1024, .bf16⟩
  | .hbm, ⟨46, _⟩ => ⟨S65536x2048, .bf16⟩
  | .hbm, ⟨47, _⟩ => ⟨S65536x128, .f32⟩
  | .hbm, ⟨48, _⟩ => ⟨S65536x3072, .bf16⟩
  | .hbm, ⟨49, _⟩ => ⟨S3x512x1024, .bf16⟩
  | .hbm, ⟨50, _⟩ => ⟨S1024x1024, .bf16⟩
  | .hbm, ⟨51, _⟩ => ⟨S65536x1024, .f32⟩
  | .hbm, ⟨52, _⟩ => ⟨S32x1x6144, .f32⟩
  | .hbm, ⟨53, _⟩ => ⟨S65536x1024, .f32⟩
  | .hbm, ⟨54, _⟩ => ⟨S32x2048x1024, .f32⟩
  | .hbm, ⟨55, _⟩ => ⟨S1024x2816, .f32⟩
  | .hbm, ⟨56, _⟩ => ⟨S1024x11x256, .f32⟩
  | .hbm, ⟨57, _⟩ => ⟨S1024x2816, .f32⟩
  | .hbm, ⟨58, _⟩ => ⟨S1024x11x256, .f32⟩
  | .hbm, ⟨59, _⟩ => ⟨S1024x11x512, .f32⟩
  | .hbm, ⟨60, _⟩ => ⟨S11x1024x512, .f32⟩
  | .hbm, ⟨61, _⟩ => ⟨S11x1024x512, .bf16⟩
  | .hbm, ⟨62, _⟩ => ⟨S3x2816, .f32⟩
  | .hbm, ⟨63, _⟩ => ⟨S3x11x256, .f32⟩
  | .hbm, ⟨64, _⟩ => ⟨S3x2816, .f32⟩
  | .hbm, ⟨65, _⟩ => ⟨S3x11x256, .f32⟩
  | .hbm, ⟨66, _⟩ => ⟨S3x11x512, .f32⟩
  | .hbm, ⟨67, _⟩ => ⟨S11x3x512, .f32⟩
  | .hbm, ⟨68, _⟩ => ⟨S2816, .f32⟩
  | .hbm, ⟨69, _⟩ => ⟨S11x256, .f32⟩
  | .hbm, ⟨70, _⟩ => ⟨S2816, .f32⟩
  | .hbm, ⟨71, _⟩ => ⟨S11x256, .f32⟩
  | .hbm, ⟨72, _⟩ => ⟨S11x512, .f32⟩
  | .hbm, ⟨73, _⟩ => ⟨S11x1x512, .f32⟩
  | .hbm, ⟨74, _⟩ => ⟨S2816x1024, .bf16⟩
  | .hbm, ⟨75, _⟩ => ⟨S65536x1024, .f32⟩
  | .hbm, ⟨76, _⟩ => ⟨S32x1x6144, .f32⟩
  | .hbm, ⟨77, _⟩ => ⟨S1x1024, .f32⟩
  | .hbm, ⟨78, _⟩ => ⟨S1x1024, .f32⟩
  | .hbm, ⟨79, _⟩ => ⟨S65536x1024, .f32⟩
  | .local _ .vmem, ⟨0, _⟩ => ⟨S48x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x48x1024, .f32⟩
  | .local _ .vmem, ⟨6, _⟩ => ⟨S1x48x1024, .f32⟩
  | .local _ .vmem, ⟨7, _⟩ => ⟨S512x1024, .f32⟩
  | .local _ .vmem, ⟨8, _⟩ => ⟨S512x1024, .f32⟩
  | .local _ .vmem, ⟨9, _⟩ => ⟨S1x1x6144, .f32⟩
  | .local _ .vmem, ⟨10, _⟩ => ⟨S1x1x6144, .f32⟩
  | .local _ .vmem, ⟨11, _⟩ => ⟨S1x1024, .f32⟩
  | .local _ .vmem, ⟨12, _⟩ => ⟨S1024x7040, .bf16⟩
  | .local _ .vmem, ⟨13, _⟩ => ⟨S512x768, .bf16⟩
  | .local _ .vmem, ⟨14, _⟩ => ⟨S512x768, .bf16⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | .local _ .vmem, ⟨19, _⟩ => ⟨S512x128, .f32⟩
  | .local _ .vmem, ⟨20, _⟩ => ⟨S512x128, .f32⟩
  | .local _ .vmem, ⟨21, _⟩ => ⟨S512x3072, .bf16⟩
  | .local _ .vmem, ⟨22, _⟩ => ⟨S512x3072, .bf16⟩
  | .local _ .vmem, ⟨23, _⟩ => ⟨S512x1024, .f32⟩
  | .local _ .vmem, ⟨24, _⟩ => ⟨S512x1024, .f32⟩
  | .local _ .vmem, ⟨25, _⟩ => ⟨S1x1x6144, .f32⟩
  | .local _ .vmem, ⟨26, _⟩ => ⟨S1x1x6144, .f32⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x3072, .bf16⟩
  | .local _ .vmem, ⟨34, _⟩ => ⟨S512x3072, .bf16⟩
  | .local _ .vmem, ⟨35, _⟩ => ⟨S3x512x1024, .bf16⟩
  | .local _ .vmem, ⟨36, _⟩ => ⟨S1024x1024, .bf16⟩
  | .local _ .vmem, ⟨37, _⟩ => ⟨S512x1024, .f32⟩
  | .local _ .vmem, ⟨38, _⟩ => ⟨S512x1024, .f32⟩
  | .local _ .vmem, ⟨39, _⟩ => ⟨S1024x1024, .f32⟩
  | .local _ .vmem, ⟨40, _⟩ => ⟨S1024x1024, .f32⟩
  | .local _ .vmem, ⟨41, _⟩ => ⟨S8x1024, .f32⟩
  | .local _ .vmem, ⟨42, _⟩ => ⟨S8x1024, .f32⟩
  | .local _ .vmem, ⟨43, _⟩ => ⟨S8x1024, .f32⟩
  | .local _ .vmem, ⟨44, _⟩ => ⟨S8x1024, .f32⟩
  | .local _ .vmem, ⟨45, _⟩ => ⟨S1x1x6144, .f32⟩
  | .local _ .vmem, ⟨46, _⟩ => ⟨S1x1x6144, .f32⟩
  | .local _ .vmem, ⟨47, _⟩ => ⟨S1x1024, .f32⟩
  | .local _ .vmem, ⟨48, _⟩ => ⟨S11x1024x512, .bf16⟩
  | .local _ .vmem, ⟨49, _⟩ => ⟨S11x3x512, .f32⟩
  | .local _ .vmem, ⟨50, _⟩ => ⟨S11x1x512, .f32⟩
  | .local _ .vmem, ⟨51, _⟩ => ⟨S2816x1024, .bf16⟩
  | .local _ .vmem, ⟨52, _⟩ => ⟨S1x1024, .f32⟩
  | .local _ .vmem, ⟨53, _⟩ => ⟨S1024x1024, .f32⟩
  | .local _ .vmem, ⟨54, _⟩ => ⟨S1024x1024, .f32⟩
  | .local _ .vmem, ⟨55, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v24_3 : Ref sig .tc := ⟨.hbm, 47, rfl⟩
abbrev main_v24_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg9_0 : Ref sig .tc := ⟨.vmem, 52, rfl⟩
abbrev cc3_stg10_0 : Ref sig .tc := ⟨.vmem, 53, rfl⟩
abbrev cc3_stg10_1 : Ref sig .tc := ⟨.vmem, 54, rfl⟩
abbrev cc3_scratch0 : Ref sig .tc := ⟨.vmem, 55, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc2_sem6_0 : DmaSem sig := 35
abbrev cc2_sem7_0 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem8_0 : DmaSem sig := 51
abbrev cc3_sem9_0 : DmaSem sig := 52
abbrev cc3_sem10_0 : DmaSem sig := 53
abbrev cc3_sem10_1 : DmaSem sig := 54

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x6144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x7040 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x768 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x3072 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x6144 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x3072 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S3x512x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc3_transform_2 (i : grid3.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc3_transform_3 (i : grid3.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x6144 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S11x1024x512 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S11x3x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S11x1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S2816x1024 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1024x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]
-- ==== Reference8Ideal.lean ====
abbrev S32x2048x1024 : Shape := ⟨3, ![32, 2048, 1024]⟩
abbrev S32x1024 : Shape := ⟨2, ![32, 1024]⟩
abbrev S16x1024 : Shape := ⟨2, ![16, 1024]⟩
abbrev S2x1024x6144 : Shape := ⟨3, ![2, 1024, 6144]⟩
abbrev S2x6144 : Shape := ⟨2, ![2, 6144]⟩
abbrev S1024 : Shape := ⟨1, ![1024]⟩
abbrev S1024x6832 : Shape := ⟨2, ![1024, 6832]⟩
abbrev S65536x512 : Shape := ⟨2, ![65536, 512]⟩
abbrev S3x512x1024 : Shape := ⟨3, ![3, 512, 1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S48x1024 : Shape := ⟨2, ![48, 1024]⟩
abbrev S_ : Shape := ⟨0, ![]⟩
abbrev S48x2x6144 : Shape := ⟨3, ![48, 2, 6144]⟩
abbrev S2x48x6144 : Shape := ⟨3, ![2, 48, 6144]⟩
abbrev S2x1x6144 : Shape := ⟨3, ![2, 1, 6144]⟩
abbrev S2x32x6144 : Shape := ⟨3, ![2, 32, 6144]⟩
abbrev S1x32x6144 : Shape := ⟨3, ![1, 32, 6144]⟩
abbrev S32x6144 : Shape := ⟨2, ![32, 6144]⟩
abbrev S32x2048 : Shape := ⟨2, ![32, 2048]⟩
abbrev S32x1x2048 : Shape := ⟨3, ![32, 1, 2048]⟩
abbrev S32x1x1024 : Shape := ⟨3, ![32, 1, 1024]⟩
abbrev S32x2048x1 : Shape := ⟨3, ![32, 2048, 1]⟩
abbrev S1x1x1024 : Shape := ⟨3, ![1, 1, 1024]⟩
abbrev S32x2048x6832 : Shape := ⟨3, ![32, 2048, 6832]⟩
abbrev S32x2048x384 : Shape := ⟨3, ![32, 2048, 384]⟩
abbrev S32x2048x288 : Shape := ⟨3, ![32, 2048, 288]⟩
abbrev S32x2048x2048 : Shape := ⟨3, ![32, 2048, 2048]⟩
abbrev S32x2048x16 : Shape := ⟨3, ![32, 2048, 16]⟩
abbrev S32x2048x3072 : Shape := ⟨3, ![32, 2048, 3072]⟩
abbrev S32x2048x32 : Shape := ⟨3, ![32, 2048, 32]⟩
abbrev S32x2048x64 : Shape := ⟨3, ![32, 2048, 64]⟩
abbrev S32x2048x768 : Shape := ⟨3, ![32, 2048, 768]⟩
abbrev S32x2048x112 : Shape := ⟨3, ![32, 2048, 112]⟩
abbrev S32x2048x128 : Shape := ⟨3, ![32, 2048, 128]⟩
abbrev S65536x768 : Shape := ⟨2, ![65536, 768]⟩
abbrev S65536x1024 : Shape := ⟨2, ![65536, 1024]⟩
abbrev S65536x2048 : Shape := ⟨2, ![65536, 2048]⟩
abbrev S65536x128 : Shape := ⟨2, ![65536, 128]⟩
abbrev S65536x3072 : Shape := ⟨2, ![65536, 3072]⟩
abbrev S32x2048x3x1024 : Shape := ⟨4, ![32, 2048, 3, 1024]⟩
abbrev S32x2048x1x1024 : Shape := ⟨4, ![32, 2048, 1, 1024]⟩
abbrev S32x2048x512 : Shape := ⟨3, ![32, 2048, 512]⟩
abbrev S1x512x1024 : Shape := ⟨3, ![1, 512, 1024]⟩
abbrev S512x1024 : Shape := ⟨2, ![512, 1024]⟩
abbrev S32x3072 : Shape := ⟨2, ![32, 3072]⟩
abbrev S32x1x3072 : Shape := ⟨3, ![32, 1, 3072]⟩
abbrev S32x2048x5632 : Shape := ⟨3, ![32, 2048, 5632]⟩
abbrev S32x1x5632 : Shape := ⟨3, ![32, 1, 5632]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩

abbrev nBuf : Space → Nat
  | .hbm => 222
  | .vmem => 0
  | .smem => 0
  | _ => 0

abbrev hbmTy0_0 (i : Nat) : BufTy := match i % 128 with
  | 0 => ⟨S32x2048x1024, .f32⟩
  | 1 => ⟨S32x1024, .f32⟩
  | 2 => ⟨S16x1024, .f32⟩
  | 3 => ⟨S2x1024x6144, .f32⟩
  | 4 => ⟨S2x6144, .f32⟩
  | 5 => ⟨S1024, .f32⟩
  | 6 => ⟨S1024x6832, .f32⟩
  | 7 => ⟨S65536x512, .bf16⟩
  | 8 => ⟨S65536x512, .bf16⟩
  | 9 => ⟨S65536x512, .bf16⟩
  | 10 => ⟨S3x512x1024, .f32⟩
  | 11 => ⟨S1024x1024, .f32⟩
  | 12 => ⟨S1024, .f32⟩
  | 13 => ⟨S1024x5632, .f32⟩
  | 14 => ⟨S3x5632, .f32⟩
  | 15 => ⟨S5632, .f32⟩
  | 16 => ⟨S2816x1024, .f32⟩
  | 17 => ⟨S1024, .f32⟩
  | 18 => ⟨S48x1024, .f32⟩
  | 19 => ⟨S48x1024, .f32⟩
  | 20 => ⟨S48x1024, .f32⟩
  | 21 => ⟨S_, .f32⟩
  | 22 => ⟨S48x1024, .f32⟩
  | 23 => ⟨S48x1024, .f32⟩
  | 24 => ⟨S_, .f32⟩
  | 25 => ⟨S48x1024, .f32⟩
  | 26 => ⟨S48x1024, .f32⟩
  | 27 => ⟨S48x1024, .f32⟩
  | 28 => ⟨S48x2x6144, .f32⟩
  | 29 => ⟨S2x48x6144, .f32⟩
  | 30 => ⟨S2x1x6144, .f32⟩
  | 31 => ⟨S2x48x6144, .f32⟩
  | 32 => ⟨S2x48x6144, .f32⟩
  | 33 => ⟨S2x32x6144, .f32⟩
  | 34 => ⟨S1x32x6144, .f32⟩
  | 35 => ⟨S32x6144, .f32⟩
  | 36 => ⟨S32x2048, .f32⟩
  | 37 => ⟨S32x1x2048, .f32⟩
  | 38 => ⟨S32x1x1024, .f32⟩
  | 39 => ⟨S32x1x1024, .f32⟩
  | 40 => ⟨S32x2048x1024, .f32⟩
  | 41 => ⟨S_, .f32⟩
  | 42 => ⟨S32x2048, .f32⟩
  | 43 => ⟨S32x2048x1, .f32⟩
  | 44 => ⟨S_, .f32⟩
  | 45 => ⟨S32x2048x1, .f32⟩
  | 46 => ⟨S32x2048x1, .f32⟩
  | 47 => ⟨S_, .f32⟩
  | 48 => ⟨S32x2048x1, .f32⟩
  | 49 => ⟨S32x2048x1, .f32⟩
  | 50 => ⟨S32x2048x1, .f32⟩
  | 51 => ⟨S32x2048x1024, .f32⟩
  | 52 => ⟨S32x2048x1024, .f32⟩
  | 53 => ⟨S1x1x1024, .f32⟩
  | 54 => ⟨S32x2048x1024, .f32⟩
  | 55 => ⟨S32x2048x1024, .f32⟩
  | 56 => ⟨S_, .f32⟩
  | 57 => ⟨S32x1x1024, .f32⟩
  | 58 => ⟨S32x1x1024, .f32⟩
  | 59 => ⟨S32x2048x1024, .f32⟩
  | 60 => ⟨S32x2048x1024, .f32⟩
  | 61 => ⟨S32x2048x1024, .f32⟩
  | 62 => ⟨S32x2048x1024, .f32⟩
  | 63 => ⟨S32x2048x6832, .f32⟩
  | 64 => ⟨S32x2048x384, .f32⟩
  | 65 => ⟨S32x2048x288, .f32⟩
  | 66 => ⟨S32x2048x1024, .f32⟩
  | 67 => ⟨S32x2048x2048, .f32⟩
  | 68 => ⟨S32x2048x16, .f32⟩
  | 69 => ⟨S32x2048x3072, .f32⟩
  | 70 => ⟨S32x2048x32, .f32⟩
  | 71 => ⟨S32x2048x16, .f32⟩
  | 72 => ⟨S32x2048x16, .f32⟩
  | 73 => ⟨S32x2048x16, .f32⟩
  | 74 => ⟨S32x2048x32, .f32⟩
  | 75 => ⟨S_, .f32⟩
  | 76 => ⟨S32x2048x64, .f32⟩
  | 77 => ⟨S32x2048x768, .f32⟩
  | 78 => ⟨S_, .f32⟩
  | 79 => ⟨S32x2048x112, .f32⟩
  | 80 => ⟨S32x2048x128, .f32⟩
  | 81 => ⟨S65536x768, .f32⟩
  | 82 => ⟨S65536x768, .bf16⟩
  | 83 => ⟨S65536x1024, .f32⟩
  | 84 => ⟨S65536x1024, .bf16⟩
  | 85 => ⟨S65536x2048, .f32⟩
  | 86 => ⟨S65536x2048, .bf16⟩
  | 87 => ⟨S65536x128, .f32⟩
  | 88 => ⟨S65536x3072, .f32⟩
  | 89 => ⟨S65536x3072, .bf16⟩
  | 90 => ⟨S32x2048x3x1024, .bf16⟩
  | 91 => ⟨S32x2048x3x1024, .f32⟩
  | 92 => ⟨S32x2048x3x1024, .f32⟩
  | 93 => ⟨S32x2048x3x1024, .f32⟩
  | 94 => ⟨S_, .f32⟩
  | 95 => ⟨S32x2048x3x1024, .f32⟩
  | 96 => ⟨S32x2048x3x1024, .f32⟩
  | 97 => ⟨S_, .f32⟩
  | 98 => ⟨S32x2048x3x1024, .f32⟩
  | 99 => ⟨S32x2048x3x1024, .f32⟩
  | 100 => ⟨S32x2048x1x1024, .f32⟩
  | 101 => ⟨S32x2048x1024, .f32⟩
  | 102 => ⟨S32x2048x512, .bf16⟩
  | 103 => ⟨S32x2048x512, .f32⟩
  | 104 => ⟨S1x512x1024, .f32⟩
  | 105 => ⟨S512x1024, .f32⟩
  | 106 => ⟨S32x2048x1024, .f32⟩
  | 107 => ⟨S32x2048x1024, .f32⟩
  | 108 => ⟨S32x2048x1x1024, .f32⟩
  | 109 => ⟨S32x2048x1024, .f32⟩
  | 110 => ⟨S32x2048x512, .bf16⟩
  | 111 => ⟨S32x2048x512, .f32⟩
  | 112 => ⟨S1x512x1024, .f32⟩
  | 113 => ⟨S512x1024, .f32⟩
  | 114 => ⟨S32x2048x1024, .f32⟩
  | 115 => ⟨S32x2048x1024, .f32⟩
  | 116 => ⟨S32x2048x1024, .f32⟩
  | 117 => ⟨S32x2048x1x1024, .f32⟩
  | 118 => ⟨S32x2048x1024, .f32⟩
  | 119 => ⟨S32x2048x512, .bf16⟩
  | 120 => ⟨S32x2048x512, .f32⟩
  | 121 => ⟨S1x512x1024, .f32⟩
  | 122 => ⟨S512x1024, .f32⟩
  | 123 => ⟨S32x2048x1024, .f32⟩
  | 124 => ⟨S32x2048x1024, .f32⟩
  | 125 => ⟨S32x2048x1024, .f32⟩
  | 126 => ⟨S32x1024, .f32⟩
  | 127 => ⟨S32x1x1024, .f32⟩
  | _ => ⟨S32x2048x1024, .f32⟩

abbrev hbmTy0_1 (i : Nat) : BufTy := match i % 128 with
  | 0 => ⟨S32x2048x1024, .f32⟩
  | 1 => ⟨S32x2048x1024, .f32⟩
  | 2 => ⟨S32x2048x1024, .f32⟩
  | 3 => ⟨S32x2048x1024, .f32⟩
  | 4 => ⟨S65536x1024, .f32⟩
  | 5 => ⟨S32x2048x1024, .f32⟩
  | 6 => ⟨S32x3072, .f32⟩
  | 7 => ⟨S32x1x3072, .f32⟩
  | 8 => ⟨S32x1x1024, .f32⟩
  | 9 => ⟨S32x1x1024, .f32⟩
  | 10 => ⟨S32x1x1024, .f32⟩
  | 11 => ⟨S32x2048x1024, .f32⟩
  | 12 => ⟨S_, .f32⟩
  | 13 => ⟨S32x2048, .f32⟩
  | 14 => ⟨S32x2048x1, .f32⟩
  | 15 => ⟨S_, .f32⟩
  | 16 => ⟨S32x2048x1, .f32⟩
  | 17 => ⟨S32x2048x1, .f32⟩
  | 18 => ⟨S_, .f32⟩
  | 19 => ⟨S32x2048x1, .f32⟩
  | 20 => ⟨S32x2048x1, .f32⟩
  | 21 => ⟨S32x2048x1, .f32⟩
  | 22 => ⟨S32x2048x1024, .f32⟩
  | 23 => ⟨S32x2048x1024, .f32⟩
  | 24 => ⟨S1x1x1024, .f32⟩
  | 25 => ⟨S32x2048x1024, .f32⟩
  | 26 => ⟨S32x2048x1024, .f32⟩
  | 27 => ⟨S_, .f32⟩
  | 28 => ⟨S32x1x1024, .f32⟩
  | 29 => ⟨S32x1x1024, .f32⟩
  | 30 => ⟨S32x2048x1024, .f32⟩
  | 31 => ⟨S32x2048x1024, .f32⟩
  | 32 => ⟨S32x2048x1024, .f32⟩
  | 33 => ⟨S32x2048x1024, .f32⟩
  | 34 => ⟨S32x2048x5632, .f32⟩
  | 35 => ⟨S_, .f32⟩
  | 36 => ⟨S32x1x5632, .f32⟩
  | 37 => ⟨S32x2050x5632, .f32⟩
  | 38 => ⟨S32x2048x5632, .f32⟩
  | 39 => ⟨S1x5632, .f32⟩
  | 40 => ⟨S5632, .f32⟩
  | 41 => ⟨S1x1x5632, .f32⟩
  | 42 => ⟨S32x2048x5632, .f32⟩
  | 43 => ⟨S32x2048x5632, .f32⟩
  | 44 => ⟨S32x2048x5632, .f32⟩
  | 45 => ⟨S1x5632, .f32⟩
  | 46 => ⟨S5632, .f32⟩
  | 47 => ⟨S1x1x5632, .f32⟩
  | 48 => ⟨S32x2048x5632, .f32⟩
  | 49 => ⟨S32x2048x5632, .f32⟩
  | 50 => ⟨S32x2048x5632, .f32⟩
  | 51 => ⟨S32x2048x5632, .f32⟩
  | 52 => ⟨S1x5632, .f32⟩
  | 53 => ⟨S5632, .f32⟩
  | 54 => ⟨S1x1x5632, .f32⟩
  | 55 => ⟨S32x2048x5632, .f32⟩
  | 56 => ⟨S32x2048x5632, .f32⟩
  | 57 => ⟨S32x2048x5632, .f32⟩
  | 58 => ⟨S1x1x5632, .f32⟩
  | 59 => ⟨S32x2048x5632, .f32⟩
  | 60 => ⟨S32x2048x5632, .f32⟩
  | 61 => ⟨S32x2048x2816, .f32⟩
  | 62 => ⟨S32x2048x2816, .f32⟩
  | 63 => ⟨S32x2048x2816, .f32⟩
  | 64 => ⟨S32x2048x2816, .f32⟩
  | 65 => ⟨S_, .f32⟩
  | 66 => ⟨S32x2048x2816, .f32⟩
  | 67 => ⟨S32x2048x2816, .f32⟩
  | 68 => ⟨S_, .f32⟩
  | 69 => ⟨S32x2048x2816, .f32⟩
  | 70 => ⟨S32x2048x2816, .f32⟩
  | 71 => ⟨S32x2048x2816, .f32⟩
  | 72 => ⟨S32x2048x2816, .f32⟩
  | 73 => ⟨S32x2048x1024, .f32⟩
  | 74 => ⟨S32x2048x1024, .f32⟩
  | 75 => ⟨S32x2048x1024, .f32⟩
  | 76 => ⟨S32x2048x1024, .f32⟩
  | 77 => ⟨S32x2048x1024, .f32⟩
  | 78 => ⟨S_, .f32⟩
  | 79 => ⟨S32x2048, .f32⟩
  | 80 => ⟨S32x2048x1, .f32⟩
  | 81 => ⟨S_, .f32⟩
  | 82 => ⟨S32x2048x1, .f32⟩
  | 83 => ⟨S32x2048x1, .f32⟩
  | 84 => ⟨S_, .f32⟩
  | 85 => ⟨S32x2048x1, .f32⟩
  | 86 => ⟨S32x2048x1, .f32⟩
  | 87 => ⟨S32x2048x1, .f32⟩
  | 88 => ⟨S32x2048x1024, .f32⟩
  | 89 => ⟨S32x2048x1024, .f32⟩
  | 90 => ⟨S1x1x1024, .f32⟩
  | 91 => ⟨S32x2048x1024, .f32⟩
  | 92 => ⟨S32x2048x1024, .f32⟩
  | 93 => ⟨S65536x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_cst_0 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_2 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_3 : Ref sig .tc := ⟨.hbm, 75, rfl⟩
abbrev main_v45 : Ref sig .tc := ⟨.hbm, 76, rfl⟩
abbrev main_v46 : Ref sig .tc := ⟨.hbm, 77, rfl⟩
abbrev main_cst_4 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_5 : Ref sig .tc := ⟨.hbm, 94, rfl⟩
abbrev main_v62 : Ref sig .tc := ⟨.hbm, 95, rfl⟩
abbrev main_v63 : Ref sig .tc := ⟨.hbm, 96, rfl⟩
abbrev main_cst_6 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_7 : Ref sig .tc := ⟨.hbm, 140, rfl⟩
abbrev main_v106 : Ref sig .tc := ⟨.hbm, 141, rfl⟩
abbrev main_v107 : Ref sig .tc := ⟨.hbm, 142, rfl⟩
abbrev main_cst_8 : Ref sig .tc := ⟨.hbm, 143, rfl⟩
abbrev main_v108 : Ref sig .tc := ⟨.hbm, 144, rfl⟩
abbrev main_v109 : Ref sig .tc := ⟨.hbm, 145, rfl⟩
abbrev main_cst_9 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_10 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_11 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_call1_v0 : Ref sig .tc := ⟨.hbm, 191, rfl⟩
abbrev main_call1_v1 : Ref sig .tc := ⟨.hbm, 192, rfl⟩
abbrev main_call1_cst : Ref sig .tc := ⟨.hbm, 193, rfl⟩
abbrev main_call1_v2 : Ref sig .tc := ⟨.hbm, 194, rfl⟩
abbrev main_call1_v3 : Ref sig .tc := ⟨.hbm, 195, rfl⟩
abbrev main_call1_cst_0 : Ref sig .tc := ⟨.hbm, 196, rfl⟩
abbrev main_call1_v4 : Ref sig .tc := ⟨.hbm, 197, rfl⟩
abbrev main_call1_v5 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_12 : Ref sig .tc := ⟨.hbm, 206, rfl⟩
abbrev main_v159 : Ref sig .tc := ⟨.hbm, 207, rfl⟩
abbrev main_v160 : Ref sig .tc := ⟨.hbm, 208, rfl⟩
abbrev main_cst_13 : Ref sig .tc := ⟨.hbm, 209, rfl⟩
abbrev main_v161 : Ref sig .tc := ⟨.hbm, 210, rfl⟩
abbrev main_v162 : Ref sig .tc := ⟨.hbm, 211, rfl⟩
abbrev main_cst_14 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩

abbrev nD : Nat := 1
abbrev τ : Topo := Topo.v7x

variable {F : FTy → Type} [FloatOps F]
-- ==== Proof.Layer.lean ====
module

public import Idealize.ShloMosaic.PureOps.Ideal

@[expose] public section

set_option maxRecDepth 16384

noncomputable section

namespace Cert.Layer
open Idealize.ShloMosaic

/-! The layer over the reals: latents normalised, multiplied out to heads, rotated, and attended to. -/

/-- The real entries of the six arguments. -/
structure Args where
  qd : Fin 32 → Fin 2048 → Fin 384 → ℝ
  kvd : Fin 32 → Fin 2048 → Fin 288 → ℝ
  gq : Fin 384 → ℝ
  wq : Fin 384 → Fin 768 → ℝ
  gkv : Fin 256 → ℝ
  wkv : Fin 256 → Fin 1024 → ℝ

/-- The constant added under the root, the score's scale: the numbers that the printed words stand for. -/
def eps : ℝ := 0x8637BD * (2:ℝ) ^ (-43 : ℤ)
def scale : ℝ := 0xD105EC * (2:ℝ) ^ (-27 : ℤ)

theorem eps_coe : Ideal.ofBits .f32 0x358637BD#32 = (eps : EReal) := by
  simp [Ideal.ofBits, Ideal.ieee, eps, -EReal.coe_mul]
theorem scale_coe : Ideal.ofBits .f32 0x3DD105EC#32 = (scale : EReal) := by
  simp [Ideal.ofBits, Ideal.ieee, scale, -EReal.coe_mul]
theorem c384_coe : Ideal.ofBits .f32 0x43C00000#32 = ((384 : ℝ) : EReal) := by
  simp [Ideal.ofBits, Ideal.ieee, -EReal.coe_mul]; norm_num
theorem c256_coe : Ideal.ofBits .f32 0x43800000#32 = ((256 : ℝ) : EReal) := by
  simp [Ideal.ofBits, Ideal.ieee, -EReal.coe_mul]; norm_num
theorem c2_coe : Ideal.ofBits .f32 0x40000000#32 = ((2 : ℝ) : EReal) := by
  simp [Ideal.ofBits, Ideal.ieee, -EReal.coe_mul]; norm_num
theorem c32_coe : Ideal.ofBits .f32 0x42000000#32 = ((32 : ℝ) : EReal) := by
  simp [Ideal.ofBits, Ideal.ieee, -EReal.coe_mul]; norm_num
theorem c10000_coe : Ideal.ofBits .f32 0x461C4000#32 = ((10000 : ℝ) : EReal) := by
  simp [Ideal.ofBits, Ideal.ieee, -EReal.coe_mul]; norm_num
theorem bot_coe : Ideal.ofBits .f32 0xFF800000#32 = (⊥ : EReal) := by
  simp [Ideal.ofBits, Ideal.ieee]

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Root-mean-square normalisation of a row, times a weight. -/
def rms {n : ℕ} (N : ℝ) (x g : Fin n → ℝ) (k : Fin n) : ℝ :=
  x k * (√((∑ j, x j * x j) / N + eps))⁻¹ * g k

theorem rms_coe {n : ℕ} {N : ℝ} (hN : 0 < N) (x g : Fin n → ℝ) (k : Fin n) :
    (x k : EReal) * Ideal.rsqrt (Ideal.div (∑ j, (x j : EReal) * (x j : EReal)) (N : EReal) + (eps : EReal)) * (g k : EReal)
      = (rms N x g k : EReal) := by
  have h1 : ∑ j, (x j : EReal) * (x j : EReal) = ((∑ j, x j * x j : ℝ) : EReal) := by
    rw [← coe_sum]; simp
  have h2 : 0 < (∑ j, x j * x j) * (1 / N) + eps := by
    have : 0 ≤ ∑ j, x j * x j := Finset.sum_nonneg fun j _ => mul_self_nonneg _
    have : (0 : ℝ) < eps := by unfold eps; positivity
    positivity
  rw [h1, Ideal.div_coe hN.ne', ← EReal.coe_mul, ← EReal.coe_add, Ideal.rsqrt_coe, if_neg (not_lt.2 h2.le), if_neg h2.ne', rms]
  simp [div_eq_mul_inv]

/-- The rotation angle of row `r`, lane `j`, and its cosine and sine. -/
def ang (r : Fin 2048) (j : Fin 16) : ℝ := r.val * (1 / Real.rpow 10000 (2 * j.val / 32))
def C (r : Fin 2048) (j : Fin 16) : ℝ := Real.cos (ang r j)
def S (r : Fin 2048) (j : Fin 16) : ℝ := Real.sin (ang r j)

theorem sitofp_ofNat (n : ℕ) (h : n < 2048) : (FloatOps.sitofp (F := Ideal) .f32 (BitVec.ofNat 32 n) : EReal) = ((n : ℝ) : EReal) := by
  have h1 : (BitVec.ofNat 32 n).toInt = n := by
    rw [BitVec.toInt_eq_toNat_of_lt (by simp only [BitVec.toNat_ofNat]; omega), BitVec.toNat_ofNat, Nat.mod_eq_of_lt (by omega)]
  show (((BitVec.ofNat 32 n).toInt : ℝ) : EReal) = _
  rw [h1]; simp

theorem ang_coe (r j : ℕ) (hr : r < 2048) (hj : j < 16) :
    (FloatOps.sitofp (F := Ideal) .f32 (BitVec.ofNat 32 r) : EReal) * Ideal.div 1 (Ideal.pow (Ideal.ofBits .f32 0x461C4000#32)
      (Ideal.div (Ideal.ofBits .f32 0x40000000#32 * FloatOps.sitofp (F := Ideal) .f32 (BitVec.ofNat 32 j)) (Ideal.ofBits .f32 0x42000000#32)))
      = (ang ⟨r, hr⟩ ⟨j, hj⟩ : EReal) := by
  rw [sitofp_ofNat r hr, sitofp_ofNat j (by omega), c10000_coe, c2_coe, c32_coe, ← EReal.coe_mul, Ideal.div_coe (by norm_num), ← EReal.coe_mul]
  have : Ideal.pow ((10000 : ℝ) : EReal) ((2 * (j:ℝ) * (1 / 32) : ℝ) : EReal) = (Real.rpow 10000 (2 * (j:ℝ) * (1 / 32)) : EReal) := rfl
  have hp : Real.rpow 10000 (2 * (j:ℝ) * (1 / 32)) ≠ 0 := (Real.rpow_pos_of_pos (by norm_num) _).ne'
  rw [this, Ideal.div_coe hp, ang]
  simp [div_eq_mul_inv]

theorem C_coe (r j : ℕ) (hr : r < 2048) (hj : j < 16) :
    Ideal.cos ((FloatOps.sitofp (F := Ideal) .f32 (BitVec.ofNat 32 r) : EReal) * Ideal.div 1 (Ideal.pow (Ideal.ofBits .f32 0x461C4000#32)
      (Ideal.div (Ideal.ofBits .f32 0x40000000#32 * FloatOps.sitofp (F := Ideal) .f32 (BitVec.ofNat 32 j)) (Ideal.ofBits .f32 0x42000000#32))))
      = (C ⟨r, hr⟩ ⟨j, hj⟩ : EReal) := by
  rw [ang_coe r j hr hj]; rfl
theorem S_coe (r j : ℕ) (hr : r < 2048) (hj : j < 16) :
    Ideal.sin ((FloatOps.sitofp (F := Ideal) .f32 (BitVec.ofNat 32 r) : EReal) * Ideal.div 1 (Ideal.pow (Ideal.ofBits .f32 0x461C4000#32)
      (Ideal.div (Ideal.ofBits .f32 0x40000000#32 * FloatOps.sitofp (F := Ideal) .f32 (BitVec.ofNat 32 j)) (Ideal.ofBits .f32 0x42000000#32))))
      = (S ⟨r, hr⟩ ⟨j, hj⟩ : EReal) := by
  rw [ang_coe r j hr hj]; rfl

/-- A row of 32 lanes, its halves exchanged and the first negated. -/
def rot (x : Fin 32 → ℝ) (j : Fin 32) : ℝ :=
  if h : j.val < 16 then -x ⟨16 + j.val, by omega⟩ else x ⟨j.val - 16, by omega⟩

/-- A row of 32 lanes rotated by the angles of row `r`. -/
def rope (x : Fin 32 → ℝ) (r : Fin 2048) (j : Fin 32) : ℝ :=
  x j * C r ⟨j.val % 16, by omega⟩ + rot x j * S r ⟨j.val % 16, by omega⟩

variable (A : Args)

def cq (b : Fin 32) (r : Fin 2048) (k : Fin 384) : ℝ := rms 384 (A.qd b r) A.gq k
def ckv (b : Fin 32) (r : Fin 2048) (k : Fin 256) : ℝ := rms 256 (fun k : Fin 256 => A.kvd b r ⟨k.val, by omega⟩) A.gkv k
def kr (b : Fin 32) (r : Fin 2048) (j : Fin 32) : ℝ := A.kvd b r ⟨256 + j.val, by omega⟩
/-- Queries, keys and values of a head before rotation. -/
def qn (b : Fin 32) (r : Fin 2048) (h : Fin 8) (j : Fin 64) : ℝ := ∑ k, cq A b r k * A.wq k ⟨h.val * 96 + j.val, by omega⟩
def qr (b : Fin 32) (r : Fin 2048) (h : Fin 8) (j : Fin 32) : ℝ := ∑ k, cq A b r k * A.wq k ⟨h.val * 96 + (64 + j.val), by omega⟩
def kn (b : Fin 32) (r : Fin 2048) (h : Fin 8) (j : Fin 64) : ℝ := ∑ k, ckv A b r k * A.wkv k ⟨h.val * 128 + j.val, by omega⟩
def vv (b : Fin 32) (r : Fin 2048) (h : Fin 8) (j : Fin 64) : ℝ := ∑ k, ckv A b r k * A.wkv k ⟨h.val * 128 + (64 + j.val), by omega⟩

/-- The score of query row `r` against key row `t` in head `h`. -/
def sc (b : Fin 32) (h : Fin 8) (r t : Fin 2048) : ℝ :=
  scale * ((∑ j, qn A b r h j * kn A b t h j) + ∑ j, rope (qr A b r h) r j * rope (kr A b t) t j)

/-- The greatest of a row. -/
def big (s : Fin 2048 → ℝ) : ℝ := Finset.univ.sup' ⟨0, Finset.mem_univ _⟩ s

/-- The values of a row weighted by the softmax of its scores. -/
def soft (s v : Fin 2048 → ℝ) : ℝ := (∑ t, Real.exp (s t - big s) * v t) / ∑ t, Real.exp (s t - big s)

/-- The layer's result. -/
def out (b : Fin 32) (r : Fin 2048) (h : Fin 8) (d : Fin 64) : ℝ := soft (sc A b h r) (fun t => vv A b t h d)

theorem fold_big (s : Fin 2048 → ℝ) : Finset.fold max (⊥ : EReal) (fun t => (s t : EReal)) Finset.univ = (big s : EReal) := by
  rw [big]
  apply le_antisymm
  · rw [Finset.fold_max_le]
    exact ⟨bot_le, fun t _ => EReal.coe_le_coe_iff.2 (Finset.le_sup' s (Finset.mem_univ t))⟩
  · obtain ⟨t, _, h⟩ := Finset.exists_mem_eq_sup' (s := (Finset.univ : Finset (Fin 2048))) ⟨0, Finset.mem_univ _⟩ s
    rw [h, Finset.le_fold_max]
    exact Or.inr ⟨t, Finset.mem_univ t, le_rfl⟩

theorem den_pos (s : Fin 2048 → ℝ) : 0 < ∑ t, Real.exp (s t - big s) :=
  Finset.sum_pos (fun t _ => Real.exp_pos _) ⟨0, Finset.mem_univ _⟩

theorem den_coe (s : Fin 2048 → ℝ) : ∑ t, Ideal.exp ((s t : EReal) - (big s : EReal)) = ((∑ t, Real.exp (s t - big s) : ℝ) : EReal) := by
  rw [← coe_sum]; rfl

/-- The product first and the division last, as the kernel takes them. -/
theorem soft_kernel (s v : Fin 2048 → ℝ) :
    (∑ t, Ideal.exp ((s t : EReal) - (big s : EReal)) * (v t : EReal)) * Ideal.div 1 (∑ t, Ideal.exp ((s t : EReal) - (big s : EReal)))
      = (soft s v : EReal) := by
  have h1 : ∑ t, Ideal.exp ((s t : EReal) - (big s : EReal)) * (v t : EReal) = ((∑ t, Real.exp (s t - big s) * v t : ℝ) : EReal) := by
    rw [← coe_sum]; rfl
  rw [h1, den_coe, Ideal.div_coe (den_pos s).ne', one_mul, ← EReal.coe_mul, soft, mul_one_div]

/-- The division first, as the reference takes it. -/
theorem soft_reference (s v : Fin 2048 → ℝ) :
    ∑ t, (v t : EReal) * Ideal.div (Ideal.exp ((s t : EReal) - (big s : EReal))) (∑ t, Ideal.exp ((s t : EReal) - (big s : EReal)))
      = (soft s v : EReal) := by
  have h1 : ∀ t, (v t : EReal) * Ideal.div (Ideal.exp ((s t : EReal) - (big s : EReal))) (∑ t, Ideal.exp ((s t : EReal) - (big s : EReal)))
      = ((Real.exp (s t - big s) * v t / (∑ t, Real.exp (s t - big s)) : ℝ) : EReal) := fun t => by
    rw [den_coe, Ideal.div_coe (den_pos s).ne']
    have : Ideal.exp ((s t : EReal) - (big s : EReal)) = (Real.exp (s t - big s) : EReal) := rfl
    rw [this, ← EReal.coe_mul, ← EReal.coe_mul]
    congr 1; ring
  simp only [h1]
  rw [coe_sum, soft, Finset.sum_div]

end Cert.Layer

end
-- ==== Proof.Holds.lean ====
module

public import proofs.«01_k».proof.Proof.Gen.KernelIdeal.Value
public import proofs.«01_k».proof.Proof.Layer
public import Idealize.ShloMosaic.Lib.Pipeline.ValueKit
public import Idealize.ShloMosaic.Lib.StableHlo.ReadAt

@[expose] public section

set_option maxRecDepth 16384

noncomputable section

namespace Cert.KernelIdeal.Host
open Idealize.ShloMosaic Idealize.ShloMosaic.TcCoe Idealize.SL.Sem Cert.KernelIdeal Cert.KernelIdeal.Gen Cert.Layer

variable (m : (ℓ : Loc nD τ sig) → Buf (Elt Ideal) ℓ)

/-- The arguments on device `c` hold the real entries `A`. -/
structure Holds (c : Dev nD) (A : Args) : Prop where
  h0 : ∀ b r k, (m (c, Proc.tc.devRef main_arg0) (ix3 b r k) : EReal) = (A.qd b r k : EReal)
  h1 : ∀ b r k, (m (c, Proc.tc.devRef main_arg1) (ix3 b r k) : EReal) = (A.kvd b r k : EReal)
  h2 : ∀ k, (m (c, Proc.tc.devRef main_arg2) (ix1 k) : EReal) = (A.gq k : EReal)
  h3 : ∀ k n, (m (c, Proc.tc.devRef main_arg3) (ix2 k n) : EReal) = (A.wq k n : EReal)
  h4 : ∀ k, (m (c, Proc.tc.devRef main_arg4) (ix1 k) : EReal) = (A.gkv k : EReal)
  h5 : ∀ k n, (m (c, Proc.tc.devRef main_arg5) (ix2 k n) : EReal) = (A.wkv k n : EReal)

end Cert.KernelIdeal.Host

end
-- ==== Proof.Input.lean ====
module

public import proofs.«01_k».proof.Proof.Holds

@[expose] public section

set_option maxRecDepth 16384

noncomputable section

namespace Cert.KernelIdeal.Host
open Idealize.ShloMosaic Idealize.ShloMosaic.TcCoe Idealize.SL.Sem Cert.KernelIdeal Cert.KernelIdeal.Gen Cert.Layer

variable (m : (ℓ : Loc nD τ sig) → Buf (Elt Ideal) ℓ)

variable {m}

/-! The eight arrays that the host part hands to the kernel, read lane by lane. -/

theorem in_q {c : Dev nD} {A : Args} (H : Holds m c A) (b : Fin 32) (r : Fin 2048) (k : Fin 384) :
    V m c main_v10 (ix2 ⟨b.val * 2048 + r.val, by omega⟩ ⟨k.val, by omega⟩) = ((A.qd b r k : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (b.val * 2048 + r.val) / 2048 = b.val := by omega
  have e2 : (b.val * 2048 + r.val) % 2048 = r.val := by omega
  simp only [e1, e2, Fin.eta]
  exact H.h0 b r k

theorem in_c {c : Dev nD} {A : Args} (H : Holds m c A) (b : Fin 32) (r : Fin 2048) (k : Fin 256) :
    V m c main_v10 (ix2 ⟨b.val * 2048 + r.val, by omega⟩ ⟨384 + k.val, by omega⟩) = ((A.kvd b r ⟨k.val, by omega⟩ : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (b.val * 2048 + r.val) / 2048 = b.val := by omega
  have e2 : (b.val * 2048 + r.val) % 2048 = r.val := by omega
  simp only [e1, e2, Fin.eta]
  exact H.h1 _ _ _
theorem in_k {c : Dev nD} {A : Args} (H : Holds m c A) (b : Fin 32) (r : Fin 2048) (j : Fin 32) :
    V m c main_v10 (ix2 ⟨b.val * 2048 + r.val, by omega⟩ ⟨640 + j.val, by omega⟩) = ((kr A b r j : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (b.val * 2048 + r.val) / 2048 = b.val := by omega
  have e2 : (b.val * 2048 + r.val) % 2048 = r.val := by omega
  simp only [e1, e2, Fin.eta]
  rw [dif_neg (by omega), dif_neg (by omega), dif_pos (by omega), H.h1, kr]
  exact congrArg (fun q => ((A.kvd b r q : ℝ) : EReal)) (Fin.ext (by simp only []; omega))
theorem in_r {c : Dev nD} {A : Args} (H : Holds m c A) (b : Fin 32) (r : Fin 2048) (j : Fin 32) :
    V m c main_v10 (ix2 ⟨b.val * 2048 + r.val, by omega⟩ ⟨672 + j.val, by omega⟩) = ((rot (kr A b r) j : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (b.val * 2048 + r.val) / 2048 = b.val := by omega
  have e2 : (b.val * 2048 + r.val) % 2048 = r.val := by omega
  simp only [e1, e2, Fin.eta]
  rw [dif_neg (by omega), dif_neg (by omega), dif_neg (by omega), dif_pos (by omega)]
  by_cases h : j.val < 16
  · rw [dif_pos (by omega), H.h1]
    simp only [rot, kr, dif_pos h, EReal.coe_neg]
    exact congrArg (fun q => -((A.kvd b r q : ℝ) : EReal)) (Fin.ext (by simp only []; omega))
  · rw [dif_neg (by omega), H.h1]
    simp only [rot, kr, dif_neg h]
    exact congrArg (fun q => ((A.kvd b r q : ℝ) : EReal)) (Fin.ext (by simp only []; omega))
theorem in_z {c : Dev nD} {A : Args} (H : Holds m c A) (b : Fin 32) (r : Fin 2048) (j : Fin 64) :
    V m c main_v10 (ix2 ⟨b.val * 2048 + r.val, by omega⟩ ⟨704 + j.val, by omega⟩) = ((0 : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (b.val * 2048 + r.val) / 2048 = b.val := by omega
  have e2 : (b.val * 2048 + r.val) % 2048 = r.val := by omega
  simp only [e1, e2, Fin.eta]
  rw [dif_neg (by omega), dif_neg (by omega), dif_neg (by omega), dif_neg (by omega)]
  simp
end Cert.KernelIdeal.Host

end
-- ==== Proof.Tables.lean ====
module

public import proofs.«01_k».proof.Proof.Gen.KernelIdeal.Value
public import proofs.«01_k».proof.Proof.Layer
public import Idealize.ShloMosaic.Lib.Pipeline.ValueKit
public import Idealize.ShloMosaic.Lib.StableHlo.ReadAt

@[expose] public section

set_option maxRecDepth 16384

noncomputable section

namespace Cert.KernelIdeal.Host
open Idealize.ShloMosaic Idealize.ShloMosaic.TcCoe Idealize.SL.Sem Cert.KernelIdeal Cert.KernelIdeal.Gen Cert.Layer

variable {m : (ℓ : Loc nD τ sig) → Buf (Elt Ideal) ℓ}

/-! The two rotation tables, read lane by lane. -/

theorem csq_n (c : Dev nD) (r : Fin 2048) (j : Fin 64) :
    V m c main_v33 (ix2 r ⟨j.val, by omega⟩) = ((scale : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  rw [scale_coe]

theorem csq_c (c : Dev nD) (r : Fin 2048) (j : Fin 32) :
    V m c main_v33 (ix2 r ⟨64 + j.val, by omega⟩) = ((scale * C r ⟨j.val % 16, by omega⟩ : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  simp only [scale_coe, EReal.coe_mul]
  split_ifs <;> first
    | (exfalso; omega)
    | (rw [C_coe _ _ r.isLt (by omega)]
       exact congrArg (fun q => (scale : EReal) * ((C r q : ℝ) : EReal)) (Fin.ext (by simp only []; omega)))

theorem csq_s (c : Dev nD) (r : Fin 2048) (j : Fin 32) :
    V m c main_v33 (ix2 r ⟨96 + j.val, by omega⟩) = ((scale * S r ⟨j.val % 16, by omega⟩ : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  simp only [scale_coe, EReal.coe_mul]
  split_ifs <;> first
    | (exfalso; omega)
    | (rw [S_coe _ _ r.isLt (by omega)]
       exact congrArg (fun q => (scale : EReal) * ((S r q : ℝ) : EReal)) (Fin.ext (by simp only []; omega)))

theorem csk_c (c : Dev nD) (r : Fin 2048) (j : Fin 32) :
    V m c main_v35 (ix2 r ⟨j.val, by omega⟩) = ((C r ⟨j.val % 16, by omega⟩ : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  split_ifs <;> first
    | (exfalso; omega)
    | (rw [C_coe _ _ r.isLt (by omega)]
       exact congrArg (fun q => ((C r q : ℝ) : EReal)) (Fin.ext (by simp only []; omega)))

theorem csk_s (c : Dev nD) (r : Fin 2048) (j : Fin 32) :
    V m c main_v35 (ix2 r ⟨32 + j.val, by omega⟩) = ((S r ⟨j.val % 16, by omega⟩ : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  split_ifs <;> first
    | (exfalso; omega)
    | (rw [S_coe _ _ r.isLt (by omega)]
       exact congrArg (fun q => ((S r q : ℝ) : EReal)) (Fin.ext (by simp only []; omega)))

theorem csk_z (c : Dev nD) (r : Fin 2048) (j : Fin 64) :
    V m c main_v35 (ix2 r ⟨64 + j.val, by omega⟩) = ((0 : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  split_ifs <;> first
    | (exfalso; omega)
    | simp

end Cert.KernelIdeal.Host

end
-- ==== Proof.Weights.lean ====
module

public import proofs.«01_k».proof.Proof.Holds

@[expose] public section

set_option maxRecDepth 16384

noncomputable section

namespace Cert.KernelIdeal.Host
open Idealize.ShloMosaic Idealize.ShloMosaic.TcCoe Idealize.SL.Sem Cert.KernelIdeal Cert.KernelIdeal.Gen Cert.Layer

variable {m : (ℓ : Loc nD τ sig) → Buf (Elt Ideal) ℓ}

/-! The weights as the kernel takes them: heads padded to 128 columns. -/

theorem gq {c : Dev nD} {A : Args} (H : Holds m c A) (k : Fin 384) :
    V m c main_v75 (ix2 0 k) = ((A.gq k : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  exact H.h2 k
theorem gkv {c : Dev nD} {A : Args} (H : Holds m c A) (k : Fin 256) :
    V m c main_v76 (ix2 0 k) = ((A.gkv k : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  exact H.h4 k
theorem wq_n {c : Dev nD} {A : Args} (H : Holds m c A) (k : Fin 384) (h : Fin 8) (j : Fin 64) :
    V m c main_v45 (ix2 k ⟨h.val * 128 + j.val, by omega⟩) = ((A.wq k ⟨h.val * 96 + j.val, by omega⟩ : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (h.val * 128 + j.val) / 128 = h.val := by omega
  have e2 : (h.val * 128 + j.val) % 128 = j.val := by omega
  simp only [e1, e2, Fin.eta]
  rw [dif_pos (by omega)]
  exact H.h3 _ _
theorem wq_r {c : Dev nD} {A : Args} (H : Holds m c A) (k : Fin 384) (h : Fin 8) (j : Fin 32) :
    V m c main_v45 (ix2 k ⟨h.val * 128 + (64 + j.val), by omega⟩) = ((A.wq k ⟨h.val * 96 + (64 + j.val), by omega⟩ : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (h.val * 128 + (64 + j.val)) / 128 = h.val := by omega
  have e2 : (h.val * 128 + (64 + j.val)) % 128 = (64 + j.val) := by omega
  simp only [e1, e2, Fin.eta]
  rw [dif_neg (by omega), dif_pos (by omega), H.h3]
  exact congrArg (fun q => ((A.wq k q : ℝ) : EReal)) (Fin.ext (by simp only []; omega))
theorem wq_t {c : Dev nD} {A : Args} (H : Holds m c A) (k : Fin 384) (h : Fin 8) (j : Fin 32) :
    V m c main_v45 (ix2 k ⟨h.val * 128 + (96 + j.val), by omega⟩) = ((rot (fun j => A.wq k ⟨h.val * 96 + (64 + j.val), by omega⟩) j : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (h.val * 128 + (96 + j.val)) / 128 = h.val := by omega
  have e2 : (h.val * 128 + (96 + j.val)) % 128 = (96 + j.val) := by omega
  simp only [e1, e2, Fin.eta]
  rw [dif_neg (by omega), dif_neg (by omega)]
  by_cases h' : j.val < 16
  · rw [dif_pos (by omega), H.h3]
    simp only [rot, dif_pos h', EReal.coe_neg]
    exact congrArg (fun q => -((A.wq k q : ℝ) : EReal)) (Fin.ext (by simp only []; omega))
  · rw [dif_neg (by omega), H.h3]
    simp only [rot, dif_neg h']
    exact congrArg (fun q => ((A.wq k q : ℝ) : EReal)) (Fin.ext (by simp only []; omega))
theorem wk_n {c : Dev nD} {A : Args} (H : Holds m c A) (k : Fin 256) (h : Fin 8) (j : Fin 64) :
    V m c main_v67 (ix2 ⟨k.val, by omega⟩ ⟨h.val * 128 + j.val, by omega⟩) = ((A.wkv k ⟨h.val * 128 + j.val, by omega⟩ : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (h.val * 128 + j.val) / 128 = h.val := by omega
  have e2 : (h.val * 128 + j.val) % 128 = j.val := by omega
  simp only [e1, e2, Fin.eta]
  rw [dif_pos (by omega)]
  exact H.h5 _ _
theorem wk_z {c : Dev nD} {A : Args} (H : Holds m c A) (k : Fin 256) (h : Fin 8) (j : Fin 64) :
    V m c main_v67 (ix2 ⟨k.val, by omega⟩ ⟨h.val * 128 + (64 + j.val), by omega⟩) = ((0 : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (h.val * 128 + (64 + j.val)) / 128 = h.val := by omega
  have e2 : (h.val * 128 + (64 + j.val)) % 128 = (64 + j.val) := by omega
  simp only [e1, e2, Fin.eta]
  rw [dif_neg (by omega)]
  simp
theorem low5 : ∀ k : Fin 128, IntOp.andi (BitVec.ofNat 32 k.val) 31#32 = BitVec.ofNat 32 (k.val % 32) := by decide
theorem lt64 : ∀ k : Fin 128, IntOp.cmpi CmpIPredicate.slt (BitVec.ofNat 32 k.val) 64#32 = if k.val < 64 then 1#1 else 0#1 := by decide
theorem ge64 : ∀ k : Fin 128, IntOp.cmpi CmpIPredicate.sge (BitVec.ofNat 32 k.val) 64#32 = if 64 ≤ k.val then 1#1 else 0#1 := by decide
theorem same : ∀ k j : Fin 32, IntOp.cmpi CmpIPredicate.eq (BitVec.ofNat 32 k.val) (BitVec.ofNat 32 j.val) = if k.val = j.val then 1#1 else 0#1 := by decide
theorem sel (p q r : Prop) [Decidable p] [Decidable q] [Decidable r] :
    Scalar.select (IntOp.andi (IntOp.andi (if p then 1#1 else 0#1) (if q then 1#1 else 0#1)) (if r then 1#1 else 0#1)) (1 : EReal) 0
      = ((if p ∧ q ∧ r then 1 else 0 : ℝ) : EReal) := by
  by_cases h1 : p <;> by_cases h2 : q <;> by_cases h3 : r <;> simp [h1, h2, h3, Scalar.select, IntOp.andi]

/-- The lower rows copy rotary lanes `j` and `32 + j` into columns `64 + j` and `96 + j` of every head. -/
theorem wk_e {c : Dev nD} {A : Args} (H : Holds m c A) (k : Fin 128) (h : Fin 8) (j : Fin 128) :
    V m c main_v67 (ix2 ⟨256 + k.val, by omega⟩ ⟨h.val * 128 + j.val, by omega⟩) = ((if k.val < 64 ∧ 64 ≤ j.val ∧ k.val % 32 = j.val % 32 then 1 else 0 : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  simp only [id_eq]
  pointwise
  have e2 : (h.val * 128 + j.val) % 128 = j.val := by omega
  simp only [e2, low5, lt64, ge64]
  rw [same ⟨k.val % 32, by omega⟩ ⟨j.val % 32, by omega⟩]
  exact sel _ _ _

theorem evens : ∀ h : Fin 8, lit0 (S8.rowMajor (ix1 h)) = if h.val % 2 = 0 then 1#1 else 0#1 := by decide

theorem pick_l (p : Prop) [Decidable p] (x : ℝ) :
    Scalar.select (if p then 1#1 else 0#1) (x : EReal) 0 = ((if p then x else 0 : ℝ) : EReal) := by
  by_cases h : p <;> simp [h, Scalar.select]
theorem pick_r (p : Prop) [Decidable p] (x : ℝ) :
    Scalar.select (if p then 1#1 else 0#1) 0 (x : EReal) = ((if p then 0 else x : ℝ) : EReal) := by
  by_cases h : p <;> simp [h, Scalar.select]

theorem wv_l {c : Dev nD} {A : Args} (H : Holds m c A) (k : Fin 256) (h : Fin 8) (d : Fin 64) :
    V m c main_v74 (ix2 k ⟨h.val * 128 + d.val, by omega⟩) = ((if h.val % 2 = 0 then A.wkv k ⟨h.val * 128 + (64 + d.val), by omega⟩ else 0 : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (h.val * 128 + d.val) / 128 = h.val := by omega
  have e2 : (h.val * 128 + d.val) % 128 = d.val := by omega
  simp only [e1, e2, Fin.eta]
  rw [dif_pos d.isLt]
  exact (congrArg₂ (fun a b => Scalar.select a b (0 : EReal)) (evens h) (H.h5 k _)).trans (pick_l _ _)
theorem wv_r {c : Dev nD} {A : Args} (H : Holds m c A) (k : Fin 256) (h : Fin 8) (d : Fin 64) :
    V m c main_v74 (ix2 k ⟨h.val * 128 + (64 + d.val), by omega⟩) = ((if h.val % 2 = 0 then 0 else A.wkv k ⟨h.val * 128 + (64 + d.val), by omega⟩ : ℝ) : EReal) := by
  unfold V
  simp only [List.flatten_cons, List.flatten_nil, List.append_nil]
  repeat (
    after_reads_simp
    try simp -implicitDefEqProofs only [StableHlo.TRef.toBuf, StableHlo.TRef.ofBuf, cast_cast, cast_eq]
    pointwise)
  have e1 : (h.val * 128 + (64 + d.val)) / 128 = h.val := by omega
  have e2 : (h.val * 128 + (64 + d.val)) % 128 = (64 + d.val) := by omega
  simp only [e1, e2, Fin.eta]
  rw [dif_neg (by omega)]
  simp only [Nat.add_sub_cancel_left]
  exact (congrArg₂ (fun a b => Scalar.select a (0 : EReal) b) (evens h) (H.h5 k _)).trans (pick_r _ _)
end Cert.KernelIdeal.Host
end
-- ==== Proof.Att.lean ====
module

public import proofs.«01_k».proof.Proof.Gen.KernelIdeal.Value
public import Idealize.ShloMosaic.Lib.Pipeline.ValueKit

@[expose] public section

set_option maxRecDepth 16384

noncomputable section

/-! The attention one grid point computes, read off its three carried arrays (queries, keys, values). -/

namespace Cert.KernelIdeal.Att
open Idealize.ShloMosaic Idealize.ShloMosaic.TcCoe Idealize.SL.Sem Cert.KernelIdeal Cert.KernelIdeal.Gen

/-- Lane `k` of head `h` of a pair of heads. -/
abbrev lane (h : Fin 2) (k : Fin 128) : Fin 256 := ⟨128 * h.val + k.val, by omega⟩

/-- The score of query row `r` against key row `t`, in head `h` of pair `p`. -/
def score (Q K : FVec Ideal S4x2048x256 .bf16) (p : Fin 4) (h : Fin 2) (r t : Fin 2048) : EReal :=
  ∑ k : Fin 128, Q (ix3 p r (lane h k)) * K (ix3 p t (lane h k))

/-- The greatest score of query row `r`. -/
def top (Q K : FVec Ideal S4x2048x256 .bf16) (p : Fin 4) (h : Fin 2) (r : Fin 2048) : EReal :=
  Finset.fold max (Ideal.ofBits FTy.f32 4286578688#32) (fun t : Fin 2048 => score Q K p h r t) Finset.univ

/-- One head's output at row `r`, lane `l`. -/
def head (Q K V : FVec Ideal S4x2048x256 .bf16) (p : Fin 4) (h : Fin 2) (r : Fin 2048) (l : Fin 128) : EReal :=
  (∑ t : Fin 2048, Ideal.exp (score Q K p h r t - top Q K p h r) * V (ix3 p t (lane h l)))
    * Ideal.div 1 (∑ t : Fin 2048, Ideal.exp (score Q K p h r t - top Q K p h r))

/-- A pair of heads' output: the two heads added. -/
def att (Q K V : FVec Ideal S4x2048x256 .bf16) (p : Fin 4) (r : Fin 2048) (l : Fin 128) : EReal :=
  head Q K V p 0 r l + head Q K V p 1 r l

/-- The rows of a carried array that a point loads: 512 query rows, or all the key (value) rows. -/
abbrev ldq (Q : Vec Ideal S4x2048x256 .bf16) (o : Fin 3 → ℕ) (h : ∀ a, o a + S1x512x128.size a ≤ S4x2048x256.size a) :
    Vec Ideal S1x512x128 .bf16 :=
  View.ld Q (Rect.unit (s := S4x2048x256) o S1x512x128.size h)
abbrev ldk (Q : Vec Ideal S4x2048x256 .bf16) (o : Fin 3 → ℕ) (h : ∀ a, o a + S1x2048x128.size a ≤ S4x2048x256.size a) :
    Vec Ideal S1x2048x128 .bf16 :=
  View.ld Q (Rect.unit (s := S4x2048x256) o S1x2048x128.size h)

/-- What a point's four stores leave in the output block, from the carried arrays. -/
def pieces (i : grid0.Coords) (Q K V : Vec Ideal S4x2048x256 .bf16) : Vec Ideal S2048x128 .bf16 :=
  View.canon
    [⟨Rect.unit ![1536, 0] ![512, 128] inb_S2048x128_S512x128_1536_0,
        k0_pay113 (k0_pay111 (ldq Q _ (k0_off9_inb i))) (k0_pay112 (ldk K _ (k0_off2_inb i))) (ldk V _ (k0_off2_inb i))
          (ldq Q _ (k0_off10_inb i)) (ldk K _ (k0_off4_inb i)) (ldk V _ (k0_off4_inb i))⟩,
     ⟨Rect.unit ![1024, 0] ![512, 128] inb_S2048x128_S512x128_1024_0,
        k0_pay110 (k0_pay108 (ldq Q _ (k0_off7_inb i)) (ldk K _ (k0_off2_inb i)))
          (k0_pay109 (ldq Q _ (k0_off7_inb i)) (ldk K _ (k0_off2_inb i))) (ldk V _ (k0_off2_inb i))
          (ldq Q _ (k0_off8_inb i)) (ldk K _ (k0_off4_inb i)) (ldk V _ (k0_off4_inb i))⟩,
     ⟨Rect.unit ![512, 0] ![512, 128] inb_S2048x128_S512x128_512_0,
        k0_pay106 (k0_pay105 (ldq Q _ (k0_off5_inb i)) (ldk K _ (k0_off2_inb i)) (ldk V _ (k0_off2_inb i)))
          (ldq Q _ (k0_off6_inb i)) (ldk K _ (k0_off4_inb i)) (ldk V _ (k0_off4_inb i))⟩,
     ⟨Rect.unit ![0, 0] ![512, 128] inb_S2048x128_S512x128_0_0,
        k0_pay104 (k0_pay102 (ldq Q _ (k0_off1_inb i)) (ldk K _ (k0_off2_inb i)) (ldk V _ (k0_off2_inb i)))
          (k0_pay103 (ldq Q _ (k0_off3_inb i)) (ldk K _ (k0_off4_inb i))) (ldk V _ (k0_off4_inb i))⟩]

variable (m : (ℓ : Loc nD τ sig) → Buf (Elt Ideal) ℓ)

theorem outB (c : Dev nD) (t : Fin cfg0.N) (h0 : ¬ t.val % 4 = 0) :
    (outsAt0 m c t.val t.isLt).1 = pieces (grid0.coords t) (outsAt0 m c t.val t.isLt).2.1
      (outsAt0 m c t.val t.isLt).2.2.1 (outsAt0 m c t.val t.isLt).2.2.2 := by
  rw [outsAt0_B m c t h0]
  unfold pieces ldq ldk
  frame_out
  simp only [(Memref.isWhole_whole _).read_unread]
  rfl

theorem outA (c : Dev nD) (t : Fin cfg0.N) (h0 : t.val % 4 = 0) :
    (outsAt0 m c t.val t.isLt).1 = pieces (grid0.coords t) (outsAt0 m c t.val t.isLt).2.1
      (outsAt0 m c t.val t.isLt).2.2.1 (outsAt0 m c t.val t.isLt).2.2.2 := by
  rw [outsAt0_A m c t h0]
  unfold pieces ldq ldk
  frame_out

theorem pieces_eq (i : grid0.Coords) (Q K V : Vec Ideal S4x2048x256 .bf16) (y : S2048x128.Idx) :
    pieces i Q K V y = att Q K V (i 1) (y 0) (y 1) := by
  unfold pieces ldq ldk
  canon_tiles x h
  all_goals
    pointwise [k0_pay102, k0_pay103, k0_pay104, k0_pay105, k0_pay106, k0_pay107, k0_pay108, k0_pay109, k0_pay110,
      k0_pay111, k0_pay112, k0_pay113, att, head, top, score]
    blk_point [k0_off1_eq i, k0_off2_eq i, k0_off3_eq i, k0_off4_eq i, k0_off5_eq i, k0_off6_eq i, k0_off7_eq i,
      k0_off8_eq i, k0_off9_eq i, k0_off10_eq i]

end Cert.KernelIdeal.Att

end
-- ==== Proof.Proj.lean ====
module

public import proofs.«01_k».proof.Proof.Gen.KernelIdeal.Value
public import Idealize.ShloMosaic.Lib.Pipeline.ValueKit

@[expose] public section

set_option maxRecDepth 16384

noncomputable section

/-! What the first grid point of a sequence leaves in the three carried arrays: the queries, keys and values of all heads. -/

namespace Cert.KernelIdeal.Proj
open Idealize.ShloMosaic Idealize.ShloMosaic.TcCoe Idealize.SL.Sem Cert.KernelIdeal Cert.KernelIdeal.Gen

/-- The normalised query latents, at row `r`, lane `k`. -/
def cq (X : FVec Ideal S2048x768 .bf16) (g : FVec Ideal S1x384 .f32) (r : Fin 2048) (k : Fin 384) : EReal :=
  X (ix2 r ⟨k.val, by omega⟩)
    * Ideal.rsqrt (Ideal.div (∑ j : Fin 384, X (ix2 r ⟨j.val, by omega⟩) * X (ix2 r ⟨j.val, by omega⟩)) (Ideal.ofBits .f32 0x43C00000#32)
        + Ideal.ofBits .f32 0x358637BD#32) * g (ix2 0 k)

/-- The normalised key/value latents, at row `r`, lane `k`. -/
def ckv (X : FVec Ideal S2048x768 .bf16) (g : FVec Ideal S1x256 .f32) (r : Fin 2048) (k : Fin 256) : EReal :=
  X (ix2 r ⟨384 + k.val, by omega⟩)
    * Ideal.rsqrt (Ideal.div (∑ j : Fin 256, X (ix2 r ⟨384 + j.val, by omega⟩) * X (ix2 r ⟨384 + j.val, by omega⟩)) (Ideal.ofBits .f32 0x43800000#32)
        + Ideal.ofBits .f32 0x358637BD#32) * g (ix2 0 k)

/-- The key contraction's left operand: the normalised latents, then the rotary lanes times their table. -/
def kin (X : FVec Ideal S2048x768 .bf16) (g : FVec Ideal S1x256 .f32) (T : FVec Ideal S2048x128 .f32) (r : Fin 2048) (k : Fin 384) : EReal :=
  if h : k.val < 256 then ckv X g r ⟨k.val, h⟩
  else X (ix2 r ⟨384 + k.val, by omega⟩) * T (ix2 r ⟨k.val - 256, by omega⟩)

def QS (X : FVec Ideal S2048x768 .bf16) (T : FVec Ideal S2048x128 .f32) (g : FVec Ideal S1x384 .f32) (w : FVec Ideal S384x1024 .bf16) :
    FVec Ideal S4x2048x256 .bf16 := fun y =>
  (∑ k : Fin 384, cq X g (y 1) k * w (ix2 k ⟨256 * (y 0).val + (y 2).val, by have := (y 0).isLt; have := (y 2).isLt; simp at *; omega⟩))
    * T (ix2 (y 1) ⟨(y 2).val % 128, by omega⟩)

def KS (X : FVec Ideal S2048x768 .bf16) (T : FVec Ideal S2048x128 .f32) (g : FVec Ideal S1x256 .f32) (w : FVec Ideal S384x1024 .bf16) :
    FVec Ideal S4x2048x256 .bf16 := fun y =>
  ∑ k : Fin 384, kin X g T (y 1) k * w (ix2 k ⟨256 * (y 0).val + (y 2).val, by have := (y 0).isLt; have := (y 2).isLt; simp at *; omega⟩)

def VS (X : FVec Ideal S2048x768 .bf16) (g : FVec Ideal S1x256 .f32) (w : FVec Ideal S256x1024 .bf16) :
    FVec Ideal S4x2048x256 .bf16 := fun y =>
  ∑ k : Fin 256, ckv X g (y 1) k * w (ix2 k ⟨256 * (y 0).val + (y 2).val, by have := (y 0).isLt; have := (y 2).isLt; simp at *; omega⟩)

variable (m : (ℓ : Loc nD τ sig) → Buf (Elt Ideal) ℓ)

theorem vA (c : Dev nD) (t : Fin cfg0.N) (h0 : t.val % 4 = 0) (y : S4x2048x256.Idx) :
    (outsAt0 m c t.val t.isLt).2.2.2 y = VS (iblk m c 0 t) (iblk m c 5 t) (iblk m c 7 t) y := by
  rw [outsAt0_A m c t h0]
  frame_out
  generalize (iblk m c 0 t : FVec Ideal S2048x768 .bf16) = X
  generalize (iblk m c 5 t : FVec Ideal S1x256 .f32) = G
  generalize (iblk m c 7 t : FVec Ideal S256x1024 .bf16) = W
  canon_tiles x h
  all_goals
    open_payloads
    pointwise [VS, ckv]
    blk_point []

theorem kA (c : Dev nD) (t : Fin cfg0.N) (h0 : t.val % 4 = 0) (y : S4x2048x256.Idx) :
    (outsAt0 m c t.val t.isLt).2.2.1 y = KS (iblk m c 0 t) (iblk m c 2 t) (iblk m c 5 t) (iblk m c 6 t) y := by
  rw [outsAt0_A m c t h0]
  frame_out
  generalize (iblk m c 0 t : FVec Ideal S2048x768 .bf16) = X
  generalize (iblk m c 2 t : FVec Ideal S2048x128 .f32) = T
  generalize (iblk m c 5 t : FVec Ideal S1x256 .f32) = G
  generalize (iblk m c 6 t : FVec Ideal S384x1024 .bf16) = W
  canon_tiles x h
  all_goals
    open_payloads
    pointwise [KS, kin, ckv]
    blk_point []

theorem qA (c : Dev nD) (t : Fin cfg0.N) (h0 : t.val % 4 = 0) (y : S4x2048x256.Idx) :
    (outsAt0 m c t.val t.isLt).2.1 y = QS (iblk m c 0 t) (iblk m c 1 t) (iblk m c 3 t) (iblk m c 4 t) y := by
  rw [outsAt0_A m c t h0]
  frame_out
  generalize (iblk m c 0 t : FVec Ideal S2048x768 .bf16) = X
  generalize (iblk m c 1 t : FVec Ideal S2048x128 .f32) = T
  generalize (iblk m c 3 t : FVec Ideal S1x384 .f32) = G
  generalize (iblk m c 4 t : FVec Ideal S384x1024 .bf16) = W
  canon_tiles x h
  all_goals
    open_payloads
    pointwise [QS, cq]
    blk_point []

end Cert.KernelIdeal.Proj

end
-- ==== Proof.Block.lean ====
module

public import proofs.«01_k».proof.Proof.Att
public import proofs.«01_k».proof.Proof.Proj
public import proofs.«01_k».proof.Proof.Layer

@[expose] public section

set_option maxRecDepth 16384

noncomputable section

namespace Cert.KernelIdeal.Block
open Idealize.ShloMosaic Idealize.ShloMosaic.TcCoe Idealize.SL.Sem Cert.KernelIdeal Cert.KernelIdeal.Gen Cert.Layer

/-! One batch's block over the reals: what the projected queries, keys and values hold, and the attention of a pair of heads. -/

/-- The eight blocks of a grid point hold the real entries `A`, laid out as the host part lays them out. -/
structure Reads (A : Args) (b : Fin 32) (X : FVec Ideal S2048x768 .bf16) (TQ TK : FVec Ideal S2048x128 .f32)
    (gq : FVec Ideal S1x384 .f32) (wq : FVec Ideal S384x1024 .bf16) (gkv : FVec Ideal S1x256 .f32)
    (wk : FVec Ideal S384x1024 .bf16) (wv : FVec Ideal S256x1024 .bf16) : Prop where
  xq : ∀ (r : Fin 2048) (k : Fin 384), X (ix2 r ⟨k.val, by omega⟩) = (A.qd b r k : EReal)
  xc : ∀ (r : Fin 2048) (k : Fin 256), X (ix2 r ⟨384 + k.val, by omega⟩) = (A.kvd b r ⟨k.val, by omega⟩ : EReal)
  xk : ∀ (r : Fin 2048) (j : Fin 32), X (ix2 r ⟨640 + j.val, by omega⟩) = (kr A b r j : EReal)
  xr : ∀ (r : Fin 2048) (j : Fin 32), X (ix2 r ⟨672 + j.val, by omega⟩) = (rot (kr A b r) j : EReal)
  xz : ∀ (r : Fin 2048) (j : Fin 64), X (ix2 r ⟨704 + j.val, by omega⟩) = ((0 : ℝ) : EReal)
  tqn : ∀ (r : Fin 2048) (j : Fin 64), TQ (ix2 r ⟨j.val, by omega⟩) = (scale : EReal)
  tqc : ∀ (r : Fin 2048) (j : Fin 32), TQ (ix2 r ⟨64 + j.val, by omega⟩) = ((scale * C r ⟨j.val % 16, by omega⟩ : ℝ) : EReal)
  tqs : ∀ (r : Fin 2048) (j : Fin 32), TQ (ix2 r ⟨96 + j.val, by omega⟩) = ((scale * S r ⟨j.val % 16, by omega⟩ : ℝ) : EReal)
  tkc : ∀ (r : Fin 2048) (j : Fin 32), TK (ix2 r ⟨j.val, by omega⟩) = (C r ⟨j.val % 16, by omega⟩ : EReal)
  tks : ∀ (r : Fin 2048) (j : Fin 32), TK (ix2 r ⟨32 + j.val, by omega⟩) = (S r ⟨j.val % 16, by omega⟩ : EReal)
  tkz : ∀ (r : Fin 2048) (j : Fin 64), TK (ix2 r ⟨64 + j.val, by omega⟩) = ((0 : ℝ) : EReal)
  g1 : ∀ k : Fin 384, gq (ix2 0 k) = (A.gq k : EReal)
  g2 : ∀ k : Fin 256, gkv (ix2 0 k) = (A.gkv k : EReal)
  wqn : ∀ (k : Fin 384) (h : Fin 8) (j : Fin 64), wq (ix2 k ⟨h.val * 128 + j.val, by omega⟩) = (A.wq k ⟨h.val * 96 + j.val, by omega⟩ : EReal)
  wqr : ∀ (k : Fin 384) (h : Fin 8) (j : Fin 32), wq (ix2 k ⟨h.val * 128 + (64 + j.val), by omega⟩) = (A.wq k ⟨h.val * 96 + (64 + j.val), by omega⟩ : EReal)
  wqt : ∀ (k : Fin 384) (h : Fin 8) (j : Fin 32), wq (ix2 k ⟨h.val * 128 + (96 + j.val), by omega⟩)
    = (rot (fun j => A.wq k ⟨h.val * 96 + (64 + j.val), by omega⟩) j : EReal)
  wkn : ∀ (k : Fin 256) (h : Fin 8) (j : Fin 64), wk (ix2 ⟨k.val, by omega⟩ ⟨h.val * 128 + j.val, by omega⟩) = (A.wkv k ⟨h.val * 128 + j.val, by omega⟩ : EReal)
  wkz : ∀ (k : Fin 256) (h : Fin 8) (j : Fin 64), wk (ix2 ⟨k.val, by omega⟩ ⟨h.val * 128 + (64 + j.val), by omega⟩) = ((0 : ℝ) : EReal)
  wke : ∀ (k : Fin 128) (h : Fin 8) (j : Fin 128), wk (ix2 ⟨256 + k.val, by omega⟩ ⟨h.val * 128 + j.val, by omega⟩)
    = ((if k.val < 64 ∧ 64 ≤ j.val ∧ k.val % 32 = j.val % 32 then 1 else 0 : ℝ) : EReal)
  wvl : ∀ (k : Fin 256) (h : Fin 8) (d : Fin 64), wv (ix2 k ⟨h.val * 128 + d.val, by omega⟩)
    = ((if h.val % 2 = 0 then A.wkv k ⟨h.val * 128 + (64 + d.val), by omega⟩ else 0 : ℝ) : EReal)
  wvr : ∀ (k : Fin 256) (h : Fin 8) (d : Fin 64), wv (ix2 k ⟨h.val * 128 + (64 + d.val), by omega⟩)
    = ((if h.val % 2 = 0 then 0 else A.wkv k ⟨h.val * 128 + (64 + d.val), by omega⟩ : ℝ) : EReal)

/-- A sum over 128 lanes as the sums over lanes 0–63, 64–95 and 96–127. -/
theorem sum_lanes {M : Type*} [AddCommMonoid M] (f : Fin 128 → M) :
    ∑ k, f k = (∑ j : Fin 64, f ⟨j.val, by omega⟩) + ((∑ j : Fin 32, f ⟨64 + j.val, by omega⟩) + ∑ j : Fin 32, f ⟨96 + j.val, by omega⟩) := by
  refine (Fin.sum_univ_add (a := 64) (b := 64) f).trans (congrArg₂ (· + ·) rfl
    ((Fin.sum_univ_add (a := 32) (b := 32) fun i => f (Fin.natAdd 64 i)).trans (congrArg₂ (· + ·) rfl
      (Finset.sum_congr rfl fun j _ => congrArg f (Fin.ext ?_)))))
  show 64 + (32 + j.val) = 96 + j.val
  omega

/-- A sum over 128 lanes as the sums over lanes 0–31, 32–63 and 64–127. -/
theorem sum_rotary {M : Type*} [AddCommMonoid M] (f : Fin 128 → M) :
    ∑ k, f k = ((∑ j : Fin 32, f ⟨j.val, by omega⟩) + ∑ j : Fin 32, f ⟨32 + j.val, by omega⟩) + ∑ j : Fin 64, f ⟨64 + j.val, by omega⟩ := by
  refine (Fin.sum_univ_add (a := 64) (b := 64) f).trans (congrArg₂ (· + ·)
    (Fin.sum_univ_add (a := 32) (b := 32) fun i => f (Fin.castAdd 64 i)) rfl)

theorem sum_in {M : Type*} [AddCommMonoid M] (f : Fin 384 → M) :
    ∑ k, f k = (∑ j : Fin 256, f ⟨j.val, by omega⟩) + ∑ j : Fin 128, f ⟨256 + j.val, by omega⟩ := by
  exact Fin.sum_univ_add (a := 256) (b := 128) f

/-- The head that half `h` of pair `p` is. -/
def hd (p : Fin 4) (h : Fin 2) : Fin 8 := ⟨2 * p.val + h.val, by omega⟩
theorem hd_val (p : Fin 4) (h : Fin 2) : (hd p h).val = 2 * p.val + h.val := rfl

theorem rot_sum {n : ℕ} (f : Fin n → ℝ) (w : Fin n → Fin 32 → ℝ) (j : Fin 32) :
    ∑ k, f k * rot (w k) j = rot (fun j => ∑ k, f k * w k j) j := by
  unfold rot
  split_ifs
  · simp
  · rfl

section
variable {A : Args} {b : Fin 32} {X : FVec Ideal S2048x768 .bf16} {TQ TK : FVec Ideal S2048x128 .f32}
    {gq : FVec Ideal S1x384 .f32} {wq : FVec Ideal S384x1024 .bf16} {gkv : FVec Ideal S1x256 .f32}
    {wk : FVec Ideal S384x1024 .bf16} {wv : FVec Ideal S256x1024 .bf16} (H : Reads A b X TQ TK gq wq gkv wk wv)

include H

theorem cq_coe (r : Fin 2048) (k : Fin 384) : Proj.cq X gq r k = (Layer.cq A b r k : EReal) := by
  rw [Proj.cq, H.xq, H.g1, eps_coe, c384_coe]
  simp only [H.xq]
  exact rms_coe (by norm_num) _ _ k

theorem ckv_coe (r : Fin 2048) (k : Fin 256) : Proj.ckv X gkv r k = (Layer.ckv A b r k : EReal) := by
  rw [Proj.ckv, H.xc, H.g2, eps_coe, c256_coe]
  simp only [H.xc]
  exact rms_coe (x := fun k : Fin 256 => A.kvd b r ⟨k.val, by omega⟩) (by norm_num) _ k

theorem QS_at (p : Fin 4) (h : Fin 2) (r : Fin 2048) (l : Fin 128) :
    Proj.QS X TQ gq wq (ix3 p r (Att.lane h l))
      = (∑ k, (Layer.cq A b r k : EReal) * wq (ix2 k ⟨(hd p h).val * 128 + l.val, by omega⟩)) * TQ (ix2 r l) := by
  show (∑ k, Proj.cq X gq r k * wq (ix2 k ⟨256 * p.val + (128 * h.val + l.val), _⟩)) * TQ (ix2 r ⟨(128 * h.val + l.val) % 128, _⟩) = _
  simp only [cq_coe H]
  congr 1
  · refine Finset.sum_congr rfl fun k _ => congrArg (fun q => _ * wq (ix2 k q)) (Fin.ext ?_)
    simp only [hd_val]; omega
  · exact congrArg (fun q => TQ (ix2 r q)) (Fin.ext (by simp only [hd_val]; omega))

theorem q_n (p : Fin 4) (h : Fin 2) (r : Fin 2048) (j : Fin 64) :
    Proj.QS X TQ gq wq (ix3 p r (Att.lane h ⟨j.val, by omega⟩)) = ((scale * qn A b r (hd p h) j : ℝ) : EReal) := by
  rw [QS_at H, H.tqn]
  simp only [H.wqn, ← EReal.coe_mul, coe_sum]
  rw [mul_comm]; rfl

theorem q_c (p : Fin 4) (h : Fin 2) (r : Fin 2048) (j : Fin 32) :
    Proj.QS X TQ gq wq (ix3 p r (Att.lane h ⟨64 + j.val, by omega⟩)) = ((scale * (qr A b r (hd p h) j * C r ⟨j.val % 16, by omega⟩) : ℝ) : EReal) := by
  rw [QS_at H, H.tqc]
  simp only [H.wqr, ← EReal.coe_mul, coe_sum]
  congr 1; rw [qr]; ring

theorem q_s (p : Fin 4) (h : Fin 2) (r : Fin 2048) (j : Fin 32) :
    Proj.QS X TQ gq wq (ix3 p r (Att.lane h ⟨96 + j.val, by omega⟩)) = ((scale * (rot (qr A b r (hd p h)) j * S r ⟨j.val % 16, by omega⟩) : ℝ) : EReal) := by
  rw [QS_at H, H.tqs]
  simp only [H.wqt, ← EReal.coe_mul, coe_sum]
  congr 1; rw [rot_sum]; unfold qr; ring

theorem KS_at (p : Fin 4) (h : Fin 2) (r : Fin 2048) (l : Fin 128) :
    Proj.KS X TK gkv wk (ix3 p r (Att.lane h l))
      = (∑ k, (Layer.ckv A b r k : EReal) * wk (ix2 ⟨k.val, by omega⟩ ⟨(hd p h).val * 128 + l.val, by omega⟩))
        + ∑ k : Fin 128, X (ix2 r ⟨640 + k.val, by omega⟩) * TK (ix2 r k) * wk (ix2 ⟨256 + k.val, by omega⟩ ⟨(hd p h).val * 128 + l.val, by omega⟩) := by
  show (∑ k, Proj.kin X gkv TK r k * wk (ix2 k ⟨256 * p.val + (128 * h.val + l.val), _⟩)) = _
  have e : (⟨256 * p.val + (128 * h.val + l.val), by omega⟩ : Fin 1024) = ⟨(hd p h).val * 128 + l.val, by omega⟩ := Fin.ext (by simp only [hd_val]; omega)
  rw [e, sum_in]
  refine congrArg₂ (· + ·) (Finset.sum_congr rfl fun k _ => ?_) (Finset.sum_congr rfl fun k _ => ?_)
  · rw [Proj.kin, dif_pos k.isLt, ckv_coe H]
  · rw [Proj.kin, dif_neg (by simp only [hd_val]; omega)]
    refine congrArg₂ (fun x y => X (ix2 r x) * TK (ix2 r y) * _) (Fin.ext ?_) (Fin.ext ?_) <;> simp only [hd_val] <;> omega

/-- The lower rows' part of the keys: the rotated rotary lanes in the upper half of every head. -/
theorem rotary_sum (p : Fin 4) (h : Fin 2) (r : Fin 2048) (l : Fin 128) :
    ∑ k : Fin 128, X (ix2 r ⟨640 + k.val, by omega⟩) * TK (ix2 r k) * wk (ix2 ⟨256 + k.val, by omega⟩ ⟨(hd p h).val * 128 + l.val, by omega⟩)
      = ((if 64 ≤ l.val then rope (kr A b r) r ⟨l.val % 32, by omega⟩ else 0 : ℝ) : EReal) := by
  rw [sum_rotary]
  have h1 : ∀ j : Fin 32, X (ix2 r ⟨640 + j.val, by omega⟩) * TK (ix2 r ⟨j.val, by omega⟩) * wk (ix2 ⟨256 + j.val, by omega⟩ ⟨(hd p h).val * 128 + l.val, by omega⟩)
      = ((if 64 ≤ l.val ∧ j = ⟨l.val % 32, by omega⟩ then kr A b r j * C r ⟨j.val % 16, by omega⟩ else 0 : ℝ) : EReal) := fun j => by
    rw [H.xk, H.tkc]
    have := H.wke ⟨j.val, by omega⟩ (hd p h) l
    dsimp only at this
    rw [this, ← EReal.coe_mul, ← EReal.coe_mul, mul_ite, mul_one, mul_zero]
    congr 1
    refine if_congr ?_ rfl rfl
    rw [Fin.ext_iff]; simp only [hd_val]; omega
  have h2 : ∀ j : Fin 32, X (ix2 r ⟨640 + (32 + j.val), by omega⟩) * TK (ix2 r ⟨32 + j.val, by omega⟩) * wk (ix2 ⟨256 + (32 + j.val), by omega⟩ ⟨(hd p h).val * 128 + l.val, by omega⟩)
      = ((if 64 ≤ l.val ∧ j = ⟨l.val % 32, by omega⟩ then rot (kr A b r) j * S r ⟨j.val % 16, by omega⟩ else 0 : ℝ) : EReal) := fun j => by
    have e : (⟨640 + (32 + j.val), by omega⟩ : Fin 768) = ⟨672 + j.val, by omega⟩ := Fin.ext (by simp only [hd_val]; omega)
    have := H.wke ⟨32 + j.val, by omega⟩ (hd p h) l
    dsimp only at this
    rw [e, H.xr, H.tks, this, ← EReal.coe_mul, ← EReal.coe_mul, mul_ite, mul_one, mul_zero]
    congr 1
    refine if_congr ?_ rfl rfl
    rw [Fin.ext_iff]; simp only [hd_val]; omega
  have h3 : ∀ j : Fin 64, X (ix2 r ⟨640 + (64 + j.val), by omega⟩) * TK (ix2 r ⟨64 + j.val, by omega⟩) * wk (ix2 ⟨256 + (64 + j.val), by omega⟩ ⟨(hd p h).val * 128 + l.val, by omega⟩)
      = ((0 : ℝ) : EReal) := fun j => by
    have e : (⟨640 + (64 + j.val), by omega⟩ : Fin 768) = ⟨704 + j.val, by omega⟩ := Fin.ext (by simp only [hd_val]; omega)
    have := H.wke ⟨64 + j.val, by omega⟩ (hd p h) l
    dsimp only at this
    rw [e, H.xz, H.tkz, this, ← EReal.coe_mul, ← EReal.coe_mul]
    congr 1; ring
  simp only [h1, h2, h3, coe_sum, ← EReal.coe_add]
  congr 1
  by_cases hl : 64 ≤ l.val
  · simp only [hl, true_and, if_true, Finset.sum_ite_eq', Finset.mem_univ, Finset.sum_const_zero, add_zero, rope]
  · simp [hl]

theorem k_n (p : Fin 4) (h : Fin 2) (r : Fin 2048) (j : Fin 64) :
    Proj.KS X TK gkv wk (ix3 p r (Att.lane h ⟨j.val, by omega⟩)) = (kn A b r (hd p h) j : EReal) := by
  rw [KS_at H, rotary_sum H, if_neg (by simp only [hd_val]; omega)]
  simp only [H.wkn, ← EReal.coe_mul, coe_sum, EReal.coe_zero, add_zero]
  rfl

theorem k_r (p : Fin 4) (h : Fin 2) (r : Fin 2048) (l : Fin 64) :
    Proj.KS X TK gkv wk (ix3 p r (Att.lane h ⟨64 + l.val, by omega⟩)) = (rope (kr A b r) r ⟨l.val % 32, by omega⟩ : EReal) := by
  rw [KS_at H, rotary_sum H, if_pos (by simp only [hd_val]; omega)]
  simp only [H.wkz, ← EReal.coe_mul, coe_sum, mul_zero, Finset.sum_const_zero, ← EReal.coe_add, zero_add]
  exact congrArg (fun q => ((rope (kr A b r) r q : ℝ) : EReal)) (Fin.ext (by simp only [hd_val]; omega))

theorem score_coe (p : Fin 4) (h : Fin 2) (r t : Fin 2048) :
    Att.score (Proj.QS X TQ gq wq) (Proj.KS X TK gkv wk) p h r t = (sc A b (hd p h) r t : EReal) := by
  rw [Att.score, sum_lanes]
  have k1 : ∀ j : Fin 32, Proj.KS X TK gkv wk (ix3 p t (Att.lane h ⟨64 + j.val, by omega⟩)) = (rope (kr A b t) t j : EReal) := fun j => by
    rw [k_r H p h t ⟨j.val, by omega⟩]
    exact congrArg (fun q => ((rope (kr A b t) t q : ℝ) : EReal)) (Fin.ext (by simp only [hd_val]; omega))
  have k2 : ∀ j : Fin 32, Proj.KS X TK gkv wk (ix3 p t (Att.lane h ⟨96 + j.val, by omega⟩)) = (rope (kr A b t) t j : EReal) := fun j => by
    have e : (⟨96 + j.val, by omega⟩ : Fin 128) = ⟨64 + (⟨32 + j.val, by omega⟩ : Fin 64).val, by omega⟩ := Fin.ext (by simp only [hd_val]; omega)
    rw [e, k_r H p h t ⟨32 + j.val, by omega⟩]
    exact congrArg (fun q => ((rope (kr A b t) t q : ℝ) : EReal)) (Fin.ext (by simp only [hd_val]; omega))
  simp only [q_n H, q_c H, q_s H, k_n H, k1, k2, ← EReal.coe_mul, coe_sum, ← EReal.coe_add]
  congr 1
  rw [sc, mul_add, Finset.mul_sum, Finset.mul_sum, ← Finset.sum_add_distrib]
  refine congrArg₂ (· + ·) (Finset.sum_congr rfl fun j _ => by ring) (Finset.sum_congr rfl fun j _ => ?_)
  rw [rope.eq_1 (qr A b r (hd p h))]; ring

theorem VS_at (p : Fin 4) (h : Fin 2) (r : Fin 2048) (l : Fin 128) :
    Proj.VS X gkv wv (ix3 p r (Att.lane h l))
      = ∑ k, (Layer.ckv A b r k : EReal) * wv (ix2 k ⟨(hd p h).val * 128 + l.val, by omega⟩) := by
  show (∑ k, Proj.ckv X gkv r k * wv (ix2 k ⟨256 * p.val + (128 * h.val + l.val), _⟩)) = _
  simp only [ckv_coe H]
  refine Finset.sum_congr rfl fun k _ => congrArg (fun q => _ * wv (ix2 k q)) (Fin.ext ?_)
  simp only [hd_val]; omega

/-- Half `h` of a pair writes its values into lanes `64 h … 64 h + 63` only. -/
theorem v_coe (p : Fin 4) (h g : Fin 2) (r : Fin 2048) (d : Fin 64) :
    Proj.VS X gkv wv (ix3 p r (Att.lane h ⟨64 * g.val + d.val, by omega⟩)) = ((if h = g then vv A b r (hd p h) d else 0 : ℝ) : EReal) := by
  rw [VS_at H]
  fin_cases g
  · have : ∀ k, wv (ix2 k ⟨(hd p h).val * 128 + (⟨64 * (0 : Fin 2).val + d.val, by simp; omega⟩ : Fin 128).val, by simp only [hd_val]; omega⟩)
        = ((if h = 0 then A.wkv k ⟨(hd p h).val * 128 + (64 + d.val), by omega⟩ else 0 : ℝ) : EReal) := fun k => by
      have := H.wvl k (hd p h) d
      simp only [Fin.val_zero, Nat.mul_zero, Nat.zero_add]
      rw [this]; congr 1
      refine if_congr ?_ rfl rfl
      rw [Fin.ext_iff, hd_val]; show _ ↔ h.val = 0; omega
    refine (Finset.sum_congr rfl fun k _ => congrArg _ (this k)).trans ?_
    simp only [← EReal.coe_mul, coe_sum, mul_ite, mul_zero]
    congr 1
    by_cases hh : h = 0 <;> simp [hh, vv]
  · have : ∀ k, wv (ix2 k ⟨(hd p h).val * 128 + (⟨64 * (1 : Fin 2).val + d.val, by simp; omega⟩ : Fin 128).val, by simp only [hd_val]; omega⟩)
        = ((if h = 1 then A.wkv k ⟨(hd p h).val * 128 + (64 + d.val), by omega⟩ else 0 : ℝ) : EReal) := fun k => by
      have := H.wvr k (hd p h) d
      simp only [Fin.val_one, Nat.mul_one]
      rw [this]; congr 1
      by_cases hh : h = 1
      · rw [if_pos hh, if_neg]; subst hh; rw [hd_val]; show ¬ (2 * p.val + 1) % 2 = 0; omega
      · rw [if_neg hh, if_pos]; have : h = 0 := by omega
        subst this; rw [hd_val]; show (2 * p.val + 0) % 2 = 0; omega
    refine (Finset.sum_congr rfl fun k _ => congrArg _ (this k)).trans ?_
    simp only [← EReal.coe_mul, coe_sum, mul_ite, mul_zero]
    congr 1
    by_cases hh : h = 1 <;> simp [hh, vv]

theorem head_coe (p : Fin 4) (h g : Fin 2) (r : Fin 2048) (d : Fin 64) :
    Att.head (Proj.QS X TQ gq wq) (Proj.KS X TK gkv wk) (Proj.VS X gkv wv) p h r ⟨64 * g.val + d.val, by omega⟩
      = ((if h = g then Layer.out A b r (hd p h) d else 0 : ℝ) : EReal) := by
  have ht : Att.top (Proj.QS X TQ gq wq) (Proj.KS X TK gkv wk) p h r = (big (sc A b (hd p h) r) : EReal) := by
    rw [Att.top, bot_coe]
    simp only [score_coe H]
    exact fold_big _
  rw [Att.head, ht]
  simp only [score_coe H, v_coe H]
  rw [soft_kernel (sc A b (hd p h) r) (fun t => if h = g then vv A b t (hd p h) d else 0)]
  congr 1
  by_cases hh : h = g
  · simp [hh, Layer.out]
  · simp [hh, soft]

/-- The attention of a pair of heads: the first head's result in lanes 0–63, the second's in lanes 64–127. -/
theorem att_coe (p : Fin 4) (g : Fin 2) (r : Fin 2048) (d : Fin 64) :
    Att.att (Proj.QS X TQ gq wq) (Proj.KS X TK gkv wk) (Proj.VS X gkv wv) p r ⟨64 * g.val + d.val, by omega⟩
      = (Layer.out A b r (hd p g) d : EReal) := by
  rw [Att.att, head_coe H, head_coe H, ← EReal.coe_add]
  congr 1
  fin_cases g <;> simp

end

end Cert.KernelIdeal.Block

end
-- ==== Proof.Blocks.lean ====
module

public import proofs.«01_k».proof.Proof.Gen.KernelIdeal.Value
public import proofs.«01_k».proof.Proof.Input
public import proofs.«01_k».proof.Proof.Tables
public import proofs.«01_k».proof.Proof.Weights
public import proofs.«01_k».proof.Proof.Block
public import Idealize.ShloMosaic.Lib.Pipeline.ValueKit

@[expose] public section

set_option maxRecDepth 16384

noncomputable section

namespace Cert.KernelIdeal.Grid

open Cert.KernelIdeal Cert.KernelIdeal.Gen Cert.Layer Idealize.ShloMosaic Idealize.ShloMosaic.TcCoe

/-! What the eight input blocks of a grid point hold: the batch's rows of the latents, and the tables and weights whole. -/

variable (m : (ℓ : Loc nD τ sig) → Buf (Elt Ideal) ℓ)

theorem idx : ∀ t : Fin cfg0.N, win0_0.index t = ![t.val / 4, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val / 4, t.val % 4] ∧ (grid0.coords t 1).val = t.val % 4 :=
  (by decide +kernel : ∀ t : Fin grid0.N, _)

theorem lt128 (t : Fin cfg0.N) : t.val < 128 := lt_of_lt_of_eq t.isLt N_0

/-- The batch a grid point works on. -/
def bt (t : Fin cfg0.N) : Fin 32 := ⟨t.val / 4, by have := lt128 t; omega⟩

theorem blk0 (c : Dev nD) (t : Fin cfg0.N) (r : Fin 2048) (k : Fin 768) :
    (iblk m c 0 t : FVec Ideal S2048x768 .bf16) (ix2 r k) = V m c main_v10 (ix2 ⟨(bt t).val * 2048 + r.val, by omega⟩ k) := by
  obtain ⟨e0, e1, e2, e3, e4, e5, e6, e7, e8, e9⟩ := idx t
  blk_ext [iblk, e0, bt]
theorem blk1 (c : Dev nD) (t : Fin cfg0.N) (r : Fin 2048) (k : Fin 128) :
    (iblk m c 1 t : FVec Ideal S2048x128 .f32) (ix2 r k) = V m c main_v33 (ix2 r k) := by
  obtain ⟨e0, e1, e2, e3, e4, e5, e6, e7, e8, e9⟩ := idx t
  blk_ext [iblk, e1]
theorem blk2 (c : Dev nD) (t : Fin cfg0.N) (r : Fin 2048) (k : Fin 128) :
    (iblk m c 2 t : FVec Ideal S2048x128 .f32) (ix2 r k) = V m c main_v35 (ix2 r k) := by
  obtain ⟨e0, e1, e2, e3, e4, e5, e6, e7, e8, e9⟩ := idx t
  blk_ext [iblk, e2]
theorem blk3 (c : Dev nD) (t : Fin cfg0.N) (r : Fin 1) (k : Fin 384) :
    (iblk m c 3 t : FVec Ideal S1x384 .f32) (ix2 r k) = V m c main_v75 (ix2 r k) := by
  obtain ⟨e0, e1, e2, e3, e4, e5, e6, e7, e8, e9⟩ := idx t
  blk_ext [iblk, e3]
theorem blk4 (c : Dev nD) (t : Fin cfg0.N) (r : Fin 384) (k : Fin 1024) :
    (iblk m c 4 t : FVec Ideal S384x1024 .bf16) (ix2 r k) = V m c main_v45 (ix2 r k) := by
  obtain ⟨e0, e1, e2, e3, e4, e5, e6, e7, e8, e9⟩ := idx t
  blk_ext [iblk, e4]
theorem blk5 (c : Dev nD) (t : Fin cfg0.N) (r : Fin 1) (k : Fin 256) :
    (iblk m c 5 t : FVec Ideal S1x256 .f32) (ix2 r k) = V m c main_v76 (ix2 r k) := by
  obtain ⟨e0, e1, e2, e3, e4, e5, e6, e7, e8, e9⟩ := idx t
  blk_ext [iblk, e5]
theorem blk6 (c : Dev nD) (t : Fin cfg0.N) (r : Fin 384) (k : Fin 1024) :
    (iblk m c 6 t : FVec Ideal S384x1024 .bf16) (ix2 r k) = V m c main_v67 (ix2 r k) := by
  obtain ⟨e0, e1, e2, e3, e4, e5, e6, e7, e8, e9⟩ := idx t
  blk_ext [iblk, e6]
theorem blk7 (c : Dev nD) (t : Fin cfg0.N) (r : Fin 256) (k : Fin 1024) :
    (iblk m c 7 t : FVec Ideal S256x1024 .bf16) (ix2 r k) = V m c main_v74 (ix2 r k) := by
  obtain ⟨e0, e1, e2, e3, e4, e5, e6, e7, e8, e9⟩ := idx t
  blk_ext [iblk, e7]

/-- A grid point's blocks hold the real entries `A` of its batch. -/
theorem reads {c : Dev nD} {A : Args} (H : Host.Holds m c A) (t : Fin cfg0.N) :
    Block.Reads A (bt t) (iblk m c 0 t) (iblk m c 1 t) (iblk m c 2 t) (iblk m c 3 t) (iblk m c 4 t) (iblk m c 5 t)
      (iblk m c 6 t) (iblk m c 7 t) where
  xq r k := (blk0 m c t r _).trans (Host.in_q H (bt t) r k)
  xc r k := (blk0 m c t r _).trans (Host.in_c H (bt t) r k)
  xk r k := (blk0 m c t r _).trans (Host.in_k H (bt t) r k)
  xr r k := (blk0 m c t r _).trans (Host.in_r H (bt t) r k)
  xz r k := (blk0 m c t r _).trans (Host.in_z H (bt t) r k)
  tqn r j := (blk1 m c t _ _).trans (Host.csq_n c r j)
  tqc r j := (blk1 m c t _ _).trans (Host.csq_c c r j)
  tqs r j := (blk1 m c t _ _).trans (Host.csq_s c r j)
  tkc r j := (blk2 m c t _ _).trans (Host.csk_c c r j)
  tks r j := (blk2 m c t _ _).trans (Host.csk_s c r j)
  tkz r j := (blk2 m c t _ _).trans (Host.csk_z c r j)
  g1 k := (blk3 m c t _ _).trans (Host.gq H k)
  g2 k := (blk5 m c t _ _).trans (Host.gkv H k)
  wqn k h j := (blk4 m c t _ _).trans (Host.wq_n H k h j)
  wqr k h j := (blk4 m c t _ _).trans (Host.wq_r H k h j)
  wqt k h j := (blk4 m c t _ _).trans (Host.wq_t H k h j)
  wkn k h j := (blk6 m c t _ _).trans (Host.wk_n H k h j)
  wkz k h j := (blk6 m c t _ _).trans (Host.wk_z H k h j)
  wke k h j := (blk6 m c t _ _).trans (Host.wk_e H k h j)
  wvl k h d := (blk7 m c t _ _).trans (Host.wv_l H k h d)
  wvr k h d := (blk7 m c t _ _).trans (Host.wv_r H k h d)

end Cert.KernelIdeal.Grid

end
-- ==== Proof.Grid.lean ====
module

public import proofs.«01_k».proof.Proof.Blocks
public import Idealize.ShloMosaic.Lib.Pipeline.ValueKit
public import Idealize.ShloMosaic.Lib.Pipeline.ValueKit.Held

@[expose] public section

set_option maxRecDepth 16384

noncomputable section

namespace Cert.KernelIdeal.Grid

open Cert.KernelIdeal Cert.KernelIdeal.Gen Cert.Layer Idealize.ShloMosaic Idealize.ShloMosaic.TcCoe

/-! Every grid point writes its batch's and its pair of heads' attention. -/

variable (m : (ℓ : Loc nD τ sig) → Buf (Elt Ideal) ℓ)

/-- The batch's queries, keys and values stay in the carried arrays through the batch's four points. -/
theorem q_held (c : Dev nD) (t : Fin cfg0.N) (y : S4x2048x256.Idx) : (outsAt0 m c t.val t.isLt).2.1 y
    = Proj.QS (iblk m c 0 ⟨4 * (t.val / 4), Pipeline.run_start_lt t⟩) (iblk m c 1 ⟨4 * (t.val / 4), Pipeline.run_start_lt t⟩)
      (iblk m c 3 ⟨4 * (t.val / 4), Pipeline.run_start_lt t⟩) (iblk m c 4 ⟨4 * (t.val / 4), Pipeline.run_start_lt t⟩) y :=
  Pipeline.eq_of_write_hold_apply (fun n h => (outsAt0 m c n h).2.1) 4
    (fun t => Proj.QS (iblk m c 0 t) (iblk m c 1 t) (iblk m c 3 t) (iblk m c 4 t))
    (fun t h0 y => Proj.qA m c t h0 y)
    (fun t h0 y => by rw [outsAt0_B m c t h0]; rfl) t y

theorem k_held (c : Dev nD) (t : Fin cfg0.N) (y : S4x2048x256.Idx) : (outsAt0 m c t.val t.isLt).2.2.1 y
    = Proj.KS (iblk m c 0 ⟨4 * (t.val / 4), Pipeline.run_start_lt t⟩) (iblk m c 2 ⟨4 * (t.val / 4), Pipeline.run_start_lt t⟩)
      (iblk m c 5 ⟨4 * (t.val / 4), Pipeline.run_start_lt t⟩) (iblk m c 6 ⟨4 * (t.val / 4), Pipeline.run_start_lt t⟩) y :=
  Pipeline.eq_of_write_hold_apply (fun n h => (outsAt0 m c n h).2.2.1) 4
    (fun t => Proj.KS (iblk m c 0 t) (iblk m c 2 t) (iblk m c 5 t) (iblk m c 6 t))
    (fun t h0 y => Proj.kA m c t h0 y)
    (fun t h0 y => by rw [outsAt0_B m c t h0]; rfl) t y

theorem v_held (c : Dev nD) (t : Fin cfg0.N) (y : S4x2048x256.Idx) : (outsAt0 m c t.val t.isLt).2.2.2 y
    = Proj.VS (iblk m c 0 ⟨4 * (t.val / 4), Pipeline.run_start_lt t⟩)
      (iblk m c 5 ⟨4 * (t.val / 4), Pipeline.run_start_lt t⟩) (iblk m c 7 ⟨4 * (t.val / 4), Pipeline.run_start_lt t⟩) y :=
  Pipeline.eq_of_write_hold_apply (fun n h => (outsAt0 m c n h).2.2.2) 4
    (fun t => Proj.VS (iblk m c 0 t) (iblk m c 5 t) (iblk m c 7 t))
    (fun t h0 y => Proj.vA m c t h0 y)
    (fun t h0 y => by rw [outsAt0_B m c t h0]; rfl) t y

/-- The pair of heads a grid point works on. -/
def pr (t : Fin cfg0.N) : Fin 4 := ⟨t.val % 4, Nat.mod_lt _ (by decide)⟩

theorem bt_start (t : Fin cfg0.N) : bt ⟨4 * (t.val / 4), Pipeline.run_start_lt t⟩ = bt t :=
  Fin.ext (by show 4 * (t.val / 4) / 4 = t.val / 4; omega)

theorem point_block (c : Dev nD) (t : Fin cfg0.N) :
    (outsAt0 m c t.val t.isLt).1 = Att.pieces (grid0.coords t) (outsAt0 m c t.val t.isLt).2.1
      (outsAt0 m c t.val t.isLt).2.2.1 (outsAt0 m c t.val t.isLt).2.2.2 := by
  by_cases h0 : t.val % 4 = 0
  · exact Att.outA m c t h0
  · exact Att.outB m c t h0

/-- What a point leaves in its output block. -/
theorem point_value {c : Dev nD} {A : Args} (H : Host.Holds m c A) (t : Fin cfg0.N) (r : Fin 2048) (g : Fin 2) (d : Fin 64) :
    (outsAt0 m c t.val t.isLt).1 (ix2 r ⟨64 * g.val + d.val, by omega⟩)
      = (Layer.out A (bt t) r (Block.hd (pr t) g) d : EReal) := by
  rw [point_block, Att.pieces_eq]
  rw [show (outsAt0 m c t.val t.isLt).2.1 = _ from funext (q_held m c t),
    show (outsAt0 m c t.val t.isLt).2.2.1 = _ from funext (k_held m c t),
    show (outsAt0 m c t.val t.isLt).2.2.2 = _ from funext (v_held m c t)]
  have hp : (grid0.coords t 1 : Fin 4) = pr t := Fin.ext (idx t).2.2.2.2.2.2.2.2.2
  rw [hp]
  refine (Block.att_coe (reads m H _) _ g r d).trans ?_
  exact congrArg (fun b => ((Layer.out A b r (Block.hd (pr t) g) d : ℝ) : EReal)) (bt_start t)

/-- The kernel's result over the reals. -/
def result (A : Args) : FVec Ideal S65536x512 .bf16 := fun i =>
  ((Layer.out A ⟨(i 0).val / 2048, by have : (i 0).val < 65536 := (i 0).isLt; omega⟩ ⟨(i 0).val % 2048, Nat.mod_lt _ (by decide)⟩
    ⟨(i 1).val / 64, by have : (i 1).val < 512 := (i 1).isLt; omega⟩ ⟨(i 1).val % 64, Nat.mod_lt _ (by decide)⟩ : ℝ) : EReal)

theorem final {c : Dev nD} {A : Args} (H : Host.Holds m c A) : (dats m 0 c).arrAt 8 cfg0.N = result A := by
  refine (dats m 0 c).arrAt_eq_of_covers 8 _ (by decide +kernel) fun t hf y => ?_
  have e8 := (idx t).2.2.2.2.2.2.2.2.1
  blk_simp
  rw [after0_8]
  have b0 : (((cfg0.win 8).blk t).view.emb y 0).val = win0_8.index t (0 : Fin 2) * 2048 + 1 * (y 0).val := rfl
  have b1 : (((cfg0.win 8).blk t).view.emb y 1).val = win0_8.index t (1 : Fin 2) * 128 + 1 * (y 1).val := rfl
  have y0 : (y 0).val < 2048 := (y 0).isLt
  have y1 : (y 1).val < 128 := (y 1).isLt
  have ht := lt128 t
  rw [e8] at b0 b1
  have b0' : (((cfg0.win 8).blk t).view.emb y 0).val = t.val / 4 * 2048 + 1 * (y 0).val := b0
  have b1' : (((cfg0.win 8).blk t).view.emb y 1).val = t.val % 4 * 128 + 1 * (y 1).val := b1
  have hy : (y : S2048x128.Idx) = ix2 ⟨(y 0).val, y0⟩ ⟨64 * ((⟨(y 1).val / 64, by omega⟩ : Fin 2)).val + ((⟨(y 1).val % 64, by omega⟩ : Fin 64)).val,
      by show 64 * ((y 1).val / 64) + (y 1).val % 64 < 128; omega⟩ := by
    funext a; apply Fin.ext
    match a with
    | ⟨0, _⟩ => rfl
    | ⟨1, _⟩ => show (y 1).val = 64 * ((y 1).val / 64) + (y 1).val % 64; omega
  refine (congrArg (outsAt0 m c t.val t.isLt).1 hy).trans ((point_value m H t _ _ _).trans ?_)
  have hout : ∀ (b b' : Fin 32) (r r' : Fin 2048) (h h' : Fin 8) (d d' : Fin 64), b = b' → r = r' → h = h' → d = d' →
      ((Layer.out A b r h d : ℝ) : EReal) = ((Layer.out A b' r' h' d' : ℝ) : EReal) := by
    rintro b _ r _ h _ d _ rfl rfl rfl rfl; rfl
  refine hout _ _ _ _ _ _ _ _ (Fin.ext ?_) (Fin.ext ?_) (Fin.ext ?_) (Fin.ext ?_)
  · show t.val / 4 = (((cfg0.win 8).blk t).view.emb y 0).val / 2048
    omega
  · show (y 0).val = (((cfg0.win 8).blk t).view.emb y 0).val % 2048
    omega
  · show 2 * (t.val % 4) + (y 1).val / 64 = (((cfg0.win 8).blk t).view.emb y 1).val / 64
    omega
  · show (y 1).val % 64 = (((cfg0.win 8).blk t).view.emb y 1).val % 64
    omega

end Cert.KernelIdeal.Grid

end
-- ==== Proof.RefNorm.lean ====
module

public import proofs.«01_k».proof.Proof.Gen.ReferenceIdeal.Read
public import proofs.«01_k».proof.Proof.Layer
public import Idealize.ShloMosaic.Lib.Pipeline.ValueKit

@[expose] public section

set_option maxRecDepth 16384

noncomputable section

namespace Cert.ReferenceIdeal.Ref

open Cert.ReferenceIdeal Cert.ReferenceIdeal.Gen Cert.ReferenceIdeal.Read Cert.Layer Idealize.ShloMosaic Idealize.ShloMosaic.TcCoe

/-! The reference's first stages: the tables of cosines and sines, and the normalised latents. -/

/-- The arguments hold the real entries `A`. -/
structure Has (A : Args) (x0 : FVec Ideal S32x2048x384 .f32) (x1 : FVec Ideal S32x2048x288 .f32) (x2 : FVec Ideal S384 .f32)
    (x3 : FVec Ideal S384x768 .f32) (x4 : FVec Ideal S256 .f32) (x5 : FVec Ideal S256x1024 .f32) : Prop where
  h0 : ∀ b r k, (x0 (ix3 b r k) : EReal) = (A.qd b r k : EReal)
  h1 : ∀ b r k, (x1 (ix3 b r k) : EReal) = (A.kvd b r k : EReal)
  h2 : ∀ k, (x2 (ix1 k) : EReal) = (A.gq k : EReal)
  h3 : ∀ k n, (x3 (ix2 k n) : EReal) = (A.wq k n : EReal)
  h4 : ∀ k, (x4 (ix1 k) : EReal) = (A.gkv k : EReal)
  h5 : ∀ k n, (x5 (ix2 k n) : EReal) = (A.wkv k n : EReal)

variable {A : Args} {x0 : FVec Ideal S32x2048x384 .f32} {x1 : FVec Ideal S32x2048x288 .f32} {x2 : FVec Ideal S384 .f32}
  {x3 : FVec Ideal S384x768 .f32} {x4 : FVec Ideal S256 .f32} {x5 : FVec Ideal S256x1024 .f32}

theorem cos_at (r : Fin 2048) (j : Fin 16) : (val_main_v17 (F := Ideal) (ix2 r j) : EReal) = (C r j : EReal) := by
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3]
  exact C_coe r.val j.val r.isLt j.isLt

theorem sin_at (r : Fin 2048) (j : Fin 16) : (val_main_v18 (F := Ideal) (ix2 r j) : EReal) = (S r j : EReal) := by
  pointwise [val_main_v18, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3]
  exact S_coe r.val j.val r.isLt j.isLt

theorem cq_at (H : Has A x0 x1 x2 x3 x4 x5) (b : Fin 32) (r : Fin 2048) (k : Fin 384) :
    (val_main_v31 (F := Ideal) x0 x2 (ix3 b r k) : EReal) = (cq A b r k : EReal) := by
  pointwise [val_main_v31, val_main_v30, val_main_v29, val_main_v28, val_main_v27, val_main_v26, val_main_v25, val_main_v24,
    val_main_v23, val_main_v22, val_main_v21, val_main_v20, val_main_v19, val_main_cst_4, val_main_cst_5, val_main_cst_6]
  simp only [H.h0, H.h2, eps_coe, c384_coe]
  exact rms_coe (by norm_num) (A.qd b r) A.gq k

theorem ckv_at (H : Has A x0 x1 x2 x3 x4 x5) (b : Fin 32) (r : Fin 2048) (k : Fin 256) :
    (val_main_v71 (F := Ideal) x1 x4 (ix3 b r k) : EReal) = (ckv A b r k : EReal) := by
  pointwise [val_main_v71, val_main_v70, val_main_v69, val_main_v68, val_main_v67, val_main_v66, val_main_v65, val_main_v64,
    val_main_v63, val_main_v62, val_main_v61, val_main_v60, val_main_v59, val_main_v58, val_main_cst_8, val_main_cst_9, val_main_cst_10]
  simp only [H.h1, H.h4, eps_coe, c256_coe]
  exact rms_coe (by norm_num) (fun k : Fin 256 => A.kvd b r ⟨k.val, by omega⟩) A.gkv k

end Cert.ReferenceIdeal.Ref

end
-- ==== Proof.RefQK.lean ====
module

public import proofs.«01_k».proof.Proof.RefNorm
public import proofs.«01_k».proof.Proof.Gen.ReferenceIdeal.Read
public import proofs.«01_k».proof.Proof.Layer
public import Idealize.ShloMosaic.Lib.Pipeline.ValueKit

@[expose] public section

set_option maxRecDepth 16384

noncomputable section

namespace Cert.ReferenceIdeal.Ref

open Cert.ReferenceIdeal Cert.ReferenceIdeal.Gen Cert.ReferenceIdeal.Read Cert.Layer Idealize.ShloMosaic Idealize.ShloMosaic.TcCoe

/-! The reference's queries, keys and values, and their scores. -/

variable {A : Args} {x0 : FVec Ideal S32x2048x384 .f32} {x1 : FVec Ideal S32x2048x288 .f32} {x2 : FVec Ideal S384 .f32}
  {x3 : FVec Ideal S384x768 .f32} {x4 : FVec Ideal S256 .f32} {x5 : FVec Ideal S256x1024 .f32}

theorem q_n (H : Has A x0 x1 x2 x3 x4 x5) (b : Fin 32) (r : Fin 2048) (h : Fin 8) (j : Fin 64) :
    (val_main_v57 (F := Ideal) x0 x2 x3 (ix4 b r h ⟨j.val, by omega⟩) : EReal) = ((qn A b r h j * scale : ℝ) : EReal) := by
  pointwise [val_main_v57, val_main_v56, val_main_v55, val_main_v54, val_main_v33, val_main_v32, val_main_cst_7]
  simp only [cq_at H, H.h3, scale_coe, ← EReal.coe_mul, coe_sum]
  rfl

/-- The rotation, half by half. -/
theorem rope_halves (x : Fin 32 → ℝ) (r : Fin 2048) (j : Fin 32) :
    rope x r j = if h : j.val < 16 then x ⟨j.val, by omega⟩ * C r ⟨j.val, by omega⟩ - x ⟨16 + j.val, by omega⟩ * S r ⟨j.val, by omega⟩
      else x ⟨16 + (j.val - 16), by omega⟩ * C r ⟨j.val - 16, by omega⟩ + x ⟨j.val - 16, by omega⟩ * S r ⟨j.val - 16, by omega⟩ := by
  unfold rope rot
  split_ifs with h
  · have e : (⟨j.val % 16, by omega⟩ : Fin 16) = ⟨j.val, by omega⟩ := Fin.ext (by show j.val % 16 = j.val; omega)
    rw [e]; ring
  · have e : (⟨j.val % 16, by omega⟩ : Fin 16) = ⟨j.val - 16, by omega⟩ := Fin.ext (by show j.val % 16 = j.val - 16; omega)
    have e' : (⟨16 + (j.val - 16), by omega⟩ : Fin 32) = j := Fin.ext (by show 16 + (j.val - 16) = j.val; omega)
    rw [e, e']

theorem q_r (H : Has A x0 x1 x2 x3 x4 x5) (b : Fin 32) (r : Fin 2048) (h : Fin 8) (j : Fin 32) :
    (val_main_v57 (F := Ideal) x0 x2 x3 (ix4 b r h ⟨64 + j.val, by omega⟩) : EReal) = ((rope (qr A b r h) r j * scale : ℝ) : EReal) := by
  pointwise [val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_cst_7]
  simp only [cq_at H, H.h3, cos_at, sin_at, scale_coe, ← EReal.coe_mul, coe_sum, ← EReal.coe_sub, ← EReal.coe_add]
  rw [rope_halves]
  split_ifs with hj
  all_goals (rw [← EReal.coe_mul]; rfl)

theorem k_n (H : Has A x0 x1 x2 x3 x4 x5) (b : Fin 32) (r : Fin 2048) (h : Fin 8) (j : Fin 64) :
    (val_main_v96 (F := Ideal) x1 x4 x5 (ix4 b r h ⟨j.val, by omega⟩) : EReal) = ((kn A b r h j : ℝ) : EReal) := by
  pointwise [val_main_v96, val_main_v93, val_main_v91, val_main_v90]
  simp only [ckv_at H, H.h5, ← EReal.coe_mul, coe_sum]
  rfl

theorem k_r (H : Has A x0 x1 x2 x3 x4 x5) (b : Fin 32) (r : Fin 2048) (h : Fin 8) (j : Fin 32) :
    (val_main_v96 (F := Ideal) x1 x4 x5 (ix4 b r h ⟨64 + j.val, by omega⟩) : EReal) = ((rope (kr A b r) r j : ℝ) : EReal) := by
  pointwise [val_main_v96, val_main_v95, val_main_v94, val_main_v93, val_main_v91, val_main_v90, val_main_v89, val_main_v88, val_main_v87,
    val_main_v86, val_main_v85, val_main_v84, val_main_v83, val_main_v82, val_main_v81, val_main_v80, val_main_v79, val_main_v78, val_main_v77,
    val_main_v76, val_main_v75, val_main_v74, val_main_v73, val_main_v72]
  simp only [H.h1, cos_at, sin_at, ← EReal.coe_mul, ← EReal.coe_sub, ← EReal.coe_add]
  rw [rope_halves]
  split_ifs with hj
  all_goals rfl

theorem v_at (H : Has A x0 x1 x2 x3 x4 x5) (b : Fin 32) (r : Fin 2048) (h : Fin 8) (d : Fin 64) :
    (val_main_v92 (F := Ideal) x1 x4 x5 (ix4 b r h d) : EReal) = ((vv A b r h d : ℝ) : EReal) := by
  pointwise [val_main_v92, val_main_v91, val_main_v90]
  simp only [ckv_at H, H.h5, ← EReal.coe_mul, coe_sum]
  rfl

theorem score_at (H : Has A x0 x1 x2 x3 x4 x5) (b : Fin 32) (h : Fin 8) (r t : Fin 2048) :
    (val_main_v97 (F := Ideal) x0 x1 x2 x3 x4 x5 (ix4 b h r t) : EReal) = (sc A b h r t : EReal) := by
  pointwise [val_main_v97]
  refine (Fin.sum_univ_add (a := 64) (b := 32) fun x : Fin 96 => (val_main_v57 (F := Ideal) x0 x2 x3 (ix4 b r h x) : EReal) * val_main_v96 x1 x4 x5 (ix4 b t h x)).trans ?_
  refine (congrArg₂ (· + ·) (Finset.sum_congr rfl fun j _ => congrArg₂ (· * ·) (q_n H b r h j) (k_n H b t h j))
    (Finset.sum_congr rfl fun j _ => congrArg₂ (· * ·) (q_r H b r h j) (k_r H b t h j))).trans ?_
  simp only [← EReal.coe_mul, coe_sum, ← EReal.coe_add]
  congr 1
  rw [sc, mul_add, Finset.mul_sum, Finset.mul_sum]
  refine congrArg₂ (· + ·) (Finset.sum_congr rfl fun j _ => by ring) (Finset.sum_congr rfl fun j _ => by ring)

end Cert.ReferenceIdeal.Ref

end
-- ==== Proof.RefOut.lean ====
module

public import proofs.«01_k».proof.Proof.RefQK
public import proofs.«01_k».proof.Proof.Gen.ReferenceIdeal.Read
public import proofs.«01_k».proof.Proof.Layer
public import Idealize.ShloMosaic.Lib.Pipeline.ValueKit

@[expose] public section

set_option maxRecDepth 16384

noncomputable section

namespace Cert.ReferenceIdeal.Ref

open Cert.ReferenceIdeal Cert.ReferenceIdeal.Gen Cert.ReferenceIdeal.Read Cert.Layer Idealize.ShloMosaic Idealize.ShloMosaic.TcCoe

/-! The reference's softmax and result. -/

variable {A : Args} {x0 : FVec Ideal S32x2048x384 .f32} {x1 : FVec Ideal S32x2048x288 .f32} {x2 : FVec Ideal S384 .f32}
  {x3 : FVec Ideal S384x768 .f32} {x4 : FVec Ideal S256 .f32} {x5 : FVec Ideal S256x1024 .f32}

/-- The greatest along the last axis. -/
theorem reduce_top (y : FVec Ideal S32x8x2048x2048 .f32) (b : Fin 32) (h : Fin 8) (r : Fin 2048) :
    (Host.reduce (FloatOps.maximumf (F := Ideal) (φ := .f32)) y (val_main_cst_11 (F := Ideal)) reducesTo_S32x8x2048x2048_S32x8x2048_d3 h_S_ (ix3 b h r))
      = Finset.fold max (Ideal.ofBits .f32 0xFF800000#32) (fun t => (y (ix4 b h r t) : EReal)) Finset.univ := by
  pointwise [val_main_cst_11]

theorem top_at (H : Has A x0 x1 x2 x3 x4 x5) (b : Fin 32) (h : Fin 8) (r : Fin 2048) :
    (val_main_v100 (F := Ideal) x0 x1 x2 x3 x4 x5 (ix3 b h r) : EReal) = (big (sc A b h r) : EReal) := by
  have e : (val_main_v98 (F := Ideal) x0 x1 x2 x3 x4 x5 (ix3 b h r) : EReal) = (big (sc A b h r) : EReal) := by
    unfold val_main_v98
    rw [reduce_top, bot_coe, ← fold_big]
    simp only [score_at H]
  rw [val_main_v100_apply, val_main_v99_apply, val_main_cst_12_apply, e]
  exact (congrArg (fun x : EReal => max x (big (sc A b h r) : EReal)) bot_coe).trans (max_eq_right bot_le)

theorem exp_at (H : Has A x0 x1 x2 x3 x4 x5) (b : Fin 32) (h : Fin 8) (r t : Fin 2048) :
    (val_main_v104 (F := Ideal) x0 x1 x2 x3 x4 x5 (ix4 b h r t) : EReal) = Ideal.exp ((sc A b h r t : EReal) - (big (sc A b h r) : EReal)) := by
  have e : idx_main_v101 (idx_main_v102 (ix4 b h r t)) = ix3 b h r := funext fun a => Fin.ext (by fin_cases a <;> rfl)
  rw [val_main_v104_apply, val_main_v103_apply, val_main_v102_apply, val_main_v101_apply, e]
  refine (congrArg₂ (fun x y : EReal => Ideal.exp (x - y)) (score_at H b h r t) (top_at H b h r) :)

theorem den_at (H : Has A x0 x1 x2 x3 x4 x5) (b : Fin 32) (h : Fin 8) (r : Fin 2048) :
    (val_main_v105 (F := Ideal) x0 x1 x2 x3 x4 x5 (ix3 b h r) : EReal) = ∑ t, Ideal.exp ((sc A b h r t : EReal) - (big (sc A b h r) : EReal)) := by
  pointwise [val_main_v105, val_main_cst_13]
  simp only [exp_at H]

theorem p_at (H : Has A x0 x1 x2 x3 x4 x5) (b : Fin 32) (h : Fin 8) (r t : Fin 2048) :
    (val_main_v108 (F := Ideal) x0 x1 x2 x3 x4 x5 (ix4 b h r t) : EReal) = Ideal.div (Ideal.exp ((sc A b h r t : EReal) - (big (sc A b h r) : EReal)))
      (∑ t, Ideal.exp ((sc A b h r t : EReal) - (big (sc A b h r) : EReal))) := by
  pointwise [val_main_v108, val_main_v107, val_main_v106]
  rw [exp_at H, den_at H]

theorem mix_at (H : Has A x0 x1 x2 x3 x4 x5) (b : Fin 32) (h : Fin 8) (r : Fin 2048) (d : Fin 64) :
    (val_main_v109 (F := Ideal) x0 x1 x2 x3 x4 x5 (ix4 b h d r) : EReal) = (out A b r h d : EReal) := by
  pointwise [val_main_v109]
  simp only [v_at H, p_at H]
  exact soft_reference (sc A b h r) fun t => vv A b t h d

theorem out_at (H : Has A x0 x1 x2 x3 x4 x5) (i : S65536x512.Idx) :
    (val_main_v112 (F := Ideal) x0 x1 x2 x3 x4 x5 i : EReal)
      = ((out A ⟨(i 0).val / 2048, by have : (i 0).val < 65536 := (i 0).isLt; omega⟩ ⟨(i 0).val % 2048, Nat.mod_lt _ (by decide)⟩
          ⟨(i 1).val / 64, by have : (i 1).val < 512 := (i 1).isLt; omega⟩ ⟨(i 1).val % 64, Nat.mod_lt _ (by decide)⟩ : ℝ) : EReal) := by
  have h0 : (i 0).val < 65536 := (i 0).isLt
  have h1 : (i 1).val < 512 := (i 1).isLt
  show (val_main_v111 (F := Ideal) x0 x1 x2 x3 x4 x5 i : EReal) = _
  rw [val_main_v111_apply, val_main_v110_apply, ← mix_at H]
  refine congrArg _ (funext fun a => Fin.ext ?_)
  fin_cases a <;> simp <;> omega

end Cert.ReferenceIdeal.Ref

end
-- ==== Proof.Finite.lean ====
module

public import proofs.«01_k».proof.Defs
public import proofs.«01_k».proof.Proof.Holds
public import Idealize.ShloMosaic.Lib.Pipeline.ValueKit

@[expose] public section

set_option maxRecDepth 16384

noncomputable section

namespace Cert.Finite

open Cert Cert.Layer Idealize.ShloMosaic Idealize.ShloMosaic.TcCoe

/-! The precondition says that every entry is a real number. -/

theorem inf_coe : Ideal.ofBits .f32 0x7F800000#32 = (⊤ : EReal) := by
  simp [Ideal.ofBits, Ideal.ieee]

/-- A number whose absolute value lies under infinity is real. -/
theorem real_of_lt {x : EReal} (h : Ideal.cmp .olt (max x (-x)) (Ideal.ofBits .f32 0x7F800000#32) = 1#1) : x = (x.toReal : EReal) := by
  rw [inf_coe] at h
  have h' : max x (-x) < ⊤ := by
    by_contra hn
    simp [Ideal.cmp, hn] at h
  refine (EReal.coe_toReal ?_ ?_).symm
  · rintro rfl; simp at h'
  · rintro rfl; simp at h'

theorem facts : Cert.Pre_finite.Facts where
  bcast_S_S32x2048x384 := by decide
  bcast_S_S32x2048x288 := by decide
  bcast_S_S384 := by decide
  bcast_S_S384x768 := by decide
  bcast_S_S256 := by decide
  bcast_S_S256x1024 := by decide

/-- The real entries of the arguments on a device. -/
def args (m : (ℓ : Loc KernelIdeal.nD KernelIdeal.τ KernelIdeal.sig) → Buf (Elt Ideal) ℓ) (c : Dev KernelIdeal.nD) : Args where
  qd b r k := (m (c, Proc.tc.devRef KernelIdeal.main_arg0) (ix3 b r k) : EReal).toReal
  kvd b r k := (m (c, Proc.tc.devRef KernelIdeal.main_arg1) (ix3 b r k) : EReal).toReal
  gq k := (m (c, Proc.tc.devRef KernelIdeal.main_arg2) (ix1 k) : EReal).toReal
  wq k n := (m (c, Proc.tc.devRef KernelIdeal.main_arg3) (ix2 k n) : EReal).toReal
  gkv k := (m (c, Proc.tc.devRef KernelIdeal.main_arg4) (ix1 k) : EReal).toReal
  wkv k n := (m (c, Proc.tc.devRef KernelIdeal.main_arg5) (ix2 k n) : EReal).toReal

theorem holds (m : (ℓ : Loc KernelIdeal.nD KernelIdeal.τ KernelIdeal.sig) → Buf (Elt Ideal) ℓ)
    (h : Pre_KernelIdeal_finite (hPre_finite := facts) m) (c : Dev KernelIdeal.nD) : KernelIdeal.Host.Holds m c (args m c) where
  h0 b r k := real_of_lt (congrFun (h c).1 (ix3 b r k))
  h1 b r k := real_of_lt (congrFun (h c).2.1 (ix3 b r k))
  h2 k := real_of_lt (congrFun (h c).2.2.1 (ix1 k))
  h3 k n := real_of_lt (congrFun (h c).2.2.2.1 (ix2 k n))
  h4 k := real_of_lt (congrFun (h c).2.2.2.2.1 (ix1 k))
  h5 k n := real_of_lt (congrFun (h c).2.2.2.2.2 (ix2 k n))

end Cert.Finite

end
-- ==== Proof.FfnSpec.lean ====
module

public import Idealize.ShloMosaic.Lib.Pipeline.ValueKit

@[expose] public section

noncomputable section

/-! The feed-forward part as mathematics: normalise, project up, convolve over three rows of the sequence, gate, project
    down, add to the residual stream, normalise. -/

namespace Cert.Ffn
open Idealize.ShloMosaic

/-- The eight arguments for `B` sequences, entry by entry. -/
structure Args (B : Nat) where
  x : Fin B → Fin 2048 → Fin 1024 → EReal
  mod : Fin B → Fin 6144 → EReal
  g : Fin 1024 → EReal
  wu : Fin 1024 → Fin 5632 → EReal
  cw : Fin 3 → Fin 5632 → EReal
  cb : Fin 5632 → EReal
  wd : Fin 2816 → Fin 1024 → EReal
  fg : Fin 1024 → EReal

/-- A row's entry divided by the root of the row's mean square, times a gain. -/
def rms (v : Fin 1024 → EReal) (g : EReal) (c : Fin 1024) : EReal :=
  v c * Ideal.rsqrt (Ideal.div (∑ j : Fin 1024, v j * v j) (Ideal.ofBits .f32 0x44800000#32) + Ideal.ofBits .f32 0x358637BD#32) * g

variable {B : Nat} (A : Args B)

/-- The normalised, scaled and shifted input. -/
def nrm (b : Fin B) (s : Fin 2048) (k : Fin 1024) : EReal :=
  rms (A.x b s) (A.g k) k * (1 + A.mod b ⟨3072 + (1024 + k.val), by omega⟩) + A.mod b ⟨3072 + k.val, by omega⟩

/-- The up projection. -/
def up (b : Fin B) (s : Fin 2048) (n : Fin 5632) : EReal := ∑ k : Fin 1024, nrm A b s k * A.wu k n

/-- The row before, zero before the first. -/
def dn (b : Fin B) (s : Fin 2048) (n : Fin 5632) : EReal := if s.val = 0 then 0 else up A b ⟨s.val - 1, by omega⟩ n

/-- The row after, zero after the last. -/
def un (b : Fin B) (s : Fin 2048) (n : Fin 5632) : EReal := if h : s.val = 2047 then 0 else up A b ⟨s.val + 1, by omega⟩ n

/-- The convolution over three rows. -/
def cv (b : Fin B) (s : Fin 2048) (n : Fin 5632) : EReal :=
  dn A b s n * A.cw 0 n + up A b s n * A.cw 1 n + un A b s n * A.cw 2 n + A.cb n

/-- The gated hidden value, with `f` as the gate's function. -/
def hid (f : EReal → EReal) (b : Fin B) (s : Fin 2048) (n : Fin 2816) : EReal :=
  f (cv A b s ⟨2816 + n.val, by omega⟩) * cv A b s ⟨n.val, by omega⟩

/-- The residual stream after the feed-forward part. -/
def res (f : EReal → EReal) (b : Fin B) (s : Fin 2048) (c : Fin 1024) : EReal :=
  A.x b s c + A.mod b ⟨3072 + (2048 + c.val), by omega⟩ * ∑ n : Fin 2816, hid A f b s n * A.wd n c

/-- The result. -/
def out (f : EReal → EReal) (b : Fin B) (s : Fin 2048) (c : Fin 1024) : EReal := rms (res A f b s) (A.fg c) c

/-- The hidden column that column `n` of chunk `j` comes from: 256 linear columns, then their 256 gates. -/
def col (j : Fin 11) (n : Fin 512) : Fin 5632 :=
  ⟨if n.val < 256 then j.val * 256 + n.val else 2816 + (j.val * 256 + (n.val - 256)), by split <;> omega⟩

theorem col_pick (f : Fin 5632 → EReal) (j : Fin 11) (n : Fin 512) :
    (if h : n.val < 256 then f ⟨j.val * 256 + n.val, by omega⟩ else f ⟨2816 + (j.val * 256 + (n.val - 256)), by omega⟩) = f (col j n) := by
  by_cases h : n.val < 256
  · rw [dif_pos h]; exact congrArg f (Fin.ext (if_pos h).symm)
  · rw [dif_neg h]; exact congrArg f (Fin.ext (if_neg h).symm)

theorem zero_f : Ideal.ofBits .f32 0x00000000#32 = 0 := by simp [Ideal.ofBits, Ideal.ieee]
theorem one_f : Ideal.ofBits .f32 0x3F800000#32 = 1 := by
  simp [Ideal.ofBits, Ideal.ieee]
  rw [← EReal.coe_mul]
  norm_num

end Cert.Ffn
end
-- ==== Proof.FfnReal.lean ====
module

public import proofs.«01_k».proof.Proof.Layer
public import proofs.«01_k».proof.Proof.FfnSpec

@[expose] public section

noncomputable section

/-! Real numbers among the extended ones, and the normalised row, which is real whatever the row is. -/

namespace Cert.Ffn
open Idealize.ShloMosaic Cert.Layer

/-- A number that is neither infinity. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.sum {n : ℕ} {f : Fin n → EReal} (h : ∀ k, IsReal (f k)) : IsReal (∑ k, f k) := by
  choose g hg using h
  exact ⟨∑ k, g k, by simp only [hg]; exact coe_sum _ _⟩

theorem IsReal.zero : IsReal 0 := ⟨0, rfl⟩
theorem IsReal.one : IsReal 1 := ⟨1, rfl⟩

theorem c1024_coe : Ideal.ofBits .f32 0x44800000#32 = ((1024 : ℝ) : EReal) := by
  simp [Ideal.ofBits, Ideal.ieee, -EReal.coe_mul]; norm_num
theorem half_coe : Ideal.ofBits .f32 0x3F000000#32 = ((1 / 2 : ℝ) : EReal) := by
  simp [Ideal.ofBits, Ideal.ieee, -EReal.coe_mul]; norm_num

theorem sq_nonneg (x : EReal) : 0 ≤ x * x := by
  induction x with
  | bot => simp
  | top => simp
  | coe r => rw [← EReal.coe_mul]; exact EReal.coe_nonneg.mpr (mul_self_nonneg r)

theorem sq_top {x : EReal} (h : ¬ IsReal x) : x * x = ⊤ := by
  induction x with
  | bot => simp
  | top => simp
  | coe r => exact absurd ⟨r, rfl⟩ h

/-- A row with an infinity has an infinite mean square, so its normalised entries are 0. -/
theorem rms_zero {v : Fin 1024 → EReal} {j : Fin 1024} (hj : ¬ IsReal (v j)) (g : EReal) (c : Fin 1024) : rms v g c = 0 := by
  have h : ∑ j : Fin 1024, v j * v j = ⊤ :=
    top_le_iff.mp ((sq_top hj).symm.le.trans (Finset.single_le_sum (f := fun j => v j * v j) (fun i _ => sq_nonneg (v i)) (Finset.mem_univ j)))
  unfold rms
  rw [h, c1024_coe, eps_coe, Ideal.div_coe (by norm_num), EReal.top_mul_coe_of_pos (by norm_num), EReal.top_add_coe, Ideal.rsqrt_top, mul_zero, zero_mul]

theorem rms_real {v : Fin 1024 → EReal} {g : EReal} (hg : IsReal g) (c : Fin 1024) : IsReal (rms v g c) := by
  by_cases hv : ∀ j, IsReal (v j)
  · choose w hw using hv
    obtain ⟨a, rfl⟩ := hg
    refine ⟨Layer.rms 1024 w (fun _ => a) c, ?_⟩
    unfold rms
    simp only [hw, c1024_coe, eps_coe]
    exact rms_coe (by norm_num) w (fun _ => a) c
  · obtain ⟨j, hj⟩ := not_forall.mp hv
    exact ⟨0, rms_zero hj g c⟩

end Cert.Ffn
end
-- ==== Proof.FfnChunk.lean ====
module

public import proofs.«01_k».proof.Proof.Gen.Kernel2Ideal.Value
public import Idealize.ShloMosaic.Lib.Pipeline.ValueKit

@[expose] public section

set_option maxRecDepth 16384

noncomputable section

/-! One chunk of 256 hidden columns of the feed-forward part: the up projection, the convolution over three rows, and
    the gated linear unit, at a row and a column. -/

namespace Cert.Kernel2Ideal.Ffn
open Idealize.ShloMosaic Idealize.ShloMosaic.TcCoe Idealize.SL.Sem Cert.Kernel2Ideal Cert.Kernel2Ideal.Gen

/-- The up projection of row `r`, column `n` of the chunk. -/
def up (H : FVec Ideal S1040x1024 .bf16) (w : FVec Ideal S1x1024x512 .bf16) (r : Fin 1040) (n : Fin 512) : EReal :=
  ∑ k : Fin 1024, H (ix2 r k) * w (ix3 0 k n)

/-- The row before row `r` (for row 0, the last row before the block, or 0 where the sequence begins). -/
def dn (H : FVec Ideal S1040x1024 .bf16) (P : EReal) (w : FVec Ideal S1x1024x512 .bf16) (r : Fin 1024) (n : Fin 512) : EReal :=
  if r.val = 0 then up H w ⟨1031, by omega⟩ n * P else up H w ⟨r.val - 1, by omega⟩ n

/-- The row after row `r` (for the last row, the first row after the block, or 0 where the sequence ends). -/
def un (H : FVec Ideal S1040x1024 .bf16) (N : EReal) (w : FVec Ideal S1x1024x512 .bf16) (r : Fin 1024) (n : Fin 512) : EReal :=
  if r.val = 1023 then up H w ⟨1032, by omega⟩ n * N else up H w ⟨r.val + 1, by omega⟩ n

/-- The convolution of the three rows, with its bias. -/
def cv (H : FVec Ideal S1040x1024 .bf16) (P N : EReal) (w : FVec Ideal S1x1024x512 .bf16) (c : FVec Ideal S1x3x512 .f32)
    (b : FVec Ideal S1x1x512 .f32) (r : Fin 1024) (n : Fin 512) : EReal :=
  dn H P w r n * c (ix3 0 0 n) + up H w ⟨r.val, by omega⟩ n * c (ix3 0 1 n) + un H N w r n * c (ix3 0 2 n) + b (ix3 0 0 n)

/-- `x / 2 * tanh (x / 2) + x / 2`. -/
def silu (x : EReal) : EReal :=
  Ideal.ofBits .f32 0x3F000000#32 * x * Ideal.tanh (Ideal.ofBits .f32 0x3F000000#32 * x) + Ideal.ofBits .f32 0x3F000000#32 * x

/-- The gated linear unit. -/
def glu (H : FVec Ideal S1040x1024 .bf16) (P N : EReal) (w : FVec Ideal S1x1024x512 .bf16) (c : FVec Ideal S1x3x512 .f32)
    (b : FVec Ideal S1x1x512 .f32) (r : Fin 1024) (n : Fin 256) : EReal :=
  silu (cv H P N w c b r ⟨256 + n.val, by omega⟩) * cv H P N w c b r ⟨n.val, by omega⟩

/-- The convolved rows of a chunk, as the kernel computes them. -/
def rows (H : FVec Ideal S1040x1024 .bf16) (P N : Ideal .f32) (w : FVec Ideal S1x1024x512 .bf16) (c : FVec Ideal S1x3x512 .f32)
    (b : FVec Ideal S1x1x512 .f32) : FVec Ideal S1024x512 .f32 :=
  k0_pay16 H P N (iota Kind.tc S8x512 32 [0] iota_S8x512_d0_w32) (k0_pay15 w) (constant S1040x512 .f32 0x00000000#32) c b

/-- A chunk as the kernel computes it. -/
def chunk (H : FVec Ideal S1040x1024 .bf16) (P N : Ideal .f32) (w : FVec Ideal S1x1024x512 .bf16) (c : FVec Ideal S1x3x512 .f32)
    (b : FVec Ideal S1x1x512 .f32) : FVec Ideal S1024x256 .bf16 :=
  k0_pay18 (rows H P N w c b)
    (k0_pay17 H P N (iota Kind.tc S8x512 32 [0] iota_S8x512_d0_w32) (k0_pay15 w) (constant S1040x512 .f32 0x00000000#32) c b)

theorem mm_at (H : FVec Ideal S1040x1024 .bf16) (w : FVec Ideal S1x1024x512 .bf16) (r : Fin 1040) (n : Fin 512) :
    matmul dot_S1040x1024_S1024x512_S1040x512_1_0_0_1_n_n none H (k0_pay15 w) (constant S1040x512 .f32 0x00000000#32) (ix2 r n)
      = up H w r n := by
  open_payloads
  pointwise [up]

theorem sel0 (q : Nat) (hq : q < 8) (a b : EReal) :
    Scalar.select (IntOp.cmpi .eq (BitVec.ofNat 32 q) 0#32) a b = if q = 0 then a else b := by
  have h : ∀ q : Fin 8, IntOp.cmpi .eq (BitVec.ofNat 32 q.val) 0#32 = if q.val = 0 then 1#1 else 0#1 := by decide
  rw [h ⟨q, hq⟩]
  by_cases h0 : q = 0 <;> simp [h0, Scalar.select]

theorem sel7 (q : Nat) (hq : q < 8) (a b : EReal) :
    Scalar.select (IntOp.cmpi .eq (BitVec.ofNat 32 q) 7#32) a b = if q = 7 then a else b := by
  have h : ∀ q : Fin 8, IntOp.cmpi .eq (BitVec.ofNat 32 q.val) 7#32 = if q.val = 7 then 1#1 else 0#1 := by decide
  rw [h ⟨q, hq⟩]
  by_cases h0 : q = 7 <;> simp [h0, Scalar.select]

theorem row_congr (X : FVec Ideal S1040x512 .f32) (n : Fin 512) {a b : Nat} {ha : a < 1040} {hb : b < 1040} (h : a = b) :
    X (ix2 ⟨a, ha⟩ n) = X (ix2 ⟨b, hb⟩ n) := by
  subst h; rfl

theorem rows_at (H : FVec Ideal S1040x1024 .bf16) (P N : Ideal .f32) (w : FVec Ideal S1x1024x512 .bf16) (c : FVec Ideal S1x3x512 .f32)
    (b : FVec Ideal S1x1x512 .f32) (r : Fin 1024) (n : Fin 512) :
    rows H P N w c b (ix2 r n) = cv H P N w c b r n := by
  have e := mm_at H w
  unfold rows k0_pay16 cv dn un
  dsimp only
  simp only [← e]
  generalize (matmul dot_S1040x1024_S1024x512_S1040x512_1_0_0_1_n_n none H (k0_pay15 w) (constant S1040x512 .f32 0x00000000#32)) = X
  pointwise
  congr 1
  congr 1
  · congr 2
    by_cases h : r.val < 8
    · refine (dif_pos h).trans ((sel0 _ h _ _).trans ?_)
      by_cases h0 : r.val = 0
      · exact (if_pos h0).trans (if_pos h0).symm
      · exact (if_neg h0).trans ((row_congr X n (by omega)).trans (if_neg h0).symm)
    · exact (dif_neg h).trans ((row_congr X n (by omega)).trans (if_neg (show ¬ r.val = 0 by omega)).symm)
  · congr 1
    by_cases h : r.val < 1016
    · exact (dif_pos h).trans ((row_congr X n (by omega)).trans (if_neg (show ¬ r.val = 1023 by omega)).symm)
    · refine (dif_neg h).trans ((sel7 _ (by omega) _ _).trans ?_)
      by_cases h0 : r.val = 1023
      · exact (if_pos (by omega)).trans (if_pos h0).symm
      · exact (if_neg (by omega)).trans ((row_congr X n (by omega)).trans (if_neg h0).symm)

theorem chunk_at (H : FVec Ideal S1040x1024 .bf16) (P N : Ideal .f32) (w : FVec Ideal S1x1024x512 .bf16) (c : FVec Ideal S1x3x512 .f32)
    (b : FVec Ideal S1x1x512 .f32) (r : Fin 1024) (n : Fin 256) :
    chunk H P N w c b (ix2 r n) = glu H P N w c b r n := by
  have h1 := rows_at H P N w c b r ⟨256 + n.val, by omega⟩
  have h2 := rows_at H P N w c b r ⟨n.val, by omega⟩
  unfold glu
  rw [← h1, ← h2]
  unfold chunk k0_pay18 k0_pay17
  unfold rows
  generalize (k0_pay16 (F := Ideal) _ _ _ _ _ _ _ _) = R
  pointwise [silu]
end Cert.Kernel2Ideal.Ffn
end
-- ==== Proof.FfnRef.lean ====
module

public import proofs.«01_k».proof.Proof.Gen.Reference2Ideal.Read
public import proofs.«01_k».proof.Proof.FfnSpec

@[expose] public section

set_option maxRecDepth 16384

noncomputable section

/-! The reference of the feed-forward part computes it. -/

namespace Cert.Reference2Ideal.Ffn
open Idealize.ShloMosaic Idealize.ShloMosaic.TcCoe Idealize.SL.Sem Cert.Reference2Ideal Cert.Reference2Ideal.Gen Cert.Reference2Ideal.Read

variable {A : Cert.Ffn.Args 32} {x0 : FVec Ideal S32x2048x1024 .f32} {x1 : FVec Ideal S32x6144 .f32} {x2 : FVec Ideal S1024 .f32}
  {x3 : FVec Ideal S1024x5632 .f32} {x4 : FVec Ideal S3x5632 .f32} {x5 : FVec Ideal S5632 .f32} {x6 : FVec Ideal S2816x1024 .f32}
  {x7 : FVec Ideal S1024 .f32}

/-- The arguments hold the entries `A`. -/
structure Holds (A : Cert.Ffn.Args 32) (x0 : FVec Ideal S32x2048x1024 .f32) (x1 : FVec Ideal S32x6144 .f32) (x2 : FVec Ideal S1024 .f32)
  (x3 : FVec Ideal S1024x5632 .f32) (x4 : FVec Ideal S3x5632 .f32) (x5 : FVec Ideal S5632 .f32) (x6 : FVec Ideal S2816x1024 .f32)
  (x7 : FVec Ideal S1024 .f32) : Prop where
  h0 : ∀ b s k, x0 (ix3 b s k) = A.x b s k
  h1 : ∀ b n, x1 (ix2 b n) = A.mod b n
  h2 : ∀ k, x2 (ix1 k) = A.g k
  h3 : ∀ k n, x3 (ix2 k n) = A.wu k n
  h4 : ∀ q n, x4 (ix2 q n) = A.cw q n
  h5 : ∀ n, x5 (ix1 n) = A.cb n
  h6 : ∀ n c, x6 (ix2 n c) = A.wd n c
  h7 : ∀ k, x7 (ix1 k) = A.fg k

theorem nrm_at (H : Holds A x0 x1 x2 x3 x4 x5 x6 x7) (b : Fin 32) (s : Fin 2048) (k : Fin 1024) :
    val_main_v23 (F := Ideal) x0 x1 x2 (ix3 b s k) = Cert.Ffn.nrm A b s k := by
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    Cert.Ffn.nrm, Cert.Ffn.rms]
  simp only [H.h0, H.h1, H.h2]

theorem up_at (H : Holds A x0 x1 x2 x3 x4 x5 x6 x7) (b : Fin 32) (s : Fin 2048) (n : Fin 5632) :
    val_main_v24 (F := Ideal) x0 x1 x2 x3 (ix3 b s n) = Cert.Ffn.up A b s n := by
  unfold Cert.Ffn.up val_main_v24
  simp only [← nrm_at H, ← H.h3]
  generalize val_main_v23 (F := Ideal) x0 x1 x2 = y
  pointwise

theorem row_congr (y : FVec Ideal S32x2048x5632 .f32) (b : Fin 32) (n : Fin 5632) {p q : Nat} {hp : p < 2048} {hq : q < 2048} (h : p = q) :
    y (ix3 b ⟨p, hp⟩ n) = y (ix3 b ⟨q, hq⟩ n) := by
  subst h; rfl

theorem cv_at (H : Holds A x0 x1 x2 x3 x4 x5 x6 x7) (b : Fin 32) (s : Fin 2048) (n : Fin 5632) :
    val_main_v49 (F := Ideal) x0 x1 x2 x3 x4 x5 (ix3 b s n) = Cert.Ffn.cv A b s n := by
  unfold Cert.Ffn.cv Cert.Ffn.dn Cert.Ffn.un
  simp only [← up_at H, ← H.h4, ← H.h5]
  unfold val_main_v49 val_main_v46 val_main_v45 val_main_v40 val_main_v39 val_main_v38 val_main_v33 val_main_v32 val_main_v27 val_main_v26
  generalize val_main_v24 (F := Ideal) x0 x1 x2 x3 = y
  pointwise [val_main_v48, val_main_v47, val_main_v44, val_main_v43, val_main_v42, val_main_v41, val_main_v37, val_main_v36, val_main_v35,
    val_main_v34, val_main_v31, val_main_v30, val_main_v29, val_main_v28, val_main_v25, val_main_cst_3]
  refine congrArg₂ (· + ·) (congrArg₂ (· + ·) (congrArg₂ (· + ·) (congrArg₂ (· * ·) ?_ rfl) rfl) (congrArg₂ (· * ·) ?_ rfl)) rfl
  · by_cases h : s.val = 0
    · exact (dif_pos (by omega)).trans (if_pos h).symm
    · exact (dif_neg (by omega)).trans ((dif_pos (by omega)).trans (if_neg h).symm)
  · refine (dif_neg (by omega)).trans ?_
    by_cases h : s.val = 2047
    · rw [dif_pos h]
      exact dif_neg (by omega)
    · rw [dif_neg h]
      exact (dif_pos (by omega)).trans (row_congr y b n (by omega))

/-- The gate's function: `x` times the logistic function of `x`. -/
def silu (x : EReal) : EReal := x * Ideal.div 1 (1 + Ideal.exp (-x))

theorem hid_at (H : Holds A x0 x1 x2 x3 x4 x5 x6 x7) (b : Fin 32) (s : Fin 2048) (n : Fin 2816) :
    val_main_v53 (F := Ideal) x0 x1 x2 x3 x4 x5 (ix3 b s n) = Cert.Ffn.hid A silu b s n := by
  unfold Cert.Ffn.hid
  simp only [← cv_at H]
  unfold val_main_v53 val_main_v52 val_main_call0_v5 val_main_call0_v3 val_main_call0_v1 val_main_call0_v0 val_main_v51 val_main_v50
  generalize val_main_v49 (F := Ideal) x0 x1 x2 x3 x4 x5 = y
  pointwise [val_main_call0_v4, val_main_call0_v2, val_main_call0_cst, val_main_call0_cst_0, silu]

theorem res_at (H : Holds A x0 x1 x2 x3 x4 x5 x6 x7) (b : Fin 32) (s : Fin 2048) (c : Fin 1024) :
    val_main_v57 (F := Ideal) x0 x1 x2 x3 x4 x5 x6 (ix3 b s c) = Cert.Ffn.res A silu b s c := by
  unfold Cert.Ffn.res
  simp only [← hid_at H, ← H.h0, ← H.h1, ← H.h6]
  unfold val_main_v57 val_main_v56 val_main_v54
  generalize val_main_v53 (F := Ideal) x0 x1 x2 x3 x4 x5 = y
  pointwise [val_main_v55, val_main_v4, val_main_v1, val_main_v0]

theorem out_at (H : Holds A x0 x1 x2 x3 x4 x5 x6 x7) (r : Fin 65536) (c : Fin 1024) :
    val_main_v71 (F := Ideal) x0 x1 x2 x3 x4 x5 x6 x7 (ix2 r c) = Cert.Ffn.out A silu ⟨r.val / 2048, by omega⟩ ⟨r.val % 2048, by omega⟩ c := by
  unfold Cert.Ffn.out Cert.Ffn.rms
  simp only [← res_at H, ← H.h7]
  unfold val_main_v71 val_main_v70 val_main_v69 val_main_v68 val_main_v67 val_main_v66 val_main_v65 val_main_v64 val_main_v62 val_main_v60 val_main_v59 val_main_v58
  generalize val_main_v57 (F := Ideal) x0 x1 x2 x3 x4 x5 x6 = y
  pointwise [val_main_v63, val_main_v61, val_main_cst_4, val_main_cst_5, val_main_cst_6]
end Cert.Reference2Ideal.Ffn
end
-- ==== Proof.FfnGate.lean ====
module

public import proofs.«01_k».proof.Proof.FfnReal
public import proofs.«01_k».proof.Proof.FfnChunk
public import proofs.«01_k».proof.Proof.FfnRef

@[expose] public section

noncomputable section

/-! From real arguments every value that reaches the gate is real, and there the two forms of the gate's function agree. -/

namespace Cert.Ffn
open Idealize.ShloMosaic Cert.Layer

/-- The arguments are real as far as the gate depends on them. -/
structure Finite {B : Nat} (A : Args B) : Prop where
  mod : ∀ b n, IsReal (A.mod b n)
  g : ∀ k, IsReal (A.g k)
  wu : ∀ k n, IsReal (A.wu k n)
  cw : ∀ q n, IsReal (A.cw q n)
  cb : ∀ n, IsReal (A.cb n)

variable {B : Nat} {A : Args B}

theorem up_real (H : Finite A) (b : Fin B) (s : Fin 2048) (n : Fin 5632) : IsReal (up A b s n) :=
  IsReal.sum fun k => (((rms_real (H.g k) k).mul (IsReal.one.add (H.mod b _))).add (H.mod b _)).mul (H.wu k n)

theorem cv_real (H : Finite A) (b : Fin B) (s : Fin 2048) (n : Fin 5632) : IsReal (cv A b s n) := by
  have h1 : IsReal (dn A b s n) := by
    unfold dn
    by_cases h : s.val = 0
    · rw [if_pos h]; exact IsReal.zero
    · rw [if_neg h]; exact up_real H b _ n
  have h2 : IsReal (un A b s n) := by
    unfold un
    by_cases h : s.val = 2047
    · rw [dif_pos h]; exact IsReal.zero
    · rw [dif_neg h]; exact up_real H b _ n
  exact (((h1.mul (H.cw _ _)).add ((up_real H b s n).mul (H.cw _ _))).add (h2.mul (H.cw _ _))).add (H.cb n)

theorem tanh_logistic (r : ℝ) : 1 / 2 * r * Real.tanh (1 / 2 * r) + 1 / 2 * r = r * (1 / (1 + Real.exp (-r))) := by
  have h : Real.exp (-r) = Real.exp (-(1 / 2 * r)) * Real.exp (-(1 / 2 * r)) := by
    rw [← Real.exp_add]; congr 1; ring
  have hp := Real.exp_pos (-(1 / 2 * r))
  rw [Real.tanh_eq_sinh_div_cosh, Real.sinh_eq, Real.cosh_eq, h, show Real.exp (1 / 2 * r) = (Real.exp (-(1 / 2 * r)))⁻¹ by rw [Real.exp_neg, inv_inv]]
  generalize Real.exp (-(1 / 2 * r)) = e at hp
  have h1 : 1 + e * e ≠ 0 := by positivity
  have h2 : e⁻¹ + e ≠ 0 := by positivity
  have h3 : e ≠ 0 := hp.ne'
  have h4 : (e⁻¹ - e) / 2 / ((e⁻¹ + e) / 2) = (1 - e * e) / (1 + e * e) := by
    rw [div_eq_div_iff (by positivity) h1]
    field_simp
  rw [h4]
  field_simp
  ring

theorem silu_eq {x : EReal} (hx : IsReal x) : Cert.Kernel2Ideal.Ffn.silu x = Cert.Reference2Ideal.Ffn.silu x := by
  obtain ⟨r, rfl⟩ := hx
  unfold Cert.Kernel2Ideal.Ffn.silu Cert.Reference2Ideal.Ffn.silu
  have h : (0 : ℝ) < 1 + Real.exp (-r) := by positivity
  rw [half_coe, ← EReal.coe_mul, Ideal.tanh_coe, ← EReal.coe_mul, ← EReal.coe_add, tanh_logistic, ← EReal.coe_neg, Ideal.exp_coe,
    ← EReal.coe_one, ← EReal.coe_add, Ideal.div_coe h.ne', ← EReal.coe_mul, ← EReal.coe_mul, one_mul]

theorem out_eq (H : Finite A) (b : Fin B) (s : Fin 2048) (c : Fin 1024) :
    out A Cert.Kernel2Ideal.Ffn.silu b s c = out A Cert.Reference2Ideal.Ffn.silu b s c := by
  unfold out res hid
  simp only [fun s n => silu_eq (cv_real H b s n)]
end Cert.Ffn
end
-- ==== Proof.FfnAct.lean ====
module

public import proofs.«01_k».proof.Proof.FfnChunk

@[expose] public section

set_option maxRecDepth 16384

noncomputable section

/-! The buffer of hidden columns that a grid point fills chunk by chunk, read back. -/

namespace Cert.Kernel2Ideal.Ffn
open Idealize.ShloMosaic Idealize.ShloMosaic.TcCoe Idealize.SL.Sem Cert.Kernel2Ideal Cert.Kernel2Ideal.Gen

section
variable (H : FVec Ideal S1040x1024 .bf16) (P N : Ideal .f32) (W : FVec Ideal S11x1024x512 .bf16) (C : FVec Ideal S11x3x512 .f32)
  (B : FVec Ideal S11x1x512 .f32)

/-- The part of the up projection's weights that belongs to chunk `j`. -/
def wj (j : Fin 11) : FVec Ideal S1x1024x512 .bf16 :=
  View.ld (Val := Elt Ideal) (e' := .bf16) W (Rect.unit (s := S11x1024x512) ![j.val, 0, 0] ![1, 1024, 512] (by
    intro a; match a with | 0 => exact j.isLt | 1 => exact Nat.le_refl _ | 2 => exact Nat.le_refl _))

/-- The part of the convolution's weights that belongs to chunk `j`. -/
def cj (j : Fin 11) : FVec Ideal S1x3x512 .f32 :=
  View.ld (Val := Elt Ideal) (e' := .f32) C (Rect.unit (s := S11x3x512) ![j.val, 0, 0] ![1, 3, 512] (by
    intro a; match a with | 0 => exact j.isLt | 1 => exact Nat.le_refl _ | 2 => exact Nat.le_refl _))

/-- The part of the convolution's bias that belongs to chunk `j`. -/
def bj (j : Fin 11) : FVec Ideal S1x1x512 .f32 :=
  View.ld (Val := Elt Ideal) (e' := .f32) B (Rect.unit (s := S11x1x512) ![j.val, 0, 0] ![1, 1, 512] (by
    intro a; match a with | 0 => exact j.isLt | 1 => exact Nat.le_refl _ | 2 => exact Nat.le_refl _))

/-- Chunk `j`, over the parts of the weights that belong to it. -/
def piece (j : Fin 11) : FVec Ideal S1024x256 .bf16 :=
  chunk H P N (wj W j) (cj C j) (bj B j)

/-- The hidden value of row `r`, column `n`. -/
def act (r : Fin 1024) (n : Fin 2816) : EReal :=
  glu H P N (wj W ⟨n.val / 256, by omega⟩) (cj C ⟨n.val / 256, by omega⟩) (bj B ⟨n.val / 256, by omega⟩) r ⟨n.val % 256, by omega⟩

/-- The first `K` chunks' stores, last store first. -/
def stores (K : Nat) (hK : K ≤ 11) : List (View.Piece (Elt Ideal) S1024x2816 .bf16) :=
  List.ofFn fun k : Fin K => ⟨Rect.unit ![0, 256 * (K - 1 - k.val)] ![1024, 256] (by
    intro a; match a with | 0 => exact Nat.le_refl 1024 | 1 => show 256 * (K - 1 - k.val) + 256 ≤ 2816; omega),
    piece H P N W C B ⟨K - 1 - k.val, by omega⟩⟩

theorem stores_at (K : Nat) (hK : K ≤ 11) (r : Fin 1024) (n : Fin 2816) (hn : n.val < 256 * K) :
    View.canon (stores H P N W C B K hK) (ix2 r n) = act H P N W C B r n := by
  unfold stores
  refine View.canon_ofFn_unit_eq_of_forall (S := S1024x2816) (fun k : Fin K => ![0, 256 * (K - 1 - k.val)]) ![1024, 256] _ _ _ _ ?_ ?_
  · refine ⟨⟨K - 1 - n.val / 256, by omega⟩, fun a => ?_⟩
    match a with
    | 0 => exact ⟨Nat.zero_le _, by show r.val < 0 + 1024; omega⟩
    | 1 =>
      show 256 * (K - 1 - (K - 1 - n.val / 256)) ≤ n.val ∧ n.val < 256 * (K - 1 - (K - 1 - n.val / 256)) + 256
      omega
  · intro k x hx
    have h0 : r.val = 0 + (x 0).val := hx 0
    have h1 : n.val = 256 * (K - 1 - k.val) + (x 1).val := hx 1
    have l1 : (x 1).val < 256 := (x 1).isLt
    have ex : x = ix2 (⟨(x 0).val, (x 0).isLt⟩ : Fin 1024) (⟨(x 1).val, (x 1).isLt⟩ : Fin 256) := by
      funext a; match a with | 0 => rfl | 1 => rfl
    have e0 : (⟨(x 0).val, (x 0).isLt⟩ : Fin 1024) = r := Fin.ext (by show (x 0).val = r.val; omega)
    have e1 : (⟨(x 1).val, (x 1).isLt⟩ : Fin 256) = ⟨n.val % 256, by omega⟩ := Fin.ext (by show (x 1).val = n.val % 256; omega)
    have ej : (⟨K - 1 - k.val, by omega⟩ : Fin 11) = ⟨n.val / 256, by omega⟩ := Fin.ext (by show K - 1 - k.val = n.val / 256; omega)
    rw [ex, e0, e1]
    show piece H P N W C B ⟨K - 1 - k.val, by omega⟩ _ = _
    rw [ej]
    unfold piece act
    rw [chunk_at]
end

end Cert.Kernel2Ideal.Ffn
end
-- ==== Proof.FfnOut.lean ====
module

public import proofs.«01_k».proof.Proof.FfnAct
public import proofs.«01_k».proof.Proof.FfnSpec

@[expose] public section

set_option maxRecDepth 16384

noncomputable section

/-! The block of the result that a grid point writes. -/

namespace Cert.Kernel2Ideal.Ffn
open Cert.Ffn (rms)
open Idealize.ShloMosaic Idealize.ShloMosaic.TcCoe Idealize.SL.Sem Cert.Kernel2Ideal Cert.Kernel2Ideal.Gen

section
variable (H : FVec Ideal S1040x1024 .bf16) (P N : Ideal .f32) (W : FVec Ideal S11x1024x512 .bf16) (C : FVec Ideal S11x3x512 .f32)
  (B : FVec Ideal S11x1x512 .f32) (X : FVec Ideal S1024x1024 .f32) (M : FVec Ideal S1x1x1024 .f32) (D : FVec Ideal S2816x1024 .bf16)
  (G : FVec Ideal S1x1024 .f32)

/-- The block as the kernel computes it from its hidden columns. -/
def tail (A : FVec Ideal S1024x1536 .bf16) (A' : FVec Ideal S1024x1280 .bf16) : FVec Ideal S1024x1024 .f32 :=
  k0_pay1 (k0_pay72 (k0_pay2 M) (k0_pay3 X) (k0_pay42 A (View.ld (Val := Elt Ideal) (e' := .bf16) D (Rect.unit (s := S2816x1024) ![0, 0] ![1536, 1024] inb_S2816x1024_S1536x1024_0_0))) A'
      (View.ld (Val := Elt Ideal) (e' := .bf16) D (Rect.unit (s := S2816x1024) ![1536, 0] ![1280, 1024] inb_S2816x1024_S1280x1024_1536_0)))
    (k0_pay73 G)
    (k0_pay74 (k0_pay2 M) (k0_pay3 X) (k0_pay42 A (View.ld (Val := Elt Ideal) (e' := .bf16) D (Rect.unit (s := S2816x1024) ![0, 0] ![1536, 1024] inb_S2816x1024_S1536x1024_0_0))) A'
      (View.ld (Val := Elt Ideal) (e' := .bf16) D (Rect.unit (s := S2816x1024) ![1536, 0] ![1280, 1024] inb_S2816x1024_S1280x1024_1536_0)))
end

/-- The first six chunks' columns, read back after their stores. -/
def hidA {sig : RefSig} {κ : Kind} {sp : Space} (v : View sig κ sp S1024x2816 .bf16) (L : List (View.Piece (Elt Ideal) S1024x2816 .bf16)) : FVec Ideal S1024x1536 .bf16 :=
  v.readCov (Val := Elt Ideal) L (Rect.unit (s := S1024x2816) ![0, 0] ![1024, 1536] inb_S1024x2816_S1024x1536_0_0).toLoadRect

/-- The last five chunks' columns, read back after all stores. -/
def hidB {sig : RefSig} {κ : Kind} {sp : Space} (v : View sig κ sp S1024x2816 .bf16) (L : List (View.Piece (Elt Ideal) S1024x2816 .bf16)) : FVec Ideal S1024x1280 .bf16 :=
  v.readCov (Val := Elt Ideal) L (Rect.unit (s := S1024x2816) ![0, 1536] ![1024, 1280] inb_S1024x2816_S1024x1280_0_1536).toLoadRect

/-- The residual stream after the feed-forward part, over the hidden values `h`. -/
def res (X : FVec Ideal S1024x1024 .f32) (M : FVec Ideal S1x1x1024 .f32) (D : FVec Ideal S2816x1024 .bf16)
    (h : Fin 1024 → Fin 2816 → EReal) (r : Fin 1024) (c : Fin 1024) : EReal :=
  X (ix2 r c) + M (ix3 0 0 c) * ∑ n : Fin 2816, h r n * D (ix2 n c)

theorem tail_at (X : FVec Ideal S1024x1024 .f32) (M : FVec Ideal S1x1x1024 .f32) (D : FVec Ideal S2816x1024 .bf16)
    (G : FVec Ideal S1x1024 .f32) (A : FVec Ideal S1024x1536 .bf16) (A' : FVec Ideal S1024x1280 .bf16)
    (h : Fin 1024 → Fin 2816 → EReal) (hA : ∀ r k, A (ix2 r k) = h r ⟨k.val, by omega⟩) (hB : ∀ r k, A' (ix2 r k) = h r ⟨1536 + k.val, by omega⟩)
    (r : Fin 1024) (c : Fin 1024) :
    tail X M D G A A' (ix2 r c) = Cert.Ffn.rms (res X M D h r) (G (ix2 0 c)) c := by
  have e : ∀ c : Fin 1024, res X M D h r c = X (ix2 r c) + M (ix3 0 0 c) *
      ((∑ k : Fin 1536, A (ix2 r k) * D (ix2 ⟨k.val, by omega⟩ c)) + ∑ k : Fin 1280, A' (ix2 r k) * D (ix2 ⟨1536 + k.val, by omega⟩ c)) := by
    intro c
    unfold res
    refine congrArg (fun s => X (ix2 r c) + M (ix3 0 0 c) * s) ?_
    rw [show (∑ n : Fin 2816, h r n * D (ix2 n c)) = ∑ n : Fin (1536 + 1280), h r n * D (ix2 n c) from rfl, Fin.sum_univ_add]
    refine congrArg₂ (· + ·) (Finset.sum_congr rfl fun k _ => ?_) (Finset.sum_congr rfl fun k _ => ?_)
    · rw [hA]; rfl
    · rw [hB]; rfl
  unfold rms
  simp only [e]
  unfold tail
  open_payloads
  pointwise

/-- The rows that a grid point reads: the block's own, the eight before it and the eight after it. -/
def xall (X : FVec Ideal S1024x1024 .f32) (XP XN : FVec Ideal S8x1024 .f32) (r : Fin 1040) (k : Fin 1024) : EReal :=
  if h : r.val < 1024 then X (ix2 ⟨r.val, h⟩ k)
  else if h' : r.val - 1024 < 8 then XP (ix2 ⟨r.val - 1024, h'⟩ k) else XN (ix2 ⟨r.val - 1024 - 8, by omega⟩ k)

theorem rows_norm (S0 S1 : FVec Ideal S1x1x1024 .f32) (X : FVec Ideal S1024x1024 .f32) (XP XN : FVec Ideal S8x1024 .f32) (G : FVec Ideal S1x1024 .f32)
    (r : Fin 1040) (k : Fin 1024) :
    k0_pay4 (F := Ideal) S0 S1 X XP XN G (ix2 r k)
      = rms (xall X XP XN r) (G (ix2 0 k)) k * (1 + S1 (ix3 0 0 k)) + S0 (ix3 0 0 k) := by
  open_payloads
  pointwise [rms, xall]
end Cert.Kernel2Ideal.Ffn
end
-- ==== Proof.FfnRow.lean ====
module

public import proofs.«01_k».proof.Proof.FfnOut

@[expose] public section

set_option maxRecDepth 16384

noncomputable section

/-! A grid point's block of the result, from what the blocks that it reads hold. -/

namespace Cert.Kernel2Ideal.Ffn
open Cert.Ffn (col)
open Idealize.ShloMosaic Idealize.ShloMosaic.TcCoe Idealize.SL.Sem Cert.Kernel2Ideal Cert.Kernel2Ideal.Gen

/-- A third of a block of the modulation, from column `o`. -/
def md (M : FVec Ideal S1x1x6144 .f32) (o : Nat) (ho : o + 1024 ≤ 6144) : FVec Ideal S1x1x1024 .f32 :=
  View.ld (Val := Elt Ideal) (e' := .f32) M (Rect.unit (s := S1x1x6144) ![0, 0, o] ![1, 1, 1024] (by
    intro a; match a with | 0 => exact Nat.le_refl _ | 1 => exact Nat.le_refl _ | 2 => exact ho))

/-- The normalised rows: the block's own, the eight before it and the eight after it. -/
def rowsOf (X : FVec Ideal S1024x1024 .f32) (XP XN : FVec Ideal S8x1024 .f32) (M : FVec Ideal S1x1x6144 .f32) (G : FVec Ideal S1x1024 .f32) :
    FVec Ideal S1040x1024 .bf16 :=
  k0_pay4 (F := Ideal) (md M 3072 (by decide)) (md M 4096 (by decide)) X XP XN G

section
variable (H : FVec Ideal S1040x1024 .bf16) (P N : Ideal .f32) (W : FVec Ideal S11x1024x512 .bf16) (C : FVec Ideal S11x3x512 .f32)
  (B : FVec Ideal S11x1x512 .f32) {sig : RefSig} {κ : Kind} {sp : Space} (v : View sig κ sp S1024x2816 .bf16)

theorem hidA_at (r : Fin 1024) (k : Fin 1536) :
    hidA v (stores H P N W C B 6 (by decide)) (ix2 r k) = act H P N W C B r ⟨k.val, by omega⟩ := by
  refine Eq.trans ?_ (stores_at H P N W C B 6 (by decide) r ⟨k.val, by omega⟩ k.isLt)
  unfold hidA
  rw [View.readCov_eq_canon']
  refine congrArg (View.canon _) ?_
  funext a
  match a with
  | 0 => exact Fin.ext (show 0 + 1 * r.val = r.val by omega)
  | 1 => exact Fin.ext (show 0 + 1 * k.val = k.val by omega)

theorem hidB_at (r : Fin 1024) (k : Fin 1280) :
    hidB v (stores H P N W C B 11 (by decide)) (ix2 r k) = act H P N W C B r ⟨1536 + k.val, by omega⟩ := by
  refine Eq.trans ?_ (stores_at H P N W C B 11 (by decide) r ⟨1536 + k.val, by omega⟩ (show 1536 + k.val < 2816 by omega))
  unfold hidB
  rw [View.readCov_eq_canon']
  refine congrArg (View.canon _) ?_
  funext a
  match a with
  | 0 => exact Fin.ext (show 0 + 1 * r.val = r.val by omega)
  | 1 => exact Fin.ext (show 1536 + 1 * k.val = 1536 + k.val by omega)
end

/-- The position of row `r` of block `t` in its sequence: a sequence has two blocks. -/
def sq (t : Nat) (r : Fin 1024) : Fin 2048 := ⟨t % 2 * 1024 + r.val, by omega⟩

/-- The blocks that grid point `t` reads hold sequence `b` of the arguments `A`: `X` its rows, `XP` and `XN` the rows before and
    after them, `M` its modulation, the others the gains and the weights; `P` and `N` are 0 where the sequence begins or ends. -/
structure Point {nB : Nat} (A : Cert.Ffn.Args nB) (b : Fin nB) (t : Nat) (X : FVec Ideal S1024x1024 .f32) (XP XN : FVec Ideal S8x1024 .f32)
    (M : FVec Ideal S1x1x6144 .f32) (G : FVec Ideal S1x1024 .f32) (W : FVec Ideal S11x1024x512 .bf16) (C : FVec Ideal S11x3x512 .f32)
    (B : FVec Ideal S11x1x512 .f32) (D : FVec Ideal S2816x1024 .bf16) (FG : FVec Ideal S1x1024 .f32) (P N : Ideal .f32) : Prop where
  x : ∀ r k, X (ix2 r k) = A.x b (sq t r) k
  xp : t % 2 = 1 → ∀ k, XP (ix2 7 k) = A.x b ⟨1023, by omega⟩ k
  xn : t % 2 = 0 → ∀ k, XN (ix2 0 k) = A.x b ⟨1024, by omega⟩ k
  m : ∀ n, M (ix3 0 0 n) = A.mod b n
  g : ∀ k, G (ix2 0 k) = A.g k
  w : ∀ j k n, W (ix3 j k n) = A.wu k (col j n)
  c : ∀ j q n, C (ix3 j q n) = A.cw q (col j n)
  b : ∀ j n, B (ix3 j 0 n) = A.cb (col j n)
  d : ∀ n k, D (ix2 n k) = A.wd n k
  fg : ∀ k, FG (ix2 0 k) = A.fg k
  p : P = if t % 2 = 0 then 0 else 1
  n : N = if t % 2 = 1 then 0 else 1

variable {nB : Nat} {A : Cert.Ffn.Args nB} {b : Fin nB} {t : Nat} {X : FVec Ideal S1024x1024 .f32} {XP XN : FVec Ideal S8x1024 .f32}
  {M : FVec Ideal S1x1x6144 .f32} {G : FVec Ideal S1x1024 .f32} {W : FVec Ideal S11x1024x512 .bf16} {C : FVec Ideal S11x3x512 .f32}
  {B : FVec Ideal S11x1x512 .f32} {D : FVec Ideal S2816x1024 .bf16} {FG : FVec Ideal S1x1024 .f32} {P N : Ideal .f32}

theorem md_at (T : Point A b t X XP XN M G W C B D FG P N) (o : Nat) (ho : o + 1024 ≤ 6144) (k : Fin 1024) :
    md M o ho (ix3 0 0 k) = A.mod b ⟨o + k.val, by omega⟩ := by
  refine Eq.trans ?_ (T.m ⟨o + k.val, by omega⟩)
  unfold md
  refine congrArg M ?_
  funext a
  match a with
  | 0 => rfl
  | 1 => rfl
  | 2 => exact Fin.ext (show o + 1 * k.val = o + k.val by omega)

theorem wj_at (T : Point A b t X XP XN M G W C B D FG P N) (j : Fin 11) (k : Fin 1024) (n : Fin 512) :
    wj W j (ix3 0 k n) = A.wu k (col j n) := by
  refine Eq.trans ?_ (T.w j k n)
  unfold wj
  refine congrArg W ?_
  funext a
  match a with
  | 0 => exact Fin.ext (show j.val + 1 * 0 = j.val by omega)
  | 1 => exact Fin.ext (show 0 + 1 * k.val = k.val by omega)
  | 2 => exact Fin.ext (show 0 + 1 * n.val = n.val by omega)

theorem cj_at (T : Point A b t X XP XN M G W C B D FG P N) (j : Fin 11) (q : Fin 3) (n : Fin 512) :
    cj C j (ix3 0 q n) = A.cw q (col j n) := by
  refine Eq.trans ?_ (T.c j q n)
  unfold cj
  refine congrArg C ?_
  funext a
  match a with
  | 0 => exact Fin.ext (show j.val + 1 * 0 = j.val by omega)
  | 1 => exact Fin.ext (show 0 + 1 * q.val = q.val by omega)
  | 2 => exact Fin.ext (show 0 + 1 * n.val = n.val by omega)

theorem bj_at (T : Point A b t X XP XN M G W C B D FG P N) (j : Fin 11) (n : Fin 512) :
    bj B j (ix3 0 0 n) = A.cb (col j n) := by
  refine Eq.trans ?_ (T.b j n)
  unfold bj
  refine congrArg B ?_
  funext a
  match a with
  | 0 => exact Fin.ext (show j.val + 1 * 0 = j.val by omega)
  | 1 => rfl
  | 2 => exact Fin.ext (show 0 + 1 * n.val = n.val by omega)

/-- A row that holds row `s` of the sequence is normalised as that row. -/
theorem row_nrm (T : Point A b t X XP XN M G W C B D FG P N) (r : Fin 1040) (s : Fin 2048)
    (h : ∀ k, xall X XP XN r k
      = A.x b s k) (k : Fin 1024) :
    rowsOf X XP XN M G (ix2 r k) = Cert.Ffn.nrm A b s k := by
  unfold rowsOf Cert.Ffn.nrm
  rw [rows_norm, md_at T, md_at T, T.g, funext h]
  have e : (⟨4096 + k.val, by omega⟩ : Fin 6144) = ⟨3072 + (1024 + k.val), by omega⟩ := Fin.ext (by show 4096 + k.val = 3072 + (1024 + k.val); omega)
  rw [e]

theorem row_own (T : Point A b t X XP XN M G W C B D FG P N) (r : Fin 1024) (r' : Fin 1040) (hr : r'.val = r.val) (k : Fin 1024) :
    rowsOf X XP XN M G (ix2 r' k) = Cert.Ffn.nrm A b (sq t r) k := by
  refine row_nrm T r' _ (fun k => ?_) k
  unfold xall
  refine (dif_pos (show r'.val < 1024 by omega)).trans ((congrArg (fun q => X (ix2 q k)) (Fin.ext hr)).trans (T.x r k))

theorem row_prev (T : Point A b t X XP XN M G W C B D FG P N) (ht : t % 2 = 1) (k : Fin 1024) :
    rowsOf X XP XN M G (ix2 ⟨1031, by omega⟩ k) = Cert.Ffn.nrm A b ⟨1023, by omega⟩ k := by
  refine row_nrm T _ _ (fun k => ?_) k
  unfold xall
  refine (dif_neg (show ¬ 1031 < 1024 by decide)).trans ((dif_pos (show 1031 - 1024 < 8 by decide)).trans (T.xp ht k))

theorem row_next (T : Point A b t X XP XN M G W C B D FG P N) (ht : t % 2 = 0) (k : Fin 1024) :
    rowsOf X XP XN M G (ix2 ⟨1032, by omega⟩ k) = Cert.Ffn.nrm A b ⟨1024, by omega⟩ k := by
  refine row_nrm T _ _ (fun k => ?_) k
  unfold xall
  refine (dif_neg (show ¬ 1032 < 1024 by decide)).trans ((dif_neg (show ¬ 1032 - 1024 < 8 by decide)).trans (T.xn ht k))

theorem up_row (T : Point A b t X XP XN M G W C B D FG P N) (j : Fin 11) (n : Fin 512) (r : Fin 1040) (s : Fin 2048)
    (h : ∀ k, rowsOf X XP XN M G (ix2 r k) = Cert.Ffn.nrm A b s k) :
    up (rowsOf X XP XN M G) (wj W j) r n = Cert.Ffn.up A b s (col j n) :=
  Finset.sum_congr rfl fun k _ => by rw [h, wj_at T]

theorem dn_row (T : Point A b t X XP XN M G W C B D FG P N) (j : Fin 11) (n : Fin 512) (r : Fin 1024) :
    dn (rowsOf X XP XN M G) P (wj W j) r n
      = Cert.Ffn.dn A b (sq t r) (col j n) := by
  unfold dn Cert.Ffn.dn
  by_cases h : r.val = 0
  · refine (if_pos h).trans ?_
    rw [T.p]
    by_cases ht : t % 2 = 0
    · refine Eq.trans ?_ (if_pos (show t % 2 * 1024 + r.val = 0 by omega)).symm
      rw [if_pos ht, mul_zero]
    · refine Eq.trans ?_ (if_neg (show ¬ t % 2 * 1024 + r.val = 0 by omega)).symm
      rw [if_neg ht, mul_one, up_row T j n _ _ (row_prev T (by omega))]
      exact congrArg (fun s => Cert.Ffn.up A b s (col j n)) (Fin.ext (show 1023 = t % 2 * 1024 + r.val - 1 by omega))
  · refine (if_neg h).trans (Eq.trans ?_ (if_neg (show ¬ t % 2 * 1024 + r.val = 0 by omega)).symm)
    rw [up_row T j n _ _ (row_own T ⟨r.val - 1, by omega⟩ _ rfl)]
    exact congrArg (fun s => Cert.Ffn.up A b s (col j n)) (Fin.ext (show t % 2 * 1024 + (r.val - 1) = t % 2 * 1024 + r.val - 1 by omega))

theorem un_row (T : Point A b t X XP XN M G W C B D FG P N) (j : Fin 11) (n : Fin 512) (r : Fin 1024) :
    un (rowsOf X XP XN M G) N (wj W j) r n
      = Cert.Ffn.un A b (sq t r) (col j n) := by
  unfold un Cert.Ffn.un
  by_cases h : r.val = 1023
  · refine (if_pos h).trans ?_
    rw [T.n]
    by_cases ht : t % 2 = 1
    · refine Eq.trans ?_ (dif_pos (show t % 2 * 1024 + r.val = 2047 by omega)).symm
      rw [if_pos ht, mul_zero]
    · refine Eq.trans ?_ (dif_neg (show ¬ t % 2 * 1024 + r.val = 2047 by omega)).symm
      rw [if_neg ht, mul_one, up_row T j n _ _ (row_next T (by omega))]
      exact congrArg (fun s => Cert.Ffn.up A b s (col j n)) (Fin.ext (show 1024 = t % 2 * 1024 + r.val + 1 by omega))
  · refine (if_neg h).trans (Eq.trans ?_ (dif_neg (show ¬ t % 2 * 1024 + r.val = 2047 by omega)).symm)
    rw [up_row T j n _ _ (row_own T ⟨r.val + 1, by omega⟩ _ rfl)]
    exact congrArg (fun s => Cert.Ffn.up A b s (col j n)) (Fin.ext (show t % 2 * 1024 + (r.val + 1) = t % 2 * 1024 + r.val + 1 by omega))

theorem cv_row (T : Point A b t X XP XN M G W C B D FG P N) (j : Fin 11) (n : Fin 512) (r : Fin 1024) :
    cv (rowsOf X XP XN M G) P N
      (wj W j) (cj C j) (bj B j) r n
      = Cert.Ffn.cv A b (sq t r) (col j n) := by
  unfold cv Cert.Ffn.cv
  rw [dn_row T, un_row T, up_row T j n _ _ (row_own T r _ rfl), cj_at T, cj_at T, cj_at T, bj_at T]

theorem act_row (T : Point A b t X XP XN M G W C B D FG P N) (r : Fin 1024) (n : Fin 2816) :
    act (rowsOf X XP XN M G) P N
      W C B r n
      = Cert.Ffn.hid A silu b (sq t r) n := by
  unfold act glu Cert.Ffn.hid
  rw [cv_row T, cv_row T]
  have e1 : col ⟨n.val / 256, by omega⟩ ⟨256 + n.val % 256, by omega⟩ = ⟨2816 + n.val, by omega⟩ :=
    Fin.ext ((if_neg (show ¬ 256 + n.val % 256 < 256 by omega)).trans (show 2816 + (n.val / 256 * 256 + (256 + n.val % 256 - 256)) = 2816 + n.val by omega))
  have e2 : col ⟨n.val / 256, by omega⟩ ⟨n.val % 256, by omega⟩ = ⟨n.val, by omega⟩ :=
    Fin.ext ((if_pos (show n.val % 256 < 256 by omega)).trans (show n.val / 256 * 256 + n.val % 256 = n.val by omega))
  rw [e1, e2]

/-- The block of the result: row `r` of block `t` of sequence `b`. -/
theorem tail_row (T : Point A b t X XP XN M G W C B D FG P N) {sig : RefSig} {κ : Kind} {sp : Space} (v : View sig κ sp S1024x2816 .bf16)
    (r : Fin 1024) (k : Fin 1024) :
    tail X (md M 5120 (by decide)) D FG (hidA v (stores (rowsOf X XP XN M G) P N W C B 6 (by decide)))
      (hidB v (stores (rowsOf X XP XN M G) P N W C B 11 (by decide))) (ix2 r k) = Cert.Ffn.out A silu b (sq t r) k := by
  rw [tail_at _ _ _ _ _ _ _ (hidA_at _ P N W C B v) (hidB_at _ P N W C B v)]
  unfold Cert.Ffn.out
  rw [T.fg]
  refine congrArg (fun v => Cert.Ffn.rms v _ k) (funext fun k => ?_)
  unfold res Cert.Ffn.res
  rw [md_at T, T.x]
  have e : (⟨5120 + k.val, by omega⟩ : Fin 6144) = ⟨3072 + (2048 + k.val), by omega⟩ := Fin.ext (by show 5120 + k.val = 3072 + (2048 + k.val); omega)
  rw [e]
  refine congrArg (fun z => A.x b (sq t r) k + A.mod b ⟨3072 + (2048 + k.val), by omega⟩ * z) (Finset.sum_congr rfl fun n _ => ?_)
  rw [act_row T, T.d]

end Cert.Kernel2Ideal.Ffn
end
-- ==== Proof.FfnHost.lean ====
module

public import proofs.«01_k».proof.Proof.Gen.Kernel2Ideal.Value
public import proofs.«01_k».proof.Proof.FfnSpec
public import Idealize.ShloMosaic.Lib.StableHlo.ReadAt

@[expose] public section

set_option maxRecDepth 16384

noncomputable section

/-! The arrays that the host part hands to the feed-forward kernel, entry by entry. -/

namespace Cert.Kernel2Ideal.Ffn
open Cert.Ffn (col col_pick)
open Idealize.ShloMosaic Idealize.ShloMosaic.TcCoe Idealize.SL.Sem Cert.Kernel2Ideal Cert.Kernel2Ideal.Gen

variable (m : (ℓ : Loc nD τ sig) → Buf (Elt Ideal) ℓ) (c : Dev nD)

theorem hx (r : Fin 65536) (k : Fin 1024) :
    V m c main_v20 (ix2 r k) = (m (c, Proc.tc.devRef main_arg0) (ix3 ⟨r.val / 2048, by omega⟩ ⟨r.val % 2048, by omega⟩ k) : EReal) := by
  unfold V
  repeat (
    after_reads_simp
    try simp -implicitDefEqProofs only [StableHlo.TRef.toBuf, StableHlo.TRef.ofBuf, cast_cast, cast_eq]
    pointwise)

theorem hmod (b : Fin 32) (n : Fin 6144) :
    V m c main_v21 (ix3 b 0 n) = (m (c, Proc.tc.devRef main_arg1) (ix2 b n) : EReal) := by
  unfold V
  repeat (
    after_reads_simp
    try simp -implicitDefEqProofs only [StableHlo.TRef.toBuf, StableHlo.TRef.ofBuf, cast_cast, cast_eq]
    pointwise)

theorem hg (k : Fin 1024) : V m c main_v22 (ix2 0 k) = (m (c, Proc.tc.devRef main_arg2) (ix1 k) : EReal) := by
  unfold V
  repeat (
    after_reads_simp
    try simp -implicitDefEqProofs only [StableHlo.TRef.toBuf, StableHlo.TRef.ofBuf, cast_cast, cast_eq]
    pointwise)

theorem hfg (k : Fin 1024) : V m c main_v23 (ix2 0 k) = (m (c, Proc.tc.devRef main_arg7) (ix1 k) : EReal) := by
  unfold V
  repeat (
    after_reads_simp
    try simp -implicitDefEqProofs only [StableHlo.TRef.toBuf, StableHlo.TRef.ofBuf, cast_cast, cast_eq]
    pointwise)

theorem hwd (n : Fin 2816) (k : Fin 1024) : V m c main_v19 (ix2 n k) = (m (c, Proc.tc.devRef main_arg6) (ix2 n k) : EReal) := by
  unfold V
  repeat (
    after_reads_simp
    try simp -implicitDefEqProofs only [StableHlo.TRef.toBuf, StableHlo.TRef.ofBuf, cast_cast, cast_eq]
    pointwise)

theorem hwu (j : Fin 11) (k : Fin 1024) (n : Fin 512) :
    V m c main_v6 (ix3 j k n) = (m (c, Proc.tc.devRef main_arg3) (ix2 k (col j n)) : EReal) := by
  unfold V
  repeat (
    after_reads_simp
    try simp -implicitDefEqProofs only [StableHlo.TRef.toBuf, StableHlo.TRef.ofBuf, cast_cast, cast_eq]
    pointwise)
  exact col_pick (fun q => m (c, Proc.tc.devRef main_arg3) (ix2 k q)) j n

theorem hcw (j : Fin 11) (q : Fin 3) (n : Fin 512) :
    V m c main_v12 (ix3 j q n) = (m (c, Proc.tc.devRef main_arg4) (ix2 q (col j n)) : EReal) := by
  unfold V
  repeat (
    after_reads_simp
    try simp -implicitDefEqProofs only [StableHlo.TRef.toBuf, StableHlo.TRef.ofBuf, cast_cast, cast_eq]
    pointwise)
  exact col_pick (fun q' => m (c, Proc.tc.devRef main_arg4) (ix2 q q')) j n

theorem hcb (j : Fin 11) (n : Fin 512) :
    V m c main_v18 (ix3 j 0 n) = (m (c, Proc.tc.devRef main_arg5) (ix1 (col j n)) : EReal) := by
  unfold V
  repeat (
    after_reads_simp
    try simp -implicitDefEqProofs only [StableHlo.TRef.toBuf, StableHlo.TRef.ofBuf, cast_cast, cast_eq]
    pointwise)
  exact col_pick (fun q => m (c, Proc.tc.devRef main_arg5) (ix1 q)) j n
end Cert.Kernel2Ideal.Ffn
end
-- ==== Proof.FfnBlocks.lean ====
module

public import proofs.«01_k».proof.Proof.FfnHost

@[expose] public section

set_option maxRecDepth 16384

noncomputable section

/-! What the input blocks of a grid point hold: 1024 rows, the eight rows before and after them, and the weights whole. -/

namespace Cert.Kernel2Ideal.Ffn
open Cert.Ffn (zero_f one_f)
open Idealize.ShloMosaic Idealize.ShloMosaic.TcCoe Idealize.SL.Sem Cert.Kernel2Ideal Cert.Kernel2Ideal.Gen

variable (m : (ℓ : Loc nD τ sig) → Buf (Elt Ideal) ℓ) (c : Dev nD)

theorem idx : ∀ t : Fin cfg0.N, win0_0.index t = ![t.val, 0] ∧ win0_1.index t = ![128 * t.val - 1, 0]
    ∧ win0_2.index t = ![min (128 * (t.val + 1)) 8191, 0] ∧ win0_3.index t = ![t.val / 2, 0, 0] ∧ win0_4.index t = ![0, 0]
    ∧ win0_5.index t = ![0, 0, 0] ∧ win0_6.index t = ![0, 0, 0] ∧ win0_7.index t = ![0, 0, 0] ∧ win0_8.index t = ![0, 0]
    ∧ win0_9.index t = ![0, 0] ∧ win0_10.index t = ![t.val, 0] :=
  (by decide +kernel : ∀ t : Fin grid0.N, _)

theorem lt64 (t : Fin cfg0.N) : t.val < 64 := lt_of_lt_of_eq t.isLt N_0

theorem blk0 (t : Fin cfg0.N) (r : Fin 1024) (k : Fin 1024) :
    (iblk m c 0 t : FVec Ideal S1024x1024 .f32) (ix2 r k)
      = V m c main_v20 (ix2 ⟨t.val * 1024 + r.val, by have := lt64 t; omega⟩ k) := by
  obtain ⟨e0, e1, e2, e3, e4, e5, e6, e7, e8, e9, e10⟩ := idx t
  blk_ext [iblk, e0]
theorem blk1 (t : Fin cfg0.N) (r : Fin 8) (k : Fin 1024) :
    (iblk m c 1 t : FVec Ideal S8x1024 .f32) (ix2 r k)
      = V m c main_v20 (ix2 ⟨(128 * t.val - 1) * 8 + r.val, by have := lt64 t; omega⟩ k) := by
  obtain ⟨e0, e1, e2, e3, e4, e5, e6, e7, e8, e9, e10⟩ := idx t
  blk_ext [iblk, e1]
theorem blk2 (t : Fin cfg0.N) (r : Fin 8) (k : Fin 1024) :
    (iblk m c 2 t : FVec Ideal S8x1024 .f32) (ix2 r k)
      = V m c main_v20 (ix2 ⟨min (128 * (t.val + 1)) 8191 * 8 + r.val, by have := lt64 t; omega⟩ k) := by
  obtain ⟨e0, e1, e2, e3, e4, e5, e6, e7, e8, e9, e10⟩ := idx t
  blk_ext [iblk, e2]
theorem blk3 (t : Fin cfg0.N) (n : Fin 6144) :
    (iblk m c 3 t : FVec Ideal S1x1x6144 .f32) (ix3 0 0 n) = V m c main_v21 (ix3 ⟨t.val / 2, by have := lt64 t; omega⟩ 0 n) := by
  obtain ⟨e0, e1, e2, e3, e4, e5, e6, e7, e8, e9, e10⟩ := idx t
  blk_ext [iblk, e3]
theorem blk4 (t : Fin cfg0.N) (k : Fin 1024) :
    (iblk m c 4 t : FVec Ideal S1x1024 .f32) (ix2 0 k) = V m c main_v22 (ix2 0 k) := by
  obtain ⟨e0, e1, e2, e3, e4, e5, e6, e7, e8, e9, e10⟩ := idx t
  blk_ext [iblk, e4]
theorem blk5 (t : Fin cfg0.N) (j : Fin 11) (k : Fin 1024) (n : Fin 512) :
    (iblk m c 5 t : FVec Ideal S11x1024x512 .bf16) (ix3 j k n) = V m c main_v6 (ix3 j k n) := by
  obtain ⟨e0, e1, e2, e3, e4, e5, e6, e7, e8, e9, e10⟩ := idx t
  blk_ext [iblk, e5]
theorem blk6 (t : Fin cfg0.N) (j : Fin 11) (q : Fin 3) (n : Fin 512) :
    (iblk m c 6 t : FVec Ideal S11x3x512 .f32) (ix3 j q n) = V m c main_v12 (ix3 j q n) := by
  obtain ⟨e0, e1, e2, e3, e4, e5, e6, e7, e8, e9, e10⟩ := idx t
  blk_ext [iblk, e6]
theorem blk7 (t : Fin cfg0.N) (j : Fin 11) (n : Fin 512) :
    (iblk m c 7 t : FVec Ideal S11x1x512 .f32) (ix3 j 0 n) = V m c main_v18 (ix3 j 0 n) := by
  obtain ⟨e0, e1, e2, e3, e4, e5, e6, e7, e8, e9, e10⟩ := idx t
  blk_ext [iblk, e7]
theorem blk8 (t : Fin cfg0.N) (n : Fin 2816) (k : Fin 1024) :
    (iblk m c 8 t : FVec Ideal S2816x1024 .bf16) (ix2 n k) = V m c main_v19 (ix2 n k) := by
  obtain ⟨e0, e1, e2, e3, e4, e5, e6, e7, e8, e9, e10⟩ := idx t
  blk_ext [iblk, e8]
theorem blk9 (t : Fin cfg0.N) (k : Fin 1024) :
    (iblk m c 9 t : FVec Ideal S1x1024 .f32) (ix2 0 k) = V m c main_v23 (ix2 0 k) := by
  obtain ⟨e0, e1, e2, e3, e4, e5, e6, e7, e8, e9, e10⟩ := idx t
  blk_ext [iblk, e9]

/-- Whether the block has a row before it in its sequence. -/
theorem prev_at (t : Fin cfg0.N) :
    (k0_pay5 (BitVec.ofNat 32 (grid0.coords t 0).val) 2#32 0#1 1#32 : Ideal .f32) = if t.val % 2 = 0 then 0 else 1 := by
  have h : ∀ t : Fin grid0.N, Scalar.cmpi .eq (Scalar.select
      (Scalar.andi (Scalar.xori (Scalar.cmpi .slt (Scalar.remsi (BitVec.ofNat 32 (grid0.coords t 0).val) (Scalar.select 0#1 1#32 2#32)) 0#32)
          (Scalar.cmpi .slt (Scalar.select 0#1 1#32 2#32) 0#32))
        (Scalar.cmpi .ne (Scalar.remsi (BitVec.ofNat 32 (grid0.coords t 0).val) (Scalar.select 0#1 1#32 2#32)) 0#32))
      (Scalar.addi (Scalar.remsi (BitVec.ofNat 32 (grid0.coords t 0).val) (Scalar.select 0#1 1#32 2#32)) (Scalar.select 0#1 1#32 2#32))
      (Scalar.remsi (BitVec.ofNat 32 (grid0.coords t 0).val) (Scalar.select 0#1 1#32 2#32))) 0#32 = if t.val % 2 = 0 then 1#1 else 0#1 := by
    decide +kernel
  unfold k0_pay5
  dsimp only
  rw [h t]
  by_cases h0 : t.val % 2 = 0
  · simp only [h0, if_true]; exact zero_f
  · rw [if_neg h0, if_neg h0]; exact one_f

/-- Whether the block has a row after it in its sequence. -/
theorem next_at (t : Fin cfg0.N) :
    (k0_pay6 (BitVec.ofNat 32 (grid0.coords t 0).val) : Ideal .f32) = if t.val % 2 = 1 then 0 else 1 := by
  have h : ∀ t : Fin grid0.N, Scalar.cmpi .eq (Scalar.select
      (Scalar.andi (Scalar.xori (Scalar.cmpi .slt (Scalar.remsi (BitVec.ofNat 32 (grid0.coords t 0).val) (Scalar.select (Scalar.cmpi .eq 2#32 0#32) 1#32 2#32)) 0#32)
          (Scalar.cmpi .slt (Scalar.select (Scalar.cmpi .eq 2#32 0#32) 1#32 2#32) 0#32))
        (Scalar.cmpi .ne (Scalar.remsi (BitVec.ofNat 32 (grid0.coords t 0).val) (Scalar.select (Scalar.cmpi .eq 2#32 0#32) 1#32 2#32)) 0#32))
      (Scalar.addi (Scalar.remsi (BitVec.ofNat 32 (grid0.coords t 0).val) (Scalar.select (Scalar.cmpi .eq 2#32 0#32) 1#32 2#32)) (Scalar.select (Scalar.cmpi .eq 2#32 0#32) 1#32 2#32))
      (Scalar.remsi (BitVec.ofNat 32 (grid0.coords t 0).val) (Scalar.select (Scalar.cmpi .eq 2#32 0#32) 1#32 2#32))) 1#32 = if t.val % 2 = 1 then 1#1 else 0#1 := by
    decide +kernel
  unfold k0_pay6
  dsimp only
  rw [h t]
  by_cases h0 : t.val % 2 = 1
  · simp only [h0, if_true]; exact zero_f
  · rw [if_neg h0, if_neg h0]; exact one_f
end Cert.Kernel2Ideal.Ffn
end
-- ==== Proof.FfnPoint.lean ====
module

public import proofs.«01_k».proof.Proof.FfnStore
public import proofs.«01_k».proof.Proof.FfnBlocks

@[expose] public section

set_option maxRecDepth 16384

noncomputable section

/-! A grid point computes 1024 rows of the feed-forward part. -/

namespace Cert.Kernel2Ideal.Ffn
open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The entries of the arguments on a device. -/
def args : Cert.Ffn.Args 32 where
  x b s k := (m (c, Proc.tc.devRef main_arg0) (ix3 b s k) : EReal)
  mod b n := (m (c, Proc.tc.devRef main_arg1) (ix2 b n) : EReal)
  g k := (m (c, Proc.tc.devRef main_arg2) (ix1 k) : EReal)
  wu k n := (m (c, Proc.tc.devRef main_arg3) (ix2 k n) : EReal)
  cw q n := (m (c, Proc.tc.devRef main_arg4) (ix2 q n) : EReal)
  cb n := (m (c, Proc.tc.devRef main_arg5) (ix1 n) : EReal)
  wd n k := (m (c, Proc.tc.devRef main_arg6) (ix2 n k) : EReal)
  fg k := (m (c, Proc.tc.devRef main_arg7) (ix1 k) : EReal)

/-- The sequence that a grid point works on. -/
def bt (t : Fin cfg0.N) : Fin 32 := ⟨t.val / 2, by have := lt64 t; omega⟩

/-- A row of the flattened input is a row of a sequence. -/
theorem x_at (r : Fin 65536) (b : Fin 32) (s : Fin 2048) (h : r.val = b.val * 2048 + s.val) (k : Fin 1024) :
    V m c main_v20 (ix2 r k) = (args m c).x b s k := by
  refine (hx m c r k).trans ?_
  have e1 : (⟨r.val / 2048, by omega⟩ : Fin 32) = b := Fin.ext (by show r.val / 2048 = b.val; omega)
  have e2 : (⟨r.val % 2048, by omega⟩ : Fin 2048) = s := Fin.ext (by show r.val % 2048 = s.val; omega)
  rw [e1, e2]
  rfl

variable {m c}

theorem point (t : Fin cfg0.N) : Point (args m c) (bt t) t.val (iblk m c 0 t : FVec Ideal S1024x1024 .f32) (iblk m c 1 t : FVec Ideal S8x1024 .f32)
    (iblk m c 2 t : FVec Ideal S8x1024 .f32) (iblk m c 3 t : FVec Ideal S1x1x6144 .f32) (iblk m c 4 t : FVec Ideal S1x1024 .f32)
    (iblk m c 5 t : FVec Ideal S11x1024x512 .bf16) (iblk m c 6 t : FVec Ideal S11x3x512 .f32) (iblk m c 7 t : FVec Ideal S11x1x512 .f32)
    (iblk m c 8 t : FVec Ideal S2816x1024 .bf16) (iblk m c 9 t : FVec Ideal S1x1024 .f32)
    (k0_pay5 (BitVec.ofNat 32 (grid0.coords t 0).val) 2#32 0#1 1#32) (k0_pay6 (BitVec.ofNat 32 (grid0.coords t 0).val)) where
  x r k := (blk0 m c t r k).trans (x_at m c _ _ _ (show t.val * 1024 + r.val = t.val / 2 * 2048 + (t.val % 2 * 1024 + r.val) by omega) k)
  xp ht k := (blk1 m c t 7 k).trans (x_at m c _ _ _ (show (128 * t.val - 1) * 8 + 7 = t.val / 2 * 2048 + 1023 by omega) k)
  xn ht k := (blk2 m c t 0 k).trans (x_at m c _ _ _
    (show min (128 * (t.val + 1)) 8191 * 8 + 0 = t.val / 2 * 2048 + 1024 by have := lt64 t; omega) k)
  m n := (blk3 m c t n).trans (hmod m c _ _)
  g k := (blk4 m c t k).trans (hg m c k)
  w j k n := (blk5 m c t j k n).trans (hwu m c j k n)
  c j q n := (blk6 m c t j q n).trans (hcw m c j q n)
  b j n := (blk7 m c t j n).trans (hcb m c j n)
  d n k := (blk8 m c t n k).trans (hwd m c n k)
  fg k := (blk9 m c t k).trans (hfg m c k)
  p := prev_at t
  n := next_at t

theorem point_value (t : Fin cfg0.N) (r : Fin 1024) (k : Fin 1024) :
    (outsAt0 m c t) (ix2 r k) = Cert.Ffn.out (args m c) silu (bt t) (sq t.val r) k :=
  (point_tail m c t _).trans (tail_row (point t) _ r k)

/-- The kernel's result. -/
def result (A : Cert.Ffn.Args 32) : FVec Ideal S65536x1024 .f32 := fun i =>
  Cert.Ffn.out A silu ⟨(i 0).val / 2048, by have : (i 0).val < 65536 := (i 0).isLt; omega⟩ ⟨(i 0).val % 2048, Nat.mod_lt _ (by decide)⟩
    ⟨(i 1).val, (i 1).isLt⟩

theorem final : (dats m 0 c).arrAt 10 cfg0.N = result (args m c) := by
  refine (dats m 0 c).arrAt_eq_of_covers 10 _ (by decide +kernel) fun t hf y => ?_
  have e10 := (idx t).2.2.2.2.2.2.2.2.2.2
  blk_simp
  rw [after0_10]
  have b0 : (((cfg0.win 10).blk t).view.emb y 0).val = win0_10.index t (0 : Fin 2) * 1024 + 1 * (y 0).val := rfl
  have b1 : (((cfg0.win 10).blk t).view.emb y 1).val = win0_10.index t (1 : Fin 2) * 1024 + 1 * (y 1).val := rfl
  have y0 : (y 0).val < 1024 := (y 0).isLt
  have y1 : (y 1).val < 1024 := (y 1).isLt
  have ht := lt64 t
  rw [e10] at b0 b1
  have b0' : (((cfg0.win 10).blk t).view.emb y 0).val = t.val * 1024 + 1 * (y 0).val := b0
  have b1' : (((cfg0.win 10).blk t).view.emb y 1).val = 0 * 1024 + 1 * (y 1).val := b1
  have hy : (y : S1024x1024.Idx) = ix2 ⟨(y 0).val, y0⟩ ⟨(y 1).val, y1⟩ := by
    funext a; apply Fin.ext
    match a with
    | ⟨0, _⟩ => rfl
    | ⟨1, _⟩ => rfl
  refine (congrArg (outsAt0 m c t) hy).trans ((point_value t _ _).trans ?_)
  have hout : ∀ (b b' : Fin 32) (r r' : Fin 2048) (k k' : Fin 1024), b = b' → r = r' → k = k' →
      Cert.Ffn.out (args m c) silu b r k = Cert.Ffn.out (args m c) silu b' r' k' := by
    rintro b _ r _ k _ rfl rfl rfl; rfl
  refine hout _ _ _ _ _ _ (Fin.ext ?_) (Fin.ext ?_) (Fin.ext ?_)
  · show t.val / 2 = (((cfg0.win 10).blk t).view.emb y 0).val / 2048
    omega
  · show t.val % 2 * 1024 + (y 0).val = (((cfg0.win 10).blk t).view.emb y 0).val % 2048
    omega
  · show (y 1).val = (((cfg0.win 10).blk t).view.emb y 1).val
    omega
end Cert.Kernel2Ideal.Ffn
end
-- ==== Proof.FfnFinite.lean ====
module

public import proofs.«01_k».proof.Defs
public import proofs.«01_k».proof.Proof.Finite
public import proofs.«01_k».proof.Proof.FfnGate
public import proofs.«01_k».proof.Proof.FfnPoint

@[expose] public section

set_option maxRecDepth 16384

noncomputable section

namespace Cert.Finite2

open Cert Idealize.ShloMosaic Idealize.ShloMosaic.TcCoe

/-! The precondition of the feed-forward part says that the entries of the modulation and of the weights before
the gate are real numbers. -/

theorem facts : Cert.Pre_finite2.Facts where
  bcast_S_S32x6144 := by decide
  bcast_S_S1024 := by decide
  bcast_S_S1024x5632 := by decide
  bcast_S_S3x5632 := by decide
  bcast_S_S5632 := by decide

theorem holds (m : (ℓ : Loc Kernel2Ideal.nD Kernel2Ideal.τ Kernel2Ideal.sig) → Buf (Elt Ideal) ℓ)
    (h : Pre_Kernel2Ideal_finite2 (hPre_finite2 := facts) m) (c : Dev Kernel2Ideal.nD) : Ffn.Finite (Kernel2Ideal.Ffn.args m c) where
  mod b n := ⟨_, Finite.real_of_lt (congrFun (h c).1 (ix2 b n))⟩
  g k := ⟨_, Finite.real_of_lt (congrFun (h c).2.1 (ix1 k))⟩
  wu k n := ⟨_, Finite.real_of_lt (congrFun (h c).2.2.1 (ix2 k n))⟩
  cw q n := ⟨_, Finite.real_of_lt (congrFun (h c).2.2.2.1 (ix2 q n))⟩
  cb n := ⟨_, Finite.real_of_lt (congrFun (h c).2.2.2.2 (ix1 n))⟩

end Cert.Finite2

end
-- ==== Proof.InProjSpec.lean ====
module

public import proofs.«01_k».proof.Proof.FfnReal

@[expose] public section

noncomputable section

/-! The input projection as mathematics: the rows are normalised, scaled, shifted and projected; the columns of the
    projection are laid out with the rotated rope key and with zeros in between. -/

namespace Cert.InProj
open Idealize.ShloMosaic
open Cert.Ffn (rms IsReal)

/-- The arguments, entry by entry. -/
structure Args where
  x : Fin 65536 → Fin 1024 → EReal
  mod : Fin 32 → Fin 6144 → EReal
  g : Fin 1024 → EReal
  w : Fin 1024 → Fin 6832 → EReal

/-- The 6832 columns laid out as 7040: the first 672, the rope key rotated (its second half negated, then its first
    half), 64 zeros, the mixers' other columns, 112 zeros, the gates. -/
def lay (f : Fin 6832 → EReal) (n : Fin 7040) : EReal :=
  if h : n.val < 672 then f ⟨n.val, by omega⟩
  else if h : n.val < 688 then -f ⟨n.val - 16, by omega⟩
  else if h : n.val < 704 then f ⟨n.val - 48, by omega⟩
  else if h : n.val < 768 then 0
  else if h : n.val < 3856 then f ⟨n.val - 96, by omega⟩
  else if h : n.val < 3968 then 0
  else f ⟨n.val - 208, by omega⟩

section
variable (f : Fin 6832 → EReal) (n : Fin 7040)

theorem lay_first {j : Fin 6832} (h : n.val < 672) (hj : j.val = n.val) : lay f n = f j :=
  (dif_pos h).trans (congrArg f (Fin.ext hj.symm))

theorem lay_neg {j : Fin 6832} (h : 672 ≤ n.val) (h' : n.val < 688) (hj : j.val = n.val - 16) : lay f n = -f j :=
  (dif_neg (show ¬ n.val < 672 by omega)).trans ((dif_pos h').trans (congrArg (fun j => -f j) (Fin.ext hj.symm)))

theorem lay_rot {j : Fin 6832} (h : 688 ≤ n.val) (h' : n.val < 704) (hj : j.val = n.val - 48) : lay f n = f j :=
  (dif_neg (show ¬ n.val < 672 by omega)).trans ((dif_neg (show ¬ n.val < 688 by omega)).trans ((dif_pos h').trans (congrArg f (Fin.ext hj.symm))))

theorem lay_zero (h : 704 ≤ n.val) (h' : n.val < 768) : lay f n = 0 :=
  (dif_neg (show ¬ n.val < 672 by omega)).trans ((dif_neg (show ¬ n.val < 688 by omega)).trans ((dif_neg (show ¬ n.val < 704 by omega)).trans (dif_pos h')))

theorem lay_mid {j : Fin 6832} (h : 768 ≤ n.val) (h' : n.val < 3856) (hj : j.val = n.val - 96) : lay f n = f j :=
  (dif_neg (show ¬ n.val < 672 by omega)).trans ((dif_neg (show ¬ n.val < 688 by omega)).trans ((dif_neg (show ¬ n.val < 704 by omega)).trans
    ((dif_neg (show ¬ n.val < 768 by omega)).trans ((dif_pos h').trans (congrArg f (Fin.ext hj.symm))))))

theorem lay_zero' (h : 3856 ≤ n.val) (h' : n.val < 3968) : lay f n = 0 :=
  (dif_neg (show ¬ n.val < 672 by omega)).trans ((dif_neg (show ¬ n.val < 688 by omega)).trans ((dif_neg (show ¬ n.val < 704 by omega)).trans
    ((dif_neg (show ¬ n.val < 768 by omega)).trans ((dif_neg (show ¬ n.val < 3856 by omega)).trans (dif_pos h')))))

theorem lay_gates {j : Fin 6832} (h : 3968 ≤ n.val) (hj : j.val = n.val - 208) : lay f n = f j :=
  (dif_neg (show ¬ n.val < 672 by omega)).trans ((dif_neg (show ¬ n.val < 688 by omega)).trans ((dif_neg (show ¬ n.val < 704 by omega)).trans
    ((dif_neg (show ¬ n.val < 768 by omega)).trans ((dif_neg (show ¬ n.val < 3856 by omega)).trans ((dif_neg (show ¬ n.val < 3968 by omega)).trans
      (congrArg f (Fin.ext hj.symm)))))))

theorem neg_sum {h w : Fin 1024 → EReal} (hh : ∀ k, IsReal (h k)) (hw : ∀ k, IsReal (w k)) : ∑ k, h k * -w k = -∑ k, h k * w k := by
  choose a ha using hh
  choose b hb using hw
  simp only [ha, hb, ← EReal.coe_neg, ← EReal.coe_mul, Cert.Layer.coe_sum]
  rw [← Finset.sum_neg_distrib]
  simp only [mul_neg]

/-- Projecting onto the laid out columns is laying out the projections, for real rows and columns. -/
theorem sum_lay {h : Fin 1024 → EReal} {w : Fin 1024 → Fin 6832 → EReal} (hh : ∀ k, IsReal (h k)) (hw : ∀ k j, IsReal (w k j)) :
    ∑ k, h k * lay (w k) n = lay (fun j => ∑ k, h k * w k j) n := by
  have e : ∀ {j : Fin 6832}, (∀ f, lay f n = f j) → ∑ k, h k * lay (w k) n = lay (fun j => ∑ k, h k * w k j) n := fun {j} hf => by
    simp only [hf]
  have z : (∀ f, lay f n = 0) → ∑ k, h k * lay (w k) n = lay (fun j => ∑ k, h k * w k j) n := fun hf => by
    simp only [hf, mul_zero, Finset.sum_const_zero]
  by_cases h1 : n.val < 672
  · exact e (j := ⟨n.val, by omega⟩) fun f => lay_first f n h1 rfl
  by_cases h2 : n.val < 688
  · have hf : ∀ f, lay f n = -f ⟨n.val - 16, by omega⟩ := fun f => lay_neg f n (by omega) h2 rfl
    simp only [hf]
    exact neg_sum hh fun k => hw k _
  by_cases h3 : n.val < 704
  · exact e (j := ⟨n.val - 48, by omega⟩) fun f => lay_rot f n (by omega) h3 rfl
  by_cases h4 : n.val < 768
  · exact z fun f => lay_zero f n (by omega) h4
  by_cases h5 : n.val < 3856
  · exact e (j := ⟨n.val - 96, by omega⟩) fun f => lay_mid f n (by omega) h5 rfl
  by_cases h6 : n.val < 3968
  · exact z fun f => lay_zero' f n (by omega) h6
  · exact e (j := ⟨n.val - 208, by omega⟩) fun f => lay_gates f n (by omega) rfl
end

variable (A : Args)

/-- The normalised, scaled and shifted input. -/
def nrm (r : Fin 65536) (k : Fin 1024) : EReal :=
  rms (A.x r) (A.g k) k * (1 + A.mod ⟨r.val / 2048, by omega⟩ ⟨1024 + k.val, by omega⟩) + A.mod ⟨r.val / 2048, by omega⟩ ⟨k.val, by omega⟩

/-- A column of the projection. -/
def prj (r : Fin 65536) (j : Fin 6832) : EReal := ∑ k : Fin 1024, nrm A r k * A.w k j

/-- A laid out column of the projection. -/
def out (r : Fin 65536) (n : Fin 7040) : EReal := lay (prj A r) n

/-- The same over laid out weights. -/
def out' (r : Fin 65536) (n : Fin 7040) : EReal := ∑ k : Fin 1024, nrm A r k * lay (A.w k) n

/-- The modulation and the weights are real. -/
structure Finite (A : Args) : Prop where
  mod : ∀ b n, IsReal (A.mod b n)
  g : ∀ k, IsReal (A.g k)
  w : ∀ k j, IsReal (A.w k j)

theorem out_eq {A : Args} (H : Finite A) (r : Fin 65536) (n : Fin 7040) : out' A r n = out A r n :=
  sum_lay n (fun k => ((Cert.Ffn.rms_real (H.g k) k).mul (Cert.Ffn.IsReal.one.add (H.mod _ _))).add (H.mod _ _)) H.w

end Cert.InProj
end
-- ==== Proof.InProjHost.lean ====
module

public import proofs.«01_k».proof.Proof.Gen.Kernel3Ideal.Value
public import proofs.«01_k».proof.Proof.InProjSpec
public import Idealize.ShloMosaic.Lib.Pipeline.ValueKit
public import Idealize.ShloMosaic.Lib.StableHlo.ReadAt

@[expose] public section

set_option maxRecDepth 16384

noncomputable section

/-! The arrays that the host part hands to the input projection, entry by entry. -/

namespace Cert.Kernel3Ideal.InProj
open Idealize.ShloMosaic Idealize.ShloMosaic.TcCoe Idealize.SL.Sem Cert.Kernel3Ideal Cert.Kernel3Ideal.Gen
open Cert.InProj (lay_first lay_neg lay_rot lay_zero lay_mid lay_zero' lay_gates)

variable (m : (ℓ : Loc nD τ sig) → Buf (Elt Ideal) ℓ) (c : Dev nD)

/-- The entries of the arguments on a device. -/
def args : Cert.InProj.Args where
  x r k := (m (c, Proc.tc.devRef main_arg0) (ix3 ⟨r.val / 2048, by omega⟩ ⟨r.val % 2048, by omega⟩ k) : EReal)
  mod b n := (m (c, Proc.tc.devRef main_arg1) (ix2 b n) : EReal)
  g k := (m (c, Proc.tc.devRef main_arg2) (ix1 k) : EReal)
  w k n := (m (c, Proc.tc.devRef main_arg3) (ix2 k n) : EReal)

theorem hx (r : Fin 65536) (k : Fin 1024) : V m c main_v15 (ix2 r k) = (args m c).x r k := by
  unfold V args
  repeat (
    after_reads_simp
    try simp -implicitDefEqProofs only [StableHlo.TRef.toBuf, StableHlo.TRef.ofBuf, cast_cast, cast_eq]
    pointwise)

theorem hmod (b : Fin 32) (n : Fin 6144) : V m c main_v16 (ix3 b 0 n) = (args m c).mod b n := by
  unfold V args
  repeat (
    after_reads_simp
    try simp -implicitDefEqProofs only [StableHlo.TRef.toBuf, StableHlo.TRef.ofBuf, cast_cast, cast_eq]
    pointwise)

theorem hg (k : Fin 1024) : V m c main_v17 (ix2 0 k) = (args m c).g k := by
  unfold V args
  repeat (
    after_reads_simp
    try simp -implicitDefEqProofs only [StableHlo.TRef.toBuf, StableHlo.TRef.ofBuf, cast_cast, cast_eq]
    pointwise)

theorem piece1 (k : Fin 1024) (n : Fin 384) :
    StableHlo.upto hostOps0 (fun b => m (c, b)) 15 (Proc.tc.devRef main_v1) (ix2 k n) = ((args m c).w k ⟨n.val, by omega⟩ : EReal) := by
  unfold args
  repeat (
    after_reads_simp
    try simp -implicitDefEqProofs only [StableHlo.TRef.toBuf, StableHlo.TRef.ofBuf, cast_cast, cast_eq]
    pointwise)

theorem piece2 (k : Fin 1024) (n : Fin 256) :
    StableHlo.upto hostOps0 (fun b => m (c, b)) 15 (Proc.tc.devRef main_v2) (ix2 k n) = ((args m c).w k ⟨384 + n.val, by omega⟩ : EReal) := by
  unfold args
  repeat (
    after_reads_simp
    try simp -implicitDefEqProofs only [StableHlo.TRef.toBuf, StableHlo.TRef.ofBuf, cast_cast, cast_eq]
    pointwise)

theorem piece3 (k : Fin 1024) (n : Fin 32) :
    StableHlo.upto hostOps0 (fun b => m (c, b)) 15 (Proc.tc.devRef main_v0) (ix2 k n) = ((args m c).w k ⟨640 + n.val, by omega⟩ : EReal) := by
  unfold args
  repeat (
    after_reads_simp
    try simp -implicitDefEqProofs only [StableHlo.TRef.toBuf, StableHlo.TRef.ofBuf, cast_cast, cast_eq]
    pointwise)

theorem piece4 (k : Fin 1024) (n : Fin 32) :
    StableHlo.upto hostOps0 (fun b => m (c, b)) 15 (Proc.tc.devRef main_v6) (ix2 k n)
      = (if h : n.val < 16 then -(args m c).w k ⟨640 + (16 + n.val), by omega⟩ else (args m c).w k ⟨640 + (n.val - 16), by omega⟩ : EReal) := by
  unfold args
  repeat (
    after_reads_simp
    try simp -implicitDefEqProofs only [StableHlo.TRef.toBuf, StableHlo.TRef.ofBuf, cast_cast, cast_eq]
    pointwise)

theorem piece5 (k : Fin 1024) (n : Fin 64) :
    StableHlo.upto hostOps0 (fun b => m (c, b)) 15 (Proc.tc.devRef main_v7) (ix2 k n) = (0 : EReal) := by
  repeat (
    after_reads_simp
    try simp -implicitDefEqProofs only [StableHlo.TRef.toBuf, StableHlo.TRef.ofBuf, cast_cast, cast_eq]
    pointwise)

theorem piece6 (k : Fin 1024) (n : Fin 1024) :
    StableHlo.upto hostOps0 (fun b => m (c, b)) 15 (Proc.tc.devRef main_v8) (ix2 k n) = ((args m c).w k ⟨672 + n.val, by omega⟩ : EReal) := by
  unfold args
  repeat (
    after_reads_simp
    try simp -implicitDefEqProofs only [StableHlo.TRef.toBuf, StableHlo.TRef.ofBuf, cast_cast, cast_eq]
    pointwise)

theorem piece7 (k : Fin 1024) (n : Fin 2048) :
    StableHlo.upto hostOps0 (fun b => m (c, b)) 15 (Proc.tc.devRef main_v9) (ix2 k n) = ((args m c).w k ⟨1696 + n.val, by omega⟩ : EReal) := by
  unfold args
  repeat (
    after_reads_simp
    try simp -implicitDefEqProofs only [StableHlo.TRef.toBuf, StableHlo.TRef.ofBuf, cast_cast, cast_eq]
    pointwise)

theorem piece8 (k : Fin 1024) (n : Fin 16) :
    StableHlo.upto hostOps0 (fun b => m (c, b)) 15 (Proc.tc.devRef main_v10) (ix2 k n) = ((args m c).w k ⟨3744 + n.val, by omega⟩ : EReal) := by
  unfold args
  repeat (
    after_reads_simp
    try simp -implicitDefEqProofs only [StableHlo.TRef.toBuf, StableHlo.TRef.ofBuf, cast_cast, cast_eq]
    pointwise)

theorem piece9 (k : Fin 1024) (n : Fin 112) :
    StableHlo.upto hostOps0 (fun b => m (c, b)) 15 (Proc.tc.devRef main_v11) (ix2 k n) = (0 : EReal) := by
  repeat (
    after_reads_simp
    try simp -implicitDefEqProofs only [StableHlo.TRef.toBuf, StableHlo.TRef.ofBuf, cast_cast, cast_eq]
    pointwise)

theorem piece10 (k : Fin 1024) (n : Fin 3072) :
    StableHlo.upto hostOps0 (fun b => m (c, b)) 15 (Proc.tc.devRef main_v12) (ix2 k n) = ((args m c).w k ⟨3760 + n.val, by omega⟩ : EReal) := by
  unfold args
  repeat (
    after_reads_simp
    try simp -implicitDefEqProofs only [StableHlo.TRef.toBuf, StableHlo.TRef.ofBuf, cast_cast, cast_eq]
    pointwise)

theorem hw (k : Fin 1024) (n : Fin 7040) : V m c main_v14 (ix2 k n) = (Cert.InProj.lay ((args m c).w k) n : EReal) := by
  unfold V
  after_reads_simp
  try simp -implicitDefEqProofs only [StableHlo.TRef.toBuf, StableHlo.TRef.ofBuf, cast_cast, cast_eq]
  pointwise
  have hn := n.isLt
  by_cases h1 : n.val < 384
  · exact (dif_pos h1).trans ((piece1 m c k _).trans (lay_first _ n (by omega) rfl).symm)
  refine (dif_neg h1).trans ?_
  by_cases h2 : n.val - 384 < 256
  · exact (dif_pos h2).trans ((piece2 m c k _).trans (lay_first _ n (by omega) (show 384 + (n.val - 384) = n.val by omega)).symm)
  refine (dif_neg h2).trans ?_
  by_cases h3 : n.val - 384 - 256 < 32
  · exact (dif_pos h3).trans ((piece3 m c k _).trans (lay_first _ n (by omega) (show 640 + (n.val - 384 - 256) = n.val by omega)).symm)
  refine (dif_neg h3).trans ?_
  by_cases h4 : n.val - 384 - 256 - 32 < 32
  · refine (dif_pos h4).trans ((piece4 m c k _).trans ?_)
    by_cases h : n.val - 384 - 256 - 32 < 16
    · exact (dif_pos h).trans (lay_neg _ n (by omega) (by omega) (show 640 + (16 + (n.val - 384 - 256 - 32)) = n.val - 16 by omega)).symm
    · exact (dif_neg h).trans (lay_rot _ n (by omega) (by omega) (show 640 + (n.val - 384 - 256 - 32 - 16) = n.val - 48 by omega)).symm
  refine (dif_neg h4).trans ?_
  by_cases h5 : n.val - 384 - 256 - 32 - 32 < 64
  · exact (dif_pos h5).trans ((piece5 m c k _).trans (lay_zero _ n (by omega) (by omega)).symm)
  refine (dif_neg h5).trans ?_
  by_cases h6 : n.val - 384 - 256 - 32 - 32 - 64 < 1024
  · exact (dif_pos h6).trans ((piece6 m c k _).trans (lay_mid _ n (by omega) (by omega) (show 672 + (n.val - 384 - 256 - 32 - 32 - 64) = n.val - 96 by omega)).symm)
  refine (dif_neg h6).trans ?_
  by_cases h7 : n.val - 384 - 256 - 32 - 32 - 64 - 1024 < 2048
  · exact (dif_pos h7).trans ((piece7 m c k _).trans (lay_mid _ n (by omega) (by omega) (show 1696 + (n.val - 384 - 256 - 32 - 32 - 64 - 1024) = n.val - 96 by omega)).symm)
  refine (dif_neg h7).trans ?_
  by_cases h8 : n.val - 384 - 256 - 32 - 32 - 64 - 1024 - 2048 < 16
  · exact (dif_pos h8).trans ((piece8 m c k _).trans (lay_mid _ n (by omega) (by omega) (show 3744 + (n.val - 384 - 256 - 32 - 32 - 64 - 1024 - 2048) = n.val - 96 by omega)).symm)
  refine (dif_neg h8).trans ?_
  by_cases h9 : n.val - 384 - 256 - 32 - 32 - 64 - 1024 - 2048 - 16 < 112
  · exact (dif_pos h9).trans ((piece9 m c k _).trans (lay_zero' _ n (by omega) (by omega)).symm)
  · exact (dif_neg h9).trans ((piece10 m c k _).trans (lay_gates _ n (by omega) (show 3760 + (n.val - 384 - 256 - 32 - 32 - 64 - 1024 - 2048 - 16 - 112) = n.val - 208 by omega)).symm)
end Cert.Kernel3Ideal.InProj
end
-- ==== Proof.InProjPoint.lean ====
module

public import proofs.«01_k».proof.Proof.InProjHost

@[expose] public section

set_option maxRecDepth 16384

noncomputable section

/-! A grid point of the input projection computes 512 rows of its five results. -/

namespace Cert.Kernel3Ideal.InProj
open Idealize.ShloMosaic Idealize.ShloMosaic.TcCoe Idealize.SL.Sem Cert.Kernel3Ideal Cert.Kernel3Ideal.Gen

section
variable (X : FVec Ideal S512x1024 .f32) (M : FVec Ideal S1x1x6144 .f32) (G : FVec Ideal S1x1024 .f32) (W : FVec Ideal S1024x7040 .bf16)

/-- The normalised, scaled and shifted row `r` of a block. -/
def nrmB (r : Fin 512) (k : Fin 1024) : EReal :=
  Cert.Ffn.rms (fun j => X (ix2 r j)) (G (ix2 0 k)) k * (1 + M (ix3 0 0 ⟨1024 + k.val, by omega⟩)) + M (ix3 0 0 ⟨k.val, by omega⟩)

/-- Its product with column `n` of the laid out weights. -/
def dotB (r : Fin 512) (n : Fin 7040) : EReal := ∑ k : Fin 1024, nrmB X M G r k * W (ix2 k n)

theorem out4_at (r : Fin 512) (n : Fin 768) :
    (out0_4 (F := Ideal) X M G W : FVec Ideal S512x768 .bf16) (ix2 r n) = dotB X M G W r ⟨n.val, by omega⟩ := by
  frame_out
  open_payloads
  pointwise [dotB, nrmB, Cert.Ffn.rms]

theorem out5_at (r : Fin 512) (n : Fin 1024) :
    (out0_5 (F := Ideal) X M G W : FVec Ideal S512x1024 .bf16) (ix2 r n) = dotB X M G W r ⟨768 + n.val, by omega⟩ := by
  frame_out
  open_payloads
  pointwise [dotB, nrmB, Cert.Ffn.rms]

theorem out6_at (r : Fin 512) (n : Fin 2048) :
    (out0_6 (F := Ideal) X M G W : FVec Ideal S512x2048 .bf16) (ix2 r n) = dotB X M G W r ⟨1792 + n.val, by omega⟩ := by
  frame_out
  open_payloads
  pointwise [dotB, nrmB, Cert.Ffn.rms]

theorem out7_at (r : Fin 512) (n : Fin 128) :
    (out0_7 (F := Ideal) X M G W : FVec Ideal S512x128 .f32) (ix2 r n) = dotB X M G W r ⟨3840 + n.val, by omega⟩ := by
  frame_out
  open_payloads
  pointwise [dotB, nrmB, Cert.Ffn.rms]

theorem out8_at (r : Fin 512) (n : Fin 3072) :
    (out0_8 (F := Ideal) X M G W : FVec Ideal S512x3072 .bf16) (ix2 r n) = dotB X M G W r ⟨3968 + n.val, by omega⟩ := by
  frame_out
  open_payloads
  pointwise [dotB, nrmB, Cert.Ffn.rms]

end

variable (m : (ℓ : Loc nD τ sig) → Buf (Elt Ideal) ℓ) (c : Dev nD)

theorem idx : ∀ t : Fin cfg0.N, win0_0.index t = ![t.val, 0] ∧ win0_1.index t = ![t.val / 4, 0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem lt128 (t : Fin cfg0.N) : t.val < 128 := lt_of_lt_of_eq t.isLt N_0

/-- A grid point's row in the flattened input. -/
def row (t : Fin cfg0.N) (r : Fin 512) : Fin 65536 := ⟨t.val * 512 + r.val, by have := lt128 t; omega⟩

theorem blk0 (t : Fin cfg0.N) (r : Fin 512) (k : Fin 1024) :
    (iblk m c 0 t : FVec Ideal S512x1024 .f32) (ix2 r k) = (args m c).x (row t r) k := by
  refine Eq.trans ?_ (hx m c _ _)
  unfold row
  obtain ⟨e0, e1, e2, e3, e4, e5, e6, e7, e8⟩ := idx t
  blk_ext [iblk, e0]
theorem blk1 (t : Fin cfg0.N) (n : Fin 6144) :
    (iblk m c 1 t : FVec Ideal S1x1x6144 .f32) (ix3 0 0 n) = (args m c).mod ⟨t.val / 4, by have := lt128 t; omega⟩ n := by
  refine Eq.trans ?_ (hmod m c _ _)
  obtain ⟨e0, e1, e2, e3, e4, e5, e6, e7, e8⟩ := idx t
  blk_ext [iblk, e1]
theorem blk2 (t : Fin cfg0.N) (k : Fin 1024) :
    (iblk m c 2 t : FVec Ideal S1x1024 .f32) (ix2 0 k) = (args m c).g k := by
  refine Eq.trans ?_ (hg m c _)
  obtain ⟨e0, e1, e2, e3, e4, e5, e6, e7, e8⟩ := idx t
  blk_ext [iblk, e2]
theorem blk3 (t : Fin cfg0.N) (k : Fin 1024) (n : Fin 7040) :
    (iblk m c 3 t : FVec Ideal S1024x7040 .bf16) (ix2 k n) = Cert.InProj.lay ((args m c).w k) n := by
  refine Eq.trans ?_ (hw m c _ _)
  obtain ⟨e0, e1, e2, e3, e4, e5, e6, e7, e8⟩ := idx t
  blk_ext [iblk, e3]

theorem dot_at (t : Fin cfg0.N) (r : Fin 512) (n : Fin 7040) :
    dotB (iblk m c 0 t : FVec Ideal S512x1024 .f32) (iblk m c 1 t : FVec Ideal S1x1x6144 .f32) (iblk m c 2 t : FVec Ideal S1x1024 .f32)
      (iblk m c 3 t : FVec Ideal S1024x7040 .bf16) r n = Cert.InProj.out' (args m c) (row t r) n := by
  unfold dotB nrmB Cert.InProj.out' Cert.InProj.nrm
  simp only [blk0, blk1, blk2, blk3]
  have e : (⟨t.val / 4, by have := lt128 t; omega⟩ : Fin 32) = ⟨(row t r).val / 2048, by omega⟩ :=
    Fin.ext (by show t.val / 4 = (t.val * 512 + r.val) / 2048; omega)
  rw [e]

/-- A result: `w` laid out columns from column `o`. -/
def result (A : Cert.InProj.Args) (w o : Nat) (h : o + w ≤ 7040) (φ : FTy) : FVec Ideal ⟨2, ![65536, w]⟩ φ := fun i =>
  Cert.InProj.out' A ⟨(i 0).val, (i 0).isLt⟩ ⟨o + (i 1).val, by have : (i 1).val < w := (i 1).isLt; omega⟩

theorem result_at {A : Cert.InProj.Args} {w o : Nat} {h : o + w ≤ 7040} {φ : FTy} {i : (⟨2, ![65536, w]⟩ : Shape).Idx} {r : Fin 65536} {n : Fin 7040}
    (h0 : (i 0).val = r.val) (h1 : o + (i 1).val = n.val) : Cert.InProj.out' A r n = result A w o h φ i :=
  congrArg₂ (Cert.InProj.out' A) (Fin.ext h0.symm) (Fin.ext h1.symm)

theorem final4 : (dats m 0 c).arrAt 4 cfg0.N = result (args m c) 768 0 (by decide) .bf16 := by
  refine (dats m 0 c).arrAt_eq_of_covers 4 _ (by decide +kernel) fun t hf y => ?_
  have e := (idx t).2.2.2.2.1
  blk_simp
  rw [after0_4]
  have b0 : (((cfg0.win 4).blk t).view.emb y 0).val = win0_4.index t (0 : Fin 2) * 512 + 1 * (y 0).val := rfl
  have b1 : (((cfg0.win 4).blk t).view.emb y 1).val = win0_4.index t (1 : Fin 2) * 768 + 1 * (y 1).val := rfl
  have y0 : (y 0).val < 512 := (y 0).isLt
  have y1 : (y 1).val < 768 := (y 1).isLt
  rw [e] at b0 b1
  have b0' : (((cfg0.win 4).blk t).view.emb y 0).val = t.val * 512 + 1 * (y 0).val := b0
  have b1' : (((cfg0.win 4).blk t).view.emb y 1).val = 0 * 768 + 1 * (y 1).val := b1
  have hy : (y : S512x768.Idx) = ix2 ⟨(y 0).val, y0⟩ ⟨(y 1).val, y1⟩ := by
    funext a; apply Fin.ext
    match a with
    | ⟨0, _⟩ => rfl
    | ⟨1, _⟩ => rfl
  refine (congrArg (out0_4 (F := Ideal) (iblk m c 0 t) (iblk m c 1 t) (iblk m c 2 t) (iblk m c 3 t)) hy).trans ((out4_at _ _ _ _ _ _).trans ((dot_at m c t _ _).trans (result_at ?_ ?_)))
  · show (((cfg0.win 4).blk t).view.emb y 0).val = t.val * 512 + (y 0).val
    omega
  · show 0 + (((cfg0.win 4).blk t).view.emb y 1).val = (y 1).val
    omega

theorem final5 : (dats m 0 c).arrAt 5 cfg0.N = result (args m c) 1024 768 (by decide) .bf16 := by
  refine (dats m 0 c).arrAt_eq_of_covers 5 _ (by decide +kernel) fun t hf y => ?_
  have e := (idx t).2.2.2.2.2.1
  blk_simp
  rw [after0_5]
  have b0 : (((cfg0.win 5).blk t).view.emb y 0).val = win0_5.index t (0 : Fin 2) * 512 + 1 * (y 0).val := rfl
  have b1 : (((cfg0.win 5).blk t).view.emb y 1).val = win0_5.index t (1 : Fin 2) * 1024 + 1 * (y 1).val := rfl
  have y0 : (y 0).val < 512 := (y 0).isLt
  have y1 : (y 1).val < 1024 := (y 1).isLt
  rw [e] at b0 b1
  have b0' : (((cfg0.win 5).blk t).view.emb y 0).val = t.val * 512 + 1 * (y 0).val := b0
  have b1' : (((cfg0.win 5).blk t).view.emb y 1).val = 0 * 1024 + 1 * (y 1).val := b1
  have hy : (y : S512x1024.Idx) = ix2 ⟨(y 0).val, y0⟩ ⟨(y 1).val, y1⟩ := by
    funext a; apply Fin.ext
    match a with
    | ⟨0, _⟩ => rfl
    | ⟨1, _⟩ => rfl
  refine (congrArg (out0_5 (F := Ideal) (iblk m c 0 t) (iblk m c 1 t) (iblk m c 2 t) (iblk m c 3 t)) hy).trans ((out5_at _ _ _ _ _ _).trans ((dot_at m c t _ _).trans (result_at ?_ ?_)))
  · show (((cfg0.win 5).blk t).view.emb y 0).val = t.val * 512 + (y 0).val
    omega
  · show 768 + (((cfg0.win 5).blk t).view.emb y 1).val = 768 + (y 1).val
    omega

theorem final6 : (dats m 0 c).arrAt 6 cfg0.N = result (args m c) 2048 1792 (by decide) .bf16 := by
  refine (dats m 0 c).arrAt_eq_of_covers 6 _ (by decide +kernel) fun t hf y => ?_
  have e := (idx t).2.2.2.2.2.2.1
  blk_simp
  rw [after0_6]
  have b0 : (((cfg0.win 6).blk t).view.emb y 0).val = win0_6.index t (0 : Fin 2) * 512 + 1 * (y 0).val := rfl
  have b1 : (((cfg0.win 6).blk t).view.emb y 1).val = win0_6.index t (1 : Fin 2) * 2048 + 1 * (y 1).val := rfl
  have y0 : (y 0).val < 512 := (y 0).isLt
  have y1 : (y 1).val < 2048 := (y 1).isLt
  rw [e] at b0 b1
  have b0' : (((cfg0.win 6).blk t).view.emb y 0).val = t.val * 512 + 1 * (y 0).val := b0
  have b1' : (((cfg0.win 6).blk t).view.emb y 1).val = 0 * 2048 + 1 * (y 1).val := b1
  have hy : (y : S512x2048.Idx) = ix2 ⟨(y 0).val, y0⟩ ⟨(y 1).val, y1⟩ := by
    funext a; apply Fin.ext
    match a with
    | ⟨0, _⟩ => rfl
    | ⟨1, _⟩ => rfl
  refine (congrArg (out0_6 (F := Ideal) (iblk m c 0 t) (iblk m c 1 t) (iblk m c 2 t) (iblk m c 3 t)) hy).trans ((out6_at _ _ _ _ _ _).trans ((dot_at m c t _ _).trans (result_at ?_ ?_)))
  · show (((cfg0.win 6).blk t).view.emb y 0).val = t.val * 512 + (y 0).val
    omega
  · show 1792 + (((cfg0.win 6).blk t).view.emb y 1).val = 1792 + (y 1).val
    omega

theorem final7 : (dats m 0 c).arrAt 7 cfg0.N = result (args m c) 128 3840 (by decide) .f32 := by
  refine (dats m 0 c).arrAt_eq_of_covers 7 _ (by decide +kernel) fun t hf y => ?_
  have e := (idx t).2.2.2.2.2.2.2.1
  blk_simp
  rw [after0_7]
  have b0 : (((cfg0.win 7).blk t).view.emb y 0).val = win0_7.index t (0 : Fin 2) * 512 + 1 * (y 0).val := rfl
  have b1 : (((cfg0.win 7).blk t).view.emb y 1).val = win0_7.index t (1 : Fin 2) * 128 + 1 * (y 1).val := rfl
  have y0 : (y 0).val < 512 := (y 0).isLt
  have y1 : (y 1).val < 128 := (y 1).isLt
  rw [e] at b0 b1
  have b0' : (((cfg0.win 7).blk t).view.emb y 0).val = t.val * 512 + 1 * (y 0).val := b0
  have b1' : (((cfg0.win 7).blk t).view.emb y 1).val = 0 * 128 + 1 * (y 1).val := b1
  have hy : (y : S512x128.Idx) = ix2 ⟨(y 0).val, y0⟩ ⟨(y 1).val, y1⟩ := by
    funext a; apply Fin.ext
    match a with
    | ⟨0, _⟩ => rfl
    | ⟨1, _⟩ => rfl
  refine (congrArg (out0_7 (F := Ideal) (iblk m c 0 t) (iblk m c 1 t) (iblk m c 2 t) (iblk m c 3 t)) hy).trans ((out7_at _ _ _ _ _ _).trans ((dot_at m c t _ _).trans (result_at ?_ ?_)))
  · show (((cfg0.win 7).blk t).view.emb y 0).val = t.val * 512 + (y 0).val
    omega
  · show 3840 + (((cfg0.win 7).blk t).view.emb y 1).val = 3840 + (y 1).val
    omega

theorem final8 : (dats m 0 c).arrAt 8 cfg0.N = result (args m c) 3072 3968 (by decide) .bf16 := by
  refine (dats m 0 c).arrAt_eq_of_covers 8 _ (by decide +kernel) fun t hf y => ?_
  have e := (idx t).2.2.2.2.2.2.2.2
  blk_simp
  rw [after0_8]
  have b0 : (((cfg0.win 8).blk t).view.emb y 0).val = win0_8.index t (0 : Fin 2) * 512 + 1 * (y 0).val := rfl
  have b1 : (((cfg0.win 8).blk t).view.emb y 1).val = win0_8.index t (1 : Fin 2) * 3072 + 1 * (y 1).val := rfl
  have y0 : (y 0).val < 512 := (y 0).isLt
  have y1 : (y 1).val < 3072 := (y 1).isLt
  rw [e] at b0 b1
  have b0' : (((cfg0.win 8).blk t).view.emb y 0).val = t.val * 512 + 1 * (y 0).val := b0
  have b1' : (((cfg0.win 8).blk t).view.emb y 1).val = 0 * 3072 + 1 * (y 1).val := b1
  have hy : (y : S512x3072.Idx) = ix2 ⟨(y 0).val, y0⟩ ⟨(y 1).val, y1⟩ := by
    funext a; apply Fin.ext
    match a with
    | ⟨0, _⟩ => rfl
    | ⟨1, _⟩ => rfl
  refine (congrArg (out0_8 (F := Ideal) (iblk m c 0 t) (iblk m c 1 t) (iblk m c 2 t) (iblk m c 3 t)) hy).trans ((out8_at _ _ _ _ _ _).trans ((dot_at m c t _ _).trans (result_at ?_ ?_)))
  · show (((cfg0.win 8).blk t).view.emb y 0).val = t.val * 512 + (y 0).val
    omega
  · show 3968 + (((cfg0.win 8).blk t).view.emb y 1).val = 3968 + (y 1).val
    omega

end Cert.Kernel3Ideal.InProj
end
-- ==== Proof.InProjFinite.lean ====
module

public import proofs.«01_k».proof.Defs
public import proofs.«01_k».proof.Proof.Finite
public import proofs.«01_k».proof.Proof.InProjPoint

@[expose] public section

set_option maxRecDepth 16384

noncomputable section

namespace Cert.Finite3

open Cert Idealize.ShloMosaic Idealize.ShloMosaic.TcCoe

/-! The precondition of the input projection says that the entries of the modulation and of the weights are real numbers. -/

theorem facts : Cert.Pre_finite3.Facts where
  bcast_S_S32x6144 := by decide
  bcast_S_S1024 := by decide
  bcast_S_S1024x6832 := by decide

theorem holds (m : (ℓ : Loc Kernel3Ideal.nD Kernel3Ideal.τ Kernel3Ideal.sig) → Buf (Elt Ideal) ℓ)
    (h : Pre_Kernel3Ideal_finite3 (hPre_finite3 := facts) m) (c : Dev Kernel3Ideal.nD) : InProj.Finite (Kernel3Ideal.InProj.args m c) where
  mod b n := ⟨_, Finite.real_of_lt (congrFun (h c).1 (ix2 b n))⟩
  g k := ⟨_, Finite.real_of_lt (congrFun (h c).2.1 (ix1 k))⟩
  w k n := ⟨_, Finite.real_of_lt (congrFun (h c).2.2 (ix2 k n))⟩

end Cert.Finite3

end
-- ==== Proof.InProjRef.lean ====
module

public import proofs.«01_k».proof.Proof.Gen.Reference3Ideal.Read
public import proofs.«01_k».proof.Proof.InProjSpec

@[expose] public section

set_option maxRecDepth 16384

noncomputable section

/-! The reference of the input projection computes it. -/

namespace Cert.Reference3Ideal.InProj
open Idealize.ShloMosaic Idealize.ShloMosaic.TcCoe Idealize.SL.Sem Cert.Reference3Ideal Cert.Reference3Ideal.Gen Cert.Reference3Ideal.Read
open Cert.InProj (lay lay_first lay_neg lay_rot lay_zero lay_mid lay_zero' lay_gates prj out)

/-- The arguments hold the entries `A`. -/
structure Holds (A : Cert.InProj.Args) (x0 : FVec Ideal S32x2048x1024 .f32) (x1 : FVec Ideal S32x6144 .f32) (x2 : FVec Ideal S1024 .f32)
  (x3 : FVec Ideal S1024x6832 .f32) : Prop where
  h0 : ∀ (r : Fin 65536) k, x0 (ix3 ⟨r.val / 2048, by omega⟩ ⟨r.val % 2048, by omega⟩ k) = A.x r k
  h1 : ∀ b n, x1 (ix2 b n) = A.mod b n
  h2 : ∀ k, x2 (ix1 k) = A.g k
  h3 : ∀ k n, x3 (ix2 k n) = A.w k n

variable {A : Cert.InProj.Args} {x0 : FVec Ideal S32x2048x1024 .f32} {x1 : FVec Ideal S32x6144 .f32} {x2 : FVec Ideal S1024 .f32}
  {x3 : FVec Ideal S1024x6832 .f32}

theorem nrm_at (H : Holds A x0 x1 x2 x3) (r : Fin 65536) (k : Fin 1024) :
    val_main_v22 (F := Ideal) x0 x1 x2 (ix3 ⟨r.val / 2048, by omega⟩ ⟨r.val % 2048, by omega⟩ k) = Cert.InProj.nrm A r k := by
  unfold Cert.InProj.nrm Cert.Ffn.rms
  simp only [← H.h0, ← H.h1, ← H.h2]
  pointwise [val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2,
    val_main_v1, val_main_v0, val_main_cst, val_main_cst_0, val_main_cst_1, val_main_cst_2]

theorem prj_at (H : Holds A x0 x1 x2 x3) (r : Fin 65536) (j : Fin 6832) :
    val_main_v23 (F := Ideal) x0 x1 x2 x3 (ix3 ⟨r.val / 2048, by omega⟩ ⟨r.val % 2048, by omega⟩ j) = prj A r j := by
  unfold Cert.InProj.prj
  simp only [← nrm_at H, ← H.h3]
  unfold val_main_v23
  generalize val_main_v22 (F := Ideal) x0 x1 x2 = y
  pointwise

theorem v42_at (H : Holds A x0 x1 x2 x3) (r : Fin 65536) (n : Fin 1024) :
    val_main_v42 (F := Ideal) x0 x1 x2 x3 (ix2 r n) = out A r ⟨768 + n.val, by omega⟩ := by
  refine Eq.trans ?_ (lay_mid (prj A r) _ (j := ⟨672 + n.val, by omega⟩) (by show 768 ≤ 768 + n.val; omega) (by show 768 + n.val < 3856; omega)
    (by show 672 + n.val = 768 + n.val - 96; omega)).symm
  rw [← prj_at H]
  unfold val_main_v42 val_main_v41 val_main_v26
  generalize val_main_v23 (F := Ideal) x0 x1 x2 x3 = y
  pointwise

theorem v44_at (H : Holds A x0 x1 x2 x3) (r : Fin 65536) (n : Fin 2048) :
    val_main_v44 (F := Ideal) x0 x1 x2 x3 (ix2 r n) = out A r ⟨1792 + n.val, by omega⟩ := by
  refine Eq.trans ?_ (lay_mid (prj A r) _ (j := ⟨1696 + n.val, by omega⟩) (by show 768 ≤ 1792 + n.val; omega) (by show 1792 + n.val < 3856; omega)
    (by show 1696 + n.val = 1792 + n.val - 96; omega)).symm
  rw [← prj_at H]
  unfold val_main_v44 val_main_v43 val_main_v27
  generalize val_main_v23 (F := Ideal) x0 x1 x2 x3 = y
  pointwise

theorem v47_at (H : Holds A x0 x1 x2 x3) (r : Fin 65536) (n : Fin 3072) :
    val_main_v47 (F := Ideal) x0 x1 x2 x3 (ix2 r n) = out A r ⟨3968 + n.val, by omega⟩ := by
  refine Eq.trans ?_ (lay_gates (prj A r) _ (j := ⟨3760 + n.val, by omega⟩) (by show 3968 ≤ 3968 + n.val; omega)
    (by show 3760 + n.val = 3968 + n.val - 208; omega)).symm
  rw [← prj_at H]
  unfold val_main_v47 val_main_v46 val_main_v29
  generalize val_main_v23 (F := Ideal) x0 x1 x2 x3 = y
  pointwise

theorem v45_at (H : Holds A x0 x1 x2 x3) (r : Fin 65536) (n : Fin 128) :
    val_main_v45 (F := Ideal) x0 x1 x2 x3 (ix2 r n) = out A r ⟨3840 + n.val, by omega⟩ := by
  by_cases h : n.val < 16
  · refine Eq.trans ?_ (lay_mid (prj A r) _ (j := ⟨3744 + n.val, by omega⟩) (by show 768 ≤ 3840 + n.val; omega) (by show 3840 + n.val < 3856; omega)
      (by show 3744 + n.val = 3840 + n.val - 96; omega)).symm
    rw [← prj_at H]
    unfold val_main_v45 val_main_v38 val_main_v28
    generalize val_main_v23 (F := Ideal) x0 x1 x2 x3 = y
    pointwise
    exact dif_pos h
  · refine Eq.trans ?_ (lay_zero' (prj A r) _ (by show 3856 ≤ 3840 + n.val; omega) (by show 3840 + n.val < 3968; omega)).symm
    unfold val_main_v45 val_main_v38
    generalize val_main_v28 (F := Ideal) x0 x1 x2 x3 = y
    pointwise [val_main_v37, val_main_cst_4]
    exact dif_neg h

theorem v40_at (H : Holds A x0 x1 x2 x3) (r : Fin 65536) (n : Fin 768) :
    val_main_v40 (F := Ideal) x0 x1 x2 x3 (ix2 r n) = out A r ⟨n.val, by omega⟩ := by
  unfold out val_main_v40 val_main_v39 val_main_v36 val_main_v34 val_main_v33 val_main_v32 val_main_v31 val_main_v30 val_main_v25 val_main_v24
  have e := prj_at H r
  generalize val_main_v23 (F := Ideal) x0 x1 x2 x3 = y at e
  pointwise [val_main_v35, val_main_cst_3]
  by_cases h1 : n.val < 384
  · exact (dif_pos h1).trans ((e _).trans (lay_first (prj A r) ⟨n.val, by omega⟩ (by show n.val < 672; omega) rfl).symm)
  refine (dif_neg h1).trans ?_
  by_cases h2 : n.val - 384 < 288
  · exact (dif_pos h2).trans ((e _).trans (lay_first (prj A r) ⟨n.val, by omega⟩ (by show n.val < 672; omega)
      (by show 384 + (n.val - 384) = n.val; omega)).symm)
  refine (dif_neg h2).trans ?_
  by_cases h3 : n.val - 384 - 288 < 32
  · refine (dif_pos h3).trans ?_
    by_cases h4 : n.val - 384 - 288 < 16
    · exact (dif_pos h4).trans ((congrArg (fun a : EReal => -a) (e _)).trans (lay_neg (prj A r) ⟨n.val, by omega⟩ (by show 672 ≤ n.val; omega)
        (by show n.val < 688; omega) (by show 384 + (256 + (16 + (n.val - 384 - 288))) = n.val - 16; omega)).symm)
    · exact (dif_neg h4).trans ((e _).trans (lay_rot (prj A r) ⟨n.val, by omega⟩ (by show 688 ≤ n.val; omega)
        (by show n.val < 704; omega) (by show 384 + (256 + (n.val - 384 - 288 - 16)) = n.val - 48; omega)).symm)
  · exact (dif_neg h3).trans (lay_zero (prj A r) ⟨n.val, by omega⟩ (by show 704 ≤ n.val; omega) (by show n.val < 768; omega)).symm
end Cert.Reference3Ideal.InProj
end
-- ==== Proof.MergeSpec.lean ====
module

public import Idealize.ShloMosaic.Lib.Pipeline.ValueKit

@[expose] public section

noncomputable section

/-! The merge of the mixers' results as mathematics: each result is projected and weighted by its gate, their sum is
    projected and added to the residual stream. -/

namespace Cert.Merge
open Idealize.ShloMosaic

/-- The arguments, entry by entry; `o` holds the three mixers' results. -/
structure Args where
  x : Fin 65536 → Fin 1024 → EReal
  mod : Fin 32 → Fin 6144 → EReal
  o : Fin 3 → Fin 65536 → Fin 512 → EReal
  gates : Fin 65536 → Fin 3072 → EReal
  wb : Fin 3 → Fin 512 → Fin 1024 → EReal
  wo : Fin 1024 → Fin 1024 → EReal

variable (A : Args)

/-- The projection of one mixer's result. -/
def proj (n : Fin 3) (r : Fin 65536) (k : Fin 1024) : EReal := ∑ q : Fin 512, A.o n r q * A.wb n q k

/-- The weighted sum of the three projections, with `f` as the gate's function. -/
def mix (f : EReal → EReal) (r : Fin 65536) (k : Fin 1024) : EReal :=
  f (A.gates r ⟨k.val, by omega⟩) * proj A 0 r k + f (A.gates r ⟨1024 + k.val, by omega⟩) * proj A 1 r k
    + f (A.gates r ⟨2048 + k.val, by omega⟩) * proj A 2 r k

/-- The result. -/
def out (f : EReal → EReal) (r : Fin 65536) (c : Fin 1024) : EReal :=
  A.x r c + A.mod ⟨r.val / 2048, by omega⟩ ⟨2048 + c.val, by omega⟩ * ∑ k : Fin 1024, mix A f r k * A.wo k c

end Cert.Merge
end
-- ==== Proof.MergePoint.lean ====
module

public import proofs.«01_k».proof.Proof.Gen.Kernel4Ideal.Value
public import proofs.«01_k».proof.Proof.MergeSpec
public import Idealize.ShloMosaic.Lib.StableHlo.ReadAt

@[expose] public section

set_option maxRecDepth 16384

noncomputable section

/-! A grid point of the merge computes 512 rows. -/

namespace Cert.Kernel4Ideal.Merge
open Idealize.ShloMosaic Idealize.ShloMosaic.TcCoe Idealize.SL.Sem Cert.Kernel4Ideal Cert.Kernel4Ideal.Gen

/-- `tanh (x / 2) / 2 + 1 / 2`. -/
def gate (x : EReal) : EReal :=
  Ideal.ofBits .f32 0x3F000000#32 * Ideal.tanh (Ideal.ofBits .f32 0x3F000000#32 * x) + Ideal.ofBits .f32 0x3F000000#32

theorem block_at (X : FVec Ideal S512x1024 .f32) (M : FVec Ideal S1x1x6144 .f32) (O0 O1 O2 : FVec Ideal S512x512 .bf16)
    (G : FVec Ideal S512x3072 .bf16) (B : FVec Ideal S3x512x1024 .bf16) (W : FVec Ideal S1024x1024 .bf16) (r : Fin 512) (c : Fin 1024) :
    (out0_8 (F := Ideal) X M O0 O1 O2 G B W : FVec Ideal S512x1024 .f32) (ix2 r c)
      = X (ix2 r c) + M (ix3 0 0 ⟨2048 + c.val, by omega⟩) * ∑ k : Fin 1024,
        (gate (G (ix2 r ⟨k.val, by omega⟩)) * (∑ q : Fin 512, O0 (ix2 r q) * B (ix3 0 q k))
          + gate (G (ix2 r ⟨1024 + k.val, by omega⟩)) * (∑ q : Fin 512, O1 (ix2 r q) * B (ix3 1 q k))
          + gate (G (ix2 r ⟨2048 + k.val, by omega⟩)) * (∑ q : Fin 512, O2 (ix2 r q) * B (ix3 2 q k))) * W (ix2 k c) := by
  frame_out
  open_payloads
  pointwise [gate]

variable (m : (ℓ : Loc nD τ sig) → Buf (Elt Ideal) ℓ) (c : Dev nD)

/-- The entries of the arguments on a device. -/
def args : Cert.Merge.Args where
  x r k := (m (c, Proc.tc.devRef main_arg0) (ix3 ⟨r.val / 2048, by omega⟩ ⟨r.val % 2048, by omega⟩ k) : EReal)
  mod b n := (m (c, Proc.tc.devRef main_arg1) (ix2 b n) : EReal)
  o n r q := match n with
    | 0 => (m (c, Proc.tc.devRef main_arg2) (ix2 r q) : EReal)
    | 1 => (m (c, Proc.tc.devRef main_arg3) (ix2 r q) : EReal)
    | 2 => (m (c, Proc.tc.devRef main_arg4) (ix2 r q) : EReal)
  gates r n := (m (c, Proc.tc.devRef main_arg5) (ix2 r n) : EReal)
  wb n q k := (m (c, Proc.tc.devRef main_arg6) (ix3 n q k) : EReal)
  wo k n := (m (c, Proc.tc.devRef main_arg7) (ix2 k n) : EReal)

theorem hx (r : Fin 65536) (k : Fin 1024) : V m c main_v2 (ix2 r k) = (args m c).x r k := by
  unfold V args
  repeat (
    after_reads_simp
    try simp -implicitDefEqProofs only [StableHlo.TRef.toBuf, StableHlo.TRef.ofBuf, cast_cast, cast_eq]
    pointwise)

theorem hmod (b : Fin 32) (n : Fin 6144) : V m c main_v3 (ix3 b 0 n) = (args m c).mod b n := by
  unfold V args
  repeat (
    after_reads_simp
    try simp -implicitDefEqProofs only [StableHlo.TRef.toBuf, StableHlo.TRef.ofBuf, cast_cast, cast_eq]
    pointwise)

theorem hwb (n : Fin 3) (q : Fin 512) (k : Fin 1024) : V m c main_v0 (ix3 n q k) = (args m c).wb n q k := by
  unfold V args
  repeat (
    after_reads_simp
    try simp -implicitDefEqProofs only [StableHlo.TRef.toBuf, StableHlo.TRef.ofBuf, cast_cast, cast_eq]
    pointwise)

theorem hwo (k n : Fin 1024) : V m c main_v1 (ix2 k n) = (args m c).wo k n := by
  unfold V args
  repeat (
    after_reads_simp
    try simp -implicitDefEqProofs only [StableHlo.TRef.toBuf, StableHlo.TRef.ofBuf, cast_cast, cast_eq]
    pointwise)

theorem idx : ∀ t : Fin cfg0.N, win0_0.index t = ![t.val, 0] ∧ win0_1.index t = ![t.val / 4, 0, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0] ∧ win0_8.index t = ![t.val, 0] :=
  (by decide +kernel : ∀ t : Fin grid0.N, _)

theorem lt128 (t : Fin cfg0.N) : t.val < 128 := lt_of_lt_of_eq t.isLt N_0

/-- A grid point's row in the flattened input. -/
def row (t : Fin cfg0.N) (r : Fin 512) : Fin 65536 := ⟨t.val * 512 + r.val, by have := lt128 t; omega⟩

theorem blk0 (t : Fin cfg0.N) (r : Fin 512) (k : Fin 1024) :
    (iblk m c 0 t : FVec Ideal S512x1024 .f32) (ix2 r k) = (args m c).x (row t r) k := by
  refine Eq.trans ?_ (hx m c _ _)
  unfold row
  obtain ⟨e0, e1, e2, e3, e4, e5, e6, e7, e8⟩ := idx t
  blk_ext [iblk, e0]
theorem blk1 (t : Fin cfg0.N) (n : Fin 6144) :
    (iblk m c 1 t : FVec Ideal S1x1x6144 .f32) (ix3 0 0 n) = (args m c).mod ⟨t.val / 4, by have := lt128 t; omega⟩ n := by
  refine Eq.trans ?_ (hmod m c _ _)
  obtain ⟨e0, e1, e2, e3, e4, e5, e6, e7, e8⟩ := idx t
  blk_ext [iblk, e1]
theorem blk2 (t : Fin cfg0.N) (r : Fin 512) (q : Fin 512) :
    (iblk m c 2 t : FVec Ideal S512x512 .bf16) (ix2 r q) = (args m c).o 0 (row t r) q := by
  unfold row args
  obtain ⟨e0, e1, e2, e3, e4, e5, e6, e7, e8⟩ := idx t
  blk_ext [iblk, V_main_arg2, e2]
theorem blk3 (t : Fin cfg0.N) (r : Fin 512) (q : Fin 512) :
    (iblk m c 3 t : FVec Ideal S512x512 .bf16) (ix2 r q) = (args m c).o 1 (row t r) q := by
  unfold row args
  obtain ⟨e0, e1, e2, e3, e4, e5, e6, e7, e8⟩ := idx t
  blk_ext [iblk, V_main_arg3, e3]
theorem blk4 (t : Fin cfg0.N) (r : Fin 512) (q : Fin 512) :
    (iblk m c 4 t : FVec Ideal S512x512 .bf16) (ix2 r q) = (args m c).o 2 (row t r) q := by
  unfold row args
  obtain ⟨e0, e1, e2, e3, e4, e5, e6, e7, e8⟩ := idx t
  blk_ext [iblk, V_main_arg4, e4]
theorem blk5 (t : Fin cfg0.N) (r : Fin 512) (n : Fin 3072) :
    (iblk m c 5 t : FVec Ideal S512x3072 .bf16) (ix2 r n) = (args m c).gates (row t r) n := by
  unfold row args
  obtain ⟨e0, e1, e2, e3, e4, e5, e6, e7, e8⟩ := idx t
  blk_ext [iblk, V_main_arg5, e5]
theorem blk6 (t : Fin cfg0.N) (n : Fin 3) (q : Fin 512) (k : Fin 1024) :
    (iblk m c 6 t : FVec Ideal S3x512x1024 .bf16) (ix3 n q k) = (args m c).wb n q k := by
  refine Eq.trans ?_ (hwb m c _ _ _)
  obtain ⟨e0, e1, e2, e3, e4, e5, e6, e7, e8⟩ := idx t
  blk_ext [iblk, e6]
theorem blk7 (t : Fin cfg0.N) (k n : Fin 1024) :
    (iblk m c 7 t : FVec Ideal S1024x1024 .bf16) (ix2 k n) = (args m c).wo k n := by
  refine Eq.trans ?_ (hwo m c _ _)
  obtain ⟨e0, e1, e2, e3, e4, e5, e6, e7, e8⟩ := idx t
  blk_ext [iblk, e7]

/-- What a grid point leaves in its output block. -/
def pointOut (t : Fin cfg0.N) : FVec Ideal S512x1024 .f32 :=
  out0_8 (F := Ideal) (iblk m c 0 t : FVec Ideal S512x1024 .f32) (iblk m c 1 t : FVec Ideal S1x1x6144 .f32) (iblk m c 2 t : FVec Ideal S512x512 .bf16)
    (iblk m c 3 t : FVec Ideal S512x512 .bf16) (iblk m c 4 t : FVec Ideal S512x512 .bf16) (iblk m c 5 t : FVec Ideal S512x3072 .bf16)
    (iblk m c 6 t : FVec Ideal S3x512x1024 .bf16) (iblk m c 7 t : FVec Ideal S1024x1024 .bf16)

theorem point_value (t : Fin cfg0.N) (r : Fin 512) (k : Fin 1024) : pointOut m c t (ix2 r k) = Cert.Merge.out (args m c) gate (row t r) k := by
  unfold pointOut
  rw [block_at]
  unfold Cert.Merge.out Cert.Merge.mix Cert.Merge.proj
  simp only [blk0, blk1, blk2, blk3, blk4, blk5, blk6, blk7]
  have e : (⟨t.val / 4, by have := lt128 t; omega⟩ : Fin 32) = ⟨(row t r).val / 2048, by omega⟩ :=
    Fin.ext (by show t.val / 4 = (t.val * 512 + r.val) / 2048; omega)
  rw [e]

/-- The kernel's result. -/
def result (A : Cert.Merge.Args) : FVec Ideal S65536x1024 .f32 := fun i =>
  Cert.Merge.out A gate ⟨(i 0).val, (i 0).isLt⟩ ⟨(i 1).val, (i 1).isLt⟩

theorem final : (dats m 0 c).arrAt 8 cfg0.N = result (args m c) := by
  refine (dats m 0 c).arrAt_eq_of_covers 8 _ (by decide +kernel) fun t hf y => ?_
  have e8 := (idx t).2.2.2.2.2.2.2.2
  blk_simp
  rw [after0_8]
  have b0 : (((cfg0.win 8).blk t).view.emb y 0).val = win0_8.index t (0 : Fin 2) * 512 + 1 * (y 0).val := rfl
  have b1 : (((cfg0.win 8).blk t).view.emb y 1).val = win0_8.index t (1 : Fin 2) * 1024 + 1 * (y 1).val := rfl
  have y0 : (y 0).val < 512 := (y 0).isLt
  have y1 : (y 1).val < 1024 := (y 1).isLt
  rw [e8] at b0 b1
  have b0' : (((cfg0.win 8).blk t).view.emb y 0).val = t.val * 512 + 1 * (y 0).val := b0
  have b1' : (((cfg0.win 8).blk t).view.emb y 1).val = 0 * 1024 + 1 * (y 1).val := b1
  have hy : (y : S512x1024.Idx) = ix2 ⟨(y 0).val, y0⟩ ⟨(y 1).val, y1⟩ := by
    funext a; apply Fin.ext
    match a with
    | ⟨0, _⟩ => rfl
    | ⟨1, _⟩ => rfl
  refine (congrArg (pointOut m c t) hy).trans ((point_value m c t _ _).trans ?_)
  refine congrArg₂ (Cert.Merge.out (args m c) gate) (Fin.ext ?_) (Fin.ext ?_)
  · show t.val * 512 + (y 0).val = (((cfg0.win 8).blk t).view.emb y 0).val
    omega
  · show (y 1).val = (((cfg0.win 8).blk t).view.emb y 1).val
    omega
end Cert.Kernel4Ideal.Merge
end
-- ==== Proof.MergeRef.lean ====
module

public import proofs.«01_k».proof.Proof.Gen.Reference4Ideal.Read
public import proofs.«01_k».proof.Proof.MergeSpec

@[expose] public section

set_option maxRecDepth 16384

noncomputable section

/-! The reference of the merge computes it. -/

namespace Cert.Reference4Ideal.Merge
open Idealize.ShloMosaic Idealize.ShloMosaic.TcCoe Idealize.SL.Sem Cert.Reference4Ideal Cert.Reference4Ideal.Gen Cert.Reference4Ideal.Read

/-- The logistic function. -/
def gate (x : EReal) : EReal := Ideal.div 1 (1 + Ideal.exp (-x))

/-- The arguments hold the entries `A`. -/
structure Holds (A : Cert.Merge.Args) (x0 : FVec Ideal S32x2048x1024 .f32) (x1 : FVec Ideal S32x6144 .f32) (x2 x3 x4 : FVec Ideal S65536x512 .bf16)
  (x5 : FVec Ideal S65536x3072 .bf16) (x6 : FVec Ideal S3x512x1024 .f32) (x7 : FVec Ideal S1024x1024 .f32) : Prop where
  h0 : ∀ (r : Fin 65536) k, x0 (ix3 ⟨r.val / 2048, by omega⟩ ⟨r.val % 2048, by omega⟩ k) = A.x r k
  h1 : ∀ b n, x1 (ix2 b n) = A.mod b n
  h2 : ∀ r q, x2 (ix2 r q) = A.o 0 r q
  h3 : ∀ r q, x3 (ix2 r q) = A.o 1 r q
  h4 : ∀ r q, x4 (ix2 r q) = A.o 2 r q
  h5 : ∀ r n, x5 (ix2 r n) = A.gates r n
  h6 : ∀ n q k, x6 (ix3 n q k) = A.wb n q k
  h7 : ∀ k n, x7 (ix2 k n) = A.wo k n

variable {A : Cert.Merge.Args} {x0 : FVec Ideal S32x2048x1024 .f32} {x1 : FVec Ideal S32x6144 .f32} {x2 x3 x4 : FVec Ideal S65536x512 .bf16}
  {x5 : FVec Ideal S65536x3072 .bf16} {x6 : FVec Ideal S3x512x1024 .f32} {x7 : FVec Ideal S1024x1024 .f32}

/-- Row `s` of sequence `b` in the flattened arrays. -/
def row (b : Fin 32) (s : Fin 2048) : Fin 65536 := ⟨b.val * 2048 + s.val, by omega⟩

theorem gate_at (H : Holds A x0 x1 x2 x3 x4 x5 x6 x7) (b : Fin 32) (s : Fin 2048) (n : Fin 3) (k : Fin 1024) :
    val_main_v7 (F := Ideal) x5 (ix4 b s n k) = gate (A.gates (row b s) ⟨n.val * 1024 + k.val, by omega⟩) := by
  rw [← H.h5]
  pointwise [val_main_v7, val_main_v6, val_main_v5, val_main_v4, val_main_v3, val_main_v2, val_main_v1, val_main_v0, val_main_cst, val_main_cst_0, gate, row]

theorem mix_at (H : Holds A x0 x1 x2 x3 x4 x5 x6 x7) (b : Fin 32) (s : Fin 2048) (k : Fin 1024) :
    val_main_v33 (F := Ideal) x2 x3 x4 x5 x6 (ix3 b s k) = Cert.Merge.mix A gate (row b s) k := by
  unfold Cert.Merge.mix Cert.Merge.proj
  have e : ∀ (n : Fin 3) (i : Nat) (hi : i < 3072), i = n.val * 1024 + k.val →
      gate (A.gates (row b s) ⟨i, hi⟩) = val_main_v7 (F := Ideal) x5 (ix4 b s n k) := by
    rintro n i hi rfl; exact (gate_at H b s n k).symm
  rw [e 0 _ _ (by simp), e 1 _ _ (by simp), e 2 _ _ (by simp)]
  simp only [← H.h2, ← H.h3, ← H.h4, ← H.h6]
  unfold val_main_v33 val_main_v32 val_main_v26 val_main_v25 val_main_v24 val_main_v23 val_main_v17 val_main_v16 val_main_v15 val_main_v9 val_main_v8
  generalize val_main_v7 (F := Ideal) x5 = y
  pointwise [val_main_v31, val_main_v30, val_main_v29, val_main_v28, val_main_v27, val_main_v22, val_main_v21, val_main_v20, val_main_v19, val_main_v18,
    val_main_v14, val_main_v13, val_main_v12, val_main_v11, val_main_v10, row]

theorem out_at (H : Holds A x0 x1 x2 x3 x4 x5 x6 x7) (r : Fin 65536) (c : Fin 1024) :
    val_main_v40 (F := Ideal) x0 x1 x2 x3 x4 x5 x6 x7 (ix2 r c) = Cert.Merge.out A gate r c := by
  have e : row ⟨r.val / 2048, by omega⟩ ⟨r.val % 2048, by omega⟩ = r := Fin.ext (by show r.val / 2048 * 2048 + r.val % 2048 = r.val; omega)
  have h : ∀ k, Cert.Merge.mix A gate r k = val_main_v33 (F := Ideal) x2 x3 x4 x5 x6 (ix3 ⟨r.val / 2048, by omega⟩ ⟨r.val % 2048, by omega⟩ k) := fun k => by
    rw [mix_at H, e]
  unfold Cert.Merge.out
  simp only [h, ← H.h0, ← H.h1, ← H.h7]
  unfold val_main_v40 val_main_v39 val_main_v38 val_main_v36
  generalize val_main_v33 (F := Ideal) x2 x3 x4 x5 x6 = y
  pointwise [val_main_v37, val_main_v35, val_main_v34]
end Cert.Reference4Ideal.Merge
end
-- ==== Proof.MergeGate.lean ====
module

public import proofs.«01_k».proof.Proof.FfnReal
public import proofs.«01_k».proof.Proof.MergePoint
public import proofs.«01_k».proof.Proof.MergeRef

@[expose] public section

noncomputable section

/-! The two forms of the merge's gate agree on every value, the infinities too. -/

namespace Cert.Merge
open Idealize.ShloMosaic

theorem tanh_half (r : ℝ) : 1 / 2 * Real.tanh (1 / 2 * r) + 1 / 2 = 1 / (1 + Real.exp (-r)) := by
  have h : Real.exp (-r) = Real.exp (-(1 / 2 * r)) * Real.exp (-(1 / 2 * r)) := by
    rw [← Real.exp_add]; congr 1; ring
  have hp := Real.exp_pos (-(1 / 2 * r))
  rw [Real.tanh_eq_sinh_div_cosh, Real.sinh_eq, Real.cosh_eq, h, show Real.exp (1 / 2 * r) = (Real.exp (-(1 / 2 * r)))⁻¹ by rw [Real.exp_neg, inv_inv]]
  generalize Real.exp (-(1 / 2 * r)) = e at hp
  have h1 : 1 + e * e ≠ 0 := by positivity
  have h2 : e⁻¹ + e ≠ 0 := by positivity
  have h3 : e ≠ 0 := hp.ne'
  have h4 : (e⁻¹ - e) / 2 / ((e⁻¹ + e) / 2) = (1 - e * e) / (1 + e * e) := by
    rw [div_eq_div_iff (by positivity) h1]
    field_simp
  rw [h4]
  field_simp
  ring

theorem gate_eq : Cert.Kernel4Ideal.Merge.gate = Cert.Reference4Ideal.Merge.gate := by
  funext x
  unfold Cert.Kernel4Ideal.Merge.gate Cert.Reference4Ideal.Merge.gate
  rw [Cert.Ffn.half_coe]
  induction x with
  | coe r =>
    have h : (0 : ℝ) < 1 + Real.exp (-r) := by positivity
    rw [← EReal.coe_mul, Ideal.tanh_coe, ← EReal.coe_mul, ← EReal.coe_add, tanh_half, ← EReal.coe_neg, Ideal.exp_coe, ← EReal.coe_one, ← EReal.coe_add,
      Ideal.div_coe h.ne', ← EReal.coe_mul, one_mul, one_div]
  | top =>
    rw [EReal.coe_mul_top_of_pos (by norm_num), Ideal.tanh_top, EReal.neg_top, Ideal.exp_bot, add_zero, mul_one, ← EReal.coe_add, ← EReal.coe_one,
      Ideal.div_coe one_ne_zero, ← EReal.coe_mul]
    norm_num
  | bot =>
    rw [EReal.coe_mul_bot_of_pos (by norm_num), Ideal.tanh_bot, EReal.neg_bot, Ideal.exp_top,
      show (1 : EReal) + ⊤ = ⊤ from EReal.coe_add_top 1, show Ideal.div 1 ⊤ = 0 by simp [Ideal.div], ← EReal.coe_one, ← EReal.coe_neg, ← EReal.coe_mul,
      ← EReal.coe_add, ← EReal.coe_zero]
    norm_num
end Cert.Merge
end
-- ==== Proof.ModSpec.lean ====
module

public import proofs.«01_k».proof.Proof.FfnGate

@[expose] public section

noncomputable section

/-! The modulation as mathematics: a product of the conditioning's `silu` with a layer's weights, and its bias. -/

namespace Cert.Mod
open Idealize.ShloMosaic
open Cert.Ffn (IsReal half_coe)

/-- The arguments, entry by entry; `c` has the prompt's sequences first, then the samples'. -/
structure Args where
  c : Fin 48 → Fin 1024 → EReal
  w : Fin 2 → Fin 1024 → Fin 6144 → EReal
  b : Fin 2 → Fin 6144 → EReal

/-- An entry of the modulation, with the function `f` in the place of `silu`. -/
def out (A : Args) (f : EReal → EReal) (l : Fin 2) (i : Fin 48) (n : Fin 6144) : EReal := (∑ k : Fin 1024, f (A.c i k) * A.w l k n) + A.b l n

/-- The product of two rows whose entries are each split in three parts: itself, and what is left of it after one and
    after two subtractions. -/
def parts (v w : Fin 1024 → EReal) : EReal :=
  (∑ k, v k * w k) + ((∑ k, v k * (w k - w k)) + ∑ k, (v k - v k) * w k)
    + ((∑ k, v k * (w k - w k - (w k - w k))) + (∑ k, (v k - v k) * (w k - w k)) + ∑ k, (v k - v k - (v k - v k)) * w k)

theorem sub_self' {x : EReal} : IsReal x → x - x = 0 := by
  rintro ⟨a, rfl⟩; rw [← EReal.coe_sub, sub_self, EReal.coe_zero]

/-- The parts after the first are 0, for real entries. -/
theorem parts_eq {v w : Fin 1024 → EReal} (hv : ∀ k, IsReal (v k)) (hw : ∀ k, IsReal (w k)) : parts v w = ∑ k, v k * w k := by
  unfold parts
  simp only [fun k => sub_self' (hv k), fun k => sub_self' (hw k), mul_zero, zero_mul, sub_zero, Finset.sum_const_zero, add_zero]

/-- The conditioning and the weights are real. -/
structure Finite (A : Args) : Prop where
  c : ∀ i k, IsReal (A.c i k)
  w : ∀ l k n, IsReal (A.w l k n)

theorem silu_real {x : EReal} : IsReal x → IsReal (Cert.Kernel2Ideal.Ffn.silu x) := by
  rintro ⟨a, rfl⟩
  have h : IsReal (Ideal.ofBits .f32 0x3F000000#32 * (a : EReal)) := ⟨1 / 2 * a, by rw [half_coe, ← EReal.coe_mul]⟩
  refine IsReal.add (h.mul ?_) h
  obtain ⟨b, hb⟩ := h
  exact ⟨Real.tanh b, by rw [hb, Ideal.tanh_coe]⟩

/-- An entry of the modulation by parts. -/
def out' (A : Args) (l : Fin 2) (i : Fin 48) (n : Fin 6144) : EReal :=
  parts (fun k => Cert.Kernel2Ideal.Ffn.silu (A.c i k)) (fun k => A.w l k n) + A.b l n

theorem out_eq {A : Args} (H : Finite A) (l : Fin 2) (i : Fin 48) (n : Fin 6144) : out' A l i n = out A Cert.Reference2Ideal.Ffn.silu l i n := by
  unfold out' out
  rw [parts_eq (fun k => silu_real (H.c i k)) (fun k => H.w l k n)]
  simp only [fun k => Cert.Ffn.silu_eq (H.c i k)]
end Cert.Mod
end
-- ==== Proof.ModPoint.lean ====
module

public import proofs.«01_k».proof.Proof.Gen.Kernel5Ideal.Value
public import proofs.«01_k».proof.Proof.ModSpec
public import Idealize.ShloMosaic.Lib.StableHlo.ReadAt

@[expose] public section

set_option maxRecDepth 16384

noncomputable section

/-! A grid point of the modulation computes 1024 columns of a layer. -/

namespace Cert.Kernel5Ideal.Mod
open Idealize.ShloMosaic Idealize.ShloMosaic.TcCoe Idealize.SL.Sem Cert.Kernel5Ideal Cert.Kernel5Ideal.Gen

theorem block_at (X : FVec Ideal S48x1024 .f32) (W : FVec Ideal S1x1024x1024 .f32) (B : FVec Ideal S1x1x1024 .f32) (i : Fin 48) (n : Fin 1024) :
    (out0_3 (F := Ideal) X W B : FVec Ideal S1x48x1024 .f32) (ix3 0 i n)
      = Cert.Mod.parts (fun k => Cert.Kernel2Ideal.Ffn.silu (X (ix2 i k))) (fun k => W (ix3 0 k n)) + B (ix3 0 0 n) := by
  frame_out
  open_payloads
  pointwise [Cert.Mod.parts, Cert.Kernel2Ideal.Ffn.silu]

variable (m : (ℓ : Loc nD τ sig) → Buf (Elt Ideal) ℓ) (c : Dev nD)

/-- The entries of the arguments on a device. -/
def args : Cert.Mod.Args where
  c i k := if h : i.val < 32 then (m (c, Proc.tc.devRef main_arg0) (ix2 ⟨i.val, h⟩ k) : EReal)
    else (m (c, Proc.tc.devRef main_arg1) (ix2 ⟨i.val - 32, by omega⟩ k) : EReal)
  w l k n := (m (c, Proc.tc.devRef main_arg2) (ix3 l k n) : EReal)
  b l n := (m (c, Proc.tc.devRef main_arg3) (ix2 l n) : EReal)

theorem hc (i : Fin 48) (k : Fin 1024) : V m c main_v0 (ix2 i k) = (args m c).c i k := by
  unfold V args
  repeat (
    after_reads_simp
    try simp -implicitDefEqProofs only [StableHlo.TRef.toBuf, StableHlo.TRef.ofBuf, cast_cast, cast_eq]
    pointwise)

theorem hb (l : Fin 2) (n : Fin 6144) : V m c main_v1 (ix3 l 0 n) = (args m c).b l n := by
  unfold V args
  repeat (
    after_reads_simp
    try simp -implicitDefEqProofs only [StableHlo.TRef.toBuf, StableHlo.TRef.ofBuf, cast_cast, cast_eq]
    pointwise)

theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

theorem lt12 (t : Fin cfg0.N) : t.val < 12 := lt_of_lt_of_eq t.isLt N_0

/-- A grid point's layer and columns. -/
def lyr (t : Fin cfg0.N) : Fin 2 := ⟨t.val / 6, by have := lt12 t; omega⟩
def col (t : Fin cfg0.N) (n : Fin 1024) : Fin 6144 := ⟨t.val % 6 * 1024 + n.val, by omega⟩

theorem blk0 (t : Fin cfg0.N) (i : Fin 48) (k : Fin 1024) :
    (iblk m c 0 t : FVec Ideal S48x1024 .f32) (ix2 i k) = (args m c).c i k := by
  refine Eq.trans ?_ (hc m c _ _)
  obtain ⟨e0, e1, e2, e3⟩ := idx t
  blk_ext [iblk, e0]
theorem blk1 (t : Fin cfg0.N) (k : Fin 1024) (n : Fin 1024) :
    (iblk m c 1 t : FVec Ideal S1x1024x1024 .f32) (ix3 0 k n) = (args m c).w (lyr t) k (col t n) := by
  unfold lyr col args
  obtain ⟨e0, e1, e2, e3⟩ := idx t
  blk_ext [iblk, V_main_arg2, e1]
theorem blk2 (t : Fin cfg0.N) (n : Fin 1024) :
    (iblk m c 2 t : FVec Ideal S1x1x1024 .f32) (ix3 0 0 n) = (args m c).b (lyr t) (col t n) := by
  refine Eq.trans ?_ (hb m c _ _)
  unfold lyr col
  obtain ⟨e0, e1, e2, e3⟩ := idx t
  blk_ext [iblk, e2]

theorem point_value (t : Fin cfg0.N) (i : Fin 48) (n : Fin 1024) :
    (out0_3 (F := Ideal) (iblk m c 0 t : FVec Ideal S48x1024 .f32) (iblk m c 1 t : FVec Ideal S1x1024x1024 .f32)
      (iblk m c 2 t : FVec Ideal S1x1x1024 .f32) : FVec Ideal S1x48x1024 .f32) (ix3 0 i n) = Cert.Mod.out' (args m c) (lyr t) i (col t n) := by
  refine (block_at _ _ _ _ _).trans ?_
  unfold Cert.Mod.out'
  simp only [blk0, blk1, blk2]

/-- The result of the call. -/
def result (A : Cert.Mod.Args) : FVec Ideal S2x48x6144 .f32 := fun i =>
  Cert.Mod.out' A ⟨(i 0).val, (i 0).isLt⟩ ⟨(i 1).val, (i 1).isLt⟩ ⟨(i 2).val, (i 2).isLt⟩

theorem result_at {A : Cert.Mod.Args} {i : S2x48x6144.Idx} {l : Fin 2} {s : Fin 48} {n : Fin 6144}
    (h0 : (i 0).val = l.val) (h1 : (i 1).val = s.val) (h2 : (i 2).val = n.val) : Cert.Mod.out' A l s n = result A i := by
  obtain rfl : (⟨(i 0).val, (i 0).isLt⟩ : Fin 2) = l := Fin.ext h0
  obtain rfl : (⟨(i 1).val, (i 1).isLt⟩ : Fin 48) = s := Fin.ext h1
  obtain rfl : (⟨(i 2).val, (i 2).isLt⟩ : Fin 6144) = n := Fin.ext h2
  rfl

theorem final : (dats m 0 c).arrAt 3 cfg0.N = result (args m c) := by
  refine (dats m 0 c).arrAt_eq_of_covers 3 _ (by decide +kernel) fun t hf y => ?_
  have e := (idx t).2.2.2
  blk_simp
  rw [after0_3]
  have b0 : (((cfg0.win 3).blk t).view.emb y 0).val = win0_3.index t (0 : Fin 3) * 1 + 1 * (y 0).val := rfl
  have b1 : (((cfg0.win 3).blk t).view.emb y 1).val = win0_3.index t (1 : Fin 3) * 48 + 1 * (y 1).val := rfl
  have b2 : (((cfg0.win 3).blk t).view.emb y 2).val = win0_3.index t (2 : Fin 3) * 1024 + 1 * (y 2).val := rfl
  have y0 : (y 0).val < 1 := (y 0).isLt
  have y1 : (y 1).val < 48 := (y 1).isLt
  have y2 : (y 2).val < 1024 := (y 2).isLt
  rw [e] at b0 b1 b2
  have b0' : (((cfg0.win 3).blk t).view.emb y 0).val = t.val / 6 * 1 + 1 * (y 0).val := b0
  have b1' : (((cfg0.win 3).blk t).view.emb y 1).val = 0 * 48 + 1 * (y 1).val := b1
  have b2' : (((cfg0.win 3).blk t).view.emb y 2).val = t.val % 6 * 1024 + 1 * (y 2).val := b2
  have hy : (y : S1x48x1024.Idx) = ix3 0 ⟨(y 1).val, y1⟩ ⟨(y 2).val, y2⟩ := by
    funext a; apply Fin.ext
    match a with
    | ⟨0, _⟩ => exact Nat.lt_one_iff.mp y0
    | ⟨1, _⟩ => rfl
    | ⟨2, _⟩ => rfl
  refine (congrArg (out0_3 (F := Ideal) (iblk m c 0 t) (iblk m c 1 t) (iblk m c 2 t)) hy).trans ((point_value m c t _ _).trans (result_at ?_ ?_ ?_))
  · show (((cfg0.win 3).blk t).view.emb y 0).val = t.val / 6
    omega
  · show (((cfg0.win 3).blk t).view.emb y 1).val = (y 1).val
    omega
  · show (((cfg0.win 3).blk t).view.emb y 2).val = t.val % 6 * 1024 + (y 2).val
    omega
end Cert.Kernel5Ideal.Mod
end
-- ==== Proof.ModFinite.lean ====
module

public import proofs.«01_k».proof.Defs
public import proofs.«01_k».proof.Proof.Finite
public import proofs.«01_k».proof.Proof.ModPoint

@[expose] public section

set_option maxRecDepth 16384

noncomputable section

namespace Cert.Finite5

open Cert Idealize.ShloMosaic Idealize.ShloMosaic.TcCoe

/-! The precondition of the modulation says that the entries of the conditioning and of the weights are real numbers. -/

theorem facts : Cert.Pre_finite5.Facts where
  bcast_S_S32x1024 := by decide
  bcast_S_S16x1024 := by decide
  bcast_S_S2x1024x6144 := by decide

theorem holds (m : (ℓ : Loc Kernel5Ideal.nD Kernel5Ideal.τ Kernel5Ideal.sig) → Buf (Elt Ideal) ℓ)
    (h : Pre_Kernel5Ideal_finite5 (hPre_finite5 := facts) m) (c : Dev Kernel5Ideal.nD) : Mod.Finite (Kernel5Ideal.Mod.args m c) where
  c i k := by
    by_cases hi : i.val < 32
    · exact ⟨_, (dif_pos hi).trans (Finite.real_of_lt (congrFun (h c).1 (ix2 ⟨i.val, hi⟩ k)))⟩
    · exact ⟨_, (dif_neg hi).trans (Finite.real_of_lt (congrFun (h c).2.1 (ix2 ⟨i.val - 32, by omega⟩ k)))⟩
  w l k n := ⟨_, Finite.real_of_lt (congrFun (h c).2.2 (ix3 l k n))⟩

end Cert.Finite5

end
-- ==== Proof.ModRef.lean ====
module

public import proofs.«01_k».proof.Proof.Gen.Reference5Ideal.Read
public import proofs.«01_k».proof.Proof.ModSpec

@[expose] public section

set_option maxRecDepth 16384

noncomputable section

/-! The reference of the modulation computes it. -/

namespace Cert.Reference5Ideal.Mod
open Idealize.ShloMosaic Idealize.ShloMosaic.TcCoe Idealize.SL.Sem Cert.Reference5Ideal Cert.Reference5Ideal.Gen Cert.Reference5Ideal.Read

/-- The arguments hold the entries `A`. -/
structure Holds (A : Cert.Mod.Args) (x0 : FVec Ideal S32x1024 .f32) (x1 : FVec Ideal S16x1024 .f32) (x2 : FVec Ideal S2x1024x6144 .f32)
  (x3 : FVec Ideal S2x6144 .f32) : Prop where
  h0 : ∀ (i : Fin 48) k, (if h : i.val < 32 then x0 (ix2 ⟨i.val, h⟩ k) else x1 (ix2 ⟨i.val - 32, by omega⟩ k) : EReal) = A.c i k
  h2 : ∀ l k n, x2 (ix3 l k n) = A.w l k n
  h3 : ∀ l n, x3 (ix2 l n) = A.b l n

variable {A : Cert.Mod.Args} {x0 : FVec Ideal S32x1024 .f32} {x1 : FVec Ideal S16x1024 .f32} {x2 : FVec Ideal S2x1024x6144 .f32}
  {x3 : FVec Ideal S2x6144 .f32}

theorem c_at (H : Holds A x0 x1 x2 x3) (i : Fin 48) (k : Fin 1024) : val_main_v0 (F := Ideal) x0 x1 (ix2 i k) = A.c i k := by
  refine Eq.trans ?_ (H.h0 i k)
  pointwise [val_main_v0]

theorem silu_at (H : Holds A x0 x1 x2 x3) (i : Fin 48) (k : Fin 1024) :
    val_main_v1 (F := Ideal) x0 x1 (ix2 i k) = Cert.Reference2Ideal.Ffn.silu (A.c i k) := by
  rw [← c_at H]
  unfold val_main_v1 val_main_call0_v5 val_main_call0_v3 val_main_call0_v1 val_main_call0_v0
  generalize val_main_v0 (F := Ideal) x0 x1 = y
  pointwise [val_main_call0_v4, val_main_call0_v2, val_main_call0_cst, val_main_call0_cst_0, Cert.Reference2Ideal.Ffn.silu]

theorem out_at (H : Holds A x0 x1 x2 x3) (l : Fin 2) (i : Fin 48) (n : Fin 6144) :
    val_main_v6 (F := Ideal) x0 x1 x2 x3 (ix3 l i n) = Cert.Mod.out A Cert.Reference2Ideal.Ffn.silu l i n := by
  unfold Cert.Mod.out
  simp only [← silu_at H, ← H.h2, ← H.h3]
  unfold val_main_v6 val_main_v3 val_main_v2
  generalize val_main_v1 (F := Ideal) x0 x1 = y
  pointwise [val_main_v5, val_main_v4]
end Cert.Reference5Ideal.Mod
end
-- ==== Proof.SampleStore.lean ====
module

public import proofs.«01_k».proof.Proof.FfnRow
public import proofs.«01_k».proof.Proof.Gen.Kernel6Ideal.Value

@[expose] public section

set_option maxRecDepth 16384

noncomputable section

/-! A grid point's output block in the sample's call, over the blocks it reads: the same terms as in the prompt's call. -/

namespace Cert.Kernel6Ideal.Ffn
open Cert.Kernel2Ideal.Ffn (md rowsOf tail hidA hidB stores)
open Idealize.ShloMosaic Idealize.ShloMosaic.TcCoe Idealize.SL.Sem Cert.Kernel6Ideal Cert.Kernel6Ideal.Gen

variable (m : (ℓ : Loc nD τ sig) → Buf (Elt Ideal) ℓ)

set_option maxHeartbeats 2000000 in
theorem point_tail (c : Dev nD) (t : Fin cfg0.N) (y : S1024x1024.Idx) :
    (outsAt0 m c t) y = tail (iblk m c 0 t : FVec Ideal S1024x1024 .f32) (md (iblk m c 3 t : FVec Ideal S1x1x6144 .f32) 5120 (by decide))
      (iblk m c 8 t : FVec Ideal S2816x1024 .bf16) (iblk m c 9 t : FVec Ideal S1x1024 .f32)
      (hidA (View.whole cc0_scratch0) (stores (rowsOf (iblk m c 0 t : FVec Ideal S1024x1024 .f32) (iblk m c 1 t : FVec Ideal S8x1024 .f32)
          (iblk m c 2 t : FVec Ideal S8x1024 .f32) (iblk m c 3 t : FVec Ideal S1x1x6144 .f32) (iblk m c 4 t : FVec Ideal S1x1024 .f32))
        (k0_pay5 (BitVec.ofNat 32 (grid0.coords t 0).val) 2#32 0#1 1#32) (k0_pay6 (BitVec.ofNat 32 (grid0.coords t 0).val))
        (iblk m c 5 t : FVec Ideal S11x1024x512 .bf16) (iblk m c 6 t : FVec Ideal S11x3x512 .f32) (iblk m c 7 t : FVec Ideal S11x1x512 .f32) 6 (by decide)))
      (hidB (View.whole cc0_scratch0) (stores (rowsOf (iblk m c 0 t : FVec Ideal S1024x1024 .f32) (iblk m c 1 t : FVec Ideal S8x1024 .f32)
          (iblk m c 2 t : FVec Ideal S8x1024 .f32) (iblk m c 3 t : FVec Ideal S1x1x6144 .f32) (iblk m c 4 t : FVec Ideal S1x1024 .f32))
        (k0_pay5 (BitVec.ofNat 32 (grid0.coords t 0).val) 2#32 0#1 1#32) (k0_pay6 (BitVec.ofNat 32 (grid0.coords t 0).val))
        (iblk m c 5 t : FVec Ideal S11x1024x512 .bf16) (iblk m c 6 t : FVec Ideal S11x3x512 .f32) (iblk m c 7 t : FVec Ideal S11x1x512 .f32) 11 (by decide))) y := by
  generalize hR : tail _ _ _ _ _ _ y = R
  unfold outsAt0
  frame_out
  generalize hH : (k0_pay4 (F := Ideal) _ _ _ _ _ _) = H
  generalize hX : (iblk m c 0 t : FVec Ideal S1024x1024 .f32) = X at hR ⊢
  generalize hM : (iblk m c 3 t : FVec Ideal S1x1x6144 .f32) = M at hR ⊢
  generalize hW : (iblk m c 5 t : FVec Ideal S11x1024x512 .bf16) = W at hR ⊢
  generalize hC : (iblk m c 6 t : FVec Ideal S11x3x512 .f32) = C at hR ⊢
  generalize hB : (iblk m c 7 t : FVec Ideal S11x1x512 .f32) = B at hR ⊢
  generalize hD : (iblk m c 8 t : FVec Ideal S2816x1024 .bf16) = D at hR ⊢
  generalize hG : (iblk m c 9 t : FVec Ideal S1x1024 .f32) = G at hR ⊢
  generalize ha : (BitVec.ofNat 32 (grid0.coords t 0).val) = a at hR ⊢
  change tail X (md M 5120 (by decide)) D G (hidA (View.whole cc0_scratch0) (stores H (k0_pay5 a 2#32 0#1 1#32) (k0_pay6 a) W C B 6 (by decide)))
    (hidB (View.whole cc0_scratch0) (stores H (k0_pay5 a 2#32 0#1 1#32) (k0_pay6 a) W C B 11 (by decide))) y = _
  have hH' : rowsOf X (iblk m c 1 t : FVec Ideal S8x1024 .f32) (iblk m c 2 t : FVec Ideal S8x1024 .f32) M (iblk m c 4 t : FVec Ideal S1x1024 .f32) = H := by
    rw [← hX, ← hM]; exact hH
  rw [← hR, hH']

end Cert.Kernel6Ideal.Ffn
end
-- ==== Proof.SampleHost.lean ====
module

public import proofs.«01_k».proof.Proof.Gen.Kernel6Ideal.Value
public import proofs.«01_k».proof.Proof.FfnSpec
public import Idealize.ShloMosaic.Lib.StableHlo.ReadAt

@[expose] public section

set_option maxRecDepth 16384

noncomputable section

/-! The arrays that the host part hands to the feed-forward kernel for the sample, entry by entry. -/

namespace Cert.Kernel6Ideal.Ffn
open Cert.Ffn (col col_pick)
open Idealize.ShloMosaic Idealize.ShloMosaic.TcCoe Idealize.SL.Sem Cert.Kernel6Ideal Cert.Kernel6Ideal.Gen

variable (m : (ℓ : Loc nD τ sig) → Buf (Elt Ideal) ℓ) (c : Dev nD)

theorem hx (r : Fin 32768) (k : Fin 1024) :
    V m c main_v20 (ix2 r k) = (m (c, Proc.tc.devRef main_arg0) (ix3 ⟨r.val / 2048, by omega⟩ ⟨r.val % 2048, by omega⟩ k) : EReal) := by
  unfold V
  repeat (
    after_reads_simp
    try simp -implicitDefEqProofs only [StableHlo.TRef.toBuf, StableHlo.TRef.ofBuf, cast_cast, cast_eq]
    pointwise)

theorem hmod (b : Fin 16) (n : Fin 6144) :
    V m c main_v21 (ix3 b 0 n) = (m (c, Proc.tc.devRef main_arg1) (ix2 b n) : EReal) := by
  unfold V
  repeat (
    after_reads_simp
    try simp -implicitDefEqProofs only [StableHlo.TRef.toBuf, StableHlo.TRef.ofBuf, cast_cast, cast_eq]
    pointwise)

theorem hg (k : Fin 1024) : V m c main_v22 (ix2 0 k) = (m (c, Proc.tc.devRef main_arg2) (ix1 k) : EReal) := by
  unfold V
  repeat (
    after_reads_simp
    try simp -implicitDefEqProofs only [StableHlo.TRef.toBuf, StableHlo.TRef.ofBuf, cast_cast, cast_eq]
    pointwise)

theorem hfg (k : Fin 1024) : V m c main_v23 (ix2 0 k) = (m (c, Proc.tc.devRef main_arg7) (ix1 k) : EReal) := by
  unfold V
  repeat (
    after_reads_simp
    try simp -implicitDefEqProofs only [StableHlo.TRef.toBuf, StableHlo.TRef.ofBuf, cast_cast, cast_eq]
    pointwise)

theorem hwd (n : Fin 2816) (k : Fin 1024) : V m c main_v19 (ix2 n k) = (m (c, Proc.tc.devRef main_arg6) (ix2 n k) : EReal) := by
  unfold V
  repeat (
    after_reads_simp
    try simp -implicitDefEqProofs only [StableHlo.TRef.toBuf, StableHlo.TRef.ofBuf, cast_cast, cast_eq]
    pointwise)

theorem hwu (j : Fin 11) (k : Fin 1024) (n : Fin 512) :
    V m c main_v6 (ix3 j k n) = (m (c, Proc.tc.devRef main_arg3) (ix2 k (col j n)) : EReal) := by
  unfold V
  repeat (
    after_reads_simp
    try simp -implicitDefEqProofs only [StableHlo.TRef.toBuf, StableHlo.TRef.ofBuf, cast_cast, cast_eq]
    pointwise)
  exact col_pick (fun q => m (c, Proc.tc.devRef main_arg3) (ix2 k q)) j n

theorem hcw (j : Fin 11) (q : Fin 3) (n : Fin 512) :
    V m c main_v12 (ix3 j q n) = (m (c, Proc.tc.devRef main_arg4) (ix2 q (col j n)) : EReal) := by
  unfold V
  repeat (
    after_reads_simp
    try simp -implicitDefEqProofs only [StableHlo.TRef.toBuf, StableHlo.TRef.ofBuf, cast_cast, cast_eq]
    pointwise)
  exact col_pick (fun q' => m (c, Proc.tc.devRef main_arg4) (ix2 q q')) j n

theorem hcb (j : Fin 11) (n : Fin 512) :
    V m c main_v18 (ix3 j 0 n) = (m (c, Proc.tc.devRef main_arg5) (ix1 (col j n)) : EReal) := by
  unfold V
  repeat (
    after_reads_simp
    try simp -implicitDefEqProofs only [StableHlo.TRef.toBuf, StableHlo.TRef.ofBuf, cast_cast, cast_eq]
    pointwise)
  exact col_pick (fun q => m (c, Proc.tc.devRef main_arg5) (ix1 q)) j n
end Cert.Kernel6Ideal.Ffn
end
-- ==== Proof.SampleBlocks.lean ====
module

public import proofs.«01_k».proof.Proof.SampleHost

@[expose] public section

set_option maxRecDepth 16384

noncomputable section

/-! What the input blocks of a grid point of the sample's call hold: 1024 rows, the eight rows before and after them, and the weights whole. -/

namespace Cert.Kernel6Ideal.Ffn
open Cert.Ffn (zero_f one_f)
open Idealize.ShloMosaic Idealize.ShloMosaic.TcCoe Idealize.SL.Sem Cert.Kernel6Ideal Cert.Kernel6Ideal.Gen

variable (m : (ℓ : Loc nD τ sig) → Buf (Elt Ideal) ℓ) (c : Dev nD)

theorem idx : ∀ t : Fin cfg0.N, win0_0.index t = ![t.val, 0] ∧ win0_1.index t = ![128 * t.val - 1, 0]
    ∧ win0_2.index t = ![min (128 * (t.val + 1)) 4095, 0] ∧ win0_3.index t = ![t.val / 2, 0, 0] ∧ win0_4.index t = ![0, 0]
    ∧ win0_5.index t = ![0, 0, 0] ∧ win0_6.index t = ![0, 0, 0] ∧ win0_7.index t = ![0, 0, 0] ∧ win0_8.index t = ![0, 0]
    ∧ win0_9.index t = ![0, 0] ∧ win0_10.index t = ![t.val, 0] :=
  (by decide +kernel : ∀ t : Fin grid0.N, _)

theorem lt32 (t : Fin cfg0.N) : t.val < 32 := lt_of_lt_of_eq t.isLt N_0

theorem blk0 (t : Fin cfg0.N) (r : Fin 1024) (k : Fin 1024) :
    (iblk m c 0 t : FVec Ideal S1024x1024 .f32) (ix2 r k)
      = V m c main_v20 (ix2 ⟨t.val * 1024 + r.val, by have := lt32 t; omega⟩ k) := by
  obtain ⟨e0, e1, e2, e3, e4, e5, e6, e7, e8, e9, e10⟩ := idx t
  blk_ext [iblk, e0]
theorem blk1 (t : Fin cfg0.N) (r : Fin 8) (k : Fin 1024) :
    (iblk m c 1 t : FVec Ideal S8x1024 .f32) (ix2 r k)
      = V m c main_v20 (ix2 ⟨(128 * t.val - 1) * 8 + r.val, by have := lt32 t; omega⟩ k) := by
  obtain ⟨e0, e1, e2, e3, e4, e5, e6, e7, e8, e9, e10⟩ := idx t
  blk_ext [iblk, e1]
theorem blk2 (t : Fin cfg0.N) (r : Fin 8) (k : Fin 1024) :
    (iblk m c 2 t : FVec Ideal S8x1024 .f32) (ix2 r k)
      = V m c main_v20 (ix2 ⟨min (128 * (t.val + 1)) 4095 * 8 + r.val, by have := lt32 t; omega⟩ k) := by
  obtain ⟨e0, e1, e2, e3, e4, e5, e6, e7, e8, e9, e10⟩ := idx t
  blk_ext [iblk, e2]
theorem blk3 (t : Fin cfg0.N) (n : Fin 6144) :
    (iblk m c 3 t : FVec Ideal S1x1x6144 .f32) (ix3 0 0 n) = V m c main_v21 (ix3 ⟨t.val / 2, by have := lt32 t; omega⟩ 0 n) := by
  obtain ⟨e0, e1, e2, e3, e4, e5, e6, e7, e8, e9, e10⟩ := idx t
  blk_ext [iblk, e3]
theorem blk4 (t : Fin cfg0.N) (k : Fin 1024) :
    (iblk m c 4 t : FVec Ideal S1x1024 .f32) (ix2 0 k) = V m c main_v22 (ix2 0 k) := by
  obtain ⟨e0, e1, e2, e3, e4, e5, e6, e7, e8, e9, e10⟩ := idx t
  blk_ext [iblk, e4]
theorem blk5 (t : Fin cfg0.N) (j : Fin 11) (k : Fin 1024) (n : Fin 512) :
    (iblk m c 5 t : FVec Ideal S11x1024x512 .bf16) (ix3 j k n) = V m c main_v6 (ix3 j k n) := by
  obtain ⟨e0, e1, e2, e3, e4, e5, e6, e7, e8, e9, e10⟩ := idx t
  blk_ext [iblk, e5]
theorem blk6 (t : Fin cfg0.N) (j : Fin 11) (q : Fin 3) (n : Fin 512) :
    (iblk m c 6 t : FVec Ideal S11x3x512 .f32) (ix3 j q n) = V m c main_v12 (ix3 j q n) := by
  obtain ⟨e0, e1, e2, e3, e4, e5, e6, e7, e8, e9, e10⟩ := idx t
  blk_ext [iblk, e6]
theorem blk7 (t : Fin cfg0.N) (j : Fin 11) (n : Fin 512) :
    (iblk m c 7 t : FVec Ideal S11x1x512 .f32) (ix3 j 0 n) = V m c main_v18 (ix3 j 0 n) := by
  obtain ⟨e0, e1, e2, e3, e4, e5, e6, e7, e8, e9, e10⟩ := idx t
  blk_ext [iblk, e7]
theorem blk8 (t : Fin cfg0.N) (n : Fin 2816) (k : Fin 1024) :
    (iblk m c 8 t : FVec Ideal S2816x1024 .bf16) (ix2 n k) = V m c main_v19 (ix2 n k) := by
  obtain ⟨e0, e1, e2, e3, e4, e5, e6, e7, e8, e9, e10⟩ := idx t
  blk_ext [iblk, e8]
theorem blk9 (t : Fin cfg0.N) (k : Fin 1024) :
    (iblk m c 9 t : FVec Ideal S1x1024 .f32) (ix2 0 k) = V m c main_v23 (ix2 0 k) := by
  obtain ⟨e0, e1, e2, e3, e4, e5, e6, e7, e8, e9, e10⟩ := idx t
  blk_ext [iblk, e9]

/-- Whether the block has a row before it in its sequence. -/
theorem prev_at (t : Fin cfg0.N) :
    (k0_pay5 (BitVec.ofNat 32 (grid0.coords t 0).val) 2#32 0#1 1#32 : Ideal .f32) = if t.val % 2 = 0 then 0 else 1 := by
  have h : ∀ t : Fin grid0.N, Scalar.cmpi .eq (Scalar.select
      (Scalar.andi (Scalar.xori (Scalar.cmpi .slt (Scalar.remsi (BitVec.ofNat 32 (grid0.coords t 0).val) (Scalar.select 0#1 1#32 2#32)) 0#32)
          (Scalar.cmpi .slt (Scalar.select 0#1 1#32 2#32) 0#32))
        (Scalar.cmpi .ne (Scalar.remsi (BitVec.ofNat 32 (grid0.coords t 0).val) (Scalar.select 0#1 1#32 2#32)) 0#32))
      (Scalar.addi (Scalar.remsi (BitVec.ofNat 32 (grid0.coords t 0).val) (Scalar.select 0#1 1#32 2#32)) (Scalar.select 0#1 1#32 2#32))
      (Scalar.remsi (BitVec.ofNat 32 (grid0.coords t 0).val) (Scalar.select 0#1 1#32 2#32))) 0#32 = if t.val % 2 = 0 then 1#1 else 0#1 := by
    decide +kernel
  unfold k0_pay5
  dsimp only
  rw [h t]
  by_cases h0 : t.val % 2 = 0
  · simp only [h0, if_true]; exact zero_f
  · rw [if_neg h0, if_neg h0]; exact one_f

/-- Whether the block has a row after it in its sequence. -/
theorem next_at (t : Fin cfg0.N) :
    (k0_pay6 (BitVec.ofNat 32 (grid0.coords t 0).val) : Ideal .f32) = if t.val % 2 = 1 then 0 else 1 := by
  have h : ∀ t : Fin grid0.N, Scalar.cmpi .eq (Scalar.select
      (Scalar.andi (Scalar.xori (Scalar.cmpi .slt (Scalar.remsi (BitVec.ofNat 32 (grid0.coords t 0).val) (Scalar.select (Scalar.cmpi .eq 2#32 0#32) 1#32 2#32)) 0#32)
          (Scalar.cmpi .slt (Scalar.select (Scalar.cmpi .eq 2#32 0#32) 1#32 2#32) 0#32))
        (Scalar.cmpi .ne (Scalar.remsi (BitVec.ofNat 32 (grid0.coords t 0).val) (Scalar.select (Scalar.cmpi .eq 2#32 0#32) 1#32 2#32)) 0#32))
      (Scalar.addi (Scalar.remsi (BitVec.ofNat 32 (grid0.coords t 0).val) (Scalar.select (Scalar.cmpi .eq 2#32 0#32) 1#32 2#32)) (Scalar.select (Scalar.cmpi .eq 2#32 0#32) 1#32 2#32))
      (Scalar.remsi (BitVec.ofNat 32 (grid0.coords t 0).val) (Scalar.select (Scalar.cmpi .eq 2#32 0#32) 1#32 2#32))) 1#32 = if t.val % 2 = 1 then 1#1 else 0#1 := by
    decide +kernel
  unfold k0_pay6
  dsimp only
  rw [h t]
  by_cases h0 : t.val % 2 = 1
  · simp only [h0, if_true]; exact zero_f
  · rw [if_neg h0, if_neg h0]; exact one_f
end Cert.Kernel6Ideal.Ffn
end
-- ==== Proof.SamplePoint.lean ====
module

public import proofs.«01_k».proof.Proof.SampleStore
public import proofs.«01_k».proof.Proof.SampleBlocks

@[expose] public section

set_option maxRecDepth 16384

noncomputable section

/-! A grid point of the sample's call computes 1024 rows of the feed-forward part. -/

namespace Cert.Kernel6Ideal.Ffn
open Cert.Kernel2Ideal.Ffn (Point tail_row silu sq)
open Idealize.ShloMosaic Idealize.ShloMosaic.TcCoe Idealize.SL.Sem Cert.Kernel6Ideal Cert.Kernel6Ideal.Gen

variable (m : (ℓ : Loc nD τ sig) → Buf (Elt Ideal) ℓ) (c : Dev nD)

/-- The entries of the arguments on a device. -/
def args : Cert.Ffn.Args 16 where
  x b s k := (m (c, Proc.tc.devRef main_arg0) (ix3 b s k) : EReal)
  mod b n := (m (c, Proc.tc.devRef main_arg1) (ix2 b n) : EReal)
  g k := (m (c, Proc.tc.devRef main_arg2) (ix1 k) : EReal)
  wu k n := (m (c, Proc.tc.devRef main_arg3) (ix2 k n) : EReal)
  cw q n := (m (c, Proc.tc.devRef main_arg4) (ix2 q n) : EReal)
  cb n := (m (c, Proc.tc.devRef main_arg5) (ix1 n) : EReal)
  wd n k := (m (c, Proc.tc.devRef main_arg6) (ix2 n k) : EReal)
  fg k := (m (c, Proc.tc.devRef main_arg7) (ix1 k) : EReal)

/-- The sequence that a grid point works on. -/
def bt (t : Fin cfg0.N) : Fin 16 := ⟨t.val / 2, by have := lt32 t; omega⟩

/-- A row of the flattened input is a row of a sequence. -/
theorem x_at (r : Fin 32768) (b : Fin 16) (s : Fin 2048) (h : r.val = b.val * 2048 + s.val) (k : Fin 1024) :
    V m c main_v20 (ix2 r k) = (args m c).x b s k := by
  refine (hx m c r k).trans ?_
  have e1 : (⟨r.val / 2048, by omega⟩ : Fin 16) = b := Fin.ext (by show r.val / 2048 = b.val; omega)
  have e2 : (⟨r.val % 2048, by omega⟩ : Fin 2048) = s := Fin.ext (by show r.val % 2048 = s.val; omega)
  rw [e1, e2]
  rfl

variable {m c}

theorem point (t : Fin cfg0.N) : Point (args m c) (bt t) t.val (iblk m c 0 t : FVec Ideal S1024x1024 .f32) (iblk m c 1 t : FVec Ideal S8x1024 .f32)
    (iblk m c 2 t : FVec Ideal S8x1024 .f32) (iblk m c 3 t : FVec Ideal S1x1x6144 .f32) (iblk m c 4 t : FVec Ideal S1x1024 .f32)
    (iblk m c 5 t : FVec Ideal S11x1024x512 .bf16) (iblk m c 6 t : FVec Ideal S11x3x512 .f32) (iblk m c 7 t : FVec Ideal S11x1x512 .f32)
    (iblk m c 8 t : FVec Ideal S2816x1024 .bf16) (iblk m c 9 t : FVec Ideal S1x1024 .f32)
    (k0_pay5 (BitVec.ofNat 32 (grid0.coords t 0).val) 2#32 0#1 1#32) (k0_pay6 (BitVec.ofNat 32 (grid0.coords t 0).val)) where
  x r k := (blk0 m c t r k).trans (x_at m c _ _ _ (show t.val * 1024 + r.val = t.val / 2 * 2048 + (t.val % 2 * 1024 + r.val) by omega) k)
  xp ht k := (blk1 m c t 7 k).trans (x_at m c _ _ _ (show (128 * t.val - 1) * 8 + 7 = t.val / 2 * 2048 + 1023 by omega) k)
  xn ht k := (blk2 m c t 0 k).trans (x_at m c _ _ _
    (show min (128 * (t.val + 1)) 4095 * 8 + 0 = t.val / 2 * 2048 + 1024 by have := lt32 t; omega) k)
  m n := (blk3 m c t n).trans (hmod m c _ _)
  g k := (blk4 m c t k).trans (hg m c k)
  w j k n := (blk5 m c t j k n).trans (hwu m c j k n)
  c j q n := (blk6 m c t j q n).trans (hcw m c j q n)
  b j n := (blk7 m c t j n).trans (hcb m c j n)
  d n k := (blk8 m c t n k).trans (hwd m c n k)
  fg k := (blk9 m c t k).trans (hfg m c k)
  p := prev_at t
  n := next_at t

theorem point_value (t : Fin cfg0.N) (r : Fin 1024) (k : Fin 1024) :
    (outsAt0 m c t) (ix2 r k) = Cert.Ffn.out (args m c) silu (bt t) (sq t.val r) k :=
  (point_tail m c t _).trans (tail_row (point t) _ r k)

/-- The kernel's result. -/
def result (A : Cert.Ffn.Args 16) : FVec Ideal S32768x1024 .f32 := fun i =>
  Cert.Ffn.out A silu ⟨(i 0).val / 2048, by have : (i 0).val < 32768 := (i 0).isLt; omega⟩ ⟨(i 0).val % 2048, Nat.mod_lt _ (by decide)⟩
    ⟨(i 1).val, (i 1).isLt⟩

theorem final : (dats m 0 c).arrAt 10 cfg0.N = result (args m c) := by
  refine (dats m 0 c).arrAt_eq_of_covers 10 _ (by decide +kernel) fun t hf y => ?_
  have e10 := (idx t).2.2.2.2.2.2.2.2.2.2
  blk_simp
  rw [after0_10]
  have b0 : (((cfg0.win 10).blk t).view.emb y 0).val = win0_10.index t (0 : Fin 2) * 1024 + 1 * (y 0).val := rfl
  have b1 : (((cfg0.win 10).blk t).view.emb y 1).val = win0_10.index t (1 : Fin 2) * 1024 + 1 * (y 1).val := rfl
  have y0 : (y 0).val < 1024 := (y 0).isLt
  have y1 : (y 1).val < 1024 := (y 1).isLt
  have ht := lt32 t
  rw [e10] at b0 b1
  have b0' : (((cfg0.win 10).blk t).view.emb y 0).val = t.val * 1024 + 1 * (y 0).val := b0
  have b1' : (((cfg0.win 10).blk t).view.emb y 1).val = 0 * 1024 + 1 * (y 1).val := b1
  have hy : (y : S1024x1024.Idx) = ix2 ⟨(y 0).val, y0⟩ ⟨(y 1).val, y1⟩ := by
    funext a; apply Fin.ext
    match a with
    | ⟨0, _⟩ => rfl
    | ⟨1, _⟩ => rfl
  refine (congrArg (outsAt0 m c t) hy).trans ((point_value t _ _).trans ?_)
  have hout : ∀ (b b' : Fin 16) (r r' : Fin 2048) (k k' : Fin 1024), b = b' → r = r' → k = k' →
      Cert.Ffn.out (args m c) silu b r k = Cert.Ffn.out (args m c) silu b' r' k' := by
    rintro b _ r _ k _ rfl rfl rfl; rfl
  refine hout _ _ _ _ _ _ (Fin.ext ?_) (Fin.ext ?_) (Fin.ext ?_)
  · show t.val / 2 = (((cfg0.win 10).blk t).view.emb y 0).val / 2048
    omega
  · show t.val % 2 * 1024 + (y 0).val = (((cfg0.win 10).blk t).view.emb y 0).val % 2048
    omega
  · show (y 1).val = (((cfg0.win 10).blk t).view.emb y 1).val
    omega
end Cert.Kernel6Ideal.Ffn
end
-- ==== Proof.SampleFinite.lean ====
module

public import proofs.«01_k».proof.Defs
public import proofs.«01_k».proof.Proof.Finite
public import proofs.«01_k».proof.Proof.FfnGate
public import proofs.«01_k».proof.Proof.SamplePoint

@[expose] public section

set_option maxRecDepth 16384

noncomputable section

namespace Cert.Finite6

open Cert Idealize.ShloMosaic Idealize.ShloMosaic.TcCoe

/-! The precondition of the feed-forward part for the sample says that the entries of the modulation and of the weights before
the gate are real numbers. -/

theorem facts : Cert.Pre_finite6.Facts where
  bcast_S_S16x6144 := by decide
  bcast_S_S1024 := by decide
  bcast_S_S1024x5632 := by decide
  bcast_S_S3x5632 := by decide
  bcast_S_S5632 := by decide

theorem holds (m : (ℓ : Loc Kernel6Ideal.nD Kernel6Ideal.τ Kernel6Ideal.sig) → Buf (Elt Ideal) ℓ)
    (h : Pre_Kernel6Ideal_finite6 (hPre_finite6 := facts) m) (c : Dev Kernel6Ideal.nD) : Ffn.Finite (Kernel6Ideal.Ffn.args m c) where
  mod b n := ⟨_, Finite.real_of_lt (congrFun (h c).1 (ix2 b n))⟩
  g k := ⟨_, Finite.real_of_lt (congrFun (h c).2.1 (ix1 k))⟩
  wu k n := ⟨_, Finite.real_of_lt (congrFun (h c).2.2.1 (ix2 k n))⟩
  cw q n := ⟨_, Finite.real_of_lt (congrFun (h c).2.2.2.1 (ix2 q n))⟩
  cb n := ⟨_, Finite.real_of_lt (congrFun (h c).2.2.2.2 (ix1 n))⟩

end Cert.Finite6

end
-- ==== Proof.SampleRef.lean ====
module

public import proofs.«01_k».proof.Proof.Gen.Reference6Ideal.Read
public import proofs.«01_k».proof.Proof.FfnRef

@[expose] public section

set_option maxRecDepth 16384

noncomputable section

/-! The reference of the feed-forward part computes it for the sample too. -/

namespace Cert.Reference6Ideal.Ffn
open Cert.Reference2Ideal.Ffn (silu)
open Idealize.ShloMosaic Idealize.ShloMosaic.TcCoe Idealize.SL.Sem Cert.Reference6Ideal Cert.Reference6Ideal.Gen Cert.Reference6Ideal.Read

variable {A : Cert.Ffn.Args 16} {x0 : FVec Ideal S16x2048x1024 .f32} {x1 : FVec Ideal S16x6144 .f32} {x2 : FVec Ideal S1024 .f32}
  {x3 : FVec Ideal S1024x5632 .f32} {x4 : FVec Ideal S3x5632 .f32} {x5 : FVec Ideal S5632 .f32} {x6 : FVec Ideal S2816x1024 .f32}
  {x7 : FVec Ideal S1024 .f32}

/-- The arguments hold the entries `A`. -/
structure Holds (A : Cert.Ffn.Args 16) (x0 : FVec Ideal S16x2048x1024 .f32) (x1 : FVec Ideal S16x6144 .f32) (x2 : FVec Ideal S1024 .f32)
  (x3 : FVec Ideal S1024x5632 .f32) (x4 : FVec Ideal S3x5632 .f32) (x5 : FVec Ideal S5632 .f32) (x6 : FVec Ideal S2816x1024 .f32)
  (x7 : FVec Ideal S1024 .f32) : Prop where
  h0 : ∀ b s k, x0 (ix3 b s k) = A.x b s k
  h1 : ∀ b n, x1 (ix2 b n) = A.mod b n
  h2 : ∀ k, x2 (ix1 k) = A.g k
  h3 : ∀ k n, x3 (ix2 k n) = A.wu k n
  h4 : ∀ q n, x4 (ix2 q n) = A.cw q n
  h5 : ∀ n, x5 (ix1 n) = A.cb n
  h6 : ∀ n c, x6 (ix2 n c) = A.wd n c
  h7 : ∀ k, x7 (ix1 k) = A.fg k

theorem nrm_at (H : Holds A x0 x1 x2 x3 x4 x5 x6 x7) (b : Fin 16) (s : Fin 2048) (k : Fin 1024) :
    val_main_v23 (F := Ideal) x0 x1 x2 (ix3 b s k) = Cert.Ffn.nrm A b s k := by
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    Cert.Ffn.nrm, Cert.Ffn.rms]
  simp only [H.h0, H.h1, H.h2]

theorem up_at (H : Holds A x0 x1 x2 x3 x4 x5 x6 x7) (b : Fin 16) (s : Fin 2048) (n : Fin 5632) :
    val_main_v24 (F := Ideal) x0 x1 x2 x3 (ix3 b s n) = Cert.Ffn.up A b s n := by
  unfold Cert.Ffn.up val_main_v24
  simp only [← nrm_at H, ← H.h3]
  generalize val_main_v23 (F := Ideal) x0 x1 x2 = y
  pointwise

theorem row_congr (y : FVec Ideal S16x2048x5632 .f32) (b : Fin 16) (n : Fin 5632) {p q : Nat} {hp : p < 2048} {hq : q < 2048} (h : p = q) :
    y (ix3 b ⟨p, hp⟩ n) = y (ix3 b ⟨q, hq⟩ n) := by
  subst h; rfl

theorem cv_at (H : Holds A x0 x1 x2 x3 x4 x5 x6 x7) (b : Fin 16) (s : Fin 2048) (n : Fin 5632) :
    val_main_v49 (F := Ideal) x0 x1 x2 x3 x4 x5 (ix3 b s n) = Cert.Ffn.cv A b s n := by
  unfold Cert.Ffn.cv Cert.Ffn.dn Cert.Ffn.un
  simp only [← up_at H, ← H.h4, ← H.h5]
  unfold val_main_v49 val_main_v46 val_main_v45 val_main_v40 val_main_v39 val_main_v38 val_main_v33 val_main_v32 val_main_v27 val_main_v26
  generalize val_main_v24 (F := Ideal) x0 x1 x2 x3 = y
  pointwise [val_main_v48, val_main_v47, val_main_v44, val_main_v43, val_main_v42, val_main_v41, val_main_v37, val_main_v36, val_main_v35,
    val_main_v34, val_main_v31, val_main_v30, val_main_v29, val_main_v28, val_main_v25, val_main_cst_3]
  refine congrArg₂ (· + ·) (congrArg₂ (· + ·) (congrArg₂ (· + ·) (congrArg₂ (· * ·) ?_ rfl) rfl) (congrArg₂ (· * ·) ?_ rfl)) rfl
  · by_cases h : s.val = 0
    · exact (dif_pos (by omega)).trans (if_pos h).symm
    · exact (dif_neg (by omega)).trans ((dif_pos (by omega)).trans (if_neg h).symm)
  · refine (dif_neg (by omega)).trans ?_
    by_cases h : s.val = 2047
    · rw [dif_pos h]
      exact dif_neg (by omega)
    · rw [dif_neg h]
      exact (dif_pos (by omega)).trans (row_congr y b n (by omega))

theorem hid_at (H : Holds A x0 x1 x2 x3 x4 x5 x6 x7) (b : Fin 16) (s : Fin 2048) (n : Fin 2816) :
    val_main_v53 (F := Ideal) x0 x1 x2 x3 x4 x5 (ix3 b s n) = Cert.Ffn.hid A silu b s n := by
  unfold Cert.Ffn.hid
  simp only [← cv_at H]
  unfold val_main_v53 val_main_v52 val_main_call0_v5 val_main_call0_v3 val_main_call0_v1 val_main_call0_v0 val_main_v51 val_main_v50
  generalize val_main_v49 (F := Ideal) x0 x1 x2 x3 x4 x5 = y
  pointwise [val_main_call0_v4, val_main_call0_v2, val_main_call0_cst, val_main_call0_cst_0, silu]

theorem res_at (H : Holds A x0 x1 x2 x3 x4 x5 x6 x7) (b : Fin 16) (s : Fin 2048) (c : Fin 1024) :
    val_main_v57 (F := Ideal) x0 x1 x2 x3 x4 x5 x6 (ix3 b s c) = Cert.Ffn.res A silu b s c := by
  unfold Cert.Ffn.res
  simp only [← hid_at H, ← H.h0, ← H.h1, ← H.h6]
  unfold val_main_v57 val_main_v56 val_main_v54
  generalize val_main_v53 (F := Ideal) x0 x1 x2 x3 x4 x5 = y
  pointwise [val_main_v55, val_main_v4, val_main_v1, val_main_v0]

theorem out_at (H : Holds A x0 x1 x2 x3 x4 x5 x6 x7) (r : Fin 32768) (c : Fin 1024) :
    val_main_v71 (F := Ideal) x0 x1 x2 x3 x4 x5 x6 x7 (ix2 r c) = Cert.Ffn.out A silu ⟨r.val / 2048, by omega⟩ ⟨r.val % 2048, by omega⟩ c := by
  unfold Cert.Ffn.out Cert.Ffn.rms
  simp only [← res_at H, ← H.h7]
  unfold val_main_v71 val_main_v70 val_main_v69 val_main_v68 val_main_v67 val_main_v66 val_main_v65 val_main_v64 val_main_v62 val_main_v60 val_main_v59 val_main_v58
  generalize val_main_v57 (F := Ideal) x0 x1 x2 x3 x4 x5 x6 = y
  pointwise [val_main_v63, val_main_v61, val_main_cst_4, val_main_cst_5, val_main_cst_6]
end Cert.Reference6Ideal.Ffn
end
-- ==== Proof.JoinRun.lean ====
module

public import proofs.«01_k».proof.Proof.Gen.Kernel7Ideal.Frame

@[expose] public section

set_option maxRecDepth 16384

noncomputable section

/-! What a run of the two calls leaves: the second call's result, and the arguments as they were. -/

namespace Cert.Kernel7Ideal.Join
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem unscoped : ∀ a ∈ argRefs, ¬ (Proc.devRef .tc a : DevRef τ sig).isScoped := by decide

set_option backward.isDefEq.respectTransparency.types false in
/-- The result array at what the second call leaves there, every argument as at the start. -/
theorem run : θ_run defs (onTc (τ := τ) (main (F := F))) ⟨m, fun _ => 0, ρ⟩ (fun r => ∀ c : Dev nD,
      r.2.mem ((c.tc : Thread nD τ).loc main_v30) = (dat1 (V3 m ρ) c).arrAt 10 cfg1.N
      ∧ ∀ a ∈ argRefs, r.2.mem ((c.tc : Thread nD τ).loc a) = m ((c.tc : Thread nD τ).loc a)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v30 (by decide))).trans (W4_arr m ρ c 10),
      fun a ha => (h c _ (mem_uc a (unscoped a ha))).trans (W4_args m ρ c a ha)⟩)

end Cert.Kernel7Ideal.Join

end
-- ==== Proof.JoinStore.lean ====
module

public import proofs.«01_k».proof.Proof.FfnRow
public import proofs.«01_k».proof.Proof.Gen.Kernel7Ideal.Frame

@[expose] public section

set_option maxRecDepth 16384

noncomputable section

/-! A grid point's output block of the second call, over the blocks it reads: the same terms as when it stands alone. -/

namespace Cert.Kernel7Ideal.Join
open Cert.Kernel2Ideal.Ffn (md rowsOf tail hidA hidB stores)
open Idealize.ShloMosaic Idealize.ShloMosaic.TcCoe Idealize.SL.Sem Cert.Kernel7Ideal Cert.Kernel7Ideal.Gen

variable (V : (c : Dev nD) → (b : Ref sig .tc) → Buf (Elt Ideal) ((c : Thread nD τ).loc b))

set_option maxHeartbeats 2000000 in
theorem point_tail (c : Dev nD) (t : Fin cfg1.N) (y : S1024x1024.Idx) :
    (outsAt1 V c t) y = tail (iblk1 V c 0 t : FVec Ideal S1024x1024 .f32) (md (iblk1 V c 3 t : FVec Ideal S1x1x6144 .f32) 5120 (by decide))
      (iblk1 V c 8 t : FVec Ideal S2816x1024 .bf16) (iblk1 V c 9 t : FVec Ideal S1x1024 .f32)
      (hidA (View.whole cc1_scratch0) (stores (rowsOf (iblk1 V c 0 t : FVec Ideal S1024x1024 .f32) (iblk1 V c 1 t : FVec Ideal S8x1024 .f32)
          (iblk1 V c 2 t : FVec Ideal S8x1024 .f32) (iblk1 V c 3 t : FVec Ideal S1x1x6144 .f32) (iblk1 V c 4 t : FVec Ideal S1x1024 .f32))
        (k1_pay5 (BitVec.ofNat 32 (grid1.coords t 0).val) 2#32 0#1 1#32) (k1_pay6 (BitVec.ofNat 32 (grid1.coords t 0).val))
        (iblk1 V c 5 t : FVec Ideal S11x1024x512 .bf16) (iblk1 V c 6 t : FVec Ideal S11x3x512 .f32) (iblk1 V c 7 t : FVec Ideal S11x1x512 .f32) 6 (by decide)))
      (hidB (View.whole cc1_scratch0) (stores (rowsOf (iblk1 V c 0 t : FVec Ideal S1024x1024 .f32) (iblk1 V c 1 t : FVec Ideal S8x1024 .f32)
          (iblk1 V c 2 t : FVec Ideal S8x1024 .f32) (iblk1 V c 3 t : FVec Ideal S1x1x6144 .f32) (iblk1 V c 4 t : FVec Ideal S1x1024 .f32))
        (k1_pay5 (BitVec.ofNat 32 (grid1.coords t 0).val) 2#32 0#1 1#32) (k1_pay6 (BitVec.ofNat 32 (grid1.coords t 0).val))
        (iblk1 V c 5 t : FVec Ideal S11x1024x512 .bf16) (iblk1 V c 6 t : FVec Ideal S11x3x512 .f32) (iblk1 V c 7 t : FVec Ideal S11x1x512 .f32) 11 (by decide))) y := by
  generalize hR : tail _ _ _ _ _ _ y = R
  unfold outsAt1
  frame_out
  generalize hH : (k1_pay4 (F := Ideal) _ _ _ _ _ _) = H
  generalize hX : (iblk1 V c 0 t : FVec Ideal S1024x1024 .f32) = X at hR ⊢
  generalize hM : (iblk1 V c 3 t : FVec Ideal S1x1x6144 .f32) = M at hR ⊢
  generalize hW : (iblk1 V c 5 t : FVec Ideal S11x1024x512 .bf16) = W at hR ⊢
  generalize hC : (iblk1 V c 6 t : FVec Ideal S11x3x512 .f32) = C at hR ⊢
  generalize hB : (iblk1 V c 7 t : FVec Ideal S11x1x512 .f32) = B at hR ⊢
  generalize hD : (iblk1 V c 8 t : FVec Ideal S2816x1024 .bf16) = D at hR ⊢
  generalize hG : (iblk1 V c 9 t : FVec Ideal S1x1024 .f32) = G at hR ⊢
  generalize ha : (BitVec.ofNat 32 (grid1.coords t 0).val) = a at hR ⊢
  change tail X (md M 5120 (by decide)) D G (hidA (View.whole cc1_scratch0) (stores H (k1_pay5 a 2#32 0#1 1#32) (k1_pay6 a) W C B 6 (by decide)))
    (hidB (View.whole cc1_scratch0) (stores H (k1_pay5 a 2#32 0#1 1#32) (k1_pay6 a) W C B 11 (by decide))) y = _
  have hH' : rowsOf X (iblk1 V c 1 t : FVec Ideal S8x1024 .f32) (iblk1 V c 2 t : FVec Ideal S8x1024 .f32) M (iblk1 V c 4 t : FVec Ideal S1x1024 .f32) = H := by
    rw [← hX, ← hM]; exact hH
  rw [← hR, hH']

end Cert.Kernel7Ideal.Join
end
-- ==== Proof.JoinHost.lean ====
module

public import proofs.«01_k».proof.Proof.Gen.Kernel7Ideal.Frame
public import proofs.«01_k».proof.Proof.FfnSpec
public import Idealize.ShloMosaic.Lib.StableHlo.ReadAt

@[expose] public section

set_option maxRecDepth 16384

noncomputable section

/-! The arrays that the host part between the two calls hands to the second, entry by entry. -/

namespace Cert.Kernel7Ideal.Join
open Cert.Ffn (col col_pick)
open Idealize.ShloMosaic Idealize.ShloMosaic.TcCoe Idealize.SL.Sem Idealize.ShloMosaic.StableHlo Cert.Kernel7Ideal Cert.Kernel7Ideal.Gen

variable (W : Valuation τ sig (Elt Ideal))

theorem hx (r : Fin 65536) (k : Fin 1024) :
    after hostOps1 W (Proc.tc.devRef main_v26) (ix2 r k) = (W (Proc.tc.devRef main_v4) (ix2 r k) : EReal) := by
  repeat (
    after_reads_simp
    try simp -implicitDefEqProofs only [StableHlo.TRef.toBuf, StableHlo.TRef.ofBuf, cast_cast, cast_eq]
    pointwise)

theorem hmod (b : Fin 32) (n : Fin 6144) :
    after hostOps1 W (Proc.tc.devRef main_v27) (ix3 b 0 n) = (W (Proc.tc.devRef main_arg1) (ix2 b n) : EReal) := by
  repeat (
    after_reads_simp
    try simp -implicitDefEqProofs only [StableHlo.TRef.toBuf, StableHlo.TRef.ofBuf, cast_cast, cast_eq]
    pointwise)

theorem hg (k : Fin 1024) : after hostOps1 W (Proc.tc.devRef main_v28) (ix2 0 k) = (W (Proc.tc.devRef main_arg8) (ix1 k) : EReal) := by
  repeat (
    after_reads_simp
    try simp -implicitDefEqProofs only [StableHlo.TRef.toBuf, StableHlo.TRef.ofBuf, cast_cast, cast_eq]
    pointwise)

theorem hfg (k : Fin 1024) : after hostOps1 W (Proc.tc.devRef main_v29) (ix2 0 k) = (W (Proc.tc.devRef main_arg13) (ix1 k) : EReal) := by
  repeat (
    after_reads_simp
    try simp -implicitDefEqProofs only [StableHlo.TRef.toBuf, StableHlo.TRef.ofBuf, cast_cast, cast_eq]
    pointwise)

theorem hwd (n : Fin 2816) (k : Fin 1024) : after hostOps1 W (Proc.tc.devRef main_v25) (ix2 n k) = (W (Proc.tc.devRef main_arg12) (ix2 n k) : EReal) := by
  repeat (
    after_reads_simp
    try simp -implicitDefEqProofs only [StableHlo.TRef.toBuf, StableHlo.TRef.ofBuf, cast_cast, cast_eq]
    pointwise)

theorem hwu (j : Fin 11) (k : Fin 1024) (n : Fin 512) :
    after hostOps1 W (Proc.tc.devRef main_v12) (ix3 j k n) = (W (Proc.tc.devRef main_arg9) (ix2 k (col j n)) : EReal) := by
  repeat (
    after_reads_simp
    try simp -implicitDefEqProofs only [StableHlo.TRef.toBuf, StableHlo.TRef.ofBuf, cast_cast, cast_eq]
    pointwise)
  exact col_pick (fun q => W (Proc.tc.devRef main_arg9) (ix2 k q)) j n

theorem hcw (j : Fin 11) (q : Fin 3) (n : Fin 512) :
    after hostOps1 W (Proc.tc.devRef main_v18) (ix3 j q n) = (W (Proc.tc.devRef main_arg10) (ix2 q (col j n)) : EReal) := by
  repeat (
    after_reads_simp
    try simp -implicitDefEqProofs only [StableHlo.TRef.toBuf, StableHlo.TRef.ofBuf, cast_cast, cast_eq]
    pointwise)
  exact col_pick (fun q' => W (Proc.tc.devRef main_arg10) (ix2 q q')) j n

theorem hcb (j : Fin 11) (n : Fin 512) :
    after hostOps1 W (Proc.tc.devRef main_v24) (ix3 j 0 n) = (W (Proc.tc.devRef main_arg11) (ix1 (col j n)) : EReal) := by
  repeat (
    after_reads_simp
    try simp -implicitDefEqProofs only [StableHlo.TRef.toBuf, StableHlo.TRef.ofBuf, cast_cast, cast_eq]
    pointwise)
  exact col_pick (fun q => W (Proc.tc.devRef main_arg11) (ix1 q)) j n
end Cert.Kernel7Ideal.Join
end
-- ==== Proof.JoinBlocks.lean ====
module

public import proofs.«01_k».proof.Proof.JoinHost

@[expose] public section

set_option maxRecDepth 16384

noncomputable section

/-! What the input blocks of a grid point of the second call hold: 1024 rows, the eight rows before and after them, and the weights whole. -/

namespace Cert.Kernel7Ideal.Join
open Cert.Ffn (zero_f one_f)
open Idealize.ShloMosaic Idealize.ShloMosaic.TcCoe Idealize.SL.Sem Cert.Kernel7Ideal Cert.Kernel7Ideal.Gen

variable (V : (c : Dev nD) → (b : Ref sig .tc) → Buf (Elt Ideal) ((c : Thread nD τ).loc b)) (c : Dev nD)

theorem idx : ∀ t : Fin cfg1.N, win1_0.index t = ![t.val, 0] ∧ win1_1.index t = ![128 * t.val - 1, 0]
    ∧ win1_2.index t = ![min (128 * (t.val + 1)) 8191, 0] ∧ win1_3.index t = ![t.val / 2, 0, 0] ∧ win1_4.index t = ![0, 0]
    ∧ win1_5.index t = ![0, 0, 0] ∧ win1_6.index t = ![0, 0, 0] ∧ win1_7.index t = ![0, 0, 0] ∧ win1_8.index t = ![0, 0]
    ∧ win1_9.index t = ![0, 0] ∧ win1_10.index t = ![t.val, 0] :=
  (by decide +kernel : ∀ t : Fin grid1.N, _)

theorem lt64 (t : Fin cfg1.N) : t.val < 64 := lt_of_lt_of_eq t.isLt N_1

theorem blk0 (t : Fin cfg1.N) (r : Fin 1024) (k : Fin 1024) :
    (iblk1 V c 0 t : FVec Ideal S1024x1024 .f32) (ix2 r k)
      = V c main_v26 (ix2 ⟨t.val * 1024 + r.val, by have := lt64 t; omega⟩ k) := by
  obtain ⟨e0, e1, e2, e3, e4, e5, e6, e7, e8, e9, e10⟩ := idx t
  blk_ext [iblk1, e0]
theorem blk1 (t : Fin cfg1.N) (r : Fin 8) (k : Fin 1024) :
    (iblk1 V c 1 t : FVec Ideal S8x1024 .f32) (ix2 r k)
      = V c main_v26 (ix2 ⟨(128 * t.val - 1) * 8 + r.val, by have := lt64 t; omega⟩ k) := by
  obtain ⟨e0, e1, e2, e3, e4, e5, e6, e7, e8, e9, e10⟩ := idx t
  blk_ext [iblk1, e1]
theorem blk2 (t : Fin cfg1.N) (r : Fin 8) (k : Fin 1024) :
    (iblk1 V c 2 t : FVec Ideal S8x1024 .f32) (ix2 r k)
      = V c main_v26 (ix2 ⟨min (128 * (t.val + 1)) 8191 * 8 + r.val, by have := lt64 t; omega⟩ k) := by
  obtain ⟨e0, e1, e2, e3, e4, e5, e6, e7, e8, e9, e10⟩ := idx t
  blk_ext [iblk1, e2]
theorem blk3 (t : Fin cfg1.N) (n : Fin 6144) :
    (iblk1 V c 3 t : FVec Ideal S1x1x6144 .f32) (ix3 0 0 n) = V c main_v27 (ix3 ⟨t.val / 2, by have := lt64 t; omega⟩ 0 n) := by
  obtain ⟨e0, e1, e2, e3, e4, e5, e6, e7, e8, e9, e10⟩ := idx t
  blk_ext [iblk1, e3]
theorem blk4 (t : Fin cfg1.N) (k : Fin 1024) :
    (iblk1 V c 4 t : FVec Ideal S1x1024 .f32) (ix2 0 k) = V c main_v28 (ix2 0 k) := by
  obtain ⟨e0, e1, e2, e3, e4, e5, e6, e7, e8, e9, e10⟩ := idx t
  blk_ext [iblk1, e4]
theorem blk5 (t : Fin cfg1.N) (j : Fin 11) (k : Fin 1024) (n : Fin 512) :
    (iblk1 V c 5 t : FVec Ideal S11x1024x512 .bf16) (ix3 j k n) = V c main_v12 (ix3 j k n) := by
  obtain ⟨e0, e1, e2, e3, e4, e5, e6, e7, e8, e9, e10⟩ := idx t
  blk_ext [iblk1, e5]
theorem blk6 (t : Fin cfg1.N) (j : Fin 11) (q : Fin 3) (n : Fin 512) :
    (iblk1 V c 6 t : FVec Ideal S11x3x512 .f32) (ix3 j q n) = V c main_v18 (ix3 j q n) := by
  obtain ⟨e0, e1, e2, e3, e4, e5, e6, e7, e8, e9, e10⟩ := idx t
  blk_ext [iblk1, e6]
theorem blk7 (t : Fin cfg1.N) (j : Fin 11) (n : Fin 512) :
    (iblk1 V c 7 t : FVec Ideal S11x1x512 .f32) (ix3 j 0 n) = V c main_v24 (ix3 j 0 n) := by
  obtain ⟨e0, e1, e2, e3, e4, e5, e6, e7, e8, e9, e10⟩ := idx t
  blk_ext [iblk1, e7]
theorem blk8 (t : Fin cfg1.N) (n : Fin 2816) (k : Fin 1024) :
    (iblk1 V c 8 t : FVec Ideal S2816x1024 .bf16) (ix2 n k) = V c main_v25 (ix2 n k) := by
  obtain ⟨e0, e1, e2, e3, e4, e5, e6, e7, e8, e9, e10⟩ := idx t
  blk_ext [iblk1, e8]
theorem blk9 (t : Fin cfg1.N) (k : Fin 1024) :
    (iblk1 V c 9 t : FVec Ideal S1x1024 .f32) (ix2 0 k) = V c main_v29 (ix2 0 k) := by
  obtain ⟨e0, e1, e2, e3, e4, e5, e6, e7, e8, e9, e10⟩ := idx t
  blk_ext [iblk1, e9]

/-- Whether the block has a row before it in its sequence. -/
theorem prev_at (t : Fin cfg1.N) :
    (k1_pay5 (BitVec.ofNat 32 (grid1.coords t 0).val) 2#32 0#1 1#32 : Ideal .f32) = if t.val % 2 = 0 then 0 else 1 := by
  have h : ∀ t : Fin grid1.N, Scalar.cmpi .eq (Scalar.select
      (Scalar.andi (Scalar.xori (Scalar.cmpi .slt (Scalar.remsi (BitVec.ofNat 32 (grid1.coords t 0).val) (Scalar.select 0#1 1#32 2#32)) 0#32)
          (Scalar.cmpi .slt (Scalar.select 0#1 1#32 2#32) 0#32))
        (Scalar.cmpi .ne (Scalar.remsi (BitVec.ofNat 32 (grid1.coords t 0).val) (Scalar.select 0#1 1#32 2#32)) 0#32))
      (Scalar.addi (Scalar.remsi (BitVec.ofNat 32 (grid1.coords t 0).val) (Scalar.select 0#1 1#32 2#32)) (Scalar.select 0#1 1#32 2#32))
      (Scalar.remsi (BitVec.ofNat 32 (grid1.coords t 0).val) (Scalar.select 0#1 1#32 2#32))) 0#32 = if t.val % 2 = 0 then 1#1 else 0#1 := by
    decide +kernel
  unfold k1_pay5
  dsimp only
  rw [h t]
  by_cases h0 : t.val % 2 = 0
  · simp only [h0, if_true]; exact zero_f
  · rw [if_neg h0, if_neg h0]; exact one_f

/-- Whether the block has a row after it in its sequence. -/
theorem next_at (t : Fin cfg1.N) :
    (k1_pay6 (BitVec.ofNat 32 (grid1.coords t 0).val) : Ideal .f32) = if t.val % 2 = 1 then 0 else 1 := by
  have h : ∀ t : Fin grid1.N, Scalar.cmpi .eq (Scalar.select
      (Scalar.andi (Scalar.xori (Scalar.cmpi .slt (Scalar.remsi (BitVec.ofNat 32 (grid1.coords t 0).val) (Scalar.select (Scalar.cmpi .eq 2#32 0#32) 1#32 2#32)) 0#32)
          (Scalar.cmpi .slt (Scalar.select (Scalar.cmpi .eq 2#32 0#32) 1#32 2#32) 0#32))
        (Scalar.cmpi .ne (Scalar.remsi (BitVec.ofNat 32 (grid1.coords t 0).val) (Scalar.select (Scalar.cmpi .eq 2#32 0#32) 1#32 2#32)) 0#32))
      (Scalar.addi (Scalar.remsi (BitVec.ofNat 32 (grid1.coords t 0).val) (Scalar.select (Scalar.cmpi .eq 2#32 0#32) 1#32 2#32)) (Scalar.select (Scalar.cmpi .eq 2#32 0#32) 1#32 2#32))
      (Scalar.remsi (BitVec.ofNat 32 (grid1.coords t 0).val) (Scalar.select (Scalar.cmpi .eq 2#32 0#32) 1#32 2#32))) 1#32 = if t.val % 2 = 1 then 1#1 else 0#1 := by
    decide +kernel
  unfold k1_pay6
  dsimp only
  rw [h t]
  by_cases h0 : t.val % 2 = 1
  · simp only [h0, if_true]; exact zero_f
  · rw [if_neg h0, if_neg h0]; exact one_f
end Cert.Kernel7Ideal.Join
end
-- ==== Proof.JoinMerge.lean ====
module

public import proofs.«01_k».proof.Proof.Gen.Kernel7Ideal.Frame
public import proofs.«01_k».proof.Proof.MergePoint
public import Idealize.ShloMosaic.Lib.StableHlo.ReadAt

@[expose] public section

set_option maxRecDepth 16384

noncomputable section

/-! The first call's result: the merge's, of the same arguments. -/

namespace Cert.Kernel7Ideal.Merge
open Cert.Kernel4Ideal.Merge (gate block_at result)
open Idealize.ShloMosaic Idealize.ShloMosaic.TcCoe Idealize.SL.Sem Cert.Kernel7Ideal Cert.Kernel7Ideal.Gen

variable (m : (ℓ : Loc nD τ sig) → Buf (Elt Ideal) ℓ) (ρ : Dev nD → PrngReg) (c : Dev nD)

/-- The entries of the arguments on a device. -/
def args : Cert.Merge.Args where
  x r k := (m (c, Proc.tc.devRef main_arg0) (ix3 ⟨r.val / 2048, by omega⟩ ⟨r.val % 2048, by omega⟩ k) : EReal)
  mod b n := (m (c, Proc.tc.devRef main_arg1) (ix2 b n) : EReal)
  o n r q := match n with
    | 0 => (m (c, Proc.tc.devRef main_arg2) (ix2 r q) : EReal)
    | 1 => (m (c, Proc.tc.devRef main_arg3) (ix2 r q) : EReal)
    | 2 => (m (c, Proc.tc.devRef main_arg4) (ix2 r q) : EReal)
  gates r n := (m (c, Proc.tc.devRef main_arg5) (ix2 r n) : EReal)
  wb n q k := (m (c, Proc.tc.devRef main_arg6) (ix3 n q k) : EReal)
  wo k n := (m (c, Proc.tc.devRef main_arg7) (ix2 k n) : EReal)

theorem hx (r : Fin 65536) (k : Fin 1024) : V1 m ρ c main_v2 (ix2 r k) = (args m c).x r k := by
  show StableHlo.after hostOps0 (fun b => m (c, b)) (Proc.tc.devRef main_v2) (ix2 r k) = _
  unfold args
  repeat (
    after_reads_simp
    try simp -implicitDefEqProofs only [StableHlo.TRef.toBuf, StableHlo.TRef.ofBuf, cast_cast, cast_eq]
    pointwise)

theorem hmod (b : Fin 32) (n : Fin 6144) : V1 m ρ c main_v3 (ix3 b 0 n) = (args m c).mod b n := by
  show StableHlo.after hostOps0 (fun b => m (c, b)) (Proc.tc.devRef main_v3) (ix3 b 0 n) = _
  unfold args
  repeat (
    after_reads_simp
    try simp -implicitDefEqProofs only [StableHlo.TRef.toBuf, StableHlo.TRef.ofBuf, cast_cast, cast_eq]
    pointwise)

theorem hwb (n : Fin 3) (q : Fin 512) (k : Fin 1024) : V1 m ρ c main_v0 (ix3 n q k) = (args m c).wb n q k := by
  show StableHlo.after hostOps0 (fun b => m (c, b)) (Proc.tc.devRef main_v0) (ix3 n q k) = _
  unfold args
  repeat (
    after_reads_simp
    try simp -implicitDefEqProofs only [StableHlo.TRef.toBuf, StableHlo.TRef.ofBuf, cast_cast, cast_eq]
    pointwise)

theorem hwo (k n : Fin 1024) : V1 m ρ c main_v1 (ix2 k n) = (args m c).wo k n := by
  show StableHlo.after hostOps0 (fun b => m (c, b)) (Proc.tc.devRef main_v1) (ix2 k n) = _
  unfold args
  repeat (
    after_reads_simp
    try simp -implicitDefEqProofs only [StableHlo.TRef.toBuf, StableHlo.TRef.ofBuf, cast_cast, cast_eq]
    pointwise)

theorem arg2_at : V1 m ρ c main_arg2 = m (c, Proc.tc.devRef main_arg2) := W1_args m ρ c main_arg2 (by decide)

theorem arg3_at : V1 m ρ c main_arg3 = m (c, Proc.tc.devRef main_arg3) := W1_args m ρ c main_arg3 (by decide)

theorem arg4_at : V1 m ρ c main_arg4 = m (c, Proc.tc.devRef main_arg4) := W1_args m ρ c main_arg4 (by decide)

theorem arg5_at : V1 m ρ c main_arg5 = m (c, Proc.tc.devRef main_arg5) := W1_args m ρ c main_arg5 (by decide)

theorem idx : ∀ t : Fin cfg0.N, win0_0.index t = ![t.val, 0] ∧ win0_1.index t = ![t.val / 4, 0, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0] ∧ win0_8.index t = ![t.val, 0] :=
  (by decide +kernel : ∀ t : Fin grid0.N, _)

theorem lt128 (t : Fin cfg0.N) : t.val < 128 := lt_of_lt_of_eq t.isLt N_0

/-- A grid point's row in the flattened input. -/
def row (t : Fin cfg0.N) (r : Fin 512) : Fin 65536 := ⟨t.val * 512 + r.val, by have := lt128 t; omega⟩

theorem blk0 (t : Fin cfg0.N) (r : Fin 512) (k : Fin 1024) :
    (iblk0 (V1 m ρ) c 0 t : FVec Ideal S512x1024 .f32) (ix2 r k) = (args m c).x (row t r) k := by
  refine Eq.trans ?_ (hx m ρ c _ _)
  unfold row
  obtain ⟨e0, e1, e2, e3, e4, e5, e6, e7, e8⟩ := idx t
  blk_ext [iblk0, e0]
theorem blk1 (t : Fin cfg0.N) (n : Fin 6144) :
    (iblk0 (V1 m ρ) c 1 t : FVec Ideal S1x1x6144 .f32) (ix3 0 0 n) = (args m c).mod ⟨t.val / 4, by have := lt128 t; omega⟩ n := by
  refine Eq.trans ?_ (hmod m ρ c _ _)
  obtain ⟨e0, e1, e2, e3, e4, e5, e6, e7, e8⟩ := idx t
  blk_ext [iblk0, e1]
theorem blk2 (t : Fin cfg0.N) (r : Fin 512) (q : Fin 512) :
    (iblk0 (V1 m ρ) c 2 t : FVec Ideal S512x512 .bf16) (ix2 r q) = (args m c).o 0 (row t r) q := by
  unfold row args
  obtain ⟨e0, e1, e2, e3, e4, e5, e6, e7, e8⟩ := idx t
  blk_ext [iblk0, arg2_at, e2]
theorem blk3 (t : Fin cfg0.N) (r : Fin 512) (q : Fin 512) :
    (iblk0 (V1 m ρ) c 3 t : FVec Ideal S512x512 .bf16) (ix2 r q) = (args m c).o 1 (row t r) q := by
  unfold row args
  obtain ⟨e0, e1, e2, e3, e4, e5, e6, e7, e8⟩ := idx t
  blk_ext [iblk0, arg3_at, e3]
theorem blk4 (t : Fin cfg0.N) (r : Fin 512) (q : Fin 512) :
    (iblk0 (V1 m ρ) c 4 t : FVec Ideal S512x512 .bf16) (ix2 r q) = (args m c).o 2 (row t r) q := by
  unfold row args
  obtain ⟨e0, e1, e2, e3, e4, e5, e6, e7, e8⟩ := idx t
  blk_ext [iblk0, arg4_at, e4]
theorem blk5 (t : Fin cfg0.N) (r : Fin 512) (n : Fin 3072) :
    (iblk0 (V1 m ρ) c 5 t : FVec Ideal S512x3072 .bf16) (ix2 r n) = (args m c).gates (row t r) n := by
  unfold row args
  obtain ⟨e0, e1, e2, e3, e4, e5, e6, e7, e8⟩ := idx t
  blk_ext [iblk0, arg5_at, e5]
theorem blk6 (t : Fin cfg0.N) (n : Fin 3) (q : Fin 512) (k : Fin 1024) :
    (iblk0 (V1 m ρ) c 6 t : FVec Ideal S3x512x1024 .bf16) (ix3 n q k) = (args m c).wb n q k := by
  refine Eq.trans ?_ (hwb m ρ c _ _ _)
  obtain ⟨e0, e1, e2, e3, e4, e5, e6, e7, e8⟩ := idx t
  blk_ext [iblk0, e6]
theorem blk7 (t : Fin cfg0.N) (k n : Fin 1024) :
    (iblk0 (V1 m ρ) c 7 t : FVec Ideal S1024x1024 .bf16) (ix2 k n) = (args m c).wo k n := by
  refine Eq.trans ?_ (hwo m ρ c _ _)
  obtain ⟨e0, e1, e2, e3, e4, e5, e6, e7, e8⟩ := idx t
  blk_ext [iblk0, e7]

/-- What a grid point leaves in its output block. -/
def pointOut (t : Fin cfg0.N) : FVec Ideal S512x1024 .f32 :=
  out0_8 (F := Ideal) (iblk0 (V1 m ρ) c 0 t : FVec Ideal S512x1024 .f32) (iblk0 (V1 m ρ) c 1 t : FVec Ideal S1x1x6144 .f32) (iblk0 (V1 m ρ) c 2 t : FVec Ideal S512x512 .bf16)
    (iblk0 (V1 m ρ) c 3 t : FVec Ideal S512x512 .bf16) (iblk0 (V1 m ρ) c 4 t : FVec Ideal S512x512 .bf16) (iblk0 (V1 m ρ) c 5 t : FVec Ideal S512x3072 .bf16)
    (iblk0 (V1 m ρ) c 6 t : FVec Ideal S3x512x1024 .bf16) (iblk0 (V1 m ρ) c 7 t : FVec Ideal S1024x1024 .bf16)

theorem point_value (t : Fin cfg0.N) (r : Fin 512) (k : Fin 1024) : pointOut m ρ c t (ix2 r k) = Cert.Merge.out (args m c) gate (row t r) k := by
  unfold pointOut
  refine (block_at _ _ _ _ _ _ _ _ _ _).trans ?_
  unfold Cert.Merge.out Cert.Merge.mix Cert.Merge.proj
  simp only [blk0, blk1, blk2, blk3, blk4, blk5, blk6, blk7]
  have e : (⟨t.val / 4, by have := lt128 t; omega⟩ : Fin 32) = ⟨(row t r).val / 2048, by omega⟩ :=
    Fin.ext (by show t.val / 4 = (t.val * 512 + r.val) / 2048; omega)
  rw [e]

theorem final : (dat0 (V1 m ρ) c).arrAt 8 cfg0.N = result (args m c) := by
  refine (dat0 (V1 m ρ) c).arrAt_eq_of_covers 8 _ (by decide +kernel) fun t hf y => ?_
  have e8 := (idx t).2.2.2.2.2.2.2.2
  blk_simp
  rw [after0_8]
  have b0 : (((cfg0.win 8).blk t).view.emb y 0).val = win0_8.index t (0 : Fin 2) * 512 + 1 * (y 0).val := rfl
  have b1 : (((cfg0.win 8).blk t).view.emb y 1).val = win0_8.index t (1 : Fin 2) * 1024 + 1 * (y 1).val := rfl
  have y0 : (y 0).val < 512 := (y 0).isLt
  have y1 : (y 1).val < 1024 := (y 1).isLt
  rw [e8] at b0 b1
  have b0' : (((cfg0.win 8).blk t).view.emb y 0).val = t.val * 512 + 1 * (y 0).val := b0
  have b1' : (((cfg0.win 8).blk t).view.emb y 1).val = 0 * 1024 + 1 * (y 1).val := b1
  have hy : (y : S512x1024.Idx) = ix2 ⟨(y 0).val, y0⟩ ⟨(y 1).val, y1⟩ := by
    funext a; apply Fin.ext
    match a with
    | ⟨0, _⟩ => rfl
    | ⟨1, _⟩ => rfl
  refine (congrArg (pointOut m ρ c t) hy).trans ((point_value m ρ c t _ _).trans ?_)
  refine congrArg₂ (Cert.Merge.out (args m c) gate) (Fin.ext ?_) (Fin.ext ?_)
  · show t.val * 512 + (y 0).val = (((cfg0.win 8).blk t).view.emb y 0).val
    omega
  · show (y 1).val = (((cfg0.win 8).blk t).view.emb y 1).val
    omega
end Cert.Kernel7Ideal.Merge
end
-- ==== Proof.JoinPoint.lean ====
module

public import proofs.«01_k».proof.Proof.JoinStore
public import proofs.«01_k».proof.Proof.JoinBlocks
public import proofs.«01_k».proof.Proof.JoinMerge
public import proofs.«01_k».proof.Proof.FfnPoint

@[expose] public section

set_option maxRecDepth 16384

noncomputable section

/-! A grid point of the second call computes 1024 rows of the feed-forward part, of the first call's result. -/

namespace Cert.Kernel7Ideal.Join
open Cert.Kernel2Ideal.Ffn (Point tail_row silu sq result)
open Idealize.ShloMosaic Idealize.ShloMosaic.TcCoe Idealize.SL.Sem Cert.Kernel7Ideal Cert.Kernel7Ideal.Gen

variable (m : (ℓ : Loc nD τ sig) → Buf (Elt Ideal) ℓ) (ρ : Dev nD → PrngReg) (c : Dev nD)

/-- The second call's arguments on a device: its rows are the first call's. -/
def args : Cert.Ffn.Args 32 where
  x b s k := Cert.Merge.out (Cert.Kernel7Ideal.Merge.args m c) Cert.Kernel4Ideal.Merge.gate ⟨b.val * 2048 + s.val, by omega⟩ k
  mod b n := (m (c, Proc.tc.devRef main_arg1) (ix2 b n) : EReal)
  g k := (m (c, Proc.tc.devRef main_arg8) (ix1 k) : EReal)
  wu k n := (m (c, Proc.tc.devRef main_arg9) (ix2 k n) : EReal)
  cw q n := (m (c, Proc.tc.devRef main_arg10) (ix2 q n) : EReal)
  cb n := (m (c, Proc.tc.devRef main_arg11) (ix1 n) : EReal)
  wd n k := (m (c, Proc.tc.devRef main_arg12) (ix2 n k) : EReal)
  fg k := (m (c, Proc.tc.devRef main_arg13) (ix1 k) : EReal)

/-- The sequence that a grid point works on. -/
def bt (t : Fin cfg1.N) : Fin 32 := ⟨t.val / 2, by have := lt64 t; omega⟩

/-- A row of the flattened input is a row of a sequence. -/
theorem x_at (r : Fin 65536) (b : Fin 32) (s : Fin 2048) (h : r.val = b.val * 2048 + s.val) (k : Fin 1024) :
    V3 m ρ c main_v26 (ix2 r k) = (args m c).x b s k := by
  refine (hx (W2 m ρ c) r k).trans ((congrFun ((W2_arr m ρ c 8).trans (Cert.Kernel7Ideal.Merge.final m ρ c)) (ix2 r k)).trans ?_)
  have e : r = ⟨b.val * 2048 + s.val, by omega⟩ := Fin.ext h
  rw [e]
  rfl

theorem arg_at (a : Ref sig .tc) (ha : a ∈ argRefs) : W2 m ρ c (Proc.tc.devRef a) = m (c, Proc.tc.devRef a) := W2_args m ρ c a ha

variable {m ρ c}

theorem point (t : Fin cfg1.N) : Point (args m c) (bt t) t.val (iblk1 (V3 m ρ) c 0 t : FVec Ideal S1024x1024 .f32) (iblk1 (V3 m ρ) c 1 t : FVec Ideal S8x1024 .f32)
    (iblk1 (V3 m ρ) c 2 t : FVec Ideal S8x1024 .f32) (iblk1 (V3 m ρ) c 3 t : FVec Ideal S1x1x6144 .f32) (iblk1 (V3 m ρ) c 4 t : FVec Ideal S1x1024 .f32)
    (iblk1 (V3 m ρ) c 5 t : FVec Ideal S11x1024x512 .bf16) (iblk1 (V3 m ρ) c 6 t : FVec Ideal S11x3x512 .f32) (iblk1 (V3 m ρ) c 7 t : FVec Ideal S11x1x512 .f32)
    (iblk1 (V3 m ρ) c 8 t : FVec Ideal S2816x1024 .bf16) (iblk1 (V3 m ρ) c 9 t : FVec Ideal S1x1024 .f32)
    (k1_pay5 (BitVec.ofNat 32 (grid1.coords t 0).val) 2#32 0#1 1#32) (k1_pay6 (BitVec.ofNat 32 (grid1.coords t 0).val)) where
  x r k := (blk0 (V3 m ρ) c t r k).trans (x_at m ρ c _ _ _ (show t.val * 1024 + r.val = t.val / 2 * 2048 + (t.val % 2 * 1024 + r.val) by omega) k)
  xp ht k := (blk1 (V3 m ρ) c t 7 k).trans (x_at m ρ c _ _ _ (show (128 * t.val - 1) * 8 + 7 = t.val / 2 * 2048 + 1023 by omega) k)
  xn ht k := (blk2 (V3 m ρ) c t 0 k).trans (x_at m ρ c _ _ _
    (show min (128 * (t.val + 1)) 8191 * 8 + 0 = t.val / 2 * 2048 + 1024 by have := lt64 t; omega) k)
  m n := (blk3 (V3 m ρ) c t n).trans ((hmod (W2 m ρ c) _ _).trans (congrFun (arg_at m ρ c main_arg1 (by decide)) _))
  g k := (blk4 (V3 m ρ) c t k).trans ((hg (W2 m ρ c) k).trans (congrFun (arg_at m ρ c main_arg8 (by decide)) _))
  w j k n := (blk5 (V3 m ρ) c t j k n).trans ((hwu (W2 m ρ c) j k n).trans (congrFun (arg_at m ρ c main_arg9 (by decide)) _))
  c j q n := (blk6 (V3 m ρ) c t j q n).trans ((hcw (W2 m ρ c) j q n).trans (congrFun (arg_at m ρ c main_arg10 (by decide)) _))
  b j n := (blk7 (V3 m ρ) c t j n).trans ((hcb (W2 m ρ c) j n).trans (congrFun (arg_at m ρ c main_arg11 (by decide)) _))
  d n k := (blk8 (V3 m ρ) c t n k).trans ((hwd (W2 m ρ c) n k).trans (congrFun (arg_at m ρ c main_arg12 (by decide)) _))
  fg k := (blk9 (V3 m ρ) c t k).trans ((hfg (W2 m ρ c) k).trans (congrFun (arg_at m ρ c main_arg13 (by decide)) _))
  p := prev_at t
  n := next_at t

theorem point_value (t : Fin cfg1.N) (r : Fin 1024) (k : Fin 1024) :
    (outsAt1 (V3 m ρ) c t) (ix2 r k) = Cert.Ffn.out (args m c) silu (bt t) (sq t.val r) k :=
  (point_tail (V3 m ρ) c t _).trans (tail_row (point t) _ r k)

theorem final : (dat1 (V3 m ρ) c).arrAt 10 cfg1.N = result (args m c) := by
  refine (dat1 (V3 m ρ) c).arrAt_eq_of_covers 10 _ (by decide +kernel) fun t hf y => ?_
  have e10 := (idx t).2.2.2.2.2.2.2.2.2.2
  blk_simp
  rw [after1_10]
  have b0 : (((cfg1.win 10).blk t).view.emb y 0).val = win1_10.index t (0 : Fin 2) * 1024 + 1 * (y 0).val := rfl
  have b1 : (((cfg1.win 10).blk t).view.emb y 1).val = win1_10.index t (1 : Fin 2) * 1024 + 1 * (y 1).val := rfl
  have y0 : (y 0).val < 1024 := (y 0).isLt
  have y1 : (y 1).val < 1024 := (y 1).isLt
  have ht := lt64 t
  rw [e10] at b0 b1
  have b0' : (((cfg1.win 10).blk t).view.emb y 0).val = t.val * 1024 + 1 * (y 0).val := b0
  have b1' : (((cfg1.win 10).blk t).view.emb y 1).val = 0 * 1024 + 1 * (y 1).val := b1
  have hy : (y : S1024x1024.Idx) = ix2 ⟨(y 0).val, y0⟩ ⟨(y 1).val, y1⟩ := by
    funext a; apply Fin.ext
    match a with
    | ⟨0, _⟩ => rfl
    | ⟨1, _⟩ => rfl
  refine (congrArg (outsAt1 (V3 m ρ) c t) hy).trans ((point_value t _ _).trans ?_)
  have hout : ∀ (b b' : Fin 32) (r r' : Fin 2048) (k k' : Fin 1024), b = b' → r = r' → k = k' →
      Cert.Ffn.out (args m c) silu b r k = Cert.Ffn.out (args m c) silu b' r' k' := by
    rintro b _ r _ k _ rfl rfl rfl; rfl
  refine hout _ _ _ _ _ _ (Fin.ext ?_) (Fin.ext ?_) (Fin.ext ?_)
  · show t.val / 2 = (((cfg1.win 10).blk t).view.emb y 0).val / 2048
    omega
  · show t.val % 2 * 1024 + (y 0).val = (((cfg1.win 10).blk t).view.emb y 0).val % 2048
    omega
  · show (y 1).val = (((cfg1.win 10).blk t).view.emb y 1).val
    omega
end Cert.Kernel7Ideal.Join
end
-- ==== Proof.JoinFinite.lean ====
module

public import proofs.«01_k».proof.Defs
public import proofs.«01_k».proof.Proof.Finite
public import proofs.«01_k».proof.Proof.FfnGate
public import proofs.«01_k».proof.Proof.JoinPoint

@[expose] public section

set_option maxRecDepth 16384

noncomputable section

namespace Cert.Finite7

open Cert Idealize.ShloMosaic Idealize.ShloMosaic.TcCoe

/-! The precondition of the two calls one after the other says that the entries of the modulation and of the feed-forward
part's weights before the gate are real numbers. -/

theorem facts : Cert.Pre_finite7.Facts where
  bcast_S_S32x6144 := by decide
  bcast_S_S1024 := by decide
  bcast_S_S1024x5632 := by decide
  bcast_S_S3x5632 := by decide
  bcast_S_S5632 := by decide

theorem holds (m : (ℓ : Loc Kernel7Ideal.nD Kernel7Ideal.τ Kernel7Ideal.sig) → Buf (Elt Ideal) ℓ)
    (h : Pre_Kernel7Ideal_finite7 (hPre_finite7 := facts) m) (c : Dev Kernel7Ideal.nD) : Ffn.Finite (Kernel7Ideal.Join.args m c) where
  mod b n := ⟨_, Finite.real_of_lt (congrFun (h c).1 (ix2 b n))⟩
  g k := ⟨_, Finite.real_of_lt (congrFun (h c).2.1 (ix1 k))⟩
  wu k n := ⟨_, Finite.real_of_lt (congrFun (h c).2.2.1 (ix2 k n))⟩
  cw q n := ⟨_, Finite.real_of_lt (congrFun (h c).2.2.2.1 (ix2 q n))⟩
  cb n := ⟨_, Finite.real_of_lt (congrFun (h c).2.2.2.2 (ix1 n))⟩

end Cert.Finite7

end
-- ==== Proof.JoinRef.lean ====
module

public import proofs.«01_k».proof.Proof.FfnRef
public import proofs.«01_k».proof.Proof.MergeRef
public import proofs.«01_k».proof.Proof.Gen.Reference7Ideal.Run
public import proofs.«01_k».proof.Proof.Gen.Reference7Ideal.Read

@[expose] public section

set_option maxRecDepth 16384

noncomputable section

/-! The reference of the two calls one after the other is the feed-forward part's reference, at the merge's reference. -/

namespace Cert.Reference7Ideal.Join
open Idealize.ShloMosaic Idealize.ShloMosaic.TcCoe Cert.Reference7Ideal Cert.Reference7Ideal.Gen

variable (x0 : FVec Ideal S32x2048x1024 .f32) (x1 : FVec Ideal S32x6144 .f32) (x2 x3 x4 : FVec Ideal S65536x512 .bf16)
  (x5 : FVec Ideal S65536x3072 .bf16) (x6 : FVec Ideal S3x512x1024 .f32) (x7 : FVec Ideal S1024x1024 .f32) (x8 : FVec Ideal S1024 .f32)
  (x9 : FVec Ideal S1024x5632 .f32) (x10 : FVec Ideal S3x5632 .f32) (x11 : FVec Ideal S5632 .f32) (x12 : FVec Ideal S2816x1024 .f32)
  (x13 : FVec Ideal S1024 .f32)

/-- The merge's reference, its rows put back into sequences. -/
def mid : FVec Ideal S32x2048x1024 .f32 :=
  shapeCast S32x2048x1024 (Cert.Reference4Ideal.Read.val_main_v40 (F := Ideal) x0 x1 x2 x3 x4 x5 x6 x7) shapeCasts_S65536x1024_S32x2048x1024

theorem mid_eq : Read.val_main_v41 (F := Ideal) x0 x1 x2 x3 x4 x5 x6 x7 = mid x0 x1 x2 x3 x4 x5 x6 x7 := rfl

theorem value_eq : Read.val_main_v113 (F := Ideal) x0 x1 x2 x3 x4 x5 x6 x7 x8 x9 x10 x11 x12 x13
    = Cert.Reference2Ideal.Read.val_main_v71 (F := Ideal) (mid x0 x1 x2 x3 x4 x5 x6 x7) x1 x8 x9 x10 x11 x12 x13 := rfl

theorem mid_at (b : Fin 32) (s : Fin 2048) (k : Fin 1024) : mid x0 x1 x2 x3 x4 x5 x6 x7 (ix3 b s k)
    = Cert.Reference4Ideal.Read.val_main_v40 (F := Ideal) x0 x1 x2 x3 x4 x5 x6 x7 (ix2 ⟨b.val * 2048 + s.val, by omega⟩ k) := by
  unfold mid
  generalize Cert.Reference4Ideal.Read.val_main_v40 (F := Ideal) x0 x1 x2 x3 x4 x5 x6 x7 = y
  pointwise

end Cert.Reference7Ideal.Join

end
-- ==== Proof.LastRun.lean ====
module

public import proofs.«01_k».proof.Proof.Gen.Kernel8Ideal.Frame

@[expose] public section

set_option maxRecDepth 16384

noncomputable section

/-! What a run of the four calls leaves: four results of the second call and the last call's result, and the arguments as they were. -/

namespace Cert.Kernel8Ideal.Last
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem unscoped : ∀ a ∈ argRefs, ¬ (Proc.devRef .tc a : DevRef τ sig).isScoped := by decide

/-- What neither the last two calls nor their host parts write is as after the second call. -/
theorem kept (c : Dev nD) (b : Ref sig .tc) (h2 : b ∉ hostOps2_W) (h3 : b ∉ hostOps3_W)
    (i2 : ∀ w : Fin cfg2.W, Pipeline.arrRef spec2 w = b → (cfg2.win w).isOut = false)
    (i3 : ∀ w : Fin cfg3.W, Pipeline.arrRef spec3 w = b → (cfg3.win w).isOut = false) :
    W8 m ρ c (Proc.devRef .tc b) = W4 m ρ c (Proc.devRef .tc b) :=
  (W8_of m ρ c b i3).trans ((W7_of m ρ c b h3).trans ((W6_of m ρ c b i2).trans (W5_of m ρ c b h2)))

set_option backward.isDefEq.respectTransparency.types false in
/-- The four arrays that the mixers read at what the second call leaves there, the result array at what the last call leaves there,
every argument as at the start. -/
theorem run : θ_run defs (onTc (τ := τ) (main (F := F))) ⟨m, fun _ => 0, ρ⟩ (fun r => ∀ c : Dev nD,
      r.2.mem ((c.tc : Thread nD τ).loc main_v24_0) = (dat1 (V3 m ρ) c).arrAt 4 cfg1.N
      ∧ r.2.mem ((c.tc : Thread nD τ).loc main_v24_1) = (dat1 (V3 m ρ) c).arrAt 5 cfg1.N
      ∧ r.2.mem ((c.tc : Thread nD τ).loc main_v24_2) = (dat1 (V3 m ρ) c).arrAt 6 cfg1.N
      ∧ r.2.mem ((c.tc : Thread nD τ).loc main_v24_3) = (dat1 (V3 m ρ) c).arrAt 7 cfg1.N
      ∧ r.2.mem ((c.tc : Thread nD τ).loc main_v55) = (dat3 (V7 m ρ) c).arrAt 10 cfg3.N
      ∧ ∀ a ∈ argRefs, r.2.mem ((c.tc : Thread nD τ).loc a) = m ((c.tc : Thread nD τ).loc a)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c => ⟨(h c _ (mem_uc main_v24_0 (by decide))).trans (kept m ρ c main_v24_0 (by decide) (by decide) (by decide) (by decide) |>.trans (W4_arr m ρ c 4)),
      (h c _ (mem_uc main_v24_1 (by decide))).trans (kept m ρ c main_v24_1 (by decide) (by decide) (by decide) (by decide) |>.trans (W4_arr m ρ c 5)),
      (h c _ (mem_uc main_v24_2 (by decide))).trans (kept m ρ c main_v24_2 (by decide) (by decide) (by decide) (by decide) |>.trans (W4_arr m ρ c 6)),
      (h c _ (mem_uc main_v24_3 (by decide))).trans (kept m ρ c main_v24_3 (by decide) (by decide) (by decide) (by decide) |>.trans (W4_arr m ρ c 7)),
      (h c _ (mem_uc main_v55 (by decide))).trans (W8_arr m ρ c 10),
      fun a ha => (h c _ (mem_uc a (unscoped a ha))).trans (W8_args m ρ c a ha)⟩)

end Cert.Kernel8Ideal.Last

end
-- ==== Proof.LastStore.lean ====
module

public import proofs.«01_k».proof.Proof.FfnRow
public import proofs.«01_k».proof.Proof.Gen.Kernel8Ideal.Frame

@[expose] public section

set_option maxRecDepth 16384

noncomputable section

/-! A grid point's output block of the last call, over the blocks it reads: the same terms as when it stands alone. -/

namespace Cert.Kernel8Ideal.Last
open Cert.Kernel2Ideal.Ffn (md rowsOf tail hidA hidB stores)
open Idealize.ShloMosaic Idealize.ShloMosaic.TcCoe Idealize.SL.Sem Cert.Kernel8Ideal Cert.Kernel8Ideal.Gen

variable (V : (c : Dev nD) → (b : Ref sig .tc) → Buf (Elt Ideal) ((c : Thread nD τ).loc b))

set_option maxHeartbeats 2000000 in
theorem point_tail (c : Dev nD) (t : Fin cfg3.N) (y : S1024x1024.Idx) :
    (outsAt3 V c t) y = tail (iblk3 V c 0 t : FVec Ideal S1024x1024 .f32) (md (iblk3 V c 3 t : FVec Ideal S1x1x6144 .f32) 5120 (by decide))
      (iblk3 V c 8 t : FVec Ideal S2816x1024 .bf16) (iblk3 V c 9 t : FVec Ideal S1x1024 .f32)
      (hidA (View.whole cc3_scratch0) (stores (rowsOf (iblk3 V c 0 t : FVec Ideal S1024x1024 .f32) (iblk3 V c 1 t : FVec Ideal S8x1024 .f32)
          (iblk3 V c 2 t : FVec Ideal S8x1024 .f32) (iblk3 V c 3 t : FVec Ideal S1x1x6144 .f32) (iblk3 V c 4 t : FVec Ideal S1x1024 .f32))
        (k3_pay5 (BitVec.ofNat 32 (grid3.coords t 0).val) 2#32 0#1 1#32) (k3_pay6 (BitVec.ofNat 32 (grid3.coords t 0).val))
        (iblk3 V c 5 t : FVec Ideal S11x1024x512 .bf16) (iblk3 V c 6 t : FVec Ideal S11x3x512 .f32) (iblk3 V c 7 t : FVec Ideal S11x1x512 .f32) 6 (by decide)))
      (hidB (View.whole cc3_scratch0) (stores (rowsOf (iblk3 V c 0 t : FVec Ideal S1024x1024 .f32) (iblk3 V c 1 t : FVec Ideal S8x1024 .f32)
          (iblk3 V c 2 t : FVec Ideal S8x1024 .f32) (iblk3 V c 3 t : FVec Ideal S1x1x6144 .f32) (iblk3 V c 4 t : FVec Ideal S1x1024 .f32))
        (k3_pay5 (BitVec.ofNat 32 (grid3.coords t 0).val) 2#32 0#1 1#32) (k3_pay6 (BitVec.ofNat 32 (grid3.coords t 0).val))
        (iblk3 V c 5 t : FVec Ideal S11x1024x512 .bf16) (iblk3 V c 6 t : FVec Ideal S11x3x512 .f32) (iblk3 V c 7 t : FVec Ideal S11x1x512 .f32) 11 (by decide))) y := by
  generalize hR : tail _ _ _ _ _ _ y = R
  unfold outsAt3
  frame_out
  generalize hH : (k3_pay4 (F := Ideal) _ _ _ _ _ _) = H
  generalize hX : (iblk3 V c 0 t : FVec Ideal S1024x1024 .f32) = X at hR ⊢
  generalize hM : (iblk3 V c 3 t : FVec Ideal S1x1x6144 .f32) = M at hR ⊢
  generalize hW : (iblk3 V c 5 t : FVec Ideal S11x1024x512 .bf16) = W at hR ⊢
  generalize hC : (iblk3 V c 6 t : FVec Ideal S11x3x512 .f32) = C at hR ⊢
  generalize hB : (iblk3 V c 7 t : FVec Ideal S11x1x512 .f32) = B at hR ⊢
  generalize hD : (iblk3 V c 8 t : FVec Ideal S2816x1024 .bf16) = D at hR ⊢
  generalize hG : (iblk3 V c 9 t : FVec Ideal S1x1024 .f32) = G at hR ⊢
  generalize ha : (BitVec.ofNat 32 (grid3.coords t 0).val) = a at hR ⊢
  change tail X (md M 5120 (by decide)) D G (hidA (View.whole cc3_scratch0) (stores H (k3_pay5 a 2#32 0#1 1#32) (k3_pay6 a) W C B 6 (by decide)))
    (hidB (View.whole cc3_scratch0) (stores H (k3_pay5 a 2#32 0#1 1#32) (k3_pay6 a) W C B 11 (by decide))) y = _
  have hH' : rowsOf X (iblk3 V c 1 t : FVec Ideal S8x1024 .f32) (iblk3 V c 2 t : FVec Ideal S8x1024 .f32) M (iblk3 V c 4 t : FVec Ideal S1x1024 .f32) = H := by
    rw [← hX, ← hM]; exact hH
  rw [← hR, hH']

end Cert.Kernel8Ideal.Last
end
-- ==== Proof.LastHost.lean ====
module

public import proofs.«01_k».proof.Proof.Gen.Kernel8Ideal.Frame
public import proofs.«01_k».proof.Proof.FfnSpec
public import Idealize.ShloMosaic.Lib.StableHlo.ReadAt

@[expose] public section

set_option maxRecDepth 16384

noncomputable section

/-! The arrays that the host part before the last call hands to it, entry by entry. -/

namespace Cert.Kernel8Ideal.Last
open Cert.Ffn (col col_pick)
open Idealize.ShloMosaic Idealize.ShloMosaic.TcCoe Idealize.SL.Sem Idealize.ShloMosaic.StableHlo Cert.Kernel8Ideal Cert.Kernel8Ideal.Gen

variable (W : Valuation τ sig (Elt Ideal))

theorem hx (r : Fin 65536) (k : Fin 1024) :
    after hostOps3 W (Proc.tc.devRef main_v51) (ix2 r k) = (W (Proc.tc.devRef main_v29) (ix2 r k) : EReal) := by
  repeat (
    after_reads_simp
    try simp -implicitDefEqProofs only [StableHlo.TRef.toBuf, StableHlo.TRef.ofBuf, cast_cast, cast_eq]
    pointwise)

theorem hmod (b : Fin 32) (n : Fin 6144) :
    after hostOps3 W (Proc.tc.devRef main_v52) (ix3 b 0 n) = (W (Proc.tc.devRef main_v5) (ix2 b n) : EReal) := by
  repeat (
    after_reads_simp
    try simp -implicitDefEqProofs only [StableHlo.TRef.toBuf, StableHlo.TRef.ofBuf, cast_cast, cast_eq]
    pointwise)

theorem hg (k : Fin 1024) : after hostOps3 W (Proc.tc.devRef main_v53) (ix2 0 k) = (W (Proc.tc.devRef main_arg12) (ix1 k) : EReal) := by
  repeat (
    after_reads_simp
    try simp -implicitDefEqProofs only [StableHlo.TRef.toBuf, StableHlo.TRef.ofBuf, cast_cast, cast_eq]
    pointwise)

theorem hfg (k : Fin 1024) : after hostOps3 W (Proc.tc.devRef main_v54) (ix2 0 k) = (W (Proc.tc.devRef main_arg17) (ix1 k) : EReal) := by
  repeat (
    after_reads_simp
    try simp -implicitDefEqProofs only [StableHlo.TRef.toBuf, StableHlo.TRef.ofBuf, cast_cast, cast_eq]
    pointwise)

theorem hwd (n : Fin 2816) (k : Fin 1024) : after hostOps3 W (Proc.tc.devRef main_v50) (ix2 n k) = (W (Proc.tc.devRef main_arg16) (ix2 n k) : EReal) := by
  repeat (
    after_reads_simp
    try simp -implicitDefEqProofs only [StableHlo.TRef.toBuf, StableHlo.TRef.ofBuf, cast_cast, cast_eq]
    pointwise)

theorem hwu (j : Fin 11) (k : Fin 1024) (n : Fin 512) :
    after hostOps3 W (Proc.tc.devRef main_v37) (ix3 j k n) = (W (Proc.tc.devRef main_arg13) (ix2 k (col j n)) : EReal) := by
  repeat (
    after_reads_simp
    try simp -implicitDefEqProofs only [StableHlo.TRef.toBuf, StableHlo.TRef.ofBuf, cast_cast, cast_eq]
    pointwise)
  exact col_pick (fun q => W (Proc.tc.devRef main_arg13) (ix2 k q)) j n

theorem hcw (j : Fin 11) (q : Fin 3) (n : Fin 512) :
    after hostOps3 W (Proc.tc.devRef main_v43) (ix3 j q n) = (W (Proc.tc.devRef main_arg14) (ix2 q (col j n)) : EReal) := by
  repeat (
    after_reads_simp
    try simp -implicitDefEqProofs only [StableHlo.TRef.toBuf, StableHlo.TRef.ofBuf, cast_cast, cast_eq]
    pointwise)
  exact col_pick (fun q' => W (Proc.tc.devRef main_arg14) (ix2 q q')) j n

theorem hcb (j : Fin 11) (n : Fin 512) :
    after hostOps3 W (Proc.tc.devRef main_v49) (ix3 j 0 n) = (W (Proc.tc.devRef main_arg15) (ix1 (col j n)) : EReal) := by
  repeat (
    after_reads_simp
    try simp -implicitDefEqProofs only [StableHlo.TRef.toBuf, StableHlo.TRef.ofBuf, cast_cast, cast_eq]
    pointwise)
  exact col_pick (fun q => W (Proc.tc.devRef main_arg15) (ix1 q)) j n
end Cert.Kernel8Ideal.Last
end
-- ==== Proof.LastBlocks.lean ====
module

public import proofs.«01_k».proof.Proof.LastHost

@[expose] public section

set_option maxRecDepth 16384

noncomputable section

/-! What the input blocks of a grid point of the last call hold: 1024 rows, the eight rows before and after them, and the weights whole. -/

namespace Cert.Kernel8Ideal.Last
open Cert.Ffn (zero_f one_f)
open Idealize.ShloMosaic Idealize.ShloMosaic.TcCoe Idealize.SL.Sem Cert.Kernel8Ideal Cert.Kernel8Ideal.Gen

variable (V : (c : Dev nD) → (b : Ref sig .tc) → Buf (Elt Ideal) ((c : Thread nD τ).loc b)) (c : Dev nD)

theorem idx : ∀ t : Fin cfg3.N, win3_0.index t = ![t.val, 0] ∧ win3_1.index t = ![128 * t.val - 1, 0]
    ∧ win3_2.index t = ![min (128 * (t.val + 1)) 8191, 0] ∧ win3_3.index t = ![t.val / 2, 0, 0] ∧ win3_4.index t = ![0, 0]
    ∧ win3_5.index t = ![0, 0, 0] ∧ win3_6.index t = ![0, 0, 0] ∧ win3_7.index t = ![0, 0, 0] ∧ win3_8.index t = ![0, 0]
    ∧ win3_9.index t = ![0, 0] ∧ win3_10.index t = ![t.val, 0] :=
  (by decide +kernel : ∀ t : Fin grid3.N, _)

theorem lt64 (t : Fin cfg3.N) : t.val < 64 := lt_of_lt_of_eq t.isLt N_3

theorem blk0 (t : Fin cfg3.N) (r : Fin 1024) (k : Fin 1024) :
    (iblk3 V c 0 t : FVec Ideal S1024x1024 .f32) (ix2 r k)
      = V c main_v51 (ix2 ⟨t.val * 1024 + r.val, by have := lt64 t; omega⟩ k) := by
  obtain ⟨e0, e1, e2, e3, e4, e5, e6, e7, e8, e9, e10⟩ := idx t
  blk_ext [iblk3, e0]
theorem blk1 (t : Fin cfg3.N) (r : Fin 8) (k : Fin 1024) :
    (iblk3 V c 1 t : FVec Ideal S8x1024 .f32) (ix2 r k)
      = V c main_v51 (ix2 ⟨(128 * t.val - 1) * 8 + r.val, by have := lt64 t; omega⟩ k) := by
  obtain ⟨e0, e1, e2, e3, e4, e5, e6, e7, e8, e9, e10⟩ := idx t
  blk_ext [iblk3, e1]
theorem blk2 (t : Fin cfg3.N) (r : Fin 8) (k : Fin 1024) :
    (iblk3 V c 2 t : FVec Ideal S8x1024 .f32) (ix2 r k)
      = V c main_v51 (ix2 ⟨min (128 * (t.val + 1)) 8191 * 8 + r.val, by have := lt64 t; omega⟩ k) := by
  obtain ⟨e0, e1, e2, e3, e4, e5, e6, e7, e8, e9, e10⟩ := idx t
  blk_ext [iblk3, e2]
theorem blk3 (t : Fin cfg3.N) (n : Fin 6144) :
    (iblk3 V c 3 t : FVec Ideal S1x1x6144 .f32) (ix3 0 0 n) = V c main_v52 (ix3 ⟨t.val / 2, by have := lt64 t; omega⟩ 0 n) := by
  obtain ⟨e0, e1, e2, e3, e4, e5, e6, e7, e8, e9, e10⟩ := idx t
  blk_ext [iblk3, e3]
theorem blk4 (t : Fin cfg3.N) (k : Fin 1024) :
    (iblk3 V c 4 t : FVec Ideal S1x1024 .f32) (ix2 0 k) = V c main_v53 (ix2 0 k) := by
  obtain ⟨e0, e1, e2, e3, e4, e5, e6, e7, e8, e9, e10⟩ := idx t
  blk_ext [iblk3, e4]
theorem blk5 (t : Fin cfg3.N) (j : Fin 11) (k : Fin 1024) (n : Fin 512) :
    (iblk3 V c 5 t : FVec Ideal S11x1024x512 .bf16) (ix3 j k n) = V c main_v37 (ix3 j k n) := by
  obtain ⟨e0, e1, e2, e3, e4, e5, e6, e7, e8, e9, e10⟩ := idx t
  blk_ext [iblk3, e5]
theorem blk6 (t : Fin cfg3.N) (j : Fin 11) (q : Fin 3) (n : Fin 512) :
    (iblk3 V c 6 t : FVec Ideal S11x3x512 .f32) (ix3 j q n) = V c main_v43 (ix3 j q n) := by
  obtain ⟨e0, e1, e2, e3, e4, e5, e6, e7, e8, e9, e10⟩ := idx t
  blk_ext [iblk3, e6]
theorem blk7 (t : Fin cfg3.N) (j : Fin 11) (n : Fin 512) :
    (iblk3 V c 7 t : FVec Ideal S11x1x512 .f32) (ix3 j 0 n) = V c main_v49 (ix3 j 0 n) := by
  obtain ⟨e0, e1, e2, e3, e4, e5, e6, e7, e8, e9, e10⟩ := idx t
  blk_ext [iblk3, e7]
theorem blk8 (t : Fin cfg3.N) (n : Fin 2816) (k : Fin 1024) :
    (iblk3 V c 8 t : FVec Ideal S2816x1024 .bf16) (ix2 n k) = V c main_v50 (ix2 n k) := by
  obtain ⟨e0, e1, e2, e3, e4, e5, e6, e7, e8, e9, e10⟩ := idx t
  blk_ext [iblk3, e8]
theorem blk9 (t : Fin cfg3.N) (k : Fin 1024) :
    (iblk3 V c 9 t : FVec Ideal S1x1024 .f32) (ix2 0 k) = V c main_v54 (ix2 0 k) := by
  obtain ⟨e0, e1, e2, e3, e4, e5, e6, e7, e8, e9, e10⟩ := idx t
  blk_ext [iblk3, e9]

/-- Whether the block has a row before it in its sequence. -/
theorem prev_at (t : Fin cfg3.N) :
    (k3_pay5 (BitVec.ofNat 32 (grid3.coords t 0).val) 2#32 0#1 1#32 : Ideal .f32) = if t.val % 2 = 0 then 0 else 1 := by
  have h : ∀ t : Fin grid3.N, Scalar.cmpi .eq (Scalar.select
      (Scalar.andi (Scalar.xori (Scalar.cmpi .slt (Scalar.remsi (BitVec.ofNat 32 (grid3.coords t 0).val) (Scalar.select 0#1 1#32 2#32)) 0#32)
          (Scalar.cmpi .slt (Scalar.select 0#1 1#32 2#32) 0#32))
        (Scalar.cmpi .ne (Scalar.remsi (BitVec.ofNat 32 (grid3.coords t 0).val) (Scalar.select 0#1 1#32 2#32)) 0#32))
      (Scalar.addi (Scalar.remsi (BitVec.ofNat 32 (grid3.coords t 0).val) (Scalar.select 0#1 1#32 2#32)) (Scalar.select 0#1 1#32 2#32))
      (Scalar.remsi (BitVec.ofNat 32 (grid3.coords t 0).val) (Scalar.select 0#1 1#32 2#32))) 0#32 = if t.val % 2 = 0 then 1#1 else 0#1 := by
    decide +kernel
  unfold k3_pay5
  dsimp only
  rw [h t]
  by_cases h0 : t.val % 2 = 0
  · simp only [h0, if_true]; exact zero_f
  · rw [if_neg h0, if_neg h0]; exact one_f

/-- Whether the block has a row after it in its sequence. -/
theorem next_at (t : Fin cfg3.N) :
    (k3_pay6 (BitVec.ofNat 32 (grid3.coords t 0).val) : Ideal .f32) = if t.val % 2 = 1 then 0 else 1 := by
  have h : ∀ t : Fin grid3.N, Scalar.cmpi .eq (Scalar.select
      (Scalar.andi (Scalar.xori (Scalar.cmpi .slt (Scalar.remsi (BitVec.ofNat 32 (grid3.coords t 0).val) (Scalar.select (Scalar.cmpi .eq 2#32 0#32) 1#32 2#32)) 0#32)
          (Scalar.cmpi .slt (Scalar.select (Scalar.cmpi .eq 2#32 0#32) 1#32 2#32) 0#32))
        (Scalar.cmpi .ne (Scalar.remsi (BitVec.ofNat 32 (grid3.coords t 0).val) (Scalar.select (Scalar.cmpi .eq 2#32 0#32) 1#32 2#32)) 0#32))
      (Scalar.addi (Scalar.remsi (BitVec.ofNat 32 (grid3.coords t 0).val) (Scalar.select (Scalar.cmpi .eq 2#32 0#32) 1#32 2#32)) (Scalar.select (Scalar.cmpi .eq 2#32 0#32) 1#32 2#32))
      (Scalar.remsi (BitVec.ofNat 32 (grid3.coords t 0).val) (Scalar.select (Scalar.cmpi .eq 2#32 0#32) 1#32 2#32))) 1#32 = if t.val % 2 = 1 then 1#1 else 0#1 := by
    decide +kernel
  unfold k3_pay6
  dsimp only
  rw [h t]
  by_cases h0 : t.val % 2 = 1
  · simp only [h0, if_true]; exact zero_f
  · rw [if_neg h0, if_neg h0]; exact one_f
end Cert.Kernel8Ideal.Last
end
-- ==== Proof.LastInProjHost.lean ====
module

public import proofs.«01_k».proof.Proof.Gen.Kernel8Ideal.Frame
public import proofs.«01_k».proof.Proof.InProjSpec
public import Idealize.ShloMosaic.Lib.Pipeline.ValueKit
public import Idealize.ShloMosaic.Lib.StableHlo.ReadAt

@[expose] public section

set_option maxRecDepth 16384

noncomputable section

/-! The arrays that the host part before the second call hands to it, entry by entry. -/

namespace Cert.Kernel8Ideal.InProj
open Idealize.ShloMosaic Idealize.ShloMosaic.TcCoe Idealize.SL.Sem Cert.Kernel8Ideal Cert.Kernel8Ideal.Gen
open Cert.InProj (lay_first lay_neg lay_rot lay_zero lay_mid lay_zero' lay_gates)

variable (W : Valuation τ sig (Elt Ideal))

theorem rx (r : Fin 65536) (k : Fin 1024) : StableHlo.after hostOps1 W (Proc.tc.devRef main_v21) (ix2 r k)
    = (W (Proc.tc.devRef main_arg0) (ix3 ⟨r.val / 2048, by omega⟩ ⟨r.val % 2048, by omega⟩ k) : EReal) := by
  repeat (
    after_reads_simp
    try simp -implicitDefEqProofs only [StableHlo.TRef.toBuf, StableHlo.TRef.ofBuf, cast_cast, cast_eq]
    pointwise)

/-- The modulation of the prompt in the last layer. -/
theorem rv5 (b : Fin 32) (n : Fin 6144) : StableHlo.after hostOps1 W (Proc.tc.devRef main_v5) (ix2 b n)
    = (W (Proc.tc.devRef main_v2) (ix3 1 ⟨b.val, by omega⟩ n) : EReal) := by
  repeat (
    after_reads_simp
    try simp -implicitDefEqProofs only [StableHlo.TRef.toBuf, StableHlo.TRef.ofBuf, cast_cast, cast_eq]
    pointwise)

theorem rmod (b : Fin 32) (n : Fin 6144) : StableHlo.after hostOps1 W (Proc.tc.devRef main_v22) (ix3 b 0 n)
    = (W (Proc.tc.devRef main_v2) (ix3 1 ⟨b.val, by omega⟩ n) : EReal) := by
  repeat (
    after_reads_simp
    try simp -implicitDefEqProofs only [StableHlo.TRef.toBuf, StableHlo.TRef.ofBuf, cast_cast, cast_eq]
    pointwise)

theorem rg (k : Fin 1024) : StableHlo.after hostOps1 W (Proc.tc.devRef main_v23) (ix2 0 k) = (W (Proc.tc.devRef main_arg5) (ix1 k) : EReal) := by
  repeat (
    after_reads_simp
    try simp -implicitDefEqProofs only [StableHlo.TRef.toBuf, StableHlo.TRef.ofBuf, cast_cast, cast_eq]
    pointwise)

/-- A row of the weights. -/
def wrow (k : Fin 1024) (j : Fin 6832) : EReal := W (Proc.tc.devRef main_arg6) (ix2 k j)

theorem piece1 (k : Fin 1024) (n : Fin 384) :
    StableHlo.upto hostOps1 W 18 (Proc.tc.devRef main_v7) (ix2 k n) = (wrow W k ⟨n.val, by omega⟩ : EReal) := by
  unfold wrow
  repeat (
    after_reads_simp
    try simp -implicitDefEqProofs only [StableHlo.TRef.toBuf, StableHlo.TRef.ofBuf, cast_cast, cast_eq]
    pointwise)

theorem piece2 (k : Fin 1024) (n : Fin 256) :
    StableHlo.upto hostOps1 W 18 (Proc.tc.devRef main_v8) (ix2 k n) = (wrow W k ⟨384 + n.val, by omega⟩ : EReal) := by
  unfold wrow
  repeat (
    after_reads_simp
    try simp -implicitDefEqProofs only [StableHlo.TRef.toBuf, StableHlo.TRef.ofBuf, cast_cast, cast_eq]
    pointwise)

theorem piece3 (k : Fin 1024) (n : Fin 32) :
    StableHlo.upto hostOps1 W 18 (Proc.tc.devRef main_v6) (ix2 k n) = (wrow W k ⟨640 + n.val, by omega⟩ : EReal) := by
  unfold wrow
  repeat (
    after_reads_simp
    try simp -implicitDefEqProofs only [StableHlo.TRef.toBuf, StableHlo.TRef.ofBuf, cast_cast, cast_eq]
    pointwise)

theorem piece4 (k : Fin 1024) (n : Fin 32) :
    StableHlo.upto hostOps1 W 18 (Proc.tc.devRef main_v12) (ix2 k n)
      = (if h : n.val < 16 then -wrow W k ⟨640 + (16 + n.val), by omega⟩ else wrow W k ⟨640 + (n.val - 16), by omega⟩ : EReal) := by
  unfold wrow
  repeat (
    after_reads_simp
    try simp -implicitDefEqProofs only [StableHlo.TRef.toBuf, StableHlo.TRef.ofBuf, cast_cast, cast_eq]
    pointwise)

theorem piece5 (k : Fin 1024) (n : Fin 64) :
    StableHlo.upto hostOps1 W 18 (Proc.tc.devRef main_v13) (ix2 k n) = (0 : EReal) := by
  repeat (
    after_reads_simp
    try simp -implicitDefEqProofs only [StableHlo.TRef.toBuf, StableHlo.TRef.ofBuf, cast_cast, cast_eq]
    pointwise)

theorem piece6 (k : Fin 1024) (n : Fin 1024) :
    StableHlo.upto hostOps1 W 18 (Proc.tc.devRef main_v14) (ix2 k n) = (wrow W k ⟨672 + n.val, by omega⟩ : EReal) := by
  unfold wrow
  repeat (
    after_reads_simp
    try simp -implicitDefEqProofs only [StableHlo.TRef.toBuf, StableHlo.TRef.ofBuf, cast_cast, cast_eq]
    pointwise)

theorem piece7 (k : Fin 1024) (n : Fin 2048) :
    StableHlo.upto hostOps1 W 18 (Proc.tc.devRef main_v15) (ix2 k n) = (wrow W k ⟨1696 + n.val, by omega⟩ : EReal) := by
  unfold wrow
  repeat (
    after_reads_simp
    try simp -implicitDefEqProofs only [StableHlo.TRef.toBuf, StableHlo.TRef.ofBuf, cast_cast, cast_eq]
    pointwise)

theorem piece8 (k : Fin 1024) (n : Fin 16) :
    StableHlo.upto hostOps1 W 18 (Proc.tc.devRef main_v16) (ix2 k n) = (wrow W k ⟨3744 + n.val, by omega⟩ : EReal) := by
  unfold wrow
  repeat (
    after_reads_simp
    try simp -implicitDefEqProofs only [StableHlo.TRef.toBuf, StableHlo.TRef.ofBuf, cast_cast, cast_eq]
    pointwise)

theorem piece9 (k : Fin 1024) (n : Fin 112) :
    StableHlo.upto hostOps1 W 18 (Proc.tc.devRef main_v17) (ix2 k n) = (0 : EReal) := by
  repeat (
    after_reads_simp
    try simp -implicitDefEqProofs only [StableHlo.TRef.toBuf, StableHlo.TRef.ofBuf, cast_cast, cast_eq]
    pointwise)

theorem piece10 (k : Fin 1024) (n : Fin 3072) :
    StableHlo.upto hostOps1 W 18 (Proc.tc.devRef main_v18) (ix2 k n) = (wrow W k ⟨3760 + n.val, by omega⟩ : EReal) := by
  unfold wrow
  repeat (
    after_reads_simp
    try simp -implicitDefEqProofs only [StableHlo.TRef.toBuf, StableHlo.TRef.ofBuf, cast_cast, cast_eq]
    pointwise)

theorem rw_at (k : Fin 1024) (n : Fin 7040) : StableHlo.after hostOps1 W (Proc.tc.devRef main_v20) (ix2 k n)
    = (Cert.InProj.lay (wrow W k) n : EReal) := by
  after_reads_simp
  try simp -implicitDefEqProofs only [StableHlo.TRef.toBuf, StableHlo.TRef.ofBuf, cast_cast, cast_eq]
  pointwise
  have hn := n.isLt
  by_cases h1 : n.val < 384
  · exact (dif_pos h1).trans ((piece1 W k _).trans (lay_first _ n (by omega) rfl).symm)
  refine (dif_neg h1).trans ?_
  by_cases h2 : n.val - 384 < 256
  · exact (dif_pos h2).trans ((piece2 W k _).trans (lay_first _ n (by omega) (show 384 + (n.val - 384) = n.val by omega)).symm)
  refine (dif_neg h2).trans ?_
  by_cases h3 : n.val - 384 - 256 < 32
  · exact (dif_pos h3).trans ((piece3 W k _).trans (lay_first _ n (by omega) (show 640 + (n.val - 384 - 256) = n.val by omega)).symm)
  refine (dif_neg h3).trans ?_
  by_cases h4 : n.val - 384 - 256 - 32 < 32
  · refine (dif_pos h4).trans ((piece4 W k _).trans ?_)
    by_cases h : n.val - 384 - 256 - 32 < 16
    · exact (dif_pos h).trans (lay_neg _ n (by omega) (by omega) (show 640 + (16 + (n.val - 384 - 256 - 32)) = n.val - 16 by omega)).symm
    · exact (dif_neg h).trans (lay_rot _ n (by omega) (by omega) (show 640 + (n.val - 384 - 256 - 32 - 16) = n.val - 48 by omega)).symm
  refine (dif_neg h4).trans ?_
  by_cases h5 : n.val - 384 - 256 - 32 - 32 < 64
  · exact (dif_pos h5).trans ((piece5 W k _).trans (lay_zero _ n (by omega) (by omega)).symm)
  refine (dif_neg h5).trans ?_
  by_cases h6 : n.val - 384 - 256 - 32 - 32 - 64 < 1024
  · exact (dif_pos h6).trans ((piece6 W k _).trans (lay_mid _ n (by omega) (by omega) (show 672 + (n.val - 384 - 256 - 32 - 32 - 64) = n.val - 96 by omega)).symm)
  refine (dif_neg h6).trans ?_
  by_cases h7 : n.val - 384 - 256 - 32 - 32 - 64 - 1024 < 2048
  · exact (dif_pos h7).trans ((piece7 W k _).trans (lay_mid _ n (by omega) (by omega) (show 1696 + (n.val - 384 - 256 - 32 - 32 - 64 - 1024) = n.val - 96 by omega)).symm)
  refine (dif_neg h7).trans ?_
  by_cases h8 : n.val - 384 - 256 - 32 - 32 - 64 - 1024 - 2048 < 16
  · exact (dif_pos h8).trans ((piece8 W k _).trans (lay_mid _ n (by omega) (by omega) (show 3744 + (n.val - 384 - 256 - 32 - 32 - 64 - 1024 - 2048) = n.val - 96 by omega)).symm)
  refine (dif_neg h8).trans ?_
  by_cases h9 : n.val - 384 - 256 - 32 - 32 - 64 - 1024 - 2048 - 16 < 112
  · exact (dif_pos h9).trans ((piece9 W k _).trans (lay_zero' _ n (by omega) (by omega)).symm)
  · exact (dif_neg h9).trans ((piece10 W k _).trans (lay_gates _ n (by omega) (show 3760 + (n.val - 384 - 256 - 32 - 32 - 64 - 1024 - 2048 - 16 - 112) = n.val - 208 by omega)).symm)
end Cert.Kernel8Ideal.InProj
end
-- ==== Proof.LastMod.lean ====
module

public import proofs.«01_k».proof.Proof.Gen.Kernel8Ideal.Frame
public import proofs.«01_k».proof.Proof.ModPoint
public import Idealize.ShloMosaic.Lib.StableHlo.ReadAt

@[expose] public section

set_option maxRecDepth 16384

noncomputable section

/-! The first call's result: the modulation's, of the same arguments. -/

namespace Cert.Kernel8Ideal.Mod
open Cert.Kernel5Ideal.Mod (block_at result result_at)
open Idealize.ShloMosaic Idealize.ShloMosaic.TcCoe Idealize.SL.Sem Cert.Kernel8Ideal Cert.Kernel8Ideal.Gen

variable (m : (ℓ : Loc nD τ sig) → Buf (Elt Ideal) ℓ) (ρ : Dev nD → PrngReg) (c : Dev nD)

/-- The entries of the arguments on a device. -/
def args : Cert.Mod.Args where
  c i k := if h : i.val < 32 then (m (c, Proc.tc.devRef main_arg1) (ix2 ⟨i.val, h⟩ k) : EReal)
    else (m (c, Proc.tc.devRef main_arg2) (ix2 ⟨i.val - 32, by omega⟩ k) : EReal)
  w l k n := (m (c, Proc.tc.devRef main_arg3) (ix3 l k n) : EReal)
  b l n := (m (c, Proc.tc.devRef main_arg4) (ix2 l n) : EReal)

theorem hc (i : Fin 48) (k : Fin 1024) : V1 m ρ c main_v0 (ix2 i k) = (args m c).c i k := by
  show StableHlo.after hostOps0 (fun b => m (c, b)) (Proc.tc.devRef main_v0) (ix2 i k) = _
  unfold args
  repeat (
    after_reads_simp
    try simp -implicitDefEqProofs only [StableHlo.TRef.toBuf, StableHlo.TRef.ofBuf, cast_cast, cast_eq]
    pointwise)

theorem hb (l : Fin 2) (n : Fin 6144) : V1 m ρ c main_v1 (ix3 l 0 n) = (args m c).b l n := by
  show StableHlo.after hostOps0 (fun b => m (c, b)) (Proc.tc.devRef main_v1) (ix3 l 0 n) = _
  unfold args
  repeat (
    after_reads_simp
    try simp -implicitDefEqProofs only [StableHlo.TRef.toBuf, StableHlo.TRef.ofBuf, cast_cast, cast_eq]
    pointwise)

theorem arg3_at : V1 m ρ c main_arg3 = m (c, Proc.tc.devRef main_arg3) := W1_args m ρ c main_arg3 (by decide)

theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

theorem lt12 (t : Fin cfg0.N) : t.val < 12 := lt_of_lt_of_eq t.isLt N_0

/-- A grid point's layer and columns. -/
def lyr (t : Fin cfg0.N) : Fin 2 := ⟨t.val / 6, by have := lt12 t; omega⟩
def col (t : Fin cfg0.N) (n : Fin 1024) : Fin 6144 := ⟨t.val % 6 * 1024 + n.val, by omega⟩

theorem blk0 (t : Fin cfg0.N) (i : Fin 48) (k : Fin 1024) :
    (iblk0 (V1 m ρ) c 0 t : FVec Ideal S48x1024 .f32) (ix2 i k) = (args m c).c i k := by
  refine Eq.trans ?_ (hc m ρ c _ _)
  obtain ⟨e0, e1, e2, e3⟩ := idx t
  blk_ext [iblk0, e0]
theorem blk1 (t : Fin cfg0.N) (k : Fin 1024) (n : Fin 1024) :
    (iblk0 (V1 m ρ) c 1 t : FVec Ideal S1x1024x1024 .f32) (ix3 0 k n) = (args m c).w (lyr t) k (col t n) := by
  unfold lyr col args
  obtain ⟨e0, e1, e2, e3⟩ := idx t
  blk_ext [iblk0, arg3_at, e1]
theorem blk2 (t : Fin cfg0.N) (n : Fin 1024) :
    (iblk0 (V1 m ρ) c 2 t : FVec Ideal S1x1x1024 .f32) (ix3 0 0 n) = (args m c).b (lyr t) (col t n) := by
  refine Eq.trans ?_ (hb m ρ c _ _)
  unfold lyr col
  obtain ⟨e0, e1, e2, e3⟩ := idx t
  blk_ext [iblk0, e2]

theorem point_value (t : Fin cfg0.N) (i : Fin 48) (n : Fin 1024) :
    (out0_3 (F := Ideal) (iblk0 (V1 m ρ) c 0 t : FVec Ideal S48x1024 .f32) (iblk0 (V1 m ρ) c 1 t : FVec Ideal S1x1024x1024 .f32)
      (iblk0 (V1 m ρ) c 2 t : FVec Ideal S1x1x1024 .f32) : FVec Ideal S1x48x1024 .f32) (ix3 0 i n) = Cert.Mod.out' (args m c) (lyr t) i (col t n) := by
  refine (block_at (iblk0 (V1 m ρ) c 0 t) (iblk0 (V1 m ρ) c 1 t) (iblk0 (V1 m ρ) c 2 t) i n).trans ?_
  unfold Cert.Mod.out'
  simp only [blk0, blk1, blk2]

theorem final : (dat0 (V1 m ρ) c).arrAt 3 cfg0.N = result (args m c) := by
  refine (dat0 (V1 m ρ) c).arrAt_eq_of_covers 3 _ (by decide +kernel) fun t hf y => ?_
  have e := (idx t).2.2.2
  blk_simp
  rw [after0_3]
  have b0 : (((cfg0.win 3).blk t).view.emb y 0).val = win0_3.index t (0 : Fin 3) * 1 + 1 * (y 0).val := rfl
  have b1 : (((cfg0.win 3).blk t).view.emb y 1).val = win0_3.index t (1 : Fin 3) * 48 + 1 * (y 1).val := rfl
  have b2 : (((cfg0.win 3).blk t).view.emb y 2).val = win0_3.index t (2 : Fin 3) * 1024 + 1 * (y 2).val := rfl
  have y0 : (y 0).val < 1 := (y 0).isLt
  have y1 : (y 1).val < 48 := (y 1).isLt
  have y2 : (y 2).val < 1024 := (y 2).isLt
  rw [e] at b0 b1 b2
  have b0' : (((cfg0.win 3).blk t).view.emb y 0).val = t.val / 6 * 1 + 1 * (y 0).val := b0
  have b1' : (((cfg0.win 3).blk t).view.emb y 1).val = 0 * 48 + 1 * (y 1).val := b1
  have b2' : (((cfg0.win 3).blk t).view.emb y 2).val = t.val % 6 * 1024 + 1 * (y 2).val := b2
  have hy : (y : S1x48x1024.Idx) = ix3 0 ⟨(y 1).val, y1⟩ ⟨(y 2).val, y2⟩ := by
    funext a; apply Fin.ext
    match a with
    | ⟨0, _⟩ => exact Nat.lt_one_iff.mp y0
    | ⟨1, _⟩ => rfl
    | ⟨2, _⟩ => rfl
  refine (congrArg (out0_3 (F := Ideal) (iblk0 (V1 m ρ) c 0 t) (iblk0 (V1 m ρ) c 1 t) (iblk0 (V1 m ρ) c 2 t)) hy).trans ((point_value m ρ c t _ _).trans (result_at ?_ ?_ ?_))
  · show (((cfg0.win 3).blk t).view.emb y 0).val = t.val / 6
    omega
  · show (((cfg0.win 3).blk t).view.emb y 1).val = (y 1).val
    omega
  · show (((cfg0.win 3).blk t).view.emb y 2).val = t.val % 6 * 1024 + (y 2).val
    omega
end Cert.Kernel8Ideal.Mod
end
-- ==== Proof.LastInProj.lean ====
module

public import proofs.«01_k».proof.Proof.InProjPoint
public import proofs.«01_k».proof.Proof.LastInProjHost
public import proofs.«01_k».proof.Proof.LastMod

@[expose] public section

set_option maxRecDepth 16384

noncomputable section

/-! The second call's five results: the input projection's, of the modulation that the first call computes. -/

namespace Cert.Kernel8Ideal.InProj
open Cert.Kernel3Ideal.InProj (dotB nrmB out4_at out5_at out6_at out7_at out8_at result result_at)
open Idealize.ShloMosaic Idealize.ShloMosaic.TcCoe Idealize.SL.Sem Cert.Kernel8Ideal Cert.Kernel8Ideal.Gen

variable (m : (ℓ : Loc nD τ sig) → Buf (Elt Ideal) ℓ) (ρ : Dev nD → PrngReg) (c : Dev nD)

/-- The entries of the second call's arguments on a device. -/
def args : Cert.InProj.Args where
  x r k := (m (c, Proc.tc.devRef main_arg0) (ix3 ⟨r.val / 2048, by omega⟩ ⟨r.val % 2048, by omega⟩ k) : EReal)
  mod b n := Cert.Mod.out' (Cert.Kernel8Ideal.Mod.args m c) 1 ⟨b.val, by omega⟩ n
  g k := (m (c, Proc.tc.devRef main_arg5) (ix1 k) : EReal)
  w k n := (m (c, Proc.tc.devRef main_arg6) (ix2 k n) : EReal)

theorem v2_at (b : Fin 32) (n : Fin 6144) : W2 m ρ c (Proc.tc.devRef main_v2) (ix3 1 ⟨b.val, by omega⟩ n) = (args m c).mod b n :=
  congrFun ((W2_arr m ρ c 3).trans (Cert.Kernel8Ideal.Mod.final m ρ c)) _

/-- The array of the prompt's modulation, after the second call. -/
theorem v5_at (b : Fin 32) (n : Fin 6144) : W4 m ρ c (Proc.tc.devRef main_v5) (ix2 b n) = (args m c).mod b n :=
  (congrFun (W4_of m ρ c main_v5 (by decide)) _).trans ((rv5 (W2 m ρ c) b n).trans (v2_at m ρ c b n))

theorem hx (r : Fin 65536) (k : Fin 1024) : V3 m ρ c main_v21 (ix2 r k) = (args m c).x r k :=
  (rx (W2 m ρ c) r k).trans (congrFun (W2_args m ρ c main_arg0 (by decide)) _)

theorem hmod (b : Fin 32) (n : Fin 6144) : V3 m ρ c main_v22 (ix3 b 0 n) = (args m c).mod b n :=
  (rmod (W2 m ρ c) b n).trans (v2_at m ρ c b n)

theorem hg (k : Fin 1024) : V3 m ρ c main_v23 (ix2 0 k) = (args m c).g k :=
  (rg (W2 m ρ c) k).trans (congrFun (W2_args m ρ c main_arg5 (by decide)) _)

theorem hw (k : Fin 1024) (n : Fin 7040) : V3 m ρ c main_v20 (ix2 k n) = Cert.InProj.lay ((args m c).w k) n :=
  (rw_at (W2 m ρ c) k n).trans (congrArg (fun f => Cert.InProj.lay f n) (funext fun j => congrFun (W2_args m ρ c main_arg6 (by decide)) (ix2 k j)))

theorem idx : ∀ t : Fin cfg1.N, win1_0.index t = ![t.val, 0] ∧ win1_1.index t = ![t.val / 4, 0, 0] ∧ win1_2.index t = ![0, 0]
    ∧ win1_3.index t = ![0, 0] ∧ win1_4.index t = ![t.val, 0] ∧ win1_5.index t = ![t.val, 0] ∧ win1_6.index t = ![t.val, 0]
    ∧ win1_7.index t = ![t.val, 0] ∧ win1_8.index t = ![t.val, 0] :=
  (by decide +kernel : ∀ t : Fin grid1.N, _)

theorem lt128 (t : Fin cfg1.N) : t.val < 128 := lt_of_lt_of_eq t.isLt N_1

/-- A grid point's row in the flattened input. -/
def row (t : Fin cfg1.N) (r : Fin 512) : Fin 65536 := ⟨t.val * 512 + r.val, by have := lt128 t; omega⟩

theorem blk0 (t : Fin cfg1.N) (r : Fin 512) (k : Fin 1024) :
    (iblk1 (V3 m ρ) c 0 t : FVec Ideal S512x1024 .f32) (ix2 r k) = (args m c).x (row t r) k := by
  refine Eq.trans ?_ (hx m ρ c _ _)
  unfold row
  obtain ⟨e0, e1, e2, e3, e4, e5, e6, e7, e8⟩ := idx t
  blk_ext [iblk1, e0]
theorem blk1 (t : Fin cfg1.N) (n : Fin 6144) :
    (iblk1 (V3 m ρ) c 1 t : FVec Ideal S1x1x6144 .f32) (ix3 0 0 n) = (args m c).mod ⟨t.val / 4, by have := lt128 t; omega⟩ n := by
  refine Eq.trans ?_ (hmod m ρ c _ _)
  obtain ⟨e0, e1, e2, e3, e4, e5, e6, e7, e8⟩ := idx t
  blk_ext [iblk1, e1]
theorem blk2 (t : Fin cfg1.N) (k : Fin 1024) :
    (iblk1 (V3 m ρ) c 2 t : FVec Ideal S1x1024 .f32) (ix2 0 k) = (args m c).g k := by
  refine Eq.trans ?_ (hg m ρ c _)
  obtain ⟨e0, e1, e2, e3, e4, e5, e6, e7, e8⟩ := idx t
  blk_ext [iblk1, e2]
theorem blk3 (t : Fin cfg1.N) (k : Fin 1024) (n : Fin 7040) :
    (iblk1 (V3 m ρ) c 3 t : FVec Ideal S1024x7040 .bf16) (ix2 k n) = Cert.InProj.lay ((args m c).w k) n := by
  refine Eq.trans ?_ (hw m ρ c _ _)
  obtain ⟨e0, e1, e2, e3, e4, e5, e6, e7, e8⟩ := idx t
  blk_ext [iblk1, e3]

theorem dot_at (t : Fin cfg1.N) (r : Fin 512) (n : Fin 7040) :
    dotB (iblk1 (V3 m ρ) c 0 t : FVec Ideal S512x1024 .f32) (iblk1 (V3 m ρ) c 1 t : FVec Ideal S1x1x6144 .f32) (iblk1 (V3 m ρ) c 2 t : FVec Ideal S1x1024 .f32)
      (iblk1 (V3 m ρ) c 3 t : FVec Ideal S1024x7040 .bf16) r n = Cert.InProj.out' (args m c) (row t r) n := by
  unfold dotB nrmB Cert.InProj.out' Cert.InProj.nrm
  simp only [blk0, blk1, blk2, blk3]
  have e : (⟨t.val / 4, by have := lt128 t; omega⟩ : Fin 32) = ⟨(row t r).val / 2048, by omega⟩ :=
    Fin.ext (by show t.val / 4 = (t.val * 512 + r.val) / 2048; omega)
  rw [e]

theorem final4 : (dat1 (V3 m ρ) c).arrAt 4 cfg1.N = result (args m c) 768 0 (by decide) .bf16 := by
  refine (dat1 (V3 m ρ) c).arrAt_eq_of_covers 4 _ (by decide +kernel) fun t hf y => ?_
  have e := (idx t).2.2.2.2.1
  blk_simp
  rw [after1_4]
  have b0 : (((cfg1.win 4).blk t).view.emb y 0).val = win1_4.index t (0 : Fin 2) * 512 + 1 * (y 0).val := rfl
  have b1 : (((cfg1.win 4).blk t).view.emb y 1).val = win1_4.index t (1 : Fin 2) * 768 + 1 * (y 1).val := rfl
  have y0 : (y 0).val < 512 := (y 0).isLt
  have y1 : (y 1).val < 768 := (y 1).isLt
  rw [e] at b0 b1
  have b0' : (((cfg1.win 4).blk t).view.emb y 0).val = t.val * 512 + 1 * (y 0).val := b0
  have b1' : (((cfg1.win 4).blk t).view.emb y 1).val = 0 * 768 + 1 * (y 1).val := b1
  have hy : (y : S512x768.Idx) = ix2 ⟨(y 0).val, y0⟩ ⟨(y 1).val, y1⟩ := by
    funext a; apply Fin.ext
    match a with
    | ⟨0, _⟩ => rfl
    | ⟨1, _⟩ => rfl
  refine (congrArg (out1_4 (F := Ideal) (iblk1 (V3 m ρ) c 0 t) (iblk1 (V3 m ρ) c 1 t) (iblk1 (V3 m ρ) c 2 t) (iblk1 (V3 m ρ) c 3 t)) hy).trans ((out4_at (iblk1 (V3 m ρ) c 0 t) (iblk1 (V3 m ρ) c 1 t) (iblk1 (V3 m ρ) c 2 t) (iblk1 (V3 m ρ) c 3 t) _ _).trans ((dot_at m ρ c t _ _).trans (result_at ?_ ?_)))
  · show (((cfg1.win 4).blk t).view.emb y 0).val = t.val * 512 + (y 0).val
    omega
  · show 0 + (((cfg1.win 4).blk t).view.emb y 1).val = (y 1).val
    omega

theorem final5 : (dat1 (V3 m ρ) c).arrAt 5 cfg1.N = result (args m c) 1024 768 (by decide) .bf16 := by
  refine (dat1 (V3 m ρ) c).arrAt_eq_of_covers 5 _ (by decide +kernel) fun t hf y => ?_
  have e := (idx t).2.2.2.2.2.1
  blk_simp
  rw [after1_5]
  have b0 : (((cfg1.win 5).blk t).view.emb y 0).val = win1_5.index t (0 : Fin 2) * 512 + 1 * (y 0).val := rfl
  have b1 : (((cfg1.win 5).blk t).view.emb y 1).val = win1_5.index t (1 : Fin 2) * 1024 + 1 * (y 1).val := rfl
  have y0 : (y 0).val < 512 := (y 0).isLt
  have y1 : (y 1).val < 1024 := (y 1).isLt
  rw [e] at b0 b1
  have b0' : (((cfg1.win 5).blk t).view.emb y 0).val = t.val * 512 + 1 * (y 0).val := b0
  have b1' : (((cfg1.win 5).blk t).view.emb y 1).val = 0 * 1024 + 1 * (y 1).val := b1
  have hy : (y : S512x1024.Idx) = ix2 ⟨(y 0).val, y0⟩ ⟨(y 1).val, y1⟩ := by
    funext a; apply Fin.ext
    match a with
    | ⟨0, _⟩ => rfl
    | ⟨1, _⟩ => rfl
  refine (congrArg (out1_5 (F := Ideal) (iblk1 (V3 m ρ) c 0 t) (iblk1 (V3 m ρ) c 1 t) (iblk1 (V3 m ρ) c 2 t) (iblk1 (V3 m ρ) c 3 t)) hy).trans ((out5_at (iblk1 (V3 m ρ) c 0 t) (iblk1 (V3 m ρ) c 1 t) (iblk1 (V3 m ρ) c 2 t) (iblk1 (V3 m ρ) c 3 t) _ _).trans ((dot_at m ρ c t _ _).trans (result_at ?_ ?_)))
  · show (((cfg1.win 5).blk t).view.emb y 0).val = t.val * 512 + (y 0).val
    omega
  · show 768 + (((cfg1.win 5).blk t).view.emb y 1).val = 768 + (y 1).val
    omega

theorem final6 : (dat1 (V3 m ρ) c).arrAt 6 cfg1.N = result (args m c) 2048 1792 (by decide) .bf16 := by
  refine (dat1 (V3 m ρ) c).arrAt_eq_of_covers 6 _ (by decide +kernel) fun t hf y => ?_
  have e := (idx t).2.2.2.2.2.2.1
  blk_simp
  rw [after1_6]
  have b0 : (((cfg1.win 6).blk t).view.emb y 0).val = win1_6.index t (0 : Fin 2) * 512 + 1 * (y 0).val := rfl
  have b1 : (((cfg1.win 6).blk t).view.emb y 1).val = win1_6.index t (1 : Fin 2) * 2048 + 1 * (y 1).val := rfl
  have y0 : (y 0).val < 512 := (y 0).isLt
  have y1 : (y 1).val < 2048 := (y 1).isLt
  rw [e] at b0 b1
  have b0' : (((cfg1.win 6).blk t).view.emb y 0).val = t.val * 512 + 1 * (y 0).val := b0
  have b1' : (((cfg1.win 6).blk t).view.emb y 1).val = 0 * 2048 + 1 * (y 1).val := b1
  have hy : (y : S512x2048.Idx) = ix2 ⟨(y 0).val, y0⟩ ⟨(y 1).val, y1⟩ := by
    funext a; apply Fin.ext
    match a with
    | ⟨0, _⟩ => rfl
    | ⟨1, _⟩ => rfl
  refine (congrArg (out1_6 (F := Ideal) (iblk1 (V3 m ρ) c 0 t) (iblk1 (V3 m ρ) c 1 t) (iblk1 (V3 m ρ) c 2 t) (iblk1 (V3 m ρ) c 3 t)) hy).trans ((out6_at (iblk1 (V3 m ρ) c 0 t) (iblk1 (V3 m ρ) c 1 t) (iblk1 (V3 m ρ) c 2 t) (iblk1 (V3 m ρ) c 3 t) _ _).trans ((dot_at m ρ c t _ _).trans (result_at ?_ ?_)))
  · show (((cfg1.win 6).blk t).view.emb y 0).val = t.val * 512 + (y 0).val
    omega
  · show 1792 + (((cfg1.win 6).blk t).view.emb y 1).val = 1792 + (y 1).val
    omega

theorem final7 : (dat1 (V3 m ρ) c).arrAt 7 cfg1.N = result (args m c) 128 3840 (by decide) .f32 := by
  refine (dat1 (V3 m ρ) c).arrAt_eq_of_covers 7 _ (by decide +kernel) fun t hf y => ?_
  have e := (idx t).2.2.2.2.2.2.2.1
  blk_simp
  rw [after1_7]
  have b0 : (((cfg1.win 7).blk t).view.emb y 0).val = win1_7.index t (0 : Fin 2) * 512 + 1 * (y 0).val := rfl
  have b1 : (((cfg1.win 7).blk t).view.emb y 1).val = win1_7.index t (1 : Fin 2) * 128 + 1 * (y 1).val := rfl
  have y0 : (y 0).val < 512 := (y 0).isLt
  have y1 : (y 1).val < 128 := (y 1).isLt
  rw [e] at b0 b1
  have b0' : (((cfg1.win 7).blk t).view.emb y 0).val = t.val * 512 + 1 * (y 0).val := b0
  have b1' : (((cfg1.win 7).blk t).view.emb y 1).val = 0 * 128 + 1 * (y 1).val := b1
  have hy : (y : S512x128.Idx) = ix2 ⟨(y 0).val, y0⟩ ⟨(y 1).val, y1⟩ := by
    funext a; apply Fin.ext
    match a with
    | ⟨0, _⟩ => rfl
    | ⟨1, _⟩ => rfl
  refine (congrArg (out1_7 (F := Ideal) (iblk1 (V3 m ρ) c 0 t) (iblk1 (V3 m ρ) c 1 t) (iblk1 (V3 m ρ) c 2 t) (iblk1 (V3 m ρ) c 3 t)) hy).trans ((out7_at (iblk1 (V3 m ρ) c 0 t) (iblk1 (V3 m ρ) c 1 t) (iblk1 (V3 m ρ) c 2 t) (iblk1 (V3 m ρ) c 3 t) _ _).trans ((dot_at m ρ c t _ _).trans (result_at ?_ ?_)))
  · show (((cfg1.win 7).blk t).view.emb y 0).val = t.val * 512 + (y 0).val
    omega
  · show 3840 + (((cfg1.win 7).blk t).view.emb y 1).val = 3840 + (y 1).val
    omega

theorem final8 : (dat1 (V3 m ρ) c).arrAt 8 cfg1.N = result (args m c) 3072 3968 (by decide) .bf16 := by
  refine (dat1 (V3 m ρ) c).arrAt_eq_of_covers 8 _ (by decide +kernel) fun t hf y => ?_
  have e := (idx t).2.2.2.2.2.2.2.2
  blk_simp
  rw [after1_8]
  have b0 : (((cfg1.win 8).blk t).view.emb y 0).val = win1_8.index t (0 : Fin 2) * 512 + 1 * (y 0).val := rfl
  have b1 : (((cfg1.win 8).blk t).view.emb y 1).val = win1_8.index t (1 : Fin 2) * 3072 + 1 * (y 1).val := rfl
  have y0 : (y 0).val < 512 := (y 0).isLt
  have y1 : (y 1).val < 3072 := (y 1).isLt
  rw [e] at b0 b1
  have b0' : (((cfg1.win 8).blk t).view.emb y 0).val = t.val * 512 + 1 * (y 0).val := b0
  have b1' : (((cfg1.win 8).blk t).view.emb y 1).val = 0 * 3072 + 1 * (y 1).val := b1
  have hy : (y : S512x3072.Idx) = ix2 ⟨(y 0).val, y0⟩ ⟨(y 1).val, y1⟩ := by
    funext a; apply Fin.ext
    match a with
    | ⟨0, _⟩ => rfl
    | ⟨1, _⟩ => rfl
  refine (congrArg (out1_8 (F := Ideal) (iblk1 (V3 m ρ) c 0 t) (iblk1 (V3 m ρ) c 1 t) (iblk1 (V3 m ρ) c 2 t) (iblk1 (V3 m ρ) c 3 t)) hy).trans ((out8_at (iblk1 (V3 m ρ) c 0 t) (iblk1 (V3 m ρ) c 1 t) (iblk1 (V3 m ρ) c 2 t) (iblk1 (V3 m ρ) c 3 t) _ _).trans ((dot_at m ρ c t _ _).trans (result_at ?_ ?_)))
  · show (((cfg1.win 8).blk t).view.emb y 0).val = t.val * 512 + (y 0).val
    omega
  · show 3968 + (((cfg1.win 8).blk t).view.emb y 1).val = 3968 + (y 1).val
    omega

end Cert.Kernel8Ideal.InProj
end
-- ==== Proof.LastMerge.lean ====
module

public import proofs.«01_k».proof.Proof.Gen.Kernel8Ideal.Frame
public import proofs.«01_k».proof.Proof.MergePoint
public import proofs.«01_k».proof.Proof.LastInProj
public import Idealize.ShloMosaic.Lib.StableHlo.ReadAt

@[expose] public section

set_option maxRecDepth 16384

noncomputable section

/-! The third call's result: the merge's, of the modulation and of the gates that the calls before it compute. -/

namespace Cert.Kernel8Ideal.Merge
open Cert.Kernel4Ideal.Merge (gate result)
open Idealize.ShloMosaic Idealize.ShloMosaic.TcCoe Idealize.SL.Sem Cert.Kernel8Ideal Cert.Kernel8Ideal.Gen

theorem block_at (X : FVec Ideal S512x1024 .f32) (M : FVec Ideal S1x1x6144 .f32) (O0 O1 O2 : FVec Ideal S512x512 .bf16)
    (G : FVec Ideal S512x3072 .bf16) (B : FVec Ideal S3x512x1024 .bf16) (W : FVec Ideal S1024x1024 .bf16) (r : Fin 512) (c : Fin 1024) :
    (out2_8 (F := Ideal) X M O0 O1 O2 G B W : FVec Ideal S512x1024 .f32) (ix2 r c)
      = X (ix2 r c) + M (ix3 0 0 ⟨2048 + c.val, by omega⟩) * ∑ k : Fin 1024,
        (gate (G (ix2 r ⟨k.val, by omega⟩)) * (∑ q : Fin 512, O0 (ix2 r q) * B (ix3 0 q k))
          + gate (G (ix2 r ⟨1024 + k.val, by omega⟩)) * (∑ q : Fin 512, O1 (ix2 r q) * B (ix3 1 q k))
          + gate (G (ix2 r ⟨2048 + k.val, by omega⟩)) * (∑ q : Fin 512, O2 (ix2 r q) * B (ix3 2 q k))) * W (ix2 k c) := by
  frame_out
  open_payloads
  pointwise [gate]

variable (m : (ℓ : Loc nD τ sig) → Buf (Elt Ideal) ℓ) (ρ : Dev nD → PrngReg) (c : Dev nD)

/-- The entries of the arguments on a device. -/
def args : Cert.Merge.Args where
  x r k := (m (c, Proc.tc.devRef main_arg0) (ix3 ⟨r.val / 2048, by omega⟩ ⟨r.val % 2048, by omega⟩ k) : EReal)
  mod b n := Cert.Mod.out' (Cert.Kernel8Ideal.Mod.args m c) 1 ⟨b.val, by omega⟩ n
  o n r q := match n with
    | 0 => (m (c, Proc.tc.devRef main_arg7) (ix2 r q) : EReal)
    | 1 => (m (c, Proc.tc.devRef main_arg8) (ix2 r q) : EReal)
    | 2 => (m (c, Proc.tc.devRef main_arg9) (ix2 r q) : EReal)
  gates r n := Cert.InProj.out' (Cert.Kernel8Ideal.InProj.args m c) r ⟨3968 + n.val, by omega⟩
  wb n q k := (m (c, Proc.tc.devRef main_arg10) (ix3 n q k) : EReal)
  wo k n := (m (c, Proc.tc.devRef main_arg11) (ix2 k n) : EReal)

section
variable (W : Valuation τ sig (Elt Ideal))

theorem rx (r : Fin 65536) (k : Fin 1024) : StableHlo.after hostOps2 W (Proc.tc.devRef main_v27) (ix2 r k)
    = (W (Proc.tc.devRef main_arg0) (ix3 ⟨r.val / 2048, by omega⟩ ⟨r.val % 2048, by omega⟩ k) : EReal) := by
  repeat (
    after_reads_simp
    try simp -implicitDefEqProofs only [StableHlo.TRef.toBuf, StableHlo.TRef.ofBuf, cast_cast, cast_eq]
    pointwise)

theorem rmod (b : Fin 32) (n : Fin 6144) : StableHlo.after hostOps2 W (Proc.tc.devRef main_v28) (ix3 b 0 n)
    = (W (Proc.tc.devRef main_v5) (ix2 b n) : EReal) := by
  repeat (
    after_reads_simp
    try simp -implicitDefEqProofs only [StableHlo.TRef.toBuf, StableHlo.TRef.ofBuf, cast_cast, cast_eq]
    pointwise)

theorem rwb (n : Fin 3) (q : Fin 512) (k : Fin 1024) : StableHlo.after hostOps2 W (Proc.tc.devRef main_v25) (ix3 n q k)
    = (W (Proc.tc.devRef main_arg10) (ix3 n q k) : EReal) := by
  repeat (
    after_reads_simp
    try simp -implicitDefEqProofs only [StableHlo.TRef.toBuf, StableHlo.TRef.ofBuf, cast_cast, cast_eq]
    pointwise)

theorem rwo (k n : Fin 1024) : StableHlo.after hostOps2 W (Proc.tc.devRef main_v26) (ix2 k n)
    = (W (Proc.tc.devRef main_arg11) (ix2 k n) : EReal) := by
  repeat (
    after_reads_simp
    try simp -implicitDefEqProofs only [StableHlo.TRef.toBuf, StableHlo.TRef.ofBuf, cast_cast, cast_eq]
    pointwise)

end

theorem hx (r : Fin 65536) (k : Fin 1024) : V5 m ρ c main_v27 (ix2 r k) = (args m c).x r k :=
  (rx (W4 m ρ c) r k).trans (congrFun (W4_args m ρ c main_arg0 (by decide)) _)

theorem hmod (b : Fin 32) (n : Fin 6144) : V5 m ρ c main_v28 (ix3 b 0 n) = (args m c).mod b n :=
  (rmod (W4 m ρ c) b n).trans (Cert.Kernel8Ideal.InProj.v5_at m ρ c b n)

theorem hwb (n : Fin 3) (q : Fin 512) (k : Fin 1024) : V5 m ρ c main_v25 (ix3 n q k) = (args m c).wb n q k :=
  (rwb (W4 m ρ c) n q k).trans (congrFun (W4_args m ρ c main_arg10 (by decide)) _)

theorem hwo (k n : Fin 1024) : V5 m ρ c main_v26 (ix2 k n) = (args m c).wo k n :=
  (rwo (W4 m ρ c) k n).trans (congrFun (W4_args m ρ c main_arg11 (by decide)) _)

theorem arg7_at : V5 m ρ c main_arg7 = m (c, Proc.tc.devRef main_arg7) := W5_args m ρ c main_arg7 (by decide)

theorem arg8_at : V5 m ρ c main_arg8 = m (c, Proc.tc.devRef main_arg8) := W5_args m ρ c main_arg8 (by decide)

theorem arg9_at : V5 m ρ c main_arg9 = m (c, Proc.tc.devRef main_arg9) := W5_args m ρ c main_arg9 (by decide)

/-- The gates are the input projection's fifth result. -/
theorem hgates (r : Fin 65536) (n : Fin 3072) : V5 m ρ c main_v24_4 (ix2 r n) = (args m c).gates r n :=
  congrFun ((W5_of m ρ c main_v24_4 (by decide)).trans ((W4_arr m ρ c 8).trans (Cert.Kernel8Ideal.InProj.final8 m ρ c))) _

theorem idx : ∀ t : Fin cfg2.N, win2_0.index t = ![t.val, 0] ∧ win2_1.index t = ![t.val / 4, 0, 0] ∧ win2_2.index t = ![t.val, 0]
    ∧ win2_3.index t = ![t.val, 0] ∧ win2_4.index t = ![t.val, 0] ∧ win2_5.index t = ![t.val, 0] ∧ win2_6.index t = ![0, 0, 0]
    ∧ win2_7.index t = ![0, 0] ∧ win2_8.index t = ![t.val, 0] :=
  (by decide +kernel : ∀ t : Fin grid2.N, _)

theorem lt128 (t : Fin cfg2.N) : t.val < 128 := lt_of_lt_of_eq t.isLt N_2

/-- A grid point's row in the flattened input. -/
def row (t : Fin cfg2.N) (r : Fin 512) : Fin 65536 := ⟨t.val * 512 + r.val, by have := lt128 t; omega⟩

theorem blk0 (t : Fin cfg2.N) (r : Fin 512) (k : Fin 1024) :
    (iblk2 (V5 m ρ) c 0 t : FVec Ideal S512x1024 .f32) (ix2 r k) = (args m c).x (row t r) k := by
  refine Eq.trans ?_ (hx m ρ c _ _)
  unfold row
  obtain ⟨e0, e1, e2, e3, e4, e5, e6, e7, e8⟩ := idx t
  blk_ext [iblk2, e0]
theorem blk1 (t : Fin cfg2.N) (n : Fin 6144) :
    (iblk2 (V5 m ρ) c 1 t : FVec Ideal S1x1x6144 .f32) (ix3 0 0 n) = (args m c).mod ⟨t.val / 4, by have := lt128 t; omega⟩ n := by
  refine Eq.trans ?_ (hmod m ρ c _ _)
  obtain ⟨e0, e1, e2, e3, e4, e5, e6, e7, e8⟩ := idx t
  blk_ext [iblk2, e1]
theorem blk2 (t : Fin cfg2.N) (r : Fin 512) (q : Fin 512) :
    (iblk2 (V5 m ρ) c 2 t : FVec Ideal S512x512 .bf16) (ix2 r q) = (args m c).o 0 (row t r) q := by
  unfold row args
  obtain ⟨e0, e1, e2, e3, e4, e5, e6, e7, e8⟩ := idx t
  blk_ext [iblk2, arg7_at, e2]
theorem blk3 (t : Fin cfg2.N) (r : Fin 512) (q : Fin 512) :
    (iblk2 (V5 m ρ) c 3 t : FVec Ideal S512x512 .bf16) (ix2 r q) = (args m c).o 1 (row t r) q := by
  unfold row args
  obtain ⟨e0, e1, e2, e3, e4, e5, e6, e7, e8⟩ := idx t
  blk_ext [iblk2, arg8_at, e3]
theorem blk4 (t : Fin cfg2.N) (r : Fin 512) (q : Fin 512) :
    (iblk2 (V5 m ρ) c 4 t : FVec Ideal S512x512 .bf16) (ix2 r q) = (args m c).o 2 (row t r) q := by
  unfold row args
  obtain ⟨e0, e1, e2, e3, e4, e5, e6, e7, e8⟩ := idx t
  blk_ext [iblk2, arg9_at, e4]
theorem blk5 (t : Fin cfg2.N) (r : Fin 512) (n : Fin 3072) :
    (iblk2 (V5 m ρ) c 5 t : FVec Ideal S512x3072 .bf16) (ix2 r n) = (args m c).gates (row t r) n := by
  refine Eq.trans ?_ (hgates m ρ c _ _)
  unfold row
  obtain ⟨e0, e1, e2, e3, e4, e5, e6, e7, e8⟩ := idx t
  blk_ext [iblk2, e5]
theorem blk6 (t : Fin cfg2.N) (n : Fin 3) (q : Fin 512) (k : Fin 1024) :
    (iblk2 (V5 m ρ) c 6 t : FVec Ideal S3x512x1024 .bf16) (ix3 n q k) = (args m c).wb n q k := by
  refine Eq.trans ?_ (hwb m ρ c _ _ _)
  obtain ⟨e0, e1, e2, e3, e4, e5, e6, e7, e8⟩ := idx t
  blk_ext [iblk2, e6]
theorem blk7 (t : Fin cfg2.N) (k n : Fin 1024) :
    (iblk2 (V5 m ρ) c 7 t : FVec Ideal S1024x1024 .bf16) (ix2 k n) = (args m c).wo k n := by
  refine Eq.trans ?_ (hwo m ρ c _ _)
  obtain ⟨e0, e1, e2, e3, e4, e5, e6, e7, e8⟩ := idx t
  blk_ext [iblk2, e7]

/-- What a grid point leaves in its output block. -/
def pointOut (t : Fin cfg2.N) : FVec Ideal S512x1024 .f32 :=
  out2_8 (F := Ideal) (iblk2 (V5 m ρ) c 0 t : FVec Ideal S512x1024 .f32) (iblk2 (V5 m ρ) c 1 t : FVec Ideal S1x1x6144 .f32) (iblk2 (V5 m ρ) c 2 t : FVec Ideal S512x512 .bf16)
    (iblk2 (V5 m ρ) c 3 t : FVec Ideal S512x512 .bf16) (iblk2 (V5 m ρ) c 4 t : FVec Ideal S512x512 .bf16) (iblk2 (V5 m ρ) c 5 t : FVec Ideal S512x3072 .bf16)
    (iblk2 (V5 m ρ) c 6 t : FVec Ideal S3x512x1024 .bf16) (iblk2 (V5 m ρ) c 7 t : FVec Ideal S1024x1024 .bf16)

theorem point_value (t : Fin cfg2.N) (r : Fin 512) (k : Fin 1024) : pointOut m ρ c t (ix2 r k) = Cert.Merge.out (args m c) gate (row t r) k := by
  unfold pointOut
  refine (block_at (iblk2 (V5 m ρ) c 0 t) (iblk2 (V5 m ρ) c 1 t) (iblk2 (V5 m ρ) c 2 t) (iblk2 (V5 m ρ) c 3 t) (iblk2 (V5 m ρ) c 4 t)
    (iblk2 (V5 m ρ) c 5 t) (iblk2 (V5 m ρ) c 6 t) (iblk2 (V5 m ρ) c 7 t) r k).trans ?_
  unfold Cert.Merge.out Cert.Merge.mix Cert.Merge.proj
  simp only [blk0, blk1, blk2, blk3, blk4, blk5, blk6, blk7]
  have e : (⟨t.val / 4, by have := lt128 t; omega⟩ : Fin 32) = ⟨(row t r).val / 2048, by omega⟩ :=
    Fin.ext (by show t.val / 4 = (t.val * 512 + r.val) / 2048; omega)
  rw [e]

theorem final : (dat2 (V5 m ρ) c).arrAt 8 cfg2.N = result (args m c) := by
  refine (dat2 (V5 m ρ) c).arrAt_eq_of_covers 8 _ (by decide +kernel) fun t hf y => ?_
  have e8 := (idx t).2.2.2.2.2.2.2.2
  blk_simp
  rw [after2_8]
  have b0 : (((cfg2.win 8).blk t).view.emb y 0).val = win2_8.index t (0 : Fin 2) * 512 + 1 * (y 0).val := rfl
  have b1 : (((cfg2.win 8).blk t).view.emb y 1).val = win2_8.index t (1 : Fin 2) * 1024 + 1 * (y 1).val := rfl
  have y0 : (y 0).val < 512 := (y 0).isLt
  have y1 : (y 1).val < 1024 := (y 1).isLt
  rw [e8] at b0 b1
  have b0' : (((cfg2.win 8).blk t).view.emb y 0).val = t.val * 512 + 1 * (y 0).val := b0
  have b1' : (((cfg2.win 8).blk t).view.emb y 1).val = 0 * 1024 + 1 * (y 1).val := b1
  have hy : (y : S512x1024.Idx) = ix2 ⟨(y 0).val, y0⟩ ⟨(y 1).val, y1⟩ := by
    funext a; apply Fin.ext
    match a with
    | ⟨0, _⟩ => rfl
    | ⟨1, _⟩ => rfl
  refine (congrArg (pointOut m ρ c t) hy).trans ((point_value m ρ c t _ _).trans ?_)
  refine congrArg₂ (Cert.Merge.out (args m c) gate) (Fin.ext ?_) (Fin.ext ?_)
  · show t.val * 512 + (y 0).val = (((cfg2.win 8).blk t).view.emb y 0).val
    omega
  · show (y 1).val = (((cfg2.win 8).blk t).view.emb y 1).val
    omega
end Cert.Kernel8Ideal.Merge
end
-- ==== Proof.LastPoint.lean ====
module

public import proofs.«01_k».proof.Proof.LastStore
public import proofs.«01_k».proof.Proof.LastBlocks
public import proofs.«01_k».proof.Proof.LastMerge
public import proofs.«01_k».proof.Proof.FfnPoint

@[expose] public section

set_option maxRecDepth 16384

noncomputable section

/-! A grid point of the last call computes 1024 rows of the feed-forward part, of the merge's result. -/

namespace Cert.Kernel8Ideal.Last
open Cert.Kernel2Ideal.Ffn (Point tail_row silu sq result)
open Idealize.ShloMosaic Idealize.ShloMosaic.TcCoe Idealize.SL.Sem Cert.Kernel8Ideal Cert.Kernel8Ideal.Gen

variable (m : (ℓ : Loc nD τ sig) → Buf (Elt Ideal) ℓ) (ρ : Dev nD → PrngReg) (c : Dev nD)

/-- The last call's arguments on a device: its rows are the merge's, its modulation the first call's. -/
def args : Cert.Ffn.Args 32 where
  x b s k := Cert.Merge.out (Cert.Kernel8Ideal.Merge.args m c) Cert.Kernel4Ideal.Merge.gate ⟨b.val * 2048 + s.val, by omega⟩ k
  mod b n := Cert.Mod.out' (Cert.Kernel8Ideal.Mod.args m c) 1 ⟨b.val, by omega⟩ n
  g k := (m (c, Proc.tc.devRef main_arg12) (ix1 k) : EReal)
  wu k n := (m (c, Proc.tc.devRef main_arg13) (ix2 k n) : EReal)
  cw q n := (m (c, Proc.tc.devRef main_arg14) (ix2 q n) : EReal)
  cb n := (m (c, Proc.tc.devRef main_arg15) (ix1 n) : EReal)
  wd n k := (m (c, Proc.tc.devRef main_arg16) (ix2 n k) : EReal)
  fg k := (m (c, Proc.tc.devRef main_arg17) (ix1 k) : EReal)

/-- The sequence that a grid point works on. -/
def bt (t : Fin cfg3.N) : Fin 32 := ⟨t.val / 2, by have := lt64 t; omega⟩

/-- A row of the flattened input is a row of a sequence. -/
theorem x_at (r : Fin 65536) (b : Fin 32) (s : Fin 2048) (h : r.val = b.val * 2048 + s.val) (k : Fin 1024) :
    V7 m ρ c main_v51 (ix2 r k) = (args m c).x b s k := by
  refine (hx (W6 m ρ c) r k).trans ((congrFun ((W6_arr m ρ c 8).trans (Cert.Kernel8Ideal.Merge.final m ρ c)) (ix2 r k)).trans ?_)
  have e : r = ⟨b.val * 2048 + s.val, by omega⟩ := Fin.ext h
  rw [e]
  rfl

theorem arg_at (a : Ref sig .tc) (ha : a ∈ argRefs) : W6 m ρ c (Proc.tc.devRef a) = m (c, Proc.tc.devRef a) := W6_args m ρ c a ha

theorem v5_at (b : Fin 32) (n : Fin 6144) : W6 m ρ c (Proc.tc.devRef main_v5) (ix2 b n) = (args m c).mod b n :=
  (congrFun ((W6_of m ρ c main_v5 (by decide)).trans (W5_of m ρ c main_v5 (by decide))) _).trans (Cert.Kernel8Ideal.InProj.v5_at m ρ c b n)

variable {m ρ c}

theorem point (t : Fin cfg3.N) : Point (args m c) (bt t) t.val (iblk3 (V7 m ρ) c 0 t : FVec Ideal S1024x1024 .f32) (iblk3 (V7 m ρ) c 1 t : FVec Ideal S8x1024 .f32)
    (iblk3 (V7 m ρ) c 2 t : FVec Ideal S8x1024 .f32) (iblk3 (V7 m ρ) c 3 t : FVec Ideal S1x1x6144 .f32) (iblk3 (V7 m ρ) c 4 t : FVec Ideal S1x1024 .f32)
    (iblk3 (V7 m ρ) c 5 t : FVec Ideal S11x1024x512 .bf16) (iblk3 (V7 m ρ) c 6 t : FVec Ideal S11x3x512 .f32) (iblk3 (V7 m ρ) c 7 t : FVec Ideal S11x1x512 .f32)
    (iblk3 (V7 m ρ) c 8 t : FVec Ideal S2816x1024 .bf16) (iblk3 (V7 m ρ) c 9 t : FVec Ideal S1x1024 .f32)
    (k3_pay5 (BitVec.ofNat 32 (grid3.coords t 0).val) 2#32 0#1 1#32) (k3_pay6 (BitVec.ofNat 32 (grid3.coords t 0).val)) where
  x r k := (blk0 (V7 m ρ) c t r k).trans (x_at m ρ c _ _ _ (show t.val * 1024 + r.val = t.val / 2 * 2048 + (t.val % 2 * 1024 + r.val) by omega) k)
  xp ht k := (blk1 (V7 m ρ) c t 7 k).trans (x_at m ρ c _ _ _ (show (128 * t.val - 1) * 8 + 7 = t.val / 2 * 2048 + 1023 by omega) k)
  xn ht k := (blk2 (V7 m ρ) c t 0 k).trans (x_at m ρ c _ _ _
    (show min (128 * (t.val + 1)) 8191 * 8 + 0 = t.val / 2 * 2048 + 1024 by have := lt64 t; omega) k)
  m n := (blk3 (V7 m ρ) c t n).trans ((hmod (W6 m ρ c) _ _).trans (v5_at m ρ c _ _))
  g k := (blk4 (V7 m ρ) c t k).trans ((hg (W6 m ρ c) k).trans (congrFun (arg_at m ρ c main_arg12 (by decide)) _))
  w j k n := (blk5 (V7 m ρ) c t j k n).trans ((hwu (W6 m ρ c) j k n).trans (congrFun (arg_at m ρ c main_arg13 (by decide)) _))
  c j q n := (blk6 (V7 m ρ) c t j q n).trans ((hcw (W6 m ρ c) j q n).trans (congrFun (arg_at m ρ c main_arg14 (by decide)) _))
  b j n := (blk7 (V7 m ρ) c t j n).trans ((hcb (W6 m ρ c) j n).trans (congrFun (arg_at m ρ c main_arg15 (by decide)) _))
  d n k := (blk8 (V7 m ρ) c t n k).trans ((hwd (W6 m ρ c) n k).trans (congrFun (arg_at m ρ c main_arg16 (by decide)) _))
  fg k := (blk9 (V7 m ρ) c t k).trans ((hfg (W6 m ρ c) k).trans (congrFun (arg_at m ρ c main_arg17 (by decide)) _))
  p := prev_at t
  n := next_at t

theorem point_value (t : Fin cfg3.N) (r : Fin 1024) (k : Fin 1024) :
    (outsAt3 (V7 m ρ) c t) (ix2 r k) = Cert.Ffn.out (args m c) silu (bt t) (sq t.val r) k :=
  (point_tail (V7 m ρ) c t _).trans (tail_row (point t) _ r k)

theorem final : (dat3 (V7 m ρ) c).arrAt 10 cfg3.N = result (args m c) := by
  refine (dat3 (V7 m ρ) c).arrAt_eq_of_covers 10 _ (by decide +kernel) fun t hf y => ?_
  have e10 := (idx t).2.2.2.2.2.2.2.2.2.2
  blk_simp
  rw [after3_10]
  have b0 : (((cfg3.win 10).blk t).view.emb y 0).val = win3_10.index t (0 : Fin 2) * 1024 + 1 * (y 0).val := rfl
  have b1 : (((cfg3.win 10).blk t).view.emb y 1).val = win3_10.index t (1 : Fin 2) * 1024 + 1 * (y 1).val := rfl
  have y0 : (y 0).val < 1024 := (y 0).isLt
  have y1 : (y 1).val < 1024 := (y 1).isLt
  have ht := lt64 t
  rw [e10] at b0 b1
  have b0' : (((cfg3.win 10).blk t).view.emb y 0).val = t.val * 1024 + 1 * (y 0).val := b0
  have b1' : (((cfg3.win 10).blk t).view.emb y 1).val = 0 * 1024 + 1 * (y 1).val := b1
  have hy : (y : S1024x1024.Idx) = ix2 ⟨(y 0).val, y0⟩ ⟨(y 1).val, y1⟩ := by
    funext a; apply Fin.ext
    match a with
    | ⟨0, _⟩ => rfl
    | ⟨1, _⟩ => rfl
  refine (congrArg (outsAt3 (V7 m ρ) c t) hy).trans ((point_value t _ _).trans ?_)
  have hout : ∀ (b b' : Fin 32) (r r' : Fin 2048) (k k' : Fin 1024), b = b' → r = r' → k = k' →
      Cert.Ffn.out (args m c) silu b r k = Cert.Ffn.out (args m c) silu b' r' k' := by
    rintro b _ r _ k _ rfl rfl rfl; rfl
  refine hout _ _ _ _ _ _ (Fin.ext ?_) (Fin.ext ?_) (Fin.ext ?_)
  · show t.val / 2 = (((cfg3.win 10).blk t).view.emb y 0).val / 2048
    omega
  · show t.val % 2 * 1024 + (y 0).val = (((cfg3.win 10).blk t).view.emb y 0).val % 2048
    omega
  · show (y 1).val = (((cfg3.win 10).blk t).view.emb y 1).val
    omega
end Cert.Kernel8Ideal.Last
end
-- ==== Proof.LastFinite.lean ====
module

public import proofs.«01_k».proof.Defs
public import proofs.«01_k».proof.Proof.Finite
public import proofs.«01_k».proof.Proof.LastPoint

@[expose] public section

set_option maxRecDepth 16384

noncomputable section

namespace Cert.Finite8

open Cert Idealize.ShloMosaic Idealize.ShloMosaic.TcCoe
open Cert.Ffn (IsReal)

/-! The precondition of the last layer's calls says that the entries of the conditioning, of the modulation's weights and bias, of the
input projection's weights and of the feed-forward part's weights before the gate are real numbers. Then the modulation is real too. -/

theorem facts : Cert.Pre_finite8.Facts where
  bcast_S_S32x1024 := by decide
  bcast_S_S16x1024 := by decide
  bcast_S_S2x1024x6144 := by decide
  bcast_S_S2x6144 := by decide
  bcast_S_S1024 := by decide
  bcast_S_S1024x6832 := by decide
  bcast_S_S1024x5632 := by decide
  bcast_S_S3x5632 := by decide
  bcast_S_S5632 := by decide

variable (m : (ℓ : Loc Kernel8Ideal.nD Kernel8Ideal.τ Kernel8Ideal.sig) → Buf (Elt Ideal) ℓ)
  (h : Pre_Kernel8Ideal_finite8 (hPre_finite8 := facts) m) (c : Dev Kernel8Ideal.nD)

include h

theorem holds_mod : Mod.Finite (Kernel8Ideal.Mod.args m c) where
  c i k := by
    by_cases hi : i.val < 32
    · exact ⟨_, (dif_pos hi).trans (Finite.real_of_lt (congrFun (h c).1 (ix2 ⟨i.val, hi⟩ k)))⟩
    · exact ⟨_, (dif_neg hi).trans (Finite.real_of_lt (congrFun (h c).2.1 (ix2 ⟨i.val - 32, by omega⟩ k)))⟩
  w l k n := ⟨_, Finite.real_of_lt (congrFun (h c).2.2.1 (ix3 l k n))⟩

/-- The modulation is real. -/
theorem mod_real (l : Fin 2) (i : Fin 48) (n : Fin 6144) : IsReal (Mod.out' (Kernel8Ideal.Mod.args m c) l i n) := by
  have H := holds_mod m h c
  unfold Mod.out'
  rw [Mod.parts_eq (fun k => Mod.silu_real (H.c i k)) (fun k => H.w l k n)]
  exact (IsReal.sum fun k => (Mod.silu_real (H.c i k)).mul (H.w l k n)).add
    ⟨_, Finite.real_of_lt (congrFun (h c).2.2.2.1 (ix2 l n))⟩

theorem holds_prj : InProj.Finite (Kernel8Ideal.InProj.args m c) where
  mod b n := mod_real m h c _ _ _
  g k := ⟨_, Finite.real_of_lt (congrFun (h c).2.2.2.2.1 (ix1 k))⟩
  w k n := ⟨_, Finite.real_of_lt (congrFun (h c).2.2.2.2.2.1 (ix2 k n))⟩

theorem holds_ffn : Ffn.Finite (Kernel8Ideal.Last.args m c) where
  mod b n := mod_real m h c _ _ _
  g k := ⟨_, Finite.real_of_lt (congrFun (h c).2.2.2.2.2.2.1 (ix1 k))⟩
  wu k n := ⟨_, Finite.real_of_lt (congrFun (h c).2.2.2.2.2.2.2.1 (ix2 k n))⟩
  cw q n := ⟨_, Finite.real_of_lt (congrFun (h c).2.2.2.2.2.2.2.2.1 (ix2 q n))⟩
  cb n := ⟨_, Finite.real_of_lt (congrFun (h c).2.2.2.2.2.2.2.2.2 (ix1 n))⟩

end Cert.Finite8

end
-- ==== Proof.LastRef.lean ====
module

public import proofs.«01_k».proof.Proof.JoinRef
public import proofs.«01_k».proof.Proof.InProjRef
public import proofs.«01_k».proof.Proof.ModRef
public import proofs.«01_k».proof.Proof.Gen.Reference8Ideal.Run
public import proofs.«01_k».proof.Proof.Gen.Reference8Ideal.Read

@[expose] public section

set_option maxRecDepth 16384

noncomputable section

/-! The reference of the four calls one after the other is made of their references. -/

namespace Cert.Reference8Ideal.Last
open Idealize.ShloMosaic Idealize.ShloMosaic.TcCoe Cert.Reference8Ideal Cert.Reference8Ideal.Gen Cert.Reference8Ideal.Read

variable (x0 : FVec Ideal S32x2048x1024 .f32) (x1 : FVec Ideal S32x1024 .f32) (x2 : FVec Ideal S16x1024 .f32) (x3 : FVec Ideal S2x1024x6144 .f32)
  (x4 : FVec Ideal S2x6144 .f32) (x5 : FVec Ideal S1024 .f32) (x6 : FVec Ideal S1024x6832 .f32) (x7 x8 x9 : FVec Ideal S65536x512 .bf16)
  (x10 : FVec Ideal S3x512x1024 .f32) (x11 : FVec Ideal S1024x1024 .f32) (x12 : FVec Ideal S1024 .f32) (x13 : FVec Ideal S1024x5632 .f32)
  (x14 : FVec Ideal S3x5632 .f32) (x15 : FVec Ideal S5632 .f32) (x16 : FVec Ideal S2816x1024 .f32) (x17 : FVec Ideal S1024 .f32)

/-- The modulation of the prompt in the last layer. -/
def md : FVec Ideal S32x6144 .f32 := val_main_v9 (F := Ideal) x1 x2 x3 x4

theorem md_at (b : Fin 32) (n : Fin 6144) : md x1 x2 x3 x4 (ix2 b n)
    = Cert.Reference5Ideal.Read.val_main_v6 (F := Ideal) x1 x2 x3 x4 (ix3 1 ⟨b.val, by omega⟩ n) := by
  have e : val_main_v6 (F := Ideal) x1 x2 x3 x4 = Cert.Reference5Ideal.Read.val_main_v6 (F := Ideal) x1 x2 x3 x4 := rfl
  rw [← e]
  unfold md val_main_v9 val_main_v8 val_main_v7
  generalize val_main_v6 (F := Ideal) x1 x2 x3 x4 = y
  pointwise

theorem mla_eq : val_main_v50 (F := Ideal) x0 x1 x2 x3 x4 x5 x6
    = Cert.Reference3Ideal.Read.val_main_v40 (F := Ideal) x0 (md x1 x2 x3 x4) x5 x6 := rfl
theorem rg_eq : val_main_v52 (F := Ideal) x0 x1 x2 x3 x4 x5 x6
    = Cert.Reference3Ideal.Read.val_main_v42 (F := Ideal) x0 (md x1 x2 x3 x4) x5 x6 := rfl
theorem gdn_eq : val_main_v54 (F := Ideal) x0 x1 x2 x3 x4 x5 x6
    = Cert.Reference3Ideal.Read.val_main_v44 (F := Ideal) x0 (md x1 x2 x3 x4) x5 x6 := rfl
theorem ab_eq : val_main_v55 (F := Ideal) x0 x1 x2 x3 x4 x5 x6
    = Cert.Reference3Ideal.Read.val_main_v45 (F := Ideal) x0 (md x1 x2 x3 x4) x5 x6 := rfl

/-- The gates of the mixers. -/
def gates : FVec Ideal S65536x3072 .bf16 := Cert.Reference3Ideal.Read.val_main_v47 (F := Ideal) x0 (md x1 x2 x3 x4) x5 x6

theorem value_eq : val_main_v171 (F := Ideal) x0 x1 x2 x3 x4 x5 x6 x7 x8 x9 x10 x11 x12 x13 x14 x15 x16 x17
    = Cert.Reference7Ideal.Read.val_main_v113 (F := Ideal) x0 (md x1 x2 x3 x4) x7 x8 x9 (gates x0 x1 x2 x3 x4 x5 x6) x10 x11 x12 x13 x14 x15
        x16 x17 := rfl

end Cert.Reference8Ideal.Last

end
-- ==== Proof.LastValue.lean ====
module

public import proofs.«01_k».proof.Proof.LastPoint
public import proofs.«01_k».proof.Proof.LastRef
public import proofs.«01_k».proof.Proof.MergeGate

@[expose] public section

set_option maxRecDepth 16384

noncomputable section

/-! The last layer's calls one after the other compute their reference: what each hands to the next is what the reference hands on. -/

namespace Cert.Last
open Idealize.ShloMosaic Idealize.ShloMosaic.TcCoe Cert.Kernel8Ideal
open Cert.Reference8Ideal.Last (md md_at gates value_eq)

variable (m : (ℓ : Loc nD τ sig) → Buf (Elt Ideal) ℓ) (c : Dev nD)

/-- The reference's arguments are the kernel's. -/
structure Agree (x0 : FVec Ideal S32x2048x1024 .f32) (x1 : FVec Ideal S32x1024 .f32) (x2 : FVec Ideal S16x1024 .f32)
  (x3 : FVec Ideal S2x1024x6144 .f32) (x4 : FVec Ideal S2x6144 .f32) (x5 : FVec Ideal S1024 .f32)
  (x6 : FVec Ideal S1024x6832 .f32) (x7 : FVec Ideal S65536x512 .bf16) (x8 : FVec Ideal S65536x512 .bf16)
  (x9 : FVec Ideal S65536x512 .bf16) (x10 : FVec Ideal S3x512x1024 .f32) (x11 : FVec Ideal S1024x1024 .f32)
  (x12 : FVec Ideal S1024 .f32) (x13 : FVec Ideal S1024x5632 .f32) (x14 : FVec Ideal S3x5632 .f32)
  (x15 : FVec Ideal S5632 .f32) (x16 : FVec Ideal S2816x1024 .f32) (x17 : FVec Ideal S1024 .f32) : Prop where
  h0 : x0 = m (c, Proc.tc.devRef main_arg0)
  h1 : x1 = m (c, Proc.tc.devRef main_arg1)
  h2 : x2 = m (c, Proc.tc.devRef main_arg2)
  h3 : x3 = m (c, Proc.tc.devRef main_arg3)
  h4 : x4 = m (c, Proc.tc.devRef main_arg4)
  h5 : x5 = m (c, Proc.tc.devRef main_arg5)
  h6 : x6 = m (c, Proc.tc.devRef main_arg6)
  h7 : x7 = m (c, Proc.tc.devRef main_arg7)
  h8 : x8 = m (c, Proc.tc.devRef main_arg8)
  h9 : x9 = m (c, Proc.tc.devRef main_arg9)
  h10 : x10 = m (c, Proc.tc.devRef main_arg10)
  h11 : x11 = m (c, Proc.tc.devRef main_arg11)
  h12 : x12 = m (c, Proc.tc.devRef main_arg12)
  h13 : x13 = m (c, Proc.tc.devRef main_arg13)
  h14 : x14 = m (c, Proc.tc.devRef main_arg14)
  h15 : x15 = m (c, Proc.tc.devRef main_arg15)
  h16 : x16 = m (c, Proc.tc.devRef main_arg16)
  h17 : x17 = m (c, Proc.tc.devRef main_arg17)

variable {m c}
variable {x0 : FVec Ideal S32x2048x1024 .f32} {x1 : FVec Ideal S32x1024 .f32} {x2 : FVec Ideal S16x1024 .f32}
  {x3 : FVec Ideal S2x1024x6144 .f32} {x4 : FVec Ideal S2x6144 .f32} {x5 : FVec Ideal S1024 .f32}
  {x6 : FVec Ideal S1024x6832 .f32} {x7 : FVec Ideal S65536x512 .bf16} {x8 : FVec Ideal S65536x512 .bf16}
  {x9 : FVec Ideal S65536x512 .bf16} {x10 : FVec Ideal S3x512x1024 .f32} {x11 : FVec Ideal S1024x1024 .f32}
  {x12 : FVec Ideal S1024 .f32} {x13 : FVec Ideal S1024x5632 .f32} {x14 : FVec Ideal S3x5632 .f32}
  {x15 : FVec Ideal S5632 .f32} {x16 : FVec Ideal S2816x1024 .f32} {x17 : FVec Ideal S1024 .f32}

theorem mod_at (G : Agree m c x0 x1 x2 x3 x4 x5 x6 x7 x8 x9 x10 x11 x12 x13 x14 x15 x16 x17) (H : Cert.Mod.Finite (Mod.args m c)) (b : Fin 32) (n : Fin 6144) :
    md x1 x2 x3 x4 (ix2 b n) = Cert.Mod.out' (Mod.args m c) 1 ⟨b.val, by omega⟩ n :=
  (md_at x1 x2 x3 x4 b n).trans ((Cert.Reference5Ideal.Mod.out_at (A := Mod.args m c)
    ⟨fun i k => dite_congr rfl (fun _ => congrFun G.h1 _) (fun _ => congrFun G.h2 _), fun _ _ _ => congrFun G.h3 _, fun _ _ => congrFun G.h4 _⟩
    _ _ _).trans (Cert.Mod.out_eq H _ _ _).symm)

theorem prj (G : Agree m c x0 x1 x2 x3 x4 x5 x6 x7 x8 x9 x10 x11 x12 x13 x14 x15 x16 x17) (H : Cert.Mod.Finite (Mod.args m c)) :
    Cert.Reference3Ideal.InProj.Holds (InProj.args m c) x0 (md x1 x2 x3 x4) x5 x6 :=
  ⟨fun _ _ => congrFun G.h0 _, mod_at G H, fun _ => congrFun G.h5 _, fun _ _ => congrFun G.h6 _⟩

theorem gates_at (G : Agree m c x0 x1 x2 x3 x4 x5 x6 x7 x8 x9 x10 x11 x12 x13 x14 x15 x16 x17) (H : Cert.Mod.Finite (Mod.args m c)) (H' : Cert.InProj.Finite (InProj.args m c)) (r : Fin 65536) (n : Fin 3072) :
    gates x0 x1 x2 x3 x4 x5 x6 (ix2 r n) = (Merge.args m c).gates r n :=
  (Cert.Reference3Ideal.InProj.v47_at (prj G H) r n).trans (Cert.InProj.out_eq H' _ _).symm

theorem mid_at (G : Agree m c x0 x1 x2 x3 x4 x5 x6 x7 x8 x9 x10 x11 x12 x13 x14 x15 x16 x17) (H : Cert.Mod.Finite (Mod.args m c)) (H' : Cert.InProj.Finite (InProj.args m c))
    (b : Fin 32) (s : Fin 2048) (k : Fin 1024) :
    Cert.Reference7Ideal.Join.mid x0 (md x1 x2 x3 x4) x7 x8 x9 (gates x0 x1 x2 x3 x4 x5 x6) x10 x11 (ix3 b s k) = (Last.args m c).x b s k :=
  (Cert.Reference7Ideal.Join.mid_at _ _ _ _ _ _ _ _ b s k).trans ((Cert.Reference4Ideal.Merge.out_at (A := Merge.args m c)
    ⟨fun _ _ => congrFun G.h0 _, mod_at G H, fun _ _ => congrFun G.h7 _, fun _ _ => congrFun G.h8 _, fun _ _ => congrFun G.h9 _, gates_at G H H',
      fun _ _ _ => congrFun G.h10 _, fun _ _ => congrFun G.h11 _⟩ _ k).trans
    (congrArg (fun g => Cert.Merge.out (Merge.args m c) g ⟨b.val * 2048 + s.val, by omega⟩ k) Cert.Merge.gate_eq.symm))

theorem value (G : Agree m c x0 x1 x2 x3 x4 x5 x6 x7 x8 x9 x10 x11 x12 x13 x14 x15 x16 x17) (H : Cert.Mod.Finite (Mod.args m c)) (H' : Cert.InProj.Finite (InProj.args m c)) (H'' : Cert.Ffn.Finite (Last.args m c)) :
    Cert.Reference8Ideal.Read.val_main_v171 (F := Ideal) x0 x1 x2 x3 x4 x5 x6 x7 x8 x9 x10 x11 x12 x13 x14 x15 x16 x17
      = Cert.Kernel2Ideal.Ffn.result (Last.args m c) := by
  refine (value_eq x0 x1 x2 x3 x4 x5 x6 x7 x8 x9 x10 x11 x12 x13 x14 x15 x16 x17).trans ((Cert.Reference7Ideal.Join.value_eq _ _ _ _ _ _ _ _ _ _ _ _ _ _).trans ?_)
  funext i
  have hi : (i : Cert.Reference2Ideal.S65536x1024.Idx) = ix2 ⟨(i 0).val, (i 0).isLt⟩ ⟨(i 1).val, (i 1).isLt⟩ := by
    funext a; match a with | 0 => rfl | 1 => rfl
  refine (congrArg _ hi).trans ((Cert.Reference2Ideal.Ffn.out_at (A := Last.args m c)
    ⟨mid_at G H H', mod_at G H, fun _ => congrFun G.h12 _, fun _ _ => congrFun G.h13 _, fun _ _ => congrFun G.h14 _, fun _ => congrFun G.h15 _,
      fun _ _ => congrFun G.h16 _, fun _ => congrFun G.h17 _⟩ _ _).trans ?_)
  exact (Cert.Ffn.out_eq H'' _ _ _).symm

end Cert.Last

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Grid
public import proofs.«01_k».proof.Proof.RefOut
public import proofs.«01_k».proof.Proof.Finite
public import proofs.«01_k».proof.Proof.FfnFinite
public import proofs.«01_k».proof.Proof.InProjFinite
public import proofs.«01_k».proof.Proof.InProjRef
public import proofs.«01_k».proof.Proof.MergeGate
public import proofs.«01_k».proof.Proof.ModFinite
public import proofs.«01_k».proof.Proof.ModRef
public import proofs.«01_k».proof.Proof.SampleFinite
public import proofs.«01_k».proof.Proof.SampleRef
public import proofs.«01_k».proof.Proof.JoinRun
public import proofs.«01_k».proof.Proof.JoinFinite
public import proofs.«01_k».proof.Proof.JoinRef
public import proofs.«01_k».proof.Proof.LastRun
public import proofs.«01_k».proof.Proof.LastFinite
public import proofs.«01_k».proof.Proof.LastValue
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention kernel's result is the reference's, from real arguments. -/
theorem algebraic : algebraic_KernelIdeal_ReferenceIdeal_pre_finite (hPre_finite := Cert.Finite.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  have H := Cert.Finite.holds m hpre c
  rw [(h c).1]
  refine Eq.trans ?_ ((Cert.KernelIdeal.Grid.final m H).symm.trans (Cert.KernelIdeal.Value.final8 m c))
  obtain ⟨e0, e1, e2, e3, e4, e5⟩ := hagree c
  rw [Cert.ReferenceIdeal.Read.val_main_v112_eq, e0, e1, e2, e3, e4, e5]
  exact funext fun i => Cert.ReferenceIdeal.Ref.out_at ⟨H.h0, H.h1, H.h2, H.h3, H.h4, H.h5⟩ i

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward kernel's result is the reference's, from real arguments. -/
theorem algebraic2 : algebraic_Kernel2Ideal_Reference2Ideal_pre_finite2 (hPre_finite2 := Cert.Finite2.facts) := by
  intro m ρ m' ρ' hpre hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  have H := Cert.Finite2.holds m hpre c
  rw [(h c).1]
  refine Eq.trans ?_ (Cert.Kernel2Ideal.Ffn.final (m := m) (c := c)).symm
  obtain ⟨e0, e1, e2, e3, e4, e5, e6, e7⟩ := hagree c
  rw [Cert.Reference2Ideal.Read.val_main_v71_eq, e0, e1, e2, e3, e4, e5, e6, e7]
  funext i
  have hi : (i : Cert.Reference2Ideal.S65536x1024.Idx) = ix2 ⟨(i 0).val, (i 0).isLt⟩ ⟨(i 1).val, (i 1).isLt⟩ := by
    funext a; match a with | 0 => rfl | 1 => rfl
  refine (congrArg _ hi).trans ((Cert.Reference2Ideal.Ffn.out_at (A := Cert.Kernel2Ideal.Ffn.args m c)
    ⟨fun _ _ _ => rfl, fun _ _ => rfl, fun _ => rfl, fun _ _ => rfl, fun _ _ => rfl, fun _ => rfl, fun _ _ => rfl, fun _ => rfl⟩ _ _).trans ?_)
  exact (Cert.Ffn.out_eq H _ _ _).symm

theorem quiescent_Reference3Ideal : quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- An array of laid out columns of the projection is the kernel's. -/
theorem result_eq {A : Cert.InProj.Args} (H : Cert.InProj.Finite A) {w o : Nat} {h : o + w ≤ 7040} {φ : FTy} (f : FVec Ideal ⟨2, ![65536, w]⟩ φ)
    (hf : ∀ (r : Fin 65536) (n : Fin w), f (ix2 r n) = Cert.InProj.out A r ⟨o + n.val, by omega⟩) : f = Cert.Kernel3Ideal.InProj.result A w o h φ := by
  funext i
  have hi : i = ix2 ⟨(i 0).val, (i 0).isLt⟩ ⟨(i 1).val, (i 1).isLt⟩ := by
    funext a; match a with | 0 => rfl | 1 => rfl
  exact (congrArg f hi).trans ((hf _ _).trans (Cert.InProj.out_eq H _ _).symm)

/-- The five results of the input projection are the reference's, from real weights and modulation. -/
theorem algebraic3 : algebraic_Kernel3Ideal_Reference3Ideal_pre_finite3 (hPre_finite3 := Cert.Finite3.facts) := by
  intro m ρ m' ρ' hpre hagree
  refine ⟨_, _, _, _, _, Cert.Kernel3Ideal.Value.run_blocks (F := Ideal) m ρ, ?_⟩
  refine (θ_run Cert.Reference3Ideal.defs _ _).mono (fun _ h c => ?_) (Cert.Reference3Ideal.Value.run (F := Ideal) m' ρ')
  have H := Cert.Finite3.holds m hpre c
  obtain ⟨e0, e1, e2, e3⟩ := hagree c
  have H' : Cert.Reference3Ideal.InProj.Holds (Cert.Kernel3Ideal.InProj.args m c) _ _ _ _ :=
    ⟨fun _ _ => congrFun e0 _, fun _ _ => congrFun e1 _, fun _ => congrFun e2 _, fun _ _ => congrFun e3 _⟩
  obtain ⟨h0, h1, h2, h3, h4, h5⟩ := h c
  refine ⟨h0.trans ?_, h1.trans ?_, h2.trans ?_, h3.trans ?_, h4.trans ?_, h5⟩
  · refine (Cert.Reference3Ideal.Read.val_main_v40_eq _ _).trans ((result_eq H _ fun r n => ?_).trans (Cert.Kernel3Ideal.InProj.final4 m c).symm)
    exact (Cert.Reference3Ideal.InProj.v40_at H' r n).trans (congrArg (Cert.InProj.out _ r) (Fin.ext (Nat.zero_add _).symm))
  · exact (Cert.Reference3Ideal.Read.val_main_v42_eq _ _ _ _).trans
      ((result_eq H _ (Cert.Reference3Ideal.InProj.v42_at H')).trans (Cert.Kernel3Ideal.InProj.final5 m c).symm)
  · exact (Cert.Reference3Ideal.Read.val_main_v44_eq _ _ _ _).trans
      ((result_eq H _ (Cert.Reference3Ideal.InProj.v44_at H')).trans (Cert.Kernel3Ideal.InProj.final6 m c).symm)
  · exact (Cert.Reference3Ideal.Read.val_main_v45_eq _ _ _ _).trans
      ((result_eq H _ (Cert.Reference3Ideal.InProj.v45_at H')).trans (Cert.Kernel3Ideal.InProj.final7 m c).symm)
  · exact (Cert.Reference3Ideal.Read.val_main_v47_eq _ _ _ _).trans
      ((result_eq H _ (Cert.Reference3Ideal.InProj.v47_at H')).trans (Cert.Kernel3Ideal.InProj.final8 m c).symm)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The merge's result is the reference's, from any arguments. -/
theorem algebraic4 : algebraic_Kernel4Ideal_Reference4Ideal := by
  intro m ρ m' ρ' hpre hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨e0, e1, e2, e3, e4, e5, e6, e7⟩ := hagree c
  refine (h c).1.trans ((Cert.Reference4Ideal.Read.val_main_v40_eq _ _ _ _ _ _ _ _).trans (Eq.trans ?_ (Cert.Kernel4Ideal.Merge.final m c).symm))
  funext i
  have hi : (i : Cert.Reference4Ideal.S65536x1024.Idx) = ix2 ⟨(i 0).val, (i 0).isLt⟩ ⟨(i 1).val, (i 1).isLt⟩ := by
    funext a; match a with | 0 => rfl | 1 => rfl
  refine (congrArg _ hi).trans ((Cert.Reference4Ideal.Merge.out_at (A := Cert.Kernel4Ideal.Merge.args m c)
    ⟨fun _ _ => congrFun e0 _, fun _ _ => congrFun e1 _, fun _ _ => congrFun e2 _, fun _ _ => congrFun e3 _, fun _ _ => congrFun e4 _,
      fun _ _ => congrFun e5 _, fun _ _ _ => congrFun e6 _, fun _ _ => congrFun e7 _⟩ _ _).trans ?_)
  rw [← Cert.Merge.gate_eq]
  rfl

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The modulation's result is the reference's, from real conditioning and weights. -/
theorem algebraic5 : algebraic_Kernel5Ideal_Reference5Ideal_pre_finite5 (hPre_finite5 := Cert.Finite5.facts) := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  have H := Cert.Finite5.holds m hpre c
  obtain ⟨e0, e1, e2, e3⟩ := hagree c
  refine (h c).1.trans ((Cert.Reference5Ideal.Read.val_main_v6_eq _ _ _ _).trans (Eq.trans ?_ (Cert.Kernel5Ideal.Mod.final m c).symm))
  rw [e0, e1, e2, e3]
  funext i
  have hi : (i : Cert.Reference5Ideal.S2x48x6144.Idx) = ix3 ⟨(i 0).val, (i 0).isLt⟩ ⟨(i 1).val, (i 1).isLt⟩ ⟨(i 2).val, (i 2).isLt⟩ := by
    funext a; match a with | 0 => rfl | 1 => rfl | 2 => rfl
  refine (congrArg _ hi).trans ((Cert.Reference5Ideal.Mod.out_at (A := Cert.Kernel5Ideal.Mod.args m c)
    ⟨fun _ _ => rfl, fun _ _ _ => rfl, fun _ _ => rfl⟩ _ _ _).trans ?_)
  exact (Cert.Mod.out_eq H _ _ _).symm

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The feed-forward kernel's result for the sample is the reference's, from real arguments. -/
theorem algebraic6 : algebraic_Kernel6Ideal_Reference6Ideal_pre_finite6 (hPre_finite6 := Cert.Finite6.facts) := by
  intro m ρ m' ρ' hpre hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  have H := Cert.Finite6.holds m hpre c
  rw [(h c).1]
  refine Eq.trans ?_ (Cert.Kernel6Ideal.Ffn.final (m := m) (c := c)).symm
  obtain ⟨e0, e1, e2, e3, e4, e5, e6, e7⟩ := hagree c
  rw [Cert.Reference6Ideal.Read.val_main_v71_eq, e0, e1, e2, e3, e4, e5, e6, e7]
  funext i
  have hi : (i : Cert.Reference6Ideal.S32768x1024.Idx) = ix2 ⟨(i 0).val, (i 0).isLt⟩ ⟨(i 1).val, (i 1).isLt⟩ := by
    funext a; match a with | 0 => rfl | 1 => rfl
  refine (congrArg _ hi).trans ((Cert.Reference6Ideal.Ffn.out_at (A := Cert.Kernel6Ideal.Ffn.args m c)
    ⟨fun _ _ _ => rfl, fun _ _ => rfl, fun _ => rfl, fun _ _ => rfl, fun _ _ => rfl, fun _ => rfl, fun _ _ => rfl, fun _ => rfl⟩ _ _).trans ?_)
  exact (Cert.Ffn.out_eq H _ _ _).symm

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The merge and the feed-forward part one after the other give the reference's result, from real modulation and weights before
the gate and from any rows. -/
theorem algebraic7 : algebraic_Kernel7Ideal_Reference7Ideal_pre_finite7 (hPre_finite7 := Cert.Finite7.facts) := by
  intro m ρ m' ρ' hpre hagree
  refine ⟨_, (θ_run Cert.Kernel7Ideal.defs _ _).mono (fun r h c => ⟨(h c).1, (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩)
    (Cert.Kernel7Ideal.Join.run (F := Ideal) m ρ), ?_⟩
  refine (θ_run Cert.Reference7Ideal.defs _ _).mono (fun _ h c => ⟨?_, (h c).2⟩) (Cert.Reference7Ideal.Value.run (F := Ideal) m' ρ')
  have H := Cert.Finite7.holds m hpre c
  obtain ⟨e0, e1, e2, e3, e4, e5, e6, e7, e8, e9, e10, e11, e12, e13⟩ := hagree c
  refine (h c).1.trans ((Cert.Reference7Ideal.Read.val_main_v113_eq _).trans ((Cert.Reference7Ideal.Join.value_eq _ _ _ _ _ _ _ _ _ _ _ _ _ _).trans
    (Eq.trans ?_ (Cert.Kernel7Ideal.Join.final (m := m) (ρ := ρ) (c := c)).symm)))
  funext i
  have hi : (i : Cert.Reference2Ideal.S65536x1024.Idx) = ix2 ⟨(i 0).val, (i 0).isLt⟩ ⟨(i 1).val, (i 1).isLt⟩ := by
    funext a; match a with | 0 => rfl | 1 => rfl
  have h0 : ∀ b s k, _ = (Cert.Kernel7Ideal.Join.args m c).x b s k := fun b s k =>
    (Cert.Reference7Ideal.Join.mid_at _ _ _ _ _ _ _ _ b s k).trans ((Cert.Reference4Ideal.Merge.out_at (A := Cert.Kernel7Ideal.Merge.args m c)
      ⟨fun _ _ => congrFun e0 _, fun _ _ => congrFun e1 _, fun _ _ => congrFun e2 _, fun _ _ => congrFun e3 _, fun _ _ => congrFun e4 _,
        fun _ _ => congrFun e5 _, fun _ _ _ => congrFun e6 _, fun _ _ => congrFun e7 _⟩ _ k).trans
      (congrArg (fun g => Cert.Merge.out (Cert.Kernel7Ideal.Merge.args m c) g ⟨b.val * 2048 + s.val, by omega⟩ k) Cert.Merge.gate_eq.symm))
  refine (congrArg _ hi).trans ((Cert.Reference2Ideal.Ffn.out_at (A := Cert.Kernel7Ideal.Join.args m c)
    ⟨h0, fun _ _ => congrFun e1 _, fun _ => congrFun e8 _, fun _ _ => congrFun e9 _, fun _ _ => congrFun e10 _, fun _ => congrFun e11 _,
      fun _ _ => congrFun e12 _, fun _ => congrFun e13 _⟩ _ _).trans ?_)
  exact (Cert.Ffn.out_eq H _ _ _).symm

theorem quiescent_Reference8Ideal : quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run (F := Ideal) m ρ)

/-- The last layer's four calls one after the other give the reference's five results, from real conditioning and weights before the gate
and from any rows. -/
theorem algebraic8 : algebraic_Kernel8Ideal_Reference8Ideal_pre_finite8 (hPre_finite8 := Cert.Finite8.facts) := by
  intro m ρ m' ρ' hpre hagree
  refine ⟨_, _, _, _, _, (θ_run Cert.Kernel8Ideal.defs _ _).mono (fun r h c => ⟨(h c).1, (h c).2.1, (h c).2.2.1, (h c).2.2.2.1, (h c).2.2.2.2.1,
      (h c).2.2.2.2.2 _ (by decide), (h c).2.2.2.2.2 _ (by decide), (h c).2.2.2.2.2 _ (by decide), (h c).2.2.2.2.2 _ (by decide),
      (h c).2.2.2.2.2 _ (by decide), (h c).2.2.2.2.2 _ (by decide), (h c).2.2.2.2.2 _ (by decide), (h c).2.2.2.2.2 _ (by decide),
      (h c).2.2.2.2.2 _ (by decide), (h c).2.2.2.2.2 _ (by decide), (h c).2.2.2.2.2 _ (by decide), (h c).2.2.2.2.2 _ (by decide),
      (h c).2.2.2.2.2 _ (by decide), (h c).2.2.2.2.2 _ (by decide), (h c).2.2.2.2.2 _ (by decide), (h c).2.2.2.2.2 _ (by decide),
      (h c).2.2.2.2.2 _ (by decide), (h c).2.2.2.2.2 _ (by decide)⟩)
    (Cert.Kernel8Ideal.Last.run (F := Ideal) m ρ), ?_⟩
  refine (θ_run Cert.Reference8Ideal.defs _ _).mono (fun _ h c => ?_) (Cert.Reference8Ideal.Value.run (F := Ideal) m' ρ')
  obtain ⟨e0, e1, e2, e3, e4, e5, e6, e7, e8, e9, e10, e11, e12, e13, e14, e15, e16, e17⟩ := hagree c
  have G : Cert.Last.Agree m c _ _ _ _ _ _ _ _ _ _ _ _ _ _ _ _ _ _ :=
    ⟨e0, e1, e2, e3, e4, e5, e6, e7, e8, e9, e10, e11, e12, e13, e14, e15, e16, e17⟩
  have H := Cert.Finite8.holds_prj m hpre c
  have H' := Cert.Last.prj G (Cert.Finite8.holds_mod m hpre c)
  obtain ⟨h0, h1, h2, h3, h4, h5⟩ := h c
  refine ⟨h0.trans ?_, h1.trans ?_, h2.trans ?_, h3.trans ?_, h4.trans ?_, h5⟩
  · refine (Cert.Reference8Ideal.Read.val_main_v50_eq _).trans ((Cert.Reference8Ideal.Last.mla_eq _ _ _ _ _ _ _).trans
      ((result_eq H _ fun r n => ?_).trans (Cert.Kernel8Ideal.InProj.final4 m ρ c).symm))
    exact (Cert.Reference3Ideal.InProj.v40_at H' r n).trans (congrArg (Cert.InProj.out _ r) (Fin.ext (Nat.zero_add _).symm))
  · exact (Cert.Reference8Ideal.Read.val_main_v52_eq _).trans ((Cert.Reference8Ideal.Last.rg_eq _ _ _ _ _ _ _).trans
      ((result_eq H _ (Cert.Reference3Ideal.InProj.v42_at H')).trans (Cert.Kernel8Ideal.InProj.final5 m ρ c).symm))
  · exact (Cert.Reference8Ideal.Read.val_main_v54_eq _).trans ((Cert.Reference8Ideal.Last.gdn_eq _ _ _ _ _ _ _).trans
      ((result_eq H _ (Cert.Reference3Ideal.InProj.v44_at H')).trans (Cert.Kernel8Ideal.InProj.final6 m ρ c).symm))
  · exact (Cert.Reference8Ideal.Read.val_main_v55_eq _).trans ((Cert.Reference8Ideal.Last.ab_eq _ _ _ _ _ _ _).trans
      ((result_eq H _ (Cert.Reference3Ideal.InProj.v45_at H')).trans (Cert.Kernel8Ideal.InProj.final7 m ρ c).symm))
  · exact (Cert.Reference8Ideal.Read.val_main_v171_eq _).trans ((Cert.Last.value G (Cert.Finite8.holds_mod m hpre c) H (Cert.Finite8.holds_ffn m hpre c)).trans
      (Cert.Kernel8Ideal.Last.final (m := m) (ρ := ρ) (c := c)).symm)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Finite.facts, Cert.Finite2.facts, Cert.Finite3.facts, Cert.Finite5.facts, Cert.Finite6.facts, Cert.Finite7.facts, Cert.Finite8.facts,
    fun m ρ _ => Cert.Kernel.Gen.frame m ρ,
    fun m ρ _ => Cert.KernelIdeal.Gen.frame m ρ,
    fun m ρ _ => Cert.KernelIdeal.Gen.frame m ρ,
    quiescent_ReferenceIdeal,
    fun m ρ _ => quiescent_ReferenceIdeal m ρ trivial,
    fun m ρ _ => Cert.Kernel2.Gen.frame m ρ,
    fun m ρ _ => Cert.Kernel2Ideal.Gen.frame m ρ,
    fun m ρ _ => Cert.Kernel2Ideal.Gen.frame m ρ,
    quiescent_Reference2Ideal,
    fun m ρ _ => quiescent_Reference2Ideal m ρ trivial,
    fun m ρ _ => Cert.Kernel3.Gen.frame m ρ,
    fun m ρ _ => Cert.Kernel3Ideal.Gen.frame m ρ,
    fun m ρ _ => Cert.Kernel3Ideal.Gen.frame m ρ,
    quiescent_Reference3Ideal,
    fun m ρ _ => quiescent_Reference3Ideal m ρ trivial,
    fun m ρ _ => Cert.Kernel4.Gen.frame m ρ,
    fun m ρ _ => Cert.Kernel4Ideal.Gen.frame m ρ,
    quiescent_Reference4Ideal,
    fun m ρ _ => Cert.Kernel5.Gen.frame m ρ,
    fun m ρ _ => Cert.Kernel5Ideal.Gen.frame m ρ,
    fun m ρ _ => Cert.Kernel5Ideal.Gen.frame m ρ,
    quiescent_Reference5Ideal,
    fun m ρ _ => quiescent_Reference5Ideal m ρ trivial,
    fun m ρ _ => Cert.Kernel6.Gen.frame m ρ,
    fun m ρ _ => Cert.Kernel6Ideal.Gen.frame m ρ,
    fun m ρ _ => Cert.Kernel6Ideal.Gen.frame m ρ,
    quiescent_Reference6Ideal,
    fun m ρ _ => quiescent_Reference6Ideal m ρ trivial,
    fun m ρ _ => Cert.Kernel7.Gen.frame m ρ,
    fun m ρ _ => Cert.Kernel7Ideal.Gen.frame m ρ,
    fun m ρ _ => Cert.Kernel7Ideal.Gen.frame m ρ,
    quiescent_Reference7Ideal,
    fun m ρ _ => quiescent_Reference7Ideal m ρ trivial,
    fun m ρ _ => Cert.Kernel8.Gen.frame m ρ,
    fun m ρ _ => Cert.Kernel8Ideal.Gen.frame m ρ,
    fun m ρ _ => Cert.Kernel8Ideal.Gen.frame m ρ,
    quiescent_Reference8Ideal,
    fun m ρ _ => quiescent_Reference8Ideal m ρ trivial,
    trivial, algebraic, trivial, algebraic2, trivial, algebraic3, trivial, algebraic4, trivial, algebraic5, trivial, algebraic6,
    trivial, algebraic7, trivial, algebraic8⟩

end Cert.Proof

end
